-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpLast (m : (ℓ : Loc Cert.UpLast.nD Cert.UpLast.τ Cert.UpLast.sig) → Buf (Elt Bits) ℓ) : Prop :=
  True

def Pre_UpLastIdeal (m : (ℓ : Loc Cert.UpLastIdeal.nD Cert.UpLastIdeal.τ Cert.UpLastIdeal.sig) → Buf (Elt Ideal) ℓ) : Prop :=
  True

def Pre_UpLastRefIdeal (m : (ℓ : Loc Cert.UpLastRefIdeal.nD Cert.UpLastRefIdeal.τ Cert.UpLastRefIdeal.sig) → Buf (Elt Ideal) ℓ) : Prop :=
  True

def Pre_DownLast (m : (ℓ : Loc Cert.DownLast.nD Cert.DownLast.τ Cert.DownLast.sig) → Buf (Elt Bits) ℓ) : Prop :=
  True

def Pre_DownLastIdeal (m : (ℓ : Loc Cert.DownLastIdeal.nD Cert.DownLastIdeal.τ Cert.DownLastIdeal.sig) → Buf (Elt Ideal) ℓ) : Prop :=
  True

def Pre_DownLastRefIdeal (m : (ℓ : Loc Cert.DownLastRefIdeal.nD Cert.DownLastRefIdeal.τ Cert.DownLastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_UpLast [hUpLast : Cert.UpLast.Facts] : Prop :=
  ∀ (m : (ℓ : Loc Cert.UpLast.nD Cert.UpLast.τ Cert.UpLast.sig) → Buf (Elt Bits) ℓ) (g : Dev Cert.UpLast.nD → PrngReg), Pre_UpLast m →
    θ_run (Cert.UpLast.defs (F := Bits)) (onTc (τ := Cert.UpLast.τ) (Cert.UpLast.main (F := Bits))) ⟨m, fun _ => 0, g⟩ (fun r => (∀ c : Dev Cert.UpLast.nD,
      r.2.mem ((c.tc : Thread Cert.UpLast.nD Cert.UpLast.τ).loc Cert.UpLast.main_arg0) = m ((c.tc : Thread Cert.UpLast.nD Cert.UpLast.τ).loc Cert.UpLast.main_arg0)
      ∧ r.2.mem ((c.tc : Thread Cert.UpLast.nD Cert.UpLast.τ).loc Cert.UpLast.main_arg1) = m ((c.tc : Thread Cert.UpLast.nD Cert.UpLast.τ).loc Cert.UpLast.main_arg1)
      ∧ r.2.mem ((c.tc : Thread Cert.UpLast.nD Cert.UpLast.τ).loc Cert.UpLast.main_arg2) = m ((c.tc : Thread Cert.UpLast.nD Cert.UpLast.τ).loc Cert.UpLast.main_arg2)
      ∧ r.2.mem ((c.tc : Thread Cert.UpLast.nD Cert.UpLast.τ).loc Cert.UpLast.main_arg3) = m ((c.tc : Thread Cert.UpLast.nD Cert.UpLast.τ).loc Cert.UpLast.main_arg3))
      ∧ r.2.sem = fun _ => 0)

def quiescent_UpLastIdeal [hUpLastIdeal : Cert.UpLastIdeal.Facts] : Prop :=
  ∀ (m : (ℓ : Loc Cert.UpLastIdeal.nD Cert.UpLastIdeal.τ Cert.UpLastIdeal.sig) → Buf (Elt Ideal) ℓ) (g : Dev Cert.UpLastIdeal.nD → PrngReg), Pre_UpLastIdeal m →
    θ_run (Cert.UpLastIdeal.defs (F := Ideal)) (onTc (τ := Cert.UpLastIdeal.τ) (Cert.UpLastIdeal.main (F := Ideal))) ⟨m, fun _ => 0, g⟩ (fun r => (∀ c : Dev Cert.UpLastIdeal.nD,
      r.2.mem ((c.tc : Thread Cert.UpLastIdeal.nD Cert.UpLastIdeal.τ).loc Cert.UpLastIdeal.main_arg0) = m ((c.tc : Thread Cert.UpLastIdeal.nD Cert.UpLastIdeal.τ).loc Cert.UpLastIdeal.main_arg0)
      ∧ r.2.mem ((c.tc : Thread Cert.UpLastIdeal.nD Cert.UpLastIdeal.τ).loc Cert.UpLastIdeal.main_arg1) = m ((c.tc : Thread Cert.UpLastIdeal.nD Cert.UpLastIdeal.τ).loc Cert.UpLastIdeal.main_arg1)
      ∧ r.2.mem ((c.tc : Thread Cert.UpLastIdeal.nD Cert.UpLastIdeal.τ).loc Cert.UpLastIdeal.main_arg2) = m ((c.tc : Thread Cert.UpLastIdeal.nD Cert.UpLastIdeal.τ).loc Cert.UpLastIdeal.main_arg2)
      ∧ r.2.mem ((c.tc : Thread Cert.UpLastIdeal.nD Cert.UpLastIdeal.τ).loc Cert.UpLastIdeal.main_arg3) = m ((c.tc : Thread Cert.UpLastIdeal.nD Cert.UpLastIdeal.τ).loc Cert.UpLastIdeal.main_arg3))
      ∧ r.2.sem = fun _ => 0)

def quiescent_UpLastRefIdeal [hUpLastRefIdeal : Cert.UpLastRefIdeal.Facts] : Prop :=
  ∀ (m : (ℓ : Loc Cert.UpLastRefIdeal.nD Cert.UpLastRefIdeal.τ Cert.UpLastRefIdeal.sig) → Buf (Elt Ideal) ℓ) (g : Dev Cert.UpLastRefIdeal.nD → PrngReg), Pre_UpLastRefIdeal m →
    θ_run (Cert.UpLastRefIdeal.defs (F := Ideal)) (onTc (τ := Cert.UpLastRefIdeal.τ) (Cert.UpLastRefIdeal.main (F := Ideal))) ⟨m, fun _ => 0, g⟩ (fun r => (∀ c : Dev Cert.UpLastRefIdeal.nD,
      r.2.mem ((c.tc : Thread Cert.UpLastRefIdeal.nD Cert.UpLastRefIdeal.τ).loc Cert.UpLastRefIdeal.main_arg0) = m ((c.tc : Thread Cert.UpLastRefIdeal.nD Cert.UpLastRefIdeal.τ).loc Cert.UpLastRefIdeal.main_arg0)
      ∧ r.2.mem ((c.tc : Thread Cert.UpLastRefIdeal.nD Cert.UpLastRefIdeal.τ).loc Cert.UpLastRefIdeal.main_arg1) = m ((c.tc : Thread Cert.UpLastRefIdeal.nD Cert.UpLastRefIdeal.τ).loc Cert.UpLastRefIdeal.main_arg1)
      ∧ r.2.mem ((c.tc : Thread Cert.UpLastRefIdeal.nD Cert.UpLastRefIdeal.τ).loc Cert.UpLastRefIdeal.main_arg2) = m ((c.tc : Thread Cert.UpLastRefIdeal.nD Cert.UpLastRefIdeal.τ).loc Cert.UpLastRefIdeal.main_arg2)
      ∧ r.2.mem ((c.tc : Thread Cert.UpLastRefIdeal.nD Cert.UpLastRefIdeal.τ).loc Cert.UpLastRefIdeal.main_arg3) = m ((c.tc : Thread Cert.UpLastRefIdeal.nD Cert.UpLastRefIdeal.τ).loc Cert.UpLastRefIdeal.main_arg3))
      ∧ r.2.sem = fun _ => 0)

def quiescent_DownLast [hDownLast : Cert.DownLast.Facts] : Prop :=
  ∀ (m : (ℓ : Loc Cert.DownLast.nD Cert.DownLast.τ Cert.DownLast.sig) → Buf (Elt Bits) ℓ) (g : Dev Cert.DownLast.nD → PrngReg), Pre_DownLast m →
    θ_run (Cert.DownLast.defs (F := Bits)) (onTc (τ := Cert.DownLast.τ) (Cert.DownLast.main (F := Bits))) ⟨m, fun _ => 0, g⟩ (fun r => (∀ c : Dev Cert.DownLast.nD,
      r.2.mem ((c.tc : Thread Cert.DownLast.nD Cert.DownLast.τ).loc Cert.DownLast.main_arg0) = m ((c.tc : Thread Cert.DownLast.nD Cert.DownLast.τ).loc Cert.DownLast.main_arg0)
      ∧ r.2.mem ((c.tc : Thread Cert.DownLast.nD Cert.DownLast.τ).loc Cert.DownLast.main_arg1) = m ((c.tc : Thread Cert.DownLast.nD Cert.DownLast.τ).loc Cert.DownLast.main_arg1)
      ∧ r.2.mem ((c.tc : Thread Cert.DownLast.nD Cert.DownLast.τ).loc Cert.DownLast.main_arg2) = m ((c.tc : Thread Cert.DownLast.nD Cert.DownLast.τ).loc Cert.DownLast.main_arg2))
      ∧ r.2.sem = fun _ => 0)

def quiescent_DownLastIdeal [hDownLastIdeal : Cert.DownLastIdeal.Facts] : Prop :=
  ∀ (m : (ℓ : Loc Cert.DownLastIdeal.nD Cert.DownLastIdeal.τ Cert.DownLastIdeal.sig) → Buf (Elt Ideal) ℓ) (g : Dev Cert.DownLastIdeal.nD → PrngReg), Pre_DownLastIdeal m →
    θ_run (Cert.DownLastIdeal.defs (F := Ideal)) (onTc (τ := Cert.DownLastIdeal.τ) (Cert.DownLastIdeal.main (F := Ideal))) ⟨m, fun _ => 0, g⟩ (fun r => (∀ c : Dev Cert.DownLastIdeal.nD,
      r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
      ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
      ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ r.2.sem = fun _ => 0)

def quiescent_DownLastRefIdeal [hDownLastRefIdeal : Cert.DownLastRefIdeal.Facts] : Prop :=
  ∀ (m : (ℓ : Loc Cert.DownLastRefIdeal.nD Cert.DownLastRefIdeal.τ Cert.DownLastRefIdeal.sig) → Buf (Elt Ideal) ℓ) (g : Dev Cert.DownLastRefIdeal.nD → PrngReg), Pre_DownLastRefIdeal m →
    θ_run (Cert.DownLastRefIdeal.defs (F := Ideal)) (onTc (τ := Cert.DownLastRefIdeal.τ) (Cert.DownLastRefIdeal.main (F := Ideal))) ⟨m, fun _ => 0, g⟩ (fun r => (∀ c : Dev Cert.DownLastRefIdeal.nD,
      r.2.mem ((c.tc : Thread Cert.DownLastRefIdeal.nD Cert.DownLastRefIdeal.τ).loc Cert.DownLastRefIdeal.main_arg0) = m ((c.tc : Thread Cert.DownLastRefIdeal.nD Cert.DownLastRefIdeal.τ).loc Cert.DownLastRefIdeal.main_arg0)
      ∧ r.2.mem ((c.tc : Thread Cert.DownLastRefIdeal.nD Cert.DownLastRefIdeal.τ).loc Cert.DownLastRefIdeal.main_arg1) = m ((c.tc : Thread Cert.DownLastRefIdeal.nD Cert.DownLastRefIdeal.τ).loc Cert.DownLastRefIdeal.main_arg1)
      ∧ r.2.mem ((c.tc : Thread Cert.DownLastRefIdeal.nD Cert.DownLastRefIdeal.τ).loc Cert.DownLastRefIdeal.main_arg2) = m ((c.tc : Thread Cert.DownLastRefIdeal.nD Cert.DownLastRefIdeal.τ).loc Cert.DownLastRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v16_0)) (v1 : (c : Dev Cert.UpIdeal.nD) → Buf (Elt Ideal) ((c.tc : Thread Cert.UpIdeal.nD Cert.UpIdeal.τ).loc Cert.UpIdeal.main_v16_1)) (v2 : (c : Dev Cert.UpIdeal.nD) → Buf (Elt Ideal) ((c.tc : Thread Cert.UpIdeal.nD Cert.UpIdeal.τ).loc Cert.UpIdeal.main_v16_2)) (v3 : (c : Dev Cert.UpIdeal.nD) → Buf (Elt Ideal) ((c.tc : Thread Cert.UpIdeal.nD Cert.UpIdeal.τ).loc Cert.UpIdeal.main_v16_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v16_0) = v0 c
          ∧ r.2.mem ((c.tc : Thread Cert.UpIdeal.nD Cert.UpIdeal.τ).loc Cert.UpIdeal.main_v16_1) = v1 c
          ∧ r.2.mem ((c.tc : Thread Cert.UpIdeal.nD Cert.UpIdeal.τ).loc Cert.UpIdeal.main_v16_2) = v2 c
          ∧ r.2.mem ((c.tc : Thread Cert.UpIdeal.nD Cert.UpIdeal.τ).loc Cert.UpIdeal.main_v16_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v21) = v0 c
          ∧ r.2.mem ((c.tc : Thread Cert.UpRefIdeal.nD Cert.UpRefIdeal.τ).loc Cert.UpRefIdeal.main_v24) = v1 c
          ∧ r.2.mem ((c.tc : Thread Cert.UpRefIdeal.nD Cert.UpRefIdeal.τ).loc Cert.UpRefIdeal.main_v26) = v2 c
          ∧ r.2.mem ((c.tc : Thread Cert.UpRefIdeal.nD Cert.UpRefIdeal.τ).loc Cert.UpRefIdeal.main_v34) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)) (v2 : (c : Dev Cert.DownIdeal.nD) → Buf (Elt Ideal) ((c.tc : Thread Cert.DownIdeal.nD Cert.DownIdeal.τ).loc Cert.DownIdeal.main_v5_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_v5_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_v9) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_UpLast_UpLastIdeal : Prop :=
  True

def algebraic_UpLastIdeal_UpLastRefIdeal [hUpLastIdeal : Cert.UpLastIdeal.Facts] [hUpLastRefIdeal : Cert.UpLastRefIdeal.Facts] : Prop :=
  ∀ (m : (ℓ : Loc Cert.UpLastIdeal.nD Cert.UpLastIdeal.τ Cert.UpLastIdeal.sig) → Buf (Elt Ideal) ℓ) (g : Dev Cert.UpLastIdeal.nD → PrngReg)
    (m' : (ℓ : Loc Cert.UpLastRefIdeal.nD Cert.UpLastRefIdeal.τ Cert.UpLastRefIdeal.sig) → Buf (Elt Ideal) ℓ) (g' : Dev Cert.UpLastRefIdeal.nD → PrngReg), Pre_UpLastIdeal m →
    (∀ c : Dev Cert.UpLastIdeal.nD,
      m' ((c.tc : Thread Cert.UpLastRefIdeal.nD Cert.UpLastRefIdeal.τ).loc Cert.UpLastRefIdeal.main_arg0) = m ((c.tc : Thread Cert.UpLastIdeal.nD Cert.UpLastIdeal.τ).loc Cert.UpLastIdeal.main_arg0)
      ∧ m' ((c.tc : Thread Cert.UpLastRefIdeal.nD Cert.UpLastRefIdeal.τ).loc Cert.UpLastRefIdeal.main_arg1) = m ((c.tc : Thread Cert.UpLastIdeal.nD Cert.UpLastIdeal.τ).loc Cert.UpLastIdeal.main_arg1)
      ∧ m' ((c.tc : Thread Cert.UpLastRefIdeal.nD Cert.UpLastRefIdeal.τ).loc Cert.UpLastRefIdeal.main_arg2) = m ((c.tc : Thread Cert.UpLastIdeal.nD Cert.UpLastIdeal.τ).loc Cert.UpLastIdeal.main_arg2)
      ∧ m' ((c.tc : Thread Cert.UpLastRefIdeal.nD Cert.UpLastRefIdeal.τ).loc Cert.UpLastRefIdeal.main_arg3) = m ((c.tc : Thread Cert.UpLastIdeal.nD Cert.UpLastIdeal.τ).loc Cert.UpLastIdeal.main_arg3)) →
    ∃ (v0 : (c : Dev Cert.UpLastIdeal.nD) → Buf (Elt Ideal) ((c.tc : Thread Cert.UpLastIdeal.nD Cert.UpLastIdeal.τ).loc Cert.UpLastIdeal.main_v13_0)) (v1 : (c : Dev Cert.UpLastIdeal.nD) → Buf (Elt Ideal) ((c.tc : Thread Cert.UpLastIdeal.nD Cert.UpLastIdeal.τ).loc Cert.UpLastIdeal.main_v13_1)),
      θ_run (Cert.UpLastIdeal.defs (F := Ideal)) (onTc (τ := Cert.UpLastIdeal.τ) (Cert.UpLastIdeal.main (F := Ideal))) ⟨m, fun _ => 0, g⟩ (fun r => ∀ c : Dev Cert.UpLastIdeal.nD,
          r.2.mem ((c.tc : Thread Cert.UpLastIdeal.nD Cert.UpLastIdeal.τ).loc Cert.UpLastIdeal.main_v13_0) = v0 c
          ∧ r.2.mem ((c.tc : Thread Cert.UpLastIdeal.nD Cert.UpLastIdeal.τ).loc Cert.UpLastIdeal.main_v13_1) = v1 c
          ∧ r.2.mem ((c.tc : Thread Cert.UpLastIdeal.nD Cert.UpLastIdeal.τ).loc Cert.UpLastIdeal.main_arg0) = m ((c.tc : Thread Cert.UpLastIdeal.nD Cert.UpLastIdeal.τ).loc Cert.UpLastIdeal.main_arg0)
          ∧ r.2.mem ((c.tc : Thread Cert.UpLastIdeal.nD Cert.UpLastIdeal.τ).loc Cert.UpLastIdeal.main_arg1) = m ((c.tc : Thread Cert.UpLastIdeal.nD Cert.UpLastIdeal.τ).loc Cert.UpLastIdeal.main_arg1)
          ∧ r.2.mem ((c.tc : Thread Cert.UpLastIdeal.nD Cert.UpLastIdeal.τ).loc Cert.UpLastIdeal.main_arg2) = m ((c.tc : Thread Cert.UpLastIdeal.nD Cert.UpLastIdeal.τ).loc Cert.UpLastIdeal.main_arg2)
          ∧ r.2.mem ((c.tc : Thread Cert.UpLastIdeal.nD Cert.UpLastIdeal.τ).loc Cert.UpLastIdeal.main_arg3) = m ((c.tc : Thread Cert.UpLastIdeal.nD Cert.UpLastIdeal.τ).loc Cert.UpLastIdeal.main_arg3))
      ∧ θ_run (Cert.UpLastRefIdeal.defs (F := Ideal)) (onTc (τ := Cert.UpLastRefIdeal.τ) (Cert.UpLastRefIdeal.main (F := Ideal))) ⟨m', fun _ => 0, g'⟩ (fun r => ∀ c : Dev Cert.UpLastRefIdeal.nD,
          r.2.mem ((c.tc : Thread Cert.UpLastRefIdeal.nD Cert.UpLastRefIdeal.τ).loc Cert.UpLastRefIdeal.main_v21) = v0 c
          ∧ r.2.mem ((c.tc : Thread Cert.UpLastRefIdeal.nD Cert.UpLastRefIdeal.τ).loc Cert.UpLastRefIdeal.main_v24) = v1 c
          ∧ r.2.mem ((c.tc : Thread Cert.UpLastRefIdeal.nD Cert.UpLastRefIdeal.τ).loc Cert.UpLastRefIdeal.main_arg0) = m' ((c.tc : Thread Cert.UpLastRefIdeal.nD Cert.UpLastRefIdeal.τ).loc Cert.UpLastRefIdeal.main_arg0)
          ∧ r.2.mem ((c.tc : Thread Cert.UpLastRefIdeal.nD Cert.UpLastRefIdeal.τ).loc Cert.UpLastRefIdeal.main_arg1) = m' ((c.tc : Thread Cert.UpLastRefIdeal.nD Cert.UpLastRefIdeal.τ).loc Cert.UpLastRefIdeal.main_arg1)
          ∧ r.2.mem ((c.tc : Thread Cert.UpLastRefIdeal.nD Cert.UpLastRefIdeal.τ).loc Cert.UpLastRefIdeal.main_arg2) = m' ((c.tc : Thread Cert.UpLastRefIdeal.nD Cert.UpLastRefIdeal.τ).loc Cert.UpLastRefIdeal.main_arg2)
          ∧ r.2.mem ((c.tc : Thread Cert.UpLastRefIdeal.nD Cert.UpLastRefIdeal.τ).loc Cert.UpLastRefIdeal.main_arg3) = m' ((c.tc : Thread Cert.UpLastRefIdeal.nD Cert.UpLastRefIdeal.τ).loc Cert.UpLastRefIdeal.main_arg3))

def preserves_DownLast_DownLastIdeal : Prop :=
  True

def algebraic_DownLastIdeal_DownLastRefIdeal [hDownLastIdeal : Cert.DownLastIdeal.Facts] [hDownLastRefIdeal : Cert.DownLastRefIdeal.Facts] : Prop :=
  ∀ (m : (ℓ : Loc Cert.DownLastIdeal.nD Cert.DownLastIdeal.τ Cert.DownLastIdeal.sig) → Buf (Elt Ideal) ℓ) (g : Dev Cert.DownLastIdeal.nD → PrngReg)
    (m' : (ℓ : Loc Cert.DownLastRefIdeal.nD Cert.DownLastRefIdeal.τ Cert.DownLastRefIdeal.sig) → Buf (Elt Ideal) ℓ) (g' : Dev Cert.DownLastRefIdeal.nD → PrngReg), Pre_DownLastIdeal m →
    (∀ c : Dev Cert.DownLastIdeal.nD,
      m' ((c.tc : Thread Cert.DownLastRefIdeal.nD Cert.DownLastRefIdeal.τ).loc Cert.DownLastRefIdeal.main_arg0) = m ((c.tc : Thread Cert.DownLastIdeal.nD Cert.DownLastIdeal.τ).loc Cert.DownLastIdeal.main_arg0)
      ∧ m' ((c.tc : Thread Cert.DownLastRefIdeal.nD Cert.DownLastRefIdeal.τ).loc Cert.DownLastRefIdeal.main_arg1) = m ((c.tc : Thread Cert.DownLastIdeal.nD Cert.DownLastIdeal.τ).loc Cert.DownLastIdeal.main_arg1)
      ∧ m' ((c.tc : Thread Cert.DownLastRefIdeal.nD Cert.DownLastRefIdeal.τ).loc Cert.DownLastRefIdeal.main_arg2) = m ((c.tc : Thread Cert.DownLastIdeal.nD Cert.DownLastIdeal.τ).loc Cert.DownLastIdeal.main_arg2)) →
    ∃ (v0 : (c : Dev Cert.DownLastIdeal.nD) → Buf (Elt Ideal) ((c.tc : Thread Cert.DownLastIdeal.nD Cert.DownLastIdeal.τ).loc Cert.DownLastIdeal.main_v5)),
      θ_run (Cert.DownLastIdeal.defs (F := Ideal)) (onTc (τ := Cert.DownLastIdeal.τ) (Cert.DownLastIdeal.main (F := Ideal))) ⟨m, fun _ => 0, g⟩ (fun r => ∀ c : Dev Cert.DownLastIdeal.nD,
          r.2.mem ((c.tc : Thread Cert.DownLastIdeal.nD Cert.DownLastIdeal.τ).loc Cert.DownLastIdeal.main_v5) = v0 c
          ∧ r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
          ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
          ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2))
      ∧ θ_run (Cert.DownLastRefIdeal.defs (F := Ideal)) (onTc (τ := Cert.DownLastRefIdeal.τ) (Cert.DownLastRefIdeal.main (F := Ideal))) ⟨m', fun _ => 0, g'⟩ (fun r => ∀ c : Dev Cert.DownLastRefIdeal.nD,
          r.2.mem ((c.tc : Thread Cert.DownLastRefIdeal.nD Cert.DownLastRefIdeal.τ).loc Cert.DownLastRefIdeal.main_v5) = v0 c
          ∧ r.2.mem ((c.tc : Thread Cert.DownLastRefIdeal.nD Cert.DownLastRefIdeal.τ).loc Cert.DownLastRefIdeal.main_arg0) = m' ((c.tc : Thread Cert.DownLastRefIdeal.nD Cert.DownLastRefIdeal.τ).loc Cert.DownLastRefIdeal.main_arg0)
          ∧ r.2.mem ((c.tc : Thread Cert.DownLastRefIdeal.nD Cert.DownLastRefIdeal.τ).loc Cert.DownLastRefIdeal.main_arg1) = m' ((c.tc : Thread Cert.DownLastRefIdeal.nD Cert.DownLastRefIdeal.τ).loc Cert.DownLastRefIdeal.main_arg1)
          ∧ r.2.mem ((c.tc : Thread Cert.DownLastRefIdeal.nD Cert.DownLastRefIdeal.τ).loc Cert.DownLastRefIdeal.main_arg2) = m' ((c.tc : Thread Cert.DownLastRefIdeal.nD Cert.DownLastRefIdeal.τ).loc Cert.DownLastRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)) (v2 : (c : Dev Cert.OutIdeal.nD) → Buf (Elt Ideal) ((c.tc : Thread Cert.OutIdeal.nD Cert.OutIdeal.τ).loc Cert.OutIdeal.main_v4_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_v4_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v5) = v1 c
          ∧ r.2.mem ((c.tc : Thread Cert.OutRefIdeal.nD Cert.OutRefIdeal.τ).loc Cert.OutRefIdeal.main_v8) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v19_0)) (v1 : (c : Dev Cert.QkvIdeal.nD) → Buf (Elt Ideal) ((c.tc : Thread Cert.QkvIdeal.nD Cert.QkvIdeal.τ).loc Cert.QkvIdeal.main_v19_1)) (v2 : (c : Dev Cert.QkvIdeal.nD) → Buf (Elt Ideal) ((c.tc : Thread Cert.QkvIdeal.nD Cert.QkvIdeal.τ).loc Cert.QkvIdeal.main_v19_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19_0) = v0 c
          ∧ r.2.mem ((c.tc : Thread Cert.QkvIdeal.nD Cert.QkvIdeal.τ).loc Cert.QkvIdeal.main_v19_1) = v1 c
          ∧ r.2.mem ((c.tc : Thread Cert.QkvIdeal.nD Cert.QkvIdeal.τ).loc Cert.QkvIdeal.main_v19_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v72) = v0 c
          ∧ r.2.mem ((c.tc : Thread Cert.QkvRefIdeal.nD Cert.QkvRefIdeal.τ).loc Cert.QkvRefIdeal.main_v74) = v1 c
          ∧ r.2.mem ((c.tc : Thread Cert.QkvRefIdeal.nD Cert.QkvRefIdeal.τ).loc Cert.QkvRefIdeal.main_v82) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v5_0)) (v1 : (c : Dev Cert.EmbedIdeal.nD) → Buf (Elt Ideal) ((c.tc : Thread Cert.EmbedIdeal.nD Cert.EmbedIdeal.τ).loc Cert.EmbedIdeal.main_v5_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v5_0) = v0 c
          ∧ r.2.mem ((c.tc : Thread Cert.EmbedIdeal.nD Cert.EmbedIdeal.τ).loc Cert.EmbedIdeal.main_v5_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v4) = v0 c
          ∧ r.2.mem ((c.tc : Thread Cert.EmbedRefIdeal.nD Cert.EmbedRefIdeal.τ).loc Cert.EmbedRefIdeal.main_v21) = v1 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_Attn_AttnIdeal : Prop :=
  True

def preserves_S5_S5Ideal : Prop :=
  True

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hUpLast : Cert.UpLast.Facts) (hUpLastIdeal : Cert.UpLastIdeal.Facts) (hUpLastRefIdeal : Cert.UpLastRefIdeal.Facts) (hDownLast : Cert.DownLast.Facts) (hDownLastIdeal : Cert.DownLastIdeal.Facts) (hDownLastRefIdeal : Cert.DownLastRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hEmbed : Cert.Embed.Facts) (hEmbedIdeal : Cert.EmbedIdeal.Facts) (hEmbedRefIdeal : Cert.EmbedRefIdeal.Facts) (hAttn : Cert.Attn.Facts) (hAttnIdeal : Cert.AttnIdeal.Facts) (hS5 : Cert.S5.Facts) (hS5Ideal : Cert.S5Ideal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_UpLast (hUpLast := hUpLast)
    ∧ quiescent_UpLastIdeal (hUpLastIdeal := hUpLastIdeal)
    ∧ quiescent_UpLastRefIdeal (hUpLastRefIdeal := hUpLastRefIdeal)
    ∧ quiescent_DownLast (hDownLast := hDownLast)
    ∧ quiescent_DownLastIdeal (hDownLastIdeal := hDownLastIdeal)
    ∧ quiescent_DownLastRefIdeal (hDownLastRefIdeal := hDownLastRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Attn (hAttn := hAttn)
    ∧ quiescent_AttnIdeal (hAttnIdeal := hAttnIdeal)
    ∧ quiescent_S5 (hS5 := hS5)
    ∧ quiescent_S5Ideal (hS5Ideal := hS5Ideal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_UpLast_UpLastIdeal
    ∧ algebraic_UpLastIdeal_UpLastRefIdeal (hUpLastIdeal := hUpLastIdeal) (hUpLastRefIdeal := hUpLastRefIdeal)
    ∧ preserves_DownLast_DownLastIdeal
    ∧ algebraic_DownLastIdeal_DownLastRefIdeal (hDownLastIdeal := hDownLastIdeal) (hDownLastRefIdeal := hDownLastRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Embed_EmbedIdeal
    ∧ algebraic_EmbedIdeal_EmbedRefIdeal (hEmbedIdeal := hEmbedIdeal) (hEmbedRefIdeal := hEmbedRefIdeal)
    ∧ preserves_Attn_AttnIdeal
    ∧ preserves_S5_S5Ideal
-- ==== Kernel.lean ====
abbrev S2x8448x4096 : Shape := ⟨3, ![2, 8448, 4096]⟩
abbrev S1x4096x8192 : Shape := ⟨3, ![1, 4096, 8192]⟩
abbrev S1x8192 : Shape := ⟨2, ![1, 8192]⟩
abbrev S4096x8192 : Shape := ⟨2, ![4096, 8192]⟩
abbrev S16896x4096 : Shape := ⟨2, ![16896, 4096]⟩
abbrev S8192 : Shape := ⟨1, ![8192]⟩
abbrev S16384x4096 : Shape := ⟨2, ![16384, 4096]⟩
abbrev S16384x1 : Shape := ⟨2, ![16384, 1]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1024x1 : Shape := ⟨2, ![1024, 1]⟩
abbrev S4096x256 : Shape := ⟨2, ![4096, 256]⟩
abbrev S1024x256 : Shape := ⟨2, ![1024, 256]⟩
abbrev S1x256 : Shape := ⟨2, ![1, 256]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x8192, .f32⟩
  | .hbm, ⟨2, _⟩ => ⟨S1x8192, .f32⟩
  | .hbm, ⟨3, _⟩ => ⟨S2x8448x4096, .f32⟩
  | .hbm, ⟨4, _⟩ => ⟨S4096x8192, .f32⟩
  | .hbm, ⟨5, _⟩ => ⟨S4096x8192, .bf16⟩
  | .hbm, ⟨6, _⟩ => ⟨S16896x4096, .bf16⟩
  | .hbm, ⟨7, _⟩ => ⟨S8192, .f32⟩
  | .hbm, ⟨8, _⟩ => ⟨S16896x4096, .f32⟩
  | .hbm, ⟨9, _⟩ => ⟨S1x8192, .f32⟩
  | .hbm, ⟨10, _⟩ => ⟨S16384x4096, .f32⟩
  | .hbm, ⟨11, _⟩ => ⟨S16384x4096, .bf16⟩
  | .hbm, ⟨12, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x1, .f32⟩
  | .local _ .vmem, ⟨17, _⟩ => ⟨S1024x1, .f32⟩
  | _, _ => ⟨S2x8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg0 : BitVec 32 := BitVec.ofNat 32 (i 0).val
  let c8448_i32 : BitVec 32 := 8448#32
  let v0 : BitVec 32 := Scalar.muli arg0 c8448_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult2 (i : grid0.Coords) : BitVec 32 :=
  let arg0 : BitVec 32 := BitVec.ofNat 32 (i 0).val
  let c8448_i32 : BitVec 32 := 8448#32
  let v0 : BitVec 32 := Scalar.muli arg0 c8448_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8448_i32 : BitVec 32 := 8448#32
  let v0 : BitVec 32 := Scalar.muli arg0 c8448_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8448_i32 : BitVec 32 := 8448#32
  let v0 : BitVec 32 := Scalar.muli arg0 c8448_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c512_i32 : BitVec 32 := 512#32
  let v5 : BitVec 32 := Scalar.muli arg2 c512_i32
  let c0_i32 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x8448x4096 : Shape := ⟨3, ![2, 8448, 4096]⟩
abbrev S1x4096x8192 : Shape := ⟨3, ![1, 4096, 8192]⟩
abbrev S1x8192 : Shape := ⟨2, ![1, 8192]⟩
abbrev S2x8192x4096 : Shape := ⟨3, ![2, 8192, 4096]⟩
abbrev S4096x8192 : Shape := ⟨2, ![4096, 8192]⟩
abbrev S2x8192x8192 : Shape := ⟨3, ![2, 8192, 8192]⟩
abbrev S8192 : Shape := ⟨1, ![8192]⟩
abbrev S1x1x8192 : Shape := ⟨3, ![1, 1, 8192]⟩
abbrev S_ : Shape := ⟨0, ![]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x8192, .f32⟩
  | .hbm, ⟨2, _⟩ => ⟨S1x8192, .f32⟩
  | .hbm, ⟨3, _⟩ => ⟨S2x8448x4096, .f32⟩
  | .hbm, ⟨4, _⟩ => ⟨S2x8192x4096, .bf16⟩
  | .hbm, ⟨5, _⟩ => ⟨S2x8192x4096, .f32⟩
  | .hbm, ⟨6, _⟩ => ⟨S4096x8192, .f32⟩
  | .hbm, ⟨7, _⟩ => ⟨S2x8192x8192, .f32⟩
  | .hbm, ⟨8, _⟩ => ⟨S8192, .f32⟩
  | .hbm, ⟨9, _⟩ => ⟨S1x1x8192, .f32⟩
  | .hbm, ⟨10, _⟩ => ⟨S2x8192x8192, .f32⟩
  | .hbm, ⟨11, _⟩ => ⟨S2x8192x8192, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S_, .f32⟩
  | .hbm, ⟨18, _⟩ => ⟨S2x8192x4096, .f32⟩
  | .hbm, ⟨19, _⟩ => ⟨S2x8192x4096, .f32⟩
  | .hbm, ⟨20, _⟩ => ⟨S_, .f32⟩
  | .hbm, ⟨21, _⟩ => ⟨S2x8192x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S16384x4096, .f32⟩
  | .hbm, ⟨26, _⟩ => ⟨S16384x4096, .bf16⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S16384x1, .f32⟩
  | _, _ => ⟨S2x8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Up.lean ====
abbrev S2x8448x4096 : Shape := ⟨3, ![2, 8448, 4096]⟩
abbrev S2x4096 : Shape := ⟨2, ![2, 4096]⟩
abbrev S2x4096x16384 : Shape := ⟨3, ![2, 4096, 16384]⟩
abbrev S2x16384x4096 : Shape := ⟨3, ![2, 16384, 4096]⟩
abbrev S1x4096x8192 : Shape := ⟨3, ![1, 4096, 8192]⟩
abbrev S16896x4096 : Shape := ⟨2, ![16896, 4096]⟩
abbrev S_ : Shape := ⟨0, ![]⟩
abbrev S16896 : Shape := ⟨1, ![16896]⟩
abbrev S16896x1 : Shape := ⟨2, ![16896, 1]⟩
abbrev S1x4096x16384 : Shape := ⟨3, ![1, 4096, 16384]⟩
abbrev S4096x16384 : Shape := ⟨2, ![4096, 16384]⟩
abbrev S1x4096 : Shape := ⟨2, ![1, 4096]⟩
abbrev S4096 : Shape := ⟨1, ![4096]⟩
abbrev S4096x1 : Shape := ⟨2, ![4096, 1]⟩
abbrev S16896x16384 : Shape := ⟨2, ![16896, 16384]⟩
abbrev S16384x4096 : Shape := ⟨2, ![16384, 4096]⟩
abbrev S4096x8192 : Shape := ⟨2, ![4096, 8192]⟩
abbrev S768x4096 : Shape := ⟨2, ![768, 4096]⟩
abbrev S4096x1024 : Shape := ⟨2, ![4096, 1024]⟩
abbrev S768x1 : Shape := ⟨2, ![768, 1]⟩
abbrev S1x64x4096 : Shape := ⟨3, ![1, 64, 4096]⟩
abbrev S1x16x8192 : Shape := ⟨3, ![1, 16, 8192]⟩
abbrev S1x16x16384 : Shape := ⟨3, ![1, 16, 16384]⟩
abbrev S16x1 : Shape := ⟨2, ![16, 1]⟩
abbrev S768x1024 : Shape := ⟨2, ![768, 1024]⟩
abbrev S64x4096 : Shape := ⟨2, ![64, 4096]⟩
abbrev S16x8192 : Shape := ⟨2, ![16, 8192]⟩
abbrev S16x16384 : Shape := ⟨2, ![16, 16384]⟩
abbrev S4096x256 : Shape := ⟨2, ![4096, 256]⟩
abbrev S768x256 : Shape := ⟨2, ![768, 256]⟩

abbrev nBuf : Space → Nat
  | .hbm => 26
  | .vmem => 22
  | .smem => 0
  | _ => 0

abbrev bufTy : (tb : Table) → Fin (tcTables nBuf tb) → BufTy
  | .hbm, ⟨0, _⟩ => ⟨S2x8448x4096, .f32⟩
  | .hbm, ⟨1, _⟩ => ⟨S2x4096, .f32⟩
  | .hbm, ⟨2, _⟩ => ⟨S2x4096x16384, .f32⟩
  | .hbm, ⟨3, _⟩ => ⟨S2x16384x4096, .f32⟩
  | .hbm, ⟨4, _⟩ => ⟨S1x4096x8192, .f32⟩
  | .hbm, ⟨5, _⟩ => ⟨S16896x4096, .f32⟩
  | .hbm, ⟨6, _⟩ => ⟨S16896x4096, .bf16⟩
  | .hbm, ⟨7, _⟩ => ⟨S16896x4096, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S1x4096x16384, .f32⟩
  | .hbm, ⟨12, _⟩ => ⟨S4096x16384, .f32⟩
  | .hbm, ⟨13, _⟩ => ⟨S1x4096, .f32⟩
  | .hbm, ⟨14, _⟩ => ⟨S4096, .f32⟩
  | .hbm, ⟨15, _⟩ => ⟨S4096x1, .f32⟩
  | .hbm, ⟨16, _⟩ => ⟨S4096x16384, .f32⟩
  | .hbm, ⟨17, _⟩ => ⟨S4096x16384, .f32⟩
  | .hbm, ⟨18, _⟩ => ⟨S4096x16384, .bf16⟩
  | .hbm, ⟨19, _⟩ => ⟨S1x4096, .f32⟩
  | .hbm, ⟨20, _⟩ => ⟨S4096, .f32⟩
  | .hbm, ⟨21, _⟩ => ⟨S4096x1, .f32⟩
  | .hbm, ⟨22, _⟩ => ⟨S16896x16384, .bf16⟩
  | .hbm, ⟨23, _⟩ => ⟨S16384x4096, .bf16⟩
  | .hbm, ⟨24, _⟩ => ⟨S4096x8192, .bf16⟩
  | .hbm, ⟨25, _⟩ => ⟨S4096x16384, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1, .f32⟩
  | .local _ .vmem, ⟨5, _⟩ => ⟨S768x1, .f32⟩
  | .local _ .vmem, ⟨6, _⟩ => ⟨S1x64x4096, .f32⟩
  | .local _ .vmem, ⟨7, _⟩ => ⟨S1x64x4096, .f32⟩
  | .local _ .vmem, ⟨8, _⟩ => ⟨S1x16x8192, .f32⟩
  | .local _ .vmem, ⟨9, _⟩ => ⟨S1x16x8192, .f32⟩
  | .local _ .vmem, ⟨10, _⟩ => ⟨S1x16x16384, .f32⟩
  | .local _ .vmem, ⟨11, _⟩ => ⟨S1x16x16384, .f32⟩
  | .local _ .vmem, ⟨12, _⟩ => ⟨S16x1, .f32⟩
  | .local _ .vmem, ⟨13, _⟩ => ⟨S16x1, .f32⟩
  | .local _ .vmem, ⟨14, _⟩ => ⟨S768x1024, .bf16⟩
  | .local _ .vmem, ⟨15, _⟩ => ⟨S768x1024, .bf16⟩
  | .local _ .vmem, ⟨16, _⟩ => ⟨S64x4096, .bf16⟩
  | .local _ .vmem, ⟨17, _⟩ => ⟨S64x4096, .bf16⟩
  | .local _ .vmem, ⟨18, _⟩ => ⟨S16x8192, .bf16⟩
  | .local _ .vmem, ⟨19, _⟩ => ⟨S16x8192, .bf16⟩
  | .local _ .vmem, ⟨20, _⟩ => ⟨S16x16384, .bf16⟩
  | .local _ .vmem, ⟨21, _⟩ => ⟨S16x16384, .bf16⟩
  | _, _ => ⟨S2x8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c1_i32 : BitVec 32 := 1#32
  let c0_i32 : BitVec 32 := 0#32
  let c0_i32_0 : BitVec 32 := 0#32
  ![c1_i32.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpRefIdeal.lean ====
abbrev S2x8448x4096 : Shape := ⟨3, ![2, 8448, 4096]⟩
abbrev S2x4096 : Shape := ⟨2, ![2, 4096]⟩
abbrev S2x4096x16384 : Shape := ⟨3, ![2, 4096, 16384]⟩
abbrev S2x16384x4096 : Shape := ⟨3, ![2, 16384, 4096]⟩
abbrev S1x4096x8192 : Shape := ⟨3, ![1, 4096, 8192]⟩
abbrev S1x4096 : Shape := ⟨2, ![1, 4096]⟩
abbrev S4096 : Shape := ⟨1, ![4096]⟩
abbrev S_ : Shape := ⟨0, ![]⟩
abbrev S2x8448 : Shape := ⟨2, ![2, 8448]⟩
abbrev S2x8448x1 : Shape := ⟨3, ![2, 8448, 1]⟩
abbrev S1x1x4096 : Shape := ⟨3, ![1, 1, 4096]⟩
abbrev S1x4096x16384 : Shape := ⟨3, ![1, 4096, 16384]⟩
abbrev S4096x16384 : Shape := ⟨2, ![4096, 16384]⟩
abbrev S2x8448x16384 : Shape := ⟨3, ![2, 8448, 16384]⟩
abbrev S16896x16384 : Shape := ⟨2, ![16896, 16384]⟩
abbrev S1x16384x4096 : Shape := ⟨3, ![1, 16384, 4096]⟩
abbrev S16384x4096 : Shape := ⟨2, ![16384, 4096]⟩
abbrev S4096x8192 : Shape := ⟨2, ![4096, 8192]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x8448x4096, .f32⟩
  | .hbm, ⟨1, _⟩ => ⟨S2x4096, .f32⟩
  | .hbm, ⟨2, _⟩ => ⟨S2x4096x16384, .f32⟩
  | .hbm, ⟨3, _⟩ => ⟨S2x16384x4096, .f32⟩
  | .hbm, ⟨4, _⟩ => ⟨S1x4096x8192, .f32⟩
  | .hbm, ⟨5, _⟩ => ⟨S1x4096, .f32⟩
  | .hbm, ⟨6, _⟩ => ⟨S4096, .f32⟩
  | .hbm, ⟨7, _⟩ => ⟨S2x8448x4096, .f32⟩
  | .hbm, ⟨8, _⟩ => ⟨S_, .f32⟩
  | .hbm, ⟨9, _⟩ => ⟨S2x8448, .f32⟩
  | .hbm, ⟨10, _⟩ => ⟨S2x8448x1, .f32⟩
  | .hbm, ⟨11, _⟩ => ⟨S_, .f32⟩
  | .hbm, ⟨12, _⟩ => ⟨S2x8448x1, .f32⟩
  | .hbm, ⟨13, _⟩ => ⟨S2x8448x1, .f32⟩
  | .hbm, ⟨14, _⟩ => ⟨S_, .f32⟩
  | .hbm, ⟨15, _⟩ => ⟨S2x8448x1, .f32⟩
  | .hbm, ⟨16, _⟩ => ⟨S2x8448x1, .f32⟩
  | .hbm, ⟨17, _⟩ => ⟨S2x8448x1, .f32⟩
  | .hbm, ⟨18, _⟩ => ⟨S2x8448x4096, .f32⟩
  | .hbm, ⟨19, _⟩ => ⟨S2x8448x4096, .f32⟩
  | .hbm, ⟨20, _⟩ => ⟨S1x1x4096, .f32⟩
  | .hbm, ⟨21, _⟩ => ⟨S2x8448x4096, .f32⟩
  | .hbm, ⟨22, _⟩ => ⟨S2x8448x4096, .f32⟩
  | .hbm, ⟨23, _⟩ => ⟨S1x4096x16384, .f32⟩
  | .hbm, ⟨24, _⟩ => ⟨S4096x16384, .f32⟩
  | .hbm, ⟨25, _⟩ => ⟨S2x8448x16384, .f32⟩
  | .hbm, ⟨26, _⟩ => ⟨S_, .f32⟩
  | .hbm, ⟨27, _⟩ => ⟨S2x8448x16384, .f32⟩
  | .hbm, ⟨28, _⟩ => ⟨S2x8448x16384, .f32⟩
  | .hbm, ⟨29, _⟩ => ⟨S2x8448x16384, .f32⟩
  | .hbm, ⟨30, _⟩ => ⟨S16896x16384, .f32⟩
  | .hbm, ⟨31, _⟩ => ⟨S16896x16384, .bf16⟩
  | .hbm, ⟨32, _⟩ => ⟨S1x16384x4096, .f32⟩
  | .hbm, ⟨33, _⟩ => ⟨S16384x4096, .f32⟩
  | .hbm, ⟨34, _⟩ => ⟨S16384x4096, .bf16⟩
  | .hbm, ⟨35, _⟩ => ⟨S4096x8192, .f32⟩
  | .hbm, ⟨36, _⟩ => ⟨S4096x8192, .bf16⟩
  | .hbm, ⟨37, _⟩ => ⟨S1x4096x16384, .f32⟩
  | .hbm, ⟨38, _⟩ => ⟨S4096x16384, .f32⟩
  | .hbm, ⟨39, _⟩ => ⟨S1x4096, .f32⟩
  | .hbm, ⟨40, _⟩ => ⟨S4096, .f32⟩
  | .hbm, ⟨41, _⟩ => ⟨S4096x1, .f32⟩
  | .hbm, ⟨42, _⟩ => ⟨S4096x16384, .f32⟩
  | .hbm, ⟨43, _⟩ => ⟨S4096x16384, .f32⟩
  | .hbm, ⟨44, _⟩ => ⟨S4096x16384, .bf16⟩
  | _, _ => ⟨S2x8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Down.lean ====
abbrev S2x8448x16384 : Shape := ⟨3, ![2, 8448, 16384]⟩
abbrev S2x16384x4096 : Shape := ⟨3, ![2, 16384, 4096]⟩
abbrev S2x8448x4096 : Shape := ⟨3, ![2, 8448, 4096]⟩
abbrev S16896x16384 : Shape := ⟨2, ![16896, 16384]⟩
abbrev S1x16384x4096 : Shape := ⟨3, ![1, 16384, 4096]⟩
abbrev S16384x4096 : Shape := ⟨2, ![16384, 4096]⟩
abbrev S16896x4096 : Shape := ⟨2, ![16896, 4096]⟩
abbrev S16896x1 : Shape := ⟨2, ![16896, 1]⟩
abbrev S768x4096 : Shape := ⟨2, ![768, 4096]⟩
abbrev S4096x1024 : Shape := ⟨2, ![4096, 1024]⟩
abbrev S768x1024 : Shape := ⟨2, ![768, 1024]⟩
abbrev S768x1 : Shape := ⟨2, ![768, 1]⟩
abbrev S768x256 : Shape := ⟨2, ![768, 256]⟩
abbrev S4096x256 : Shape := ⟨2, ![4096, 256]⟩
abbrev S768 : Shape := ⟨1, ![768]⟩

abbrev nBuf : Space → Nat
  | .hbm => 11
  | .vmem => 12
  | .smem => 0
  | _ => 0

abbrev bufTy : (tb : Table) → Fin (tcTables nBuf tb) → BufTy
  | .hbm, ⟨0, _⟩ => ⟨S2x8448x16384, .bf16⟩
  | .hbm, ⟨1, _⟩ => ⟨S2x16384x4096, .f32⟩
  | .hbm, ⟨2, _⟩ => ⟨S2x8448x4096, .f32⟩
  | .hbm, ⟨3, _⟩ => ⟨S16896x16384, .bf16⟩
  | .hbm, ⟨4, _⟩ => ⟨S1x16384x4096, .f32⟩
  | .hbm, ⟨5, _⟩ => ⟨S16384x4096, .f32⟩
  | .hbm, ⟨6, _⟩ => ⟨S16384x4096, .bf16⟩
  | .hbm, ⟨7, _⟩ => ⟨S16896x4096, .f32⟩
  | .hbm, ⟨8, _⟩ => ⟨S16896x4096, .f32⟩
  | .hbm, ⟨9, _⟩ => ⟨S16896x4096, .bf16⟩
  | .hbm, ⟨10, _⟩ => ⟨S16896x1, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S768x1, .f32⟩
  | .local _ .vmem, ⟨11, _⟩ => ⟨S768x1, .f32⟩
  | _, _ => ⟨S2x8448x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![22, 4, 4], ![false, false, false]⟩

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c0_i32_4 : BitVec 32 := 0#32
  let v8 : BitVec 1 := Scalar.cmpi .sgt arg2 c0_i32_4
  let c3_i32 : BitVec 32 := 3#32
  let v9 : BitVec 1 := Scalar.cmpi .slt arg2 c3_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond4 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownRefIdeal.lean ====
abbrev S2x8448x16384 : Shape := ⟨3, ![2, 8448, 16384]⟩
abbrev S2x16384x4096 : Shape := ⟨3, ![2, 16384, 4096]⟩
abbrev S2x8448x4096 : Shape := ⟨3, ![2, 8448, 4096]⟩
abbrev S1x16384x4096 : Shape := ⟨3, ![1, 16384, 4096]⟩
abbrev S16384x4096 : Shape := ⟨2, ![16384, 4096]⟩
abbrev S16896x4096 : Shape := ⟨2, ![16896, 4096]⟩
abbrev S_ : Shape := ⟨0, ![]⟩
abbrev S16896 : Shape := ⟨1, ![16896]⟩
abbrev S16896x1 : Shape := ⟨2, ![16896, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x8448x16384, .bf16⟩
  | .hbm, ⟨1, _⟩ => ⟨S2x16384x4096, .f32⟩
  | .hbm, ⟨2, _⟩ => ⟨S2x8448x4096, .f32⟩
  | .hbm, ⟨3, _⟩ => ⟨S2x8448x16384, .f32⟩
  | .hbm, ⟨4, _⟩ => ⟨S1x16384x4096, .f32⟩
  | .hbm, ⟨5, _⟩ => ⟨S16384x4096, .f32⟩
  | .hbm, ⟨6, _⟩ => ⟨S2x8448x4096, .f32⟩
  | .hbm, ⟨7, _⟩ => ⟨S2x8448x4096, .f32⟩
  | .hbm, ⟨8, _⟩ => ⟨S16896x4096, .f32⟩
  | .hbm, ⟨9, _⟩ => ⟨S16896x4096, .bf16⟩
  | .hbm, ⟨10, _⟩ => ⟨S16896x4096, .f32⟩
  | .hbm, ⟨11, _⟩ => ⟨S_, .f32⟩
  | .hbm, ⟨12, _⟩ => ⟨S16896, .f32⟩
  | .hbm, ⟨13, _⟩ => ⟨S16896x1, .f32⟩
  | _, _ => ⟨S2x8448x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpLast.lean ====
abbrev S2x8192x4096 : Shape := ⟨3, ![2, 8192, 4096]⟩
abbrev S2x4096 : Shape := ⟨2, ![2, 4096]⟩
abbrev S2x4096x16384 : Shape := ⟨3, ![2, 4096, 16384]⟩
abbrev S2x16384x4096 : Shape := ⟨3, ![2, 16384, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096x16384 : Shape := ⟨3, ![1, 4096, 16384]⟩
abbrev S4096x16384 : Shape := ⟨2, ![4096, 16384]⟩
abbrev S1x4096 : Shape := ⟨2, ![1, 4096]⟩
abbrev S4096 : Shape := ⟨1, ![4096]⟩
abbrev S4096x1 : Shape := ⟨2, ![4096, 1]⟩
abbrev S16384x16384 : Shape := ⟨2, ![16384, 16384]⟩
abbrev S1024x4096 : Shape := ⟨2, ![1024, 4096]⟩
abbrev S4096x1024 : Shape := ⟨2, ![4096, 1024]⟩
abbrev S1024x1 : Shape := ⟨2, ![1024, 1]⟩
abbrev S1x64x4096 : Shape := ⟨3, ![1, 64, 4096]⟩
abbrev S1024x1024 : Shape := ⟨2, ![1024, 1024]⟩
abbrev S64x4096 : Shape := ⟨2, ![64, 4096]⟩
abbrev S4096x256 : Shape := ⟨2, ![4096, 256]⟩
abbrev S1024x256 : Shape := ⟨2, ![1024, 256]⟩

abbrev nBuf : Space → Nat
  | .hbm => 20
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S2x4096, .f32⟩
  | .hbm, ⟨2, _⟩ => ⟨S2x4096x16384, .f32⟩
  | .hbm, ⟨3, _⟩ => ⟨S2x16384x4096, .f32⟩
  | .hbm, ⟨4, _⟩ => ⟨S16384x4096, .f32⟩
  | .hbm, ⟨5, _⟩ => ⟨S16384x4096, .bf16⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x4096x16384, .f32⟩
  | .hbm, ⟨11, _⟩ => ⟨S4096x16384, .f32⟩
  | .hbm, ⟨12, _⟩ => ⟨S1x4096, .f32⟩
  | .hbm, ⟨13, _⟩ => ⟨S4096, .f32⟩
  | .hbm, ⟨14, _⟩ => ⟨S4096x1, .f32⟩
  | .hbm, ⟨15, _⟩ => ⟨S4096x16384, .f32⟩
  | .hbm, ⟨16, _⟩ => ⟨S4096x16384, .f32⟩
  | .hbm, ⟨17, _⟩ => ⟨S4096x16384, .bf16⟩
  | .hbm, ⟨18, _⟩ => ⟨S16384x16384, .bf16⟩
  | .hbm, ⟨19, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1, .f32⟩
  | .local _ .vmem, ⟨5, _⟩ => ⟨S1024x1, .f32⟩
  | .local _ .vmem, ⟨6, _⟩ => ⟨S1x64x4096, .f32⟩
  | .local _ .vmem, ⟨7, _⟩ => ⟨S1x64x4096, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c1_i32 : BitVec 32 := 1#32
  let c0_i32 : BitVec 32 := 0#32
  let c0_i32_0 : BitVec 32 := 0#32
  ![c1_i32.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpLastRefIdeal.lean ====
abbrev S2x8192x4096 : Shape := ⟨3, ![2, 8192, 4096]⟩
abbrev S2x4096 : Shape := ⟨2, ![2, 4096]⟩
abbrev S2x4096x16384 : Shape := ⟨3, ![2, 4096, 16384]⟩
abbrev S2x16384x4096 : Shape := ⟨3, ![2, 16384, 4096]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S1x4096x16384 : Shape := ⟨3, ![1, 4096, 16384]⟩
abbrev S4096x16384 : Shape := ⟨2, ![4096, 16384]⟩
abbrev S2x8192x16384 : Shape := ⟨3, ![2, 8192, 16384]⟩
abbrev S16384x16384 : Shape := ⟨2, ![16384, 16384]⟩
abbrev S1x16384x4096 : Shape := ⟨3, ![1, 16384, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x4096, .f32⟩
  | .hbm, ⟨2, _⟩ => ⟨S2x4096x16384, .f32⟩
  | .hbm, ⟨3, _⟩ => ⟨S2x16384x4096, .f32⟩
  | .hbm, ⟨4, _⟩ => ⟨S1x4096, .f32⟩
  | .hbm, ⟨5, _⟩ => ⟨S4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S1x4096x16384, .f32⟩
  | .hbm, ⟨23, _⟩ => ⟨S4096x16384, .f32⟩
  | .hbm, ⟨24, _⟩ => ⟨S2x8192x16384, .f32⟩
  | .hbm, ⟨25, _⟩ => ⟨S_, .f32⟩
  | .hbm, ⟨26, _⟩ => ⟨S2x8192x16384, .f32⟩
  | .hbm, ⟨27, _⟩ => ⟨S2x8192x16384, .f32⟩
  | .hbm, ⟨28, _⟩ => ⟨S2x8192x16384, .f32⟩
  | .hbm, ⟨29, _⟩ => ⟨S16384x16384, .f32⟩
  | .hbm, ⟨30, _⟩ => ⟨S16384x16384, .bf16⟩
  | .hbm, ⟨31, _⟩ => ⟨S1x16384x4096, .f32⟩
  | .hbm, ⟨32, _⟩ => ⟨S16384x4096, .f32⟩
  | .hbm, ⟨33, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== DownLast.lean ====
abbrev S2x8192x16384 : Shape := ⟨3, ![2, 8192, 16384]⟩
abbrev S2x16384x4096 : Shape := ⟨3, ![2, 16384, 4096]⟩
abbrev S2x8192x4096 : Shape := ⟨3, ![2, 8192, 4096]⟩
abbrev S16384x16384 : Shape := ⟨2, ![16384, 16384]⟩
abbrev S1x16384x4096 : Shape := ⟨3, ![1, 16384, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩
abbrev S1024x256 : Shape := ⟨2, ![1024, 256]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x16384, .bf16⟩
  | .hbm, ⟨1, _⟩ => ⟨S2x16384x4096, .f32⟩
  | .hbm, ⟨2, _⟩ => ⟨S2x8192x4096, .f32⟩
  | .hbm, ⟨3, _⟩ => ⟨S16384x16384, .bf16⟩
  | .hbm, ⟨4, _⟩ => ⟨S1x16384x4096, .f32⟩
  | .hbm, ⟨5, _⟩ => ⟨S16384x4096, .f32⟩
  | .hbm, ⟨6, _⟩ => ⟨S16384x4096, .bf16⟩
  | .hbm, ⟨7, _⟩ => ⟨S16384x4096, .f32⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownLastRefIdeal.lean ====
abbrev S2x8192x16384 : Shape := ⟨3, ![2, 8192, 16384]⟩
abbrev S2x16384x4096 : Shape := ⟨3, ![2, 16384, 4096]⟩
abbrev S2x8192x4096 : Shape := ⟨3, ![2, 8192, 4096]⟩
abbrev S1x16384x4096 : Shape := ⟨3, ![1, 16384, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x16384, .bf16⟩
  | .hbm, ⟨1, _⟩ => ⟨S2x16384x4096, .f32⟩
  | .hbm, ⟨2, _⟩ => ⟨S2x8192x4096, .f32⟩
  | .hbm, ⟨3, _⟩ => ⟨S2x8192x16384, .f32⟩
  | .hbm, ⟨4, _⟩ => ⟨S1x16384x4096, .f32⟩
  | .hbm, ⟨5, _⟩ => ⟨S16384x4096, .f32⟩
  | .hbm, ⟨6, _⟩ => ⟨S2x8192x4096, .f32⟩
  | .hbm, ⟨7, _⟩ => ⟨S2x8192x4096, .f32⟩
  | .hbm, ⟨8, _⟩ => ⟨S16384x4096, .f32⟩
  | _, _ => ⟨S2x8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S2x8448x4096 : Shape := ⟨3, ![2, 8448, 4096]⟩
abbrev S1x4096x4096 : Shape := ⟨3, ![1, 4096, 4096]⟩
abbrev S16896x4096 : Shape := ⟨2, ![16896, 4096]⟩
abbrev S4096x4096 : Shape := ⟨2, ![4096, 4096]⟩
abbrev S16896x1 : Shape := ⟨2, ![16896, 1]⟩
abbrev S768x4096 : Shape := ⟨2, ![768, 4096]⟩
abbrev S4096x1024 : Shape := ⟨2, ![4096, 1024]⟩
abbrev S768x1024 : Shape := ⟨2, ![768, 1024]⟩
abbrev S768x1 : Shape := ⟨2, ![768, 1]⟩
abbrev S768x256 : Shape := ⟨2, ![768, 256]⟩
abbrev S4096x256 : Shape := ⟨2, ![4096, 256]⟩
abbrev S768 : Shape := ⟨1, ![768]⟩

abbrev nBuf : Space → Nat
  | .hbm => 10
  | .vmem => 12
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x4096, .f32⟩
  | .hbm, ⟨2, _⟩ => ⟨S2x8448x4096, .f32⟩
  | .hbm, ⟨3, _⟩ => ⟨S16896x4096, .bf16⟩
  | .hbm, ⟨4, _⟩ => ⟨S4096x4096, .f32⟩
  | .hbm, ⟨5, _⟩ => ⟨S4096x4096, .bf16⟩
  | .hbm, ⟨6, _⟩ => ⟨S16896x4096, .f32⟩
  | .hbm, ⟨7, _⟩ => ⟨S16896x4096, .f32⟩
  | .hbm, ⟨8, _⟩ => ⟨S16896x4096, .bf16⟩
  | .hbm, ⟨9, _⟩ => ⟨S16896x1, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S768x1, .f32⟩
  | .local _ .vmem, ⟨11, _⟩ => ⟨S768x1, .f32⟩
  | _, _ => ⟨S2x8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutRefIdeal.lean ====
abbrev S2x8448x4096 : Shape := ⟨3, ![2, 8448, 4096]⟩
abbrev S1x4096x4096 : Shape := ⟨3, ![1, 4096, 4096]⟩
abbrev S4096x4096 : Shape := ⟨2, ![4096, 4096]⟩
abbrev S16896x4096 : Shape := ⟨2, ![16896, 4096]⟩
abbrev S_ : Shape := ⟨0, ![]⟩
abbrev S16896 : Shape := ⟨1, ![16896]⟩
abbrev S16896x1 : Shape := ⟨2, ![16896, 1]⟩

abbrev nBuf : Space → Nat
  | .hbm => 13
  | .vmem => 0
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x4096, .f32⟩
  | .hbm, ⟨2, _⟩ => ⟨S2x8448x4096, .f32⟩
  | .hbm, ⟨3, _⟩ => ⟨S2x8448x4096, .f32⟩
  | .hbm, ⟨4, _⟩ => ⟨S4096x4096, .f32⟩
  | .hbm, ⟨5, _⟩ => ⟨S2x8448x4096, .f32⟩
  | .hbm, ⟨6, _⟩ => ⟨S2x8448x4096, .f32⟩
  | .hbm, ⟨7, _⟩ => ⟨S16896x4096, .f32⟩
  | .hbm, ⟨8, _⟩ => ⟨S16896x4096, .bf16⟩
  | .hbm, ⟨9, _⟩ => ⟨S16896x4096, .f32⟩
  | .hbm, ⟨10, _⟩ => ⟨S_, .f32⟩
  | .hbm, ⟨11, _⟩ => ⟨S16896, .f32⟩
  | .hbm, ⟨12, _⟩ => ⟨S16896x1, .f32⟩
  | _, _ => ⟨S2x8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Qkv.lean ====
abbrev S2x8448x4096 : Shape := ⟨3, ![2, 8448, 4096]⟩
abbrev S1x4096x12288 : Shape := ⟨3, ![1, 4096, 12288]⟩
abbrev S1x128 : Shape := ⟨2, ![1, 128]⟩
abbrev S8448x64 : Shape := ⟨2, ![8448, 64]⟩
abbrev S1x4096x4096 : Shape := ⟨3, ![1, 4096, 4096]⟩
abbrev S2x4096x16384 : Shape := ⟨3, ![2, 4096, 16384]⟩
abbrev S2x4096 : Shape := ⟨2, ![2, 4096]⟩
abbrev S8448x128 : Shape := ⟨2, ![8448, 128]⟩
abbrev S1x8448x1x128 : Shape := ⟨4, ![1, 8448, 1, 128]⟩
abbrev S2x8448x1x128 : Shape := ⟨4, ![2, 8448, 1, 128]⟩
abbrev S16896x128 : Shape := ⟨2, ![16896, 128]⟩
abbrev S16896x4096 : Shape := ⟨2, ![16896, 4096]⟩
abbrev S4096x12288 : Shape := ⟨2, ![4096, 12288]⟩
abbrev S128 : Shape := ⟨1, ![128]⟩
abbrev S1x4096 : Shape := ⟨2, ![1, 4096]⟩
abbrev S4096 : Shape := ⟨1, ![4096]⟩
abbrev S4096x1 : Shape := ⟨2, ![4096, 1]⟩
abbrev S16896x12288 : Shape := ⟨2, ![16896, 12288]⟩
abbrev S4096x4096 : Shape := ⟨2, ![4096, 4096]⟩
abbrev S4096x16384 : Shape := ⟨2, ![4096, 16384]⟩
abbrev S1536x4096 : Shape := ⟨2, ![1536, 4096]⟩
abbrev S4096x512 : Shape := ⟨2, ![4096, 512]⟩
abbrev S1536x128 : Shape := ⟨2, ![1536, 128]⟩
abbrev S1x16x4096 : Shape := ⟨3, ![1, 16, 4096]⟩
abbrev S1x16x16384 : Shape := ⟨3, ![1, 16, 16384]⟩
abbrev S16x1 : Shape := ⟨2, ![16, 1]⟩
abbrev S1536x512 : Shape := ⟨2, ![1536, 512]⟩
abbrev S16x4096 : Shape := ⟨2, ![16, 4096]⟩
abbrev S16x16384 : Shape := ⟨2, ![16, 16384]⟩
abbrev S1536 : Shape := ⟨1, ![1536]⟩
abbrev S1536x1 : Shape := ⟨2, ![1536, 1]⟩

abbrev nBuf : Space → Nat
  | .hbm => 31
  | .vmem => 22
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x12288, .f32⟩
  | .hbm, ⟨2, _⟩ => ⟨S1x128, .f32⟩
  | .hbm, ⟨3, _⟩ => ⟨S1x128, .f32⟩
  | .hbm, ⟨4, _⟩ => ⟨S8448x64, .f32⟩
  | .hbm, ⟨5, _⟩ => ⟨S8448x64, .f32⟩
  | .hbm, ⟨6, _⟩ => ⟨S1x4096x4096, .f32⟩
  | .hbm, ⟨7, _⟩ => ⟨S2x4096x16384, .f32⟩
  | .hbm, ⟨8, _⟩ => ⟨S2x4096, .f32⟩
  | .hbm, ⟨9, _⟩ => ⟨S8448x128, .f32⟩
  | .hbm, ⟨10, _⟩ => ⟨S1x8448x1x128, .f32⟩
  | .hbm, ⟨11, _⟩ => ⟨S2x8448x1x128, .f32⟩
  | .hbm, ⟨12, _⟩ => ⟨S16896x128, .f32⟩
  | .hbm, ⟨13, _⟩ => ⟨S8448x64, .f32⟩
  | .hbm, ⟨14, _⟩ => ⟨S8448x128, .f32⟩
  | .hbm, ⟨15, _⟩ => ⟨S1x8448x1x128, .f32⟩
  | .hbm, ⟨16, _⟩ => ⟨S2x8448x1x128, .f32⟩
  | .hbm, ⟨17, _⟩ => ⟨S16896x128, .f32⟩
  | .hbm, ⟨18, _⟩ => ⟨S16896x4096, .bf16⟩
  | .hbm, ⟨19, _⟩ => ⟨S4096x12288, .f32⟩
  | .hbm, ⟨20, _⟩ => ⟨S4096x12288, .bf16⟩
  | .hbm, ⟨21, _⟩ => ⟨S128, .f32⟩
  | .hbm, ⟨22, _⟩ => ⟨S128, .f32⟩
  | .hbm, ⟨23, _⟩ => ⟨S1x4096, .f32⟩
  | .hbm, ⟨24, _⟩ => ⟨S4096, .f32⟩
  | .hbm, ⟨25, _⟩ => ⟨S4096x1, .f32⟩
  | .hbm, ⟨26, _⟩ => ⟨S1x128, .f32⟩
  | .hbm, ⟨27, _⟩ => ⟨S1x128, .f32⟩
  | .hbm, ⟨28, _⟩ => ⟨S16896x12288, .bf16⟩
  | .hbm, ⟨29, _⟩ => ⟨S4096x4096, .bf16⟩
  | .hbm, ⟨30, _⟩ => ⟨S4096x16384, .bf16⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1x128, .f32⟩
  | .local _ .vmem, ⟨9, _⟩ => ⟨S1x128, .f32⟩
  | .local _ .vmem, ⟨10, _⟩ => ⟨S1x16x4096, .f32⟩
  | .local _ .vmem, ⟨11, _⟩ => ⟨S1x16x4096, .f32⟩
  | .local _ .vmem, ⟨12, _⟩ => ⟨S1x16x16384, .f32⟩
  | .local _ .vmem, ⟨13, _⟩ => ⟨S1x16x16384, .f32⟩
  | .local _ .vmem, ⟨14, _⟩ => ⟨S16x1, .f32⟩
  | .local _ .vmem, ⟨15, _⟩ => ⟨S16x1, .f32⟩
  | .local _ .vmem, ⟨16, _⟩ => ⟨S1536x512, .bf16⟩
  | .local _ .vmem, ⟨17, _⟩ => ⟨S1536x512, .bf16⟩
  | .local _ .vmem, ⟨18, _⟩ => ⟨S16x4096, .bf16⟩
  | .local _ .vmem, ⟨19, _⟩ => ⟨S16x4096, .bf16⟩
  | .local _ .vmem, ⟨20, _⟩ => ⟨S16x16384, .bf16⟩
  | .local _ .vmem, ⟨21, _⟩ => ⟨S16x16384, .bf16⟩
  | _, _ => ⟨S2x8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![11, 24], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_3 : BitVec 32 := 8#32
  let v8 : BitVec 1 := Scalar.cmpi .sge arg1 c8_i32_3
  let c16_i32 : BitVec 32 := 16#32
  let v9 : BitVec 1 := Scalar.cmpi .slt arg1 c16_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c16_i32_5 : BitVec 32 := 16#32
  let v13 : BitVec 1 := Scalar.cmpi .sge arg1 c16_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1536x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x16384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S2x8448x4096 : Shape := ⟨3, ![2, 8448, 4096]⟩
abbrev S1x4096x12288 : Shape := ⟨3, ![1, 4096, 12288]⟩
abbrev S1x128 : Shape := ⟨2, ![1, 128]⟩
abbrev S8448x64 : Shape := ⟨2, ![8448, 64]⟩
abbrev S1x4096x4096 : Shape := ⟨3, ![1, 4096, 4096]⟩
abbrev S2x4096x16384 : Shape := ⟨3, ![2, 4096, 16384]⟩
abbrev S2x4096 : Shape := ⟨2, ![2, 4096]⟩
abbrev S4096x12288 : Shape := ⟨2, ![4096, 12288]⟩
abbrev S2x8448x12288 : Shape := ⟨3, ![2, 8448, 12288]⟩
abbrev S2x8448x32x128 : Shape := ⟨4, ![2, 8448, 32, 128]⟩
abbrev S128 : Shape := ⟨1, ![128]⟩
abbrev S_ : Shape := ⟨0, ![]⟩
abbrev S2x8448x32 : Shape := ⟨3, ![2, 8448, 32]⟩
abbrev S2x8448x32x1 : Shape := ⟨4, ![2, 8448, 32, 1]⟩
abbrev S1x1x1x128 : Shape := ⟨4, ![1, 1, 1, 128]⟩
abbrev S2x8448x32x64 : Shape := ⟨4, ![2, 8448, 32, 64]⟩
abbrev S1x8448x1x64 : Shape := ⟨4, ![1, 8448, 1, 64]⟩
abbrev S16896x4096 : Shape := ⟨2, ![16896, 4096]⟩
abbrev S16896x12288 : Shape := ⟨2, ![16896, 12288]⟩
abbrev S4096x4096 : Shape := ⟨2, ![4096, 4096]⟩
abbrev S1x4096x16384 : Shape := ⟨3, ![1, 4096, 16384]⟩
abbrev S4096x16384 : Shape := ⟨2, ![4096, 16384]⟩
abbrev S1x4096 : Shape := ⟨2, ![1, 4096]⟩
abbrev S4096 : Shape := ⟨1, ![4096]⟩
abbrev S4096x1 : Shape := ⟨2, ![4096, 1]⟩

abbrev nBuf : Space → Nat
  | .hbm => 99
  | .vmem => 0
  | .smem => 0
  | _ => 0

abbrev bufTy : (tb : Table) → Fin (tcTables nBuf tb) → BufTy
  | .hbm, ⟨0, _⟩ => ⟨S2x8448x4096, .bf16⟩
  | .hbm, ⟨1, _⟩ => ⟨S1x4096x12288, .f32⟩
  | .hbm, ⟨2, _⟩ => ⟨S1x128, .f32⟩
  | .hbm, ⟨3, _⟩ => ⟨S1x128, .f32⟩
  | .hbm, ⟨4, _⟩ => ⟨S8448x64, .f32⟩
  | .hbm, ⟨5, _⟩ => ⟨S8448x64, .f32⟩
  | .hbm, ⟨6, _⟩ => ⟨S1x4096x4096, .f32⟩
  | .hbm, ⟨7, _⟩ => ⟨S2x4096x16384, .f32⟩
  | .hbm, ⟨8, _⟩ => ⟨S2x4096, .f32⟩
  | .hbm, ⟨9, _⟩ => ⟨S2x8448x4096, .f32⟩
  | .hbm, ⟨10, _⟩ => ⟨S4096x12288, .f32⟩
  | .hbm, ⟨11, _⟩ => ⟨S2x8448x12288, .f32⟩
  | .hbm, ⟨12, _⟩ => ⟨S2x8448x4096, .f32⟩
  | .hbm, ⟨13, _⟩ => ⟨S2x8448x4096, .f32⟩
  | .hbm, ⟨14, _⟩ => ⟨S2x8448x4096, .f32⟩
  | .hbm, ⟨15, _⟩ => ⟨S2x8448x32x128, .f32⟩
  | .hbm, ⟨16, _⟩ => ⟨S128, .f32⟩
  | .hbm, ⟨17, _⟩ => ⟨S2x8448x32x128, .f32⟩
  | .hbm, ⟨18, _⟩ => ⟨S_, .f32⟩
  | .hbm, ⟨19, _⟩ => ⟨S2x8448x32, .f32⟩
  | .hbm, ⟨20, _⟩ => ⟨S2x8448x32x1, .f32⟩
  | .hbm, ⟨21, _⟩ => ⟨S_, .f32⟩
  | .hbm, ⟨22, _⟩ => ⟨S2x8448x32x1, .f32⟩
  | .hbm, ⟨23, _⟩ => ⟨S2x8448x32x1, .f32⟩
  | .hbm, ⟨24, _⟩ => ⟨S_, .f32⟩
  | .hbm, ⟨25, _⟩ => ⟨S2x8448x32x1, .f32⟩
  | .hbm, ⟨26, _⟩ => ⟨S2x8448x32x1, .f32⟩
  | .hbm, ⟨27, _⟩ => ⟨S2x8448x32x1, .f32⟩
  | .hbm, ⟨28, _⟩ => ⟨S2x8448x32x128, .f32⟩
  | .hbm, ⟨29, _⟩ => ⟨S2x8448x32x128, .f32⟩
  | .hbm, ⟨30, _⟩ => ⟨S1x1x1x128, .f32⟩
  | .hbm, ⟨31, _⟩ => ⟨S2x8448x32x128, .f32⟩
  | .hbm, ⟨32, _⟩ => ⟨S2x8448x32x128, .f32⟩
  | .hbm, ⟨33, _⟩ => ⟨S2x8448x32x64, .f32⟩
  | .hbm, ⟨34, _⟩ => ⟨S2x8448x32x64, .f32⟩
  | .hbm, ⟨35, _⟩ => ⟨S1x8448x1x64, .f32⟩
  | .hbm, ⟨36, _⟩ => ⟨S1x8448x1x64, .f32⟩
  | .hbm, ⟨37, _⟩ => ⟨S2x8448x32x64, .f32⟩
  | .hbm, ⟨38, _⟩ => ⟨S2x8448x32x64, .f32⟩
  | .hbm, ⟨39, _⟩ => ⟨S2x8448x32x64, .f32⟩
  | .hbm, ⟨40, _⟩ => ⟨S2x8448x32x64, .f32⟩
  | .hbm, ⟨41, _⟩ => ⟨S2x8448x32x64, .f32⟩
  | .hbm, ⟨42, _⟩ => ⟨S2x8448x32x64, .f32⟩
  | .hbm, ⟨43, _⟩ => ⟨S2x8448x32x64, .f32⟩
  | .hbm, ⟨44, _⟩ => ⟨S2x8448x32x64, .f32⟩
  | .hbm, ⟨45, _⟩ => ⟨S2x8448x32x64, .f32⟩
  | .hbm, ⟨46, _⟩ => ⟨S2x8448x32x64, .f32⟩
  | .hbm, ⟨47, _⟩ => ⟨S2x8448x32x128, .f32⟩
  | .hbm, ⟨48, _⟩ => ⟨S_, .f32⟩
  | .hbm, ⟨49, _⟩ => ⟨S2x8448x32x128, .f32⟩
  | .hbm, ⟨50, _⟩ => ⟨S2x8448x32x128, .f32⟩
  | .hbm, ⟨51, _⟩ => ⟨S2x8448x32x128, .f32⟩
  | .hbm, ⟨52, _⟩ => ⟨S128, .f32⟩
  | .hbm, ⟨53, _⟩ => ⟨S2x8448x32x128, .f32⟩
  | .hbm, ⟨54, _⟩ => ⟨S_, .f32⟩
  | .hbm, ⟨55, _⟩ => ⟨S2x8448x32, .f32⟩
  | .hbm, ⟨56, _⟩ => ⟨S2x8448x32x1, .f32⟩
  | .hbm, ⟨57, _⟩ => ⟨S_, .f32⟩
  | .hbm, ⟨58, _⟩ => ⟨S2x8448x32x1, .f32⟩
  | .hbm, ⟨59, _⟩ => ⟨S2x8448x32x1, .f32⟩
  | .hbm, ⟨60, _⟩ => ⟨S_, .f32⟩
  | .hbm, ⟨61, _⟩ => ⟨S2x8448x32x1, .f32⟩
  | .hbm, ⟨62, _⟩ => ⟨S2x8448x32x1, .f32⟩
  | .hbm, ⟨63, _⟩ => ⟨S2x8448x32x1, .f32⟩
  | .hbm, ⟨64, _⟩ => ⟨S2x8448x32x128, .f32⟩
  | .hbm, ⟨65, _⟩ => ⟨S2x8448x32x128, .f32⟩
  | .hbm, ⟨66, _⟩ => ⟨S1x1x1x128, .f32⟩
  | .hbm, ⟨67, _⟩ => ⟨S2x8448x32x128, .f32⟩
  | .hbm, ⟨68, _⟩ => ⟨S2x8448x32x128, .f32⟩
  | .hbm, ⟨69, _⟩ => ⟨S2x8448x32x64, .f32⟩
  | .hbm, ⟨70, _⟩ => ⟨S2x8448x32x64, .f32⟩
  | .hbm, ⟨71, _⟩ => ⟨S1x8448x1x64, .f32⟩
  | .hbm, ⟨72, _⟩ => ⟨S1x8448x1x64, .f32⟩
  | .hbm, ⟨73, _⟩ => ⟨S2x8448x32x64, .f32⟩
  | .hbm, ⟨74, _⟩ => ⟨S2x8448x32x64, .f32⟩
  | .hbm, ⟨75, _⟩ => ⟨S2x8448x32x64, .f32⟩
  | .hbm, ⟨76, _⟩ => ⟨S2x8448x32x64, .f32⟩
  | .hbm, ⟨77, _⟩ => ⟨S2x8448x32x64, .f32⟩
  | .hbm, ⟨78, _⟩ => ⟨S2x8448x32x64, .f32⟩
  | .hbm, ⟨79, _⟩ => ⟨S2x8448x32x64, .f32⟩
  | .hbm, ⟨80, _⟩ => ⟨S2x8448x32x64, .f32⟩
  | .hbm, ⟨81, _⟩ => ⟨S2x8448x32x64, .f32⟩
  | .hbm, ⟨82, _⟩ => ⟨S2x8448x32x64, .f32⟩
  | .hbm, ⟨83, _⟩ => ⟨S2x8448x32x128, .f32⟩
  | .hbm, ⟨84, _⟩ => ⟨S16896x4096, .f32⟩
  | .hbm, ⟨85, _⟩ => ⟨S16896x4096, .f32⟩
  | .hbm, ⟨86, _⟩ => ⟨S16896x4096, .f32⟩
  | .hbm, ⟨87, _⟩ => ⟨S16896x12288, .f32⟩
  | .hbm, ⟨88, _⟩ => ⟨S16896x12288, .bf16⟩
  | .hbm, ⟨89, _⟩ => ⟨S4096x4096, .f32⟩
  | .hbm, ⟨90, _⟩ => ⟨S4096x4096, .bf16⟩
  | .hbm, ⟨91, _⟩ => ⟨S1x4096x16384, .f32⟩
  | .hbm, ⟨92, _⟩ => ⟨S4096x16384, .f32⟩
  | .hbm, ⟨93, _⟩ => ⟨S1x4096, .f32⟩
  | .hbm, ⟨94, _⟩ => ⟨S4096, .f32⟩
  | .hbm, ⟨95, _⟩ => ⟨S4096x1, .f32⟩
  | .hbm, ⟨96, _⟩ => ⟨S4096x16384, .f32⟩
  | .hbm, ⟨97, _⟩ => ⟨S4096x16384, .f32⟩
  | .hbm, ⟨98, _⟩ => ⟨S4096x16384, .bf16⟩
  | _, _ => ⟨S2x8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Embed.lean ====
abbrev S2x8192x4096 : Shape := ⟨3, ![2, 8192, 4096]⟩
abbrev S16x4096 : Shape := ⟨2, ![16, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x240x4096 : Shape := ⟨3, ![2, 240, 4096]⟩
abbrev S2x8432x4096 : Shape := ⟨3, ![2, 8432, 4096]⟩
abbrev S16896x4096 : Shape := ⟨2, ![16896, 4096]⟩
abbrev S1x256x4096 : Shape := ⟨3, ![1, 256, 4096]⟩
abbrev S256x4096 : Shape := ⟨2, ![256, 4096]⟩
abbrev S1x240x4096 : Shape := ⟨3, ![1, 240, 4096]⟩
abbrev S240x4096 : Shape := ⟨2, ![240, 4096]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S16x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S_, .f32⟩
  | .hbm, ⟨6, _⟩ => ⟨S2x240x4096, .f32⟩
  | .hbm, ⟨7, _⟩ => ⟨S2x8432x4096, .f32⟩
  | .hbm, ⟨8, _⟩ => ⟨S1x4096, .f32⟩
  | .hbm, ⟨9, _⟩ => ⟨S16896x4096, .f32⟩
  | .hbm, ⟨10, _⟩ => ⟨S16896x4096, .bf16⟩
  | .local _ .vmem, ⟨0, _⟩ => ⟨S1x256x4096, .f32⟩
  | .local _ .vmem, ⟨1, _⟩ => ⟨S1x256x4096, .f32⟩
  | .local _ .vmem, ⟨2, _⟩ => ⟨S16x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.subi v0 c16_i32
  let c0_i32 : BitVec 32 := 0#32
  let v2 : BitVec 32 := Scalar.maxsi v1 c0_i32
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EmbedRefIdeal.lean ====
abbrev S2x8192x4096 : Shape := ⟨3, ![2, 8192, 4096]⟩
abbrev S16x4096 : Shape := ⟨2, ![16, 4096]⟩
abbrev S2x4096 : Shape := ⟨2, ![2, 4096]⟩
abbrev S1x16x4096 : Shape := ⟨3, ![1, 16, 4096]⟩
abbrev S2x16x4096 : Shape := ⟨3, ![2, 16, 4096]⟩
abbrev S_ : Shape := ⟨0, ![]⟩
abbrev S2x240x4096 : Shape := ⟨3, ![2, 240, 4096]⟩
abbrev S2x8448x4096 : Shape := ⟨3, ![2, 8448, 4096]⟩
abbrev S16896x4096 : Shape := ⟨2, ![16896, 4096]⟩
abbrev S1x4096 : Shape := ⟨2, ![1, 4096]⟩
abbrev S4096 : Shape := ⟨1, ![4096]⟩
abbrev S2x8448 : Shape := ⟨2, ![2, 8448]⟩
abbrev S2x8448x1 : Shape := ⟨3, ![2, 8448, 1]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16x4096, .f32⟩
  | .hbm, ⟨2, _⟩ => ⟨S2x4096, .f32⟩
  | .hbm, ⟨3, _⟩ => ⟨S1x16x4096, .f32⟩
  | .hbm, ⟨4, _⟩ => ⟨S2x16x4096, .f32⟩
  | .hbm, ⟨5, _⟩ => ⟨S_, .f32⟩
  | .hbm, ⟨6, _⟩ => ⟨S2x240x4096, .f32⟩
  | .hbm, ⟨7, _⟩ => ⟨S2x8448x4096, .f32⟩
  | .hbm, ⟨8, _⟩ => ⟨S16896x4096, .f32⟩
  | .hbm, ⟨9, _⟩ => ⟨S1x4096, .f32⟩
  | .hbm, ⟨10, _⟩ => ⟨S4096, .f32⟩
  | .hbm, ⟨11, _⟩ => ⟨S2x8448x4096, .f32⟩
  | .hbm, ⟨12, _⟩ => ⟨S_, .f32⟩
  | .hbm, ⟨13, _⟩ => ⟨S2x8448, .f32⟩
  | .hbm, ⟨14, _⟩ => ⟨S2x8448x1, .f32⟩
  | .hbm, ⟨15, _⟩ => ⟨S_, .f32⟩
  | .hbm, ⟨16, _⟩ => ⟨S2x8448x1, .f32⟩
  | .hbm, ⟨17, _⟩ => ⟨S2x8448x1, .f32⟩
  | .hbm, ⟨18, _⟩ => ⟨S_, .f32⟩
  | .hbm, ⟨19, _⟩ => ⟨S2x8448x1, .f32⟩
  | .hbm, ⟨20, _⟩ => ⟨S2x8448x1, .f32⟩
  | .hbm, ⟨21, _⟩ => ⟨S2x8448x1, .f32⟩
  | .hbm, ⟨22, _⟩ => ⟨S2x8448x4096, .f32⟩
  | .hbm, ⟨23, _⟩ => ⟨S2x8448x4096, .f32⟩
  | .hbm, ⟨24, _⟩ => ⟨S1x1x4096, .f32⟩
  | .hbm, ⟨25, _⟩ => ⟨S2x8448x4096, .f32⟩
  | .hbm, ⟨26, _⟩ => ⟨S2x8448x4096, .f32⟩
  | .hbm, ⟨27, _⟩ => ⟨S16896x4096, .f32⟩
  | .hbm, ⟨28, _⟩ => ⟨S16896x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Attn.lean ====
abbrev S2x8448x12288 : Shape := ⟨3, ![2, 8448, 12288]⟩
abbrev S1x4x128 : Shape := ⟨3, ![1, 4, 128]⟩
abbrev S1x256 : Shape := ⟨2, ![1, 256]⟩
abbrev S16896x12288 : Shape := ⟨2, ![16896, 12288]⟩
abbrev S4x128 : Shape := ⟨2, ![4, 128]⟩
abbrev S256 : Shape := ⟨1, ![256]⟩
abbrev S16896x4096 : Shape := ⟨2, ![16896, 4096]⟩
abbrev S8448x256 : Shape := ⟨2, ![8448, 256]⟩
abbrev S768x1 : Shape := ⟨2, ![768, 1]⟩
abbrev S768x128 : Shape := ⟨2, ![768, 128]⟩
abbrev S768x256 : Shape := ⟨2, ![768, 256]⟩
abbrev S2x768x896 : Shape := ⟨3, ![2, 768, 896]⟩
abbrev S2x768x768 : Shape := ⟨3, ![2, 768, 768]⟩
abbrev S2x768x1 : Shape := ⟨3, ![2, 768, 1]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S1x768x256 : Shape := ⟨3, ![1, 768, 256]⟩
abbrev S512x128 : Shape := ⟨2, ![512, 128]⟩
abbrev S512x256 : Shape := ⟨2, ![512, 256]⟩
abbrev S1x512x256 : Shape := ⟨3, ![1, 512, 256]⟩
abbrev S256x256 : Shape := ⟨2, ![256, 256]⟩
abbrev S1x256x256 : Shape := ⟨3, ![1, 256, 256]⟩
abbrev S768x768 : Shape := ⟨2, ![768, 768]⟩
abbrev S1x768x768 : Shape := ⟨3, ![1, 768, 768]⟩
abbrev S1x64x768 : Shape := ⟨3, ![1, 64, 768]⟩
abbrev S64x768 : Shape := ⟨2, ![64, 768]⟩
abbrev S64x1 : Shape := ⟨2, ![64, 1]⟩
abbrev S64 : Shape := ⟨1, ![64]⟩
abbrev S64x128 : Shape := ⟨2, ![64, 128]⟩
abbrev S1x64x1 : Shape := ⟨3, ![1, 64, 1]⟩
abbrev S1x768x1 : Shape := ⟨3, ![1, 768, 1]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x256x1 : Shape := ⟨3, ![1, 256, 1]⟩
abbrev S256x1 : Shape := ⟨2, ![256, 1]⟩
abbrev S768 : Shape := ⟨1, ![768]⟩

abbrev nBuf : Space → Nat
  | .hbm => 8
  | .vmem => 20
  | .smem => 0
  | _ => 0

abbrev bufTy : (tb : Table) → Fin (tcTables nBuf tb) → BufTy
  | .hbm, ⟨0, _⟩ => ⟨S2x8448x12288, .bf16⟩
  | .hbm, ⟨1, _⟩ => ⟨S1x4x128, .f32⟩
  | .hbm, ⟨2, _⟩ => ⟨S1x256, .f32⟩
  | .hbm, ⟨3, _⟩ => ⟨S16896x12288, .bf16⟩
  | .hbm, ⟨4, _⟩ => ⟨S4x128, .f32⟩
  | .hbm, ⟨5, _⟩ => ⟨S256, .f32⟩
  | .hbm, ⟨6, _⟩ => ⟨S1x256, .f32⟩
  | .hbm, ⟨7, _⟩ => ⟨S16896x4096, .bf16⟩
  | .local _ .vmem, ⟨0, _⟩ => ⟨S8448x256, .bf16⟩
  | .local _ .vmem, ⟨1, _⟩ => ⟨S8448x256, .bf16⟩
  | .local _ .vmem, ⟨2, _⟩ => ⟨S8448x256, .bf16⟩
  | .local _ .vmem, ⟨3, _⟩ => ⟨S8448x256, .bf16⟩
  | .local _ .vmem, ⟨4, _⟩ => ⟨S8448x256, .bf16⟩
  | .local _ .vmem, ⟨5, _⟩ => ⟨S8448x256, .bf16⟩
  | .local _ .vmem, ⟨6, _⟩ => ⟨S4x128, .f32⟩
  | .local _ .vmem, ⟨7, _⟩ => ⟨S1x256, .f32⟩
  | .local _ .vmem, ⟨8, _⟩ => ⟨S8448x256, .bf16⟩
  | .local _ .vmem, ⟨9, _⟩ => ⟨S8448x256, .bf16⟩
  | .local _ .vmem, ⟨10, _⟩ => ⟨S768x1, .f32⟩
  | .local _ .vmem, ⟨11, _⟩ => ⟨S768x128, .f32⟩
  | .local _ .vmem, ⟨12, _⟩ => ⟨S768x256, .f32⟩
  | .local _ .vmem, ⟨13, _⟩ => ⟨S768x1, .f32⟩
  | .local _ .vmem, ⟨14, _⟩ => ⟨S768x128, .f32⟩
  | .local _ .vmem, ⟨15, _⟩ => ⟨S768x256, .f32⟩
  | .local _ .vmem, ⟨16, _⟩ => ⟨S2x768x896, .f32⟩
  | .local _ .vmem, ⟨17, _⟩ => ⟨S2x768x896, .f32⟩
  | .local _ .vmem, ⟨18, _⟩ => ⟨S2x768x768, .bf16⟩
  | .local _ .vmem, ⟨19, _⟩ => ⟨S2x768x1, .f32⟩
  | _, _ => ⟨S2x8448x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
def k0_mult2 : BitVec 32 :=
  let c0_i32_22 : BitVec 32 := 0#32
  c0_i32_22
@[reducible] def k0_t1_loop : Scf.Loop 32 :=
  let c0_i32_45 : BitVec 32 := 0#32
  let c11_i32 : BitVec 32 := 11#32
  let v85 : BitVec 32 := Scalar.addi c0_i32_45 c11_i32
  let c1_i32 : BitVec 32 := 1#32
  ⟨c0_i32_45, v85, c1_i32⟩
@[reducible] def k0_t2_loop (k0_t1 : Fin k0_t1_loop.trips) : Scf.Loop 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_59 : BitVec 32 := 1#32
  ⟨c0_i32_57, v111, c1_i32_59⟩
def k0_cond1 (k0_t1 : Fin k0_t1_loop.trips) (k0_t2 : Fin (k0_t2_loop k0_t1).trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let c0_i32_57 : BitVec 32 := 0#32
  let c1_i32_59 : BitVec 32 := 1#32
  let arg19 : BitVec 32 := Scf.iv c0_i32_57 c1_i32_59 k0_t2
  let v188 : BitVec 32 := Scalar.addi v104 arg19
  let c2_i32_104 : BitVec 32 := 2#32
  let c0_i32_105 : BitVec 32 := 0#32
  let v190 : BitVec 1 := Scalar.cmpi .eq c2_i32_104 c0_i32_105
  let c1_i32_106 : BitVec 32 := 1#32
  let v191 : BitVec 32 := Scalar.select v190 c1_i32_106 c2_i32_104
  let v192 : BitVec 32 := Scalar.remsi v188 v191
  let c0_i32_108 : BitVec 32 := 0#32
  let v194 : BitVec 1 := Scalar.cmpi .slt v192 c0_i32_108
  let c0_i32_109 : BitVec 32 := 0#32
  let v195 : BitVec 1 := Scalar.cmpi .slt v191 c0_i32_109
  let v196 : BitVec 1 := Scalar.xori v194 v195
  let c0_i32_107 : BitVec 32 := 0#32
  let v193 : BitVec 1 := Scalar.cmpi .ne v192 c0_i32_107
  let v197 : BitVec 1 := Scalar.andi v196 v193
  let v198 : BitVec 32 := Scalar.addi v192 v191
  let v199 : BitVec 32 := Scalar.select v197 v198 v192
  let c0_i32_110 : BitVec 32 := 0#32
  let v200 : BitVec 1 := Scalar.cmpi .eq v199 c0_i32_110
  let v201 : BitVec 32 := Scalar.extui v200
  let c0_i32_111 : BitVec 32 := 0#32
  let v202 : BitVec 1 := Scalar.cmpi .ne v201 c0_i32_111
  v202

def k0_mult3 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  v216
def k0_off1 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  let v217 : BitVec 32 := v216
  let v218 : Index := Scalar.indexCast v217
  let c0_121 : Index := 0#32
  ![v218.toNat, 0]
def k0_mult4 (k0_t1 : Fin k0_t1_loop.trips) (k0_t2 : Fin (k0_t2_loop k0_t1).trips) : BitVec 32 :=
  let c0_i32_57 : BitVec 32 := 0#32
  let c1_i32_59 : BitVec 32 := 1#32
  let arg19 : BitVec 32 := Scf.iv c0_i32_57 c1_i32_59 k0_t2
  let c1_i32_103 : BitVec 32 := 1#32
  let v189 : BitVec 32 := Scalar.addi arg19 c1_i32_103
  let c768_i32_122 : BitVec 32 := 768#32
  let v221 : BitVec 32 := Scalar.muli v189 c768_i32_122
  v221
def k0_off2 (k0_t1 : Fin k0_t1_loop.trips) (k0_t2 : Fin (k0_t2_loop k0_t1).trips) : Fin 2 → Nat :=
  let c0_i32_57 : BitVec 32 := 0#32
  let c1_i32_59 : BitVec 32 := 1#32
  let arg19 : BitVec 32 := Scf.iv c0_i32_57 c1_i32_59 k0_t2
  let c1_i32_103 : BitVec 32 := 1#32
  let v189 : BitVec 32 := Scalar.addi arg19 c1_i32_103
  let c768_i32_122 : BitVec 32 := 768#32
  let v221 : BitVec 32 := Scalar.muli v189 c768_i32_122
  let v222 : BitVec 32 := v221
  let v223 : Index := Scalar.indexCast v222
  let c0_123 : Index := 0#32
  ![v223.toNat, 0]
def k0_mult5 (k0_t1 : Fin k0_t1_loop.trips) (k0_t2 : Fin (k0_t2_loop k0_t1).trips) : BitVec 32 :=
  let c0_i32_57 : BitVec 32 := 0#32
  let c1_i32_59 : BitVec 32 := 1#32
  let arg19 : BitVec 32 := Scf.iv c0_i32_57 c1_i32_59 k0_t2
  let c768_i32_132 : BitVec 32 := 768#32
  let v238 : BitVec 32 := Scalar.muli arg19 c768_i32_132
  v238
def k0_off3 (k0_t1 : Fin k0_t1_loop.trips) (k0_t2 : Fin (k0_t2_loop k0_t1).trips) : Fin 2 → Nat :=
  let c0_i32_57 : BitVec 32 := 0#32
  let c1_i32_59 : BitVec 32 := 1#32
  let arg19 : BitVec 32 := Scf.iv c0_i32_57 c1_i32_59 k0_t2
  let c768_i32_132 : BitVec 32 := 768#32
  let v238 : BitVec 32 := Scalar.muli arg19 c768_i32_132
  let v239 : BitVec 32 := v238
  let v240 : Index := Scalar.indexCast v239
  let c0_133 : Index := 0#32
  ![v240.toNat, 0]
def k0_cond2 (k0_t1 : Fin k0_t1_loop.trips) (k0_t2 : Fin (k0_t2_loop k0_t1).trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let c0_i32_57 : BitVec 32 := 0#32
  let c1_i32_59 : BitVec 32 := 1#32
  let arg19 : BitVec 32 := Scf.iv c0_i32_57 c1_i32_59 k0_t2
  let v188 : BitVec 32 := Scalar.addi v104 arg19
  let c2_i32_112 : BitVec 32 := 2#32
  let c0_i32_113 : BitVec 32 := 0#32
  let v203 : BitVec 1 := Scalar.cmpi .eq c2_i32_112 c0_i32_113
  let c1_i32_114 : BitVec 32 := 1#32
  let v204 : BitVec 32 := Scalar.select v203 c1_i32_114 c2_i32_112
  let v205 : BitVec 32 := Scalar.remsi v188 v204
  let c0_i32_116 : BitVec 32 := 0#32
  let v207 : BitVec 1 := Scalar.cmpi .slt v205 c0_i32_116
  let c0_i32_117 : BitVec 32 := 0#32
  let v208 : BitVec 1 := Scalar.cmpi .slt v204 c0_i32_117
  let v209 : BitVec 1 := Scalar.xori v207 v208
  let c0_i32_115 : BitVec 32 := 0#32
  let v206 : BitVec 1 := Scalar.cmpi .ne v205 c0_i32_115
  let v210 : BitVec 1 := Scalar.andi v209 v206
  let v211 : BitVec 32 := Scalar.addi v205 v204
  let v212 : BitVec 32 := Scalar.select v210 v211 v205
  let c1_i32_118 : BitVec 32 := 1#32
  let v213 : BitVec 1 := Scalar.cmpi .eq v212 c1_i32_118
  let v214 : BitVec 32 := Scalar.extui v213
  let c0_i32_119 : BitVec 32 := 0#32
  let v215 : BitVec 1 := Scalar.cmpi .ne v214 c0_i32_119
  v215

def k0_mult6 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  v216
def k0_off4 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  let v217 : BitVec 32 := v216
  let v218 : Index := Scalar.indexCast v217
  let c0_121 : Index := 0#32
  ![v218.toNat, 0]
def k0_mult7 (k0_t1 : Fin k0_t1_loop.trips) (k0_t2 : Fin (k0_t2_loop k0_t1).trips) : BitVec 32 :=
  let c0_i32_57 : BitVec 32 := 0#32
  let c1_i32_59 : BitVec 32 := 1#32
  let arg19 : BitVec 32 := Scf.iv c0_i32_57 c1_i32_59 k0_t2
  let c1_i32_103 : BitVec 32 := 1#32
  let v189 : BitVec 32 := Scalar.addi arg19 c1_i32_103
  let c768_i32_122 : BitVec 32 := 768#32
  let v221 : BitVec 32 := Scalar.muli v189 c768_i32_122
  v221
def k0_off5 (k0_t1 : Fin k0_t1_loop.trips) (k0_t2 : Fin (k0_t2_loop k0_t1).trips) : Fin 2 → Nat :=
  let c0_i32_57 : BitVec 32 := 0#32
  let c1_i32_59 : BitVec 32 := 1#32
  let arg19 : BitVec 32 := Scf.iv c0_i32_57 c1_i32_59 k0_t2
  let c1_i32_103 : BitVec 32 := 1#32
  let v189 : BitVec 32 := Scalar.addi arg19 c1_i32_103
  let c768_i32_122 : BitVec 32 := 768#32
  let v221 : BitVec 32 := Scalar.muli v189 c768_i32_122
  let v222 : BitVec 32 := v221
  let v223 : Index := Scalar.indexCast v222
  let c0_123 : Index := 0#32
  ![v223.toNat, 0]
def k0_mult8 (k0_t1 : Fin k0_t1_loop.trips) (k0_t2 : Fin (k0_t2_loop k0_t1).trips) : BitVec 32 :=
  let c0_i32_57 : BitVec 32 := 0#32
  let c1_i32_59 : BitVec 32 := 1#32
  let arg19 : BitVec 32 := Scf.iv c0_i32_57 c1_i32_59 k0_t2
  let c768_i32_132 : BitVec 32 := 768#32
  let v238 : BitVec 32 := Scalar.muli arg19 c768_i32_132
  v238
def k0_off6 (k0_t1 : Fin k0_t1_loop.trips) (k0_t2 : Fin (k0_t2_loop k0_t1).trips) : Fin 2 → Nat :=
  let c0_i32_57 : BitVec 32 := 0#32
  let c1_i32_59 : BitVec 32 := 1#32
  let arg19 : BitVec 32 := Scf.iv c0_i32_57 c1_i32_59 k0_t2
  let c768_i32_132 : BitVec 32 := 768#32
  let v238 : BitVec 32 := Scalar.muli arg19 c768_i32_132
  let v239 : BitVec 32 := v238
  let v240 : Index := Scalar.indexCast v239
  let c0_133 : Index := 0#32
  ![v240.toNat, 0]
@[reducible] def k0_t3_loop (k0_t1 : Fin k0_t1_loop.trips) : Scf.Loop 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let v108 : BitVec 32 := Scalar.addi c0_i32_57 v107
  let c1_i32_60 : BitVec 32 := 1#32
  ⟨v111, v108, c1_i32_60⟩
def k0_cond3 (k0_t1 : Fin k0_t1_loop.trips) (k0_t3 : Fin (k0_t3_loop k0_t1).trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let c0_i32_57 : BitVec 32 := 0#32
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let v188 : BitVec 32 := Scalar.addi v104 arg19
  let c2_i32_104 : BitVec 32 := 2#32
  let c0_i32_105 : BitVec 32 := 0#32
  let v190 : BitVec 1 := Scalar.cmpi .eq c2_i32_104 c0_i32_105
  let c1_i32_106 : BitVec 32 := 1#32
  let v191 : BitVec 32 := Scalar.select v190 c1_i32_106 c2_i32_104
  let v192 : BitVec 32 := Scalar.remsi v188 v191
  let c0_i32_108 : BitVec 32 := 0#32
  let v194 : BitVec 1 := Scalar.cmpi .slt v192 c0_i32_108
  let c0_i32_109 : BitVec 32 := 0#32
  let v195 : BitVec 1 := Scalar.cmpi .slt v191 c0_i32_109
  let v196 : BitVec 1 := Scalar.xori v194 v195
  let c0_i32_107 : BitVec 32 := 0#32
  let v193 : BitVec 1 := Scalar.cmpi .ne v192 c0_i32_107
  let v197 : BitVec 1 := Scalar.andi v196 v193
  let v198 : BitVec 32 := Scalar.addi v192 v191
  let v199 : BitVec 32 := Scalar.select v197 v198 v192
  let c0_i32_110 : BitVec 32 := 0#32
  let v200 : BitVec 1 := Scalar.cmpi .eq v199 c0_i32_110
  let v201 : BitVec 32 := Scalar.extui v200
  let c0_i32_111 : BitVec 32 := 0#32
  let v202 : BitVec 1 := Scalar.cmpi .ne v201 c0_i32_111
  v202

def k0_mult9 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  v216
def k0_off7 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  let v217 : BitVec 32 := v216
  let v218 : Index := Scalar.indexCast v217
  let c0_121 : Index := 0#32
  ![v218.toNat, 0]
def k0_mult10 (k0_t1 : Fin k0_t1_loop.trips) (k0_t3 : Fin (k0_t3_loop k0_t1).trips) : BitVec 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c1_i32_103 : BitVec 32 := 1#32
  let v189 : BitVec 32 := Scalar.addi arg19 c1_i32_103
  let c768_i32_122 : BitVec 32 := 768#32
  let v221 : BitVec 32 := Scalar.muli v189 c768_i32_122
  v221
def k0_off8 (k0_t1 : Fin k0_t1_loop.trips) (k0_t3 : Fin (k0_t3_loop k0_t1).trips) : Fin 2 → Nat :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c1_i32_103 : BitVec 32 := 1#32
  let v189 : BitVec 32 := Scalar.addi arg19 c1_i32_103
  let c768_i32_122 : BitVec 32 := 768#32
  let v221 : BitVec 32 := Scalar.muli v189 c768_i32_122
  let v222 : BitVec 32 := v221
  let v223 : Index := Scalar.indexCast v222
  let c0_123 : Index := 0#32
  ![v223.toNat, 0]
def k0_mult11 (k0_t1 : Fin k0_t1_loop.trips) (k0_t3 : Fin (k0_t3_loop k0_t1).trips) : BitVec 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c768_i32_132 : BitVec 32 := 768#32
  let v238 : BitVec 32 := Scalar.muli arg19 c768_i32_132
  v238
def k0_off9 (k0_t1 : Fin k0_t1_loop.trips) (k0_t3 : Fin (k0_t3_loop k0_t1).trips) : Fin 2 → Nat :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c768_i32_132 : BitVec 32 := 768#32
  let v238 : BitVec 32 := Scalar.muli arg19 c768_i32_132
  let v239 : BitVec 32 := v238
  let v240 : Index := Scalar.indexCast v239
  let c0_133 : Index := 0#32
  ![v240.toNat, 0]
def k0_cond4 (k0_t1 : Fin k0_t1_loop.trips) (k0_t3 : Fin (k0_t3_loop k0_t1).trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let c0_i32_57 : BitVec 32 := 0#32
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let v188 : BitVec 32 := Scalar.addi v104 arg19
  let c2_i32_112 : BitVec 32 := 2#32
  let c0_i32_113 : BitVec 32 := 0#32
  let v203 : BitVec 1 := Scalar.cmpi .eq c2_i32_112 c0_i32_113
  let c1_i32_114 : BitVec 32 := 1#32
  let v204 : BitVec 32 := Scalar.select v203 c1_i32_114 c2_i32_112
  let v205 : BitVec 32 := Scalar.remsi v188 v204
  let c0_i32_116 : BitVec 32 := 0#32
  let v207 : BitVec 1 := Scalar.cmpi .slt v205 c0_i32_116
  let c0_i32_117 : BitVec 32 := 0#32
  let v208 : BitVec 1 := Scalar.cmpi .slt v204 c0_i32_117
  let v209 : BitVec 1 := Scalar.xori v207 v208
  let c0_i32_115 : BitVec 32 := 0#32
  let v206 : BitVec 1 := Scalar.cmpi .ne v205 c0_i32_115
  let v210 : BitVec 1 := Scalar.andi v209 v206
  let v211 : BitVec 32 := Scalar.addi v205 v204
  let v212 : BitVec 32 := Scalar.select v210 v211 v205
  let c1_i32_118 : BitVec 32 := 1#32
  let v213 : BitVec 1 := Scalar.cmpi .eq v212 c1_i32_118
  let v214 : BitVec 32 := Scalar.extui v213
  let c0_i32_119 : BitVec 32 := 0#32
  let v215 : BitVec 1 := Scalar.cmpi .ne v214 c0_i32_119
  v215

def k0_mult12 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  v216
def k0_off10 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_120 : BitVec 32 := 768#32
  let v216 : BitVec 32 := Scalar.muli arg18 c768_i32_120
  let v217 : BitVec 32 := v216
  let v218 : Index := Scalar.indexCast v217
  let c0_121 : Index := 0#32
  ![v218.toNat, 0]
def k0_mult13 (k0_t1 : Fin k0_t1_loop.trips) (k0_t3 : Fin (k0_t3_loop k0_t1).trips) : BitVec 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c1_i32_103 : BitVec 32 := 1#32
  let v189 : BitVec 32 := Scalar.addi arg19 c1_i32_103
  let c768_i32_122 : BitVec 32 := 768#32
  let v221 : BitVec 32 := Scalar.muli v189 c768_i32_122
  v221
def k0_off11 (k0_t1 : Fin k0_t1_loop.trips) (k0_t3 : Fin (k0_t3_loop k0_t1).trips) : Fin 2 → Nat :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c1_i32_103 : BitVec 32 := 1#32
  let v189 : BitVec 32 := Scalar.addi arg19 c1_i32_103
  let c768_i32_122 : BitVec 32 := 768#32
  let v221 : BitVec 32 := Scalar.muli v189 c768_i32_122
  let v222 : BitVec 32 := v221
  let v223 : Index := Scalar.indexCast v222
  let c0_123 : Index := 0#32
  ![v223.toNat, 0]
def k0_mult14 (k0_t1 : Fin k0_t1_loop.trips) (k0_t3 : Fin (k0_t3_loop k0_t1).trips) : BitVec 32 :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c768_i32_132 : BitVec 32 := 768#32
  let v238 : BitVec 32 := Scalar.muli arg19 c768_i32_132
  v238
def k0_off12 (k0_t1 : Fin k0_t1_loop.trips) (k0_t3 : Fin (k0_t3_loop k0_t1).trips) : Fin 2 → Nat :=
  let c0_i32_57 : BitVec 32 := 0#32
  let c0_i32_45 : BitVec 32 := 0#32
  let c1_i32 : BitVec 32 := 1#32
  let arg18 : BitVec 32 := Scf.iv c0_i32_45 c1_i32 k0_t1
  let c1_i32_54 : BitVec 32 := 1#32
  let v105 : BitVec 32 := Scalar.subi arg18 c1_i32_54
  let c0_i32_55 : BitVec 32 := 0#32
  let v106 : BitVec 32 := Scalar.maxsi v105 c0_i32_55
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_60 : BitVec 32 := 1#32
  let arg19 : BitVec 32 := Scf.iv v111 c1_i32_60 k0_t3
  let c768_i32_132 : BitVec 32 := 768#32
  let v238 : BitVec 32 := Scalar.muli arg19 c768_i32_132
  let v239 : BitVec 32 := v238
  let v240 : Index := Scalar.indexCast v239
  let c0_133 : Index := 0#32
  ![v240.toNat, 0]
def k0_cond5 (k0_t1 : Fin k0_t1_loop.trips) : BitVec 1 :=
  let c0_i32_45 : BitVec 32 := 0#32
  let c1_i32 : BitVec 32 := 1#32
  let arg18 : BitVec 32 := Scf.iv c0_i32_45 c1_i32 k0_t1
  let c1_i32_61 : BitVec 32 := 1#32
  let v112 : BitVec 1 := Scalar.cmpi .sge arg18 c1_i32_61
  let v113 : BitVec 32 := Scalar.extui v112
  let c0_i32_62 : BitVec 32 := 0#32
  let v114 : BitVec 1 := Scalar.cmpi .ne v113 c0_i32_62
  v114

def k0_cond6 (k0_t1 : Fin k0_t1_loop.trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let v188 : BitVec 32 := Scalar.addi v104 arg18
  let c1_i32_103 : BitVec 32 := 1#32
  let v189 : BitVec 32 := Scalar.subi v188 c1_i32_103
  let c2_i32_105 : BitVec 32 := 2#32
  let c0_i32_106 : BitVec 32 := 0#32
  let v191 : BitVec 1 := Scalar.cmpi .eq c2_i32_105 c0_i32_106
  let c1_i32_107 : BitVec 32 := 1#32
  let v192 : BitVec 32 := Scalar.select v191 c1_i32_107 c2_i32_105
  let v193 : BitVec 32 := Scalar.remsi v189 v192
  let c0_i32_109 : BitVec 32 := 0#32
  let v195 : BitVec 1 := Scalar.cmpi .slt v193 c0_i32_109
  let c0_i32_110 : BitVec 32 := 0#32
  let v196 : BitVec 1 := Scalar.cmpi .slt v192 c0_i32_110
  let v197 : BitVec 1 := Scalar.xori v195 v196
  let c0_i32_108 : BitVec 32 := 0#32
  let v194 : BitVec 1 := Scalar.cmpi .ne v193 c0_i32_108
  let v198 : BitVec 1 := Scalar.andi v197 v194
  let v199 : BitVec 32 := Scalar.addi v193 v192
  let v200 : BitVec 32 := Scalar.select v198 v199 v193
  let c0_i32_111 : BitVec 32 := 0#32
  let v201 : BitVec 1 := Scalar.cmpi .eq v200 c0_i32_111
  let v202 : BitVec 32 := Scalar.extui v201
  let c0_i32_112 : BitVec 32 := 0#32
  let v203 : BitVec 1 := Scalar.cmpi .ne v202 c0_i32_112
  v203

def k0_mult15 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_121 : BitVec 32 := 768#32
  let v217 : BitVec 32 := Scalar.muli arg18 c768_i32_121
  v217
def k0_off13 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_121 : BitVec 32 := 768#32
  let v217 : BitVec 32 := Scalar.muli arg18 c768_i32_121
  let v218 : BitVec 32 := v217
  let v219 : Index := Scalar.indexCast v218
  let c0_122 : Index := 0#32
  ![v219.toNat, 0]
def k0_mult16 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_123 : BitVec 32 := 768#32
  let v222 : BitVec 32 := Scalar.muli arg18 c768_i32_123
  v222
def k0_mult17 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c1_i32_104 : BitVec 32 := 1#32
  let v190 : BitVec 32 := Scalar.subi arg18 c1_i32_104
  let c768_i32_149 : BitVec 32 := 768#32
  let v263 : BitVec 32 := Scalar.muli v190 c768_i32_149
  v263
def k0_off14 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c1_i32_104 : BitVec 32 := 1#32
  let v190 : BitVec 32 := Scalar.subi arg18 c1_i32_104
  let c768_i32_149 : BitVec 32 := 768#32
  let v263 : BitVec 32 := Scalar.muli v190 c768_i32_149
  let v264 : BitVec 32 := v263
  let v265 : Index := Scalar.indexCast v264
  let c0_150 : Index := 0#32
  ![v265.toNat, 0]
def k0_cond7 (k0_t1 : Fin k0_t1_loop.trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let v188 : BitVec 32 := Scalar.addi v104 arg18
  let c1_i32_103 : BitVec 32 := 1#32
  let v189 : BitVec 32 := Scalar.subi v188 c1_i32_103
  let c2_i32_113 : BitVec 32 := 2#32
  let c0_i32_114 : BitVec 32 := 0#32
  let v204 : BitVec 1 := Scalar.cmpi .eq c2_i32_113 c0_i32_114
  let c1_i32_115 : BitVec 32 := 1#32
  let v205 : BitVec 32 := Scalar.select v204 c1_i32_115 c2_i32_113
  let v206 : BitVec 32 := Scalar.remsi v189 v205
  let c0_i32_117 : BitVec 32 := 0#32
  let v208 : BitVec 1 := Scalar.cmpi .slt v206 c0_i32_117
  let c0_i32_118 : BitVec 32 := 0#32
  let v209 : BitVec 1 := Scalar.cmpi .slt v205 c0_i32_118
  let v210 : BitVec 1 := Scalar.xori v208 v209
  let c0_i32_116 : BitVec 32 := 0#32
  let v207 : BitVec 1 := Scalar.cmpi .ne v206 c0_i32_116
  let v211 : BitVec 1 := Scalar.andi v210 v207
  let v212 : BitVec 32 := Scalar.addi v206 v205
  let v213 : BitVec 32 := Scalar.select v211 v212 v206
  let c1_i32_119 : BitVec 32 := 1#32
  let v214 : BitVec 1 := Scalar.cmpi .eq v213 c1_i32_119
  let v215 : BitVec 32 := Scalar.extui v214
  let c0_i32_120 : BitVec 32 := 0#32
  let v216 : BitVec 1 := Scalar.cmpi .ne v215 c0_i32_120
  v216

def k0_mult18 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_121 : BitVec 32 := 768#32
  let v217 : BitVec 32 := Scalar.muli arg18 c768_i32_121
  v217
def k0_off15 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_121 : BitVec 32 := 768#32
  let v217 : BitVec 32 := Scalar.muli arg18 c768_i32_121
  let v218 : BitVec 32 := v217
  let v219 : Index := Scalar.indexCast v218
  let c0_122 : Index := 0#32
  ![v219.toNat, 0]
def k0_mult19 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_123 : BitVec 32 := 768#32
  let v222 : BitVec 32 := Scalar.muli arg18 c768_i32_123
  v222
def k0_mult20 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c1_i32_104 : BitVec 32 := 1#32
  let v190 : BitVec 32 := Scalar.subi arg18 c1_i32_104
  let c768_i32_149 : BitVec 32 := 768#32
  let v263 : BitVec 32 := Scalar.muli v190 c768_i32_149
  v263
def k0_off16 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c1_i32_104 : BitVec 32 := 1#32
  let v190 : BitVec 32 := Scalar.subi arg18 c1_i32_104
  let c768_i32_149 : BitVec 32 := 768#32
  let v263 : BitVec 32 := Scalar.muli v190 c768_i32_149
  let v264 : BitVec 32 := v263
  let v265 : Index := Scalar.indexCast v264
  let c0_150 : Index := 0#32
  ![v265.toNat, 0]
def k0_cond8 (k0_t1 : Fin k0_t1_loop.trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let v115 : BitVec 32 := Scalar.addi v104 arg18
  let c2_i32_64 : BitVec 32 := 2#32
  let c0_i32_65 : BitVec 32 := 0#32
  let v118 : BitVec 1 := Scalar.cmpi .eq c2_i32_64 c0_i32_65
  let c1_i32_66 : BitVec 32 := 1#32
  let v119 : BitVec 32 := Scalar.select v118 c1_i32_66 c2_i32_64
  let v120 : BitVec 32 := Scalar.remsi v115 v119
  let c0_i32_68 : BitVec 32 := 0#32
  let v122 : BitVec 1 := Scalar.cmpi .slt v120 c0_i32_68
  let c0_i32_69 : BitVec 32 := 0#32
  let v123 : BitVec 1 := Scalar.cmpi .slt v119 c0_i32_69
  let v124 : BitVec 1 := Scalar.xori v122 v123
  let c0_i32_67 : BitVec 32 := 0#32
  let v121 : BitVec 1 := Scalar.cmpi .ne v120 c0_i32_67
  let v125 : BitVec 1 := Scalar.andi v124 v121
  let v126 : BitVec 32 := Scalar.addi v120 v119
  let v127 : BitVec 32 := Scalar.select v125 v126 v120
  let c0_i32_70 : BitVec 32 := 0#32
  let v128 : BitVec 1 := Scalar.cmpi .eq v127 c0_i32_70
  let v129 : BitVec 32 := Scalar.extui v128
  let c0_i32_71 : BitVec 32 := 0#32
  let v130 : BitVec 1 := Scalar.cmpi .ne v129 c0_i32_71
  v130

def k0_mult21 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c1_i32_63 : BitVec 32 := 1#32
  let v116 : BitVec 32 := Scalar.addi arg18 c1_i32_63
  let c10_i32 : BitVec 32 := 10#32
  let v117 : BitVec 32 := Scalar.minsi v116 c10_i32
  let c768_i32_103 : BitVec 32 := 768#32
  let v188 : BitVec 32 := Scalar.muli v117 c768_i32_103
  v188
def k0_off17 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c1_i32_63 : BitVec 32 := 1#32
  let v116 : BitVec 32 := Scalar.addi arg18 c1_i32_63
  let c10_i32 : BitVec 32 := 10#32
  let v117 : BitVec 32 := Scalar.minsi v116 c10_i32
  let c768_i32_103 : BitVec 32 := 768#32
  let v188 : BitVec 32 := Scalar.muli v117 c768_i32_103
  let v189 : BitVec 32 := v188
  let v190 : Index := Scalar.indexCast v189
  let c0_104 : Index := 0#32
  ![v190.toNat, 0]
def k0_mult22 : BitVec 32 :=
  let c0_i32_105 : BitVec 32 := 0#32
  c0_i32_105
def k0_mult23 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_115 : BitVec 32 := 768#32
  let v209 : BitVec 32 := Scalar.muli arg18 c768_i32_115
  v209
def k0_off18 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_115 : BitVec 32 := 768#32
  let v209 : BitVec 32 := Scalar.muli arg18 c768_i32_115
  let v210 : BitVec 32 := v209
  let v211 : Index := Scalar.indexCast v210
  let c0_116 : Index := 0#32
  ![v211.toNat, 0]
def k0_cond9 (k0_t1 : Fin k0_t1_loop.trips) : BitVec 1 :=
  let c0_i32_45 : BitVec 32 := 0#32
  let c1_i32 : BitVec 32 := 1#32
  let arg18 : BitVec 32 := Scf.iv c0_i32_45 c1_i32 k0_t1
  let c1_i32_47 : BitVec 32 := 1#32
  let v86 : BitVec 32 := Scalar.addi arg18 c1_i32_47
  let v87 : BitVec 32 := Scalar.muli arg18 v86
  let c0_i32_48 : BitVec 32 := 0#32
  let v89 : BitVec 1 := Scalar.cmpi .sgt v87 c0_i32_48
  let v90 : BitVec 32 := Scalar.extui v89
  let c0_i32_49 : BitVec 32 := 0#32
  let v91 : BitVec 1 := Scalar.cmpi .slt v87 c0_i32_49
  let v92 : BitVec 32 := Scalar.extui v91
  let v93 : BitVec 32 := Scalar.subi v90 v92
  let c2_i32 : BitVec 32 := 2#32
  let c0_i32_50 : BitVec 32 := 0#32
  let v94 : BitVec 1 := Scalar.cmpi .sgt c2_i32 c0_i32_50
  let v95 : BitVec 32 := Scalar.extui v94
  let c0_i32_51 : BitVec 32 := 0#32
  let v96 : BitVec 1 := Scalar.cmpi .slt c2_i32 c0_i32_51
  let v97 : BitVec 32 := Scalar.extui v96
  let v98 : BitVec 32 := Scalar.subi v95 v97
  let v99 : BitVec 1 := Scalar.cmpi .ne v93 v98
  let v100 : BitVec 32 := Scalar.remsi v87 c2_i32
  let c0_i32_52 : BitVec 32 := 0#32
  let v101 : BitVec 1 := Scalar.cmpi .ne v100 c0_i32_52
  let v102 : BitVec 1 := Scalar.andi v99 v101
  let v88 : BitVec 32 := Scalar.divsi v87 c2_i32
  let c1_i32_53 : BitVec 32 := 1#32
  let v103 : BitVec 32 := Scalar.subi v88 c1_i32_53
  let v104 : BitVec 32 := Scalar.select v102 v103 v88
  let v115 : BitVec 32 := Scalar.addi v104 arg18
  let c2_i32_72 : BitVec 32 := 2#32
  let c0_i32_73 : BitVec 32 := 0#32
  let v131 : BitVec 1 := Scalar.cmpi .eq c2_i32_72 c0_i32_73
  let c1_i32_74 : BitVec 32 := 1#32
  let v132 : BitVec 32 := Scalar.select v131 c1_i32_74 c2_i32_72
  let v133 : BitVec 32 := Scalar.remsi v115 v132
  let c0_i32_76 : BitVec 32 := 0#32
  let v135 : BitVec 1 := Scalar.cmpi .slt v133 c0_i32_76
  let c0_i32_77 : BitVec 32 := 0#32
  let v136 : BitVec 1 := Scalar.cmpi .slt v132 c0_i32_77
  let v137 : BitVec 1 := Scalar.xori v135 v136
  let c0_i32_75 : BitVec 32 := 0#32
  let v134 : BitVec 1 := Scalar.cmpi .ne v133 c0_i32_75
  let v138 : BitVec 1 := Scalar.andi v137 v134
  let v139 : BitVec 32 := Scalar.addi v133 v132
  let v140 : BitVec 32 := Scalar.select v138 v139 v133
  let c1_i32_78 : BitVec 32 := 1#32
  let v141 : BitVec 1 := Scalar.cmpi .eq v140 c1_i32_78
  let v142 : BitVec 32 := Scalar.extui v141
  let c0_i32_79 : BitVec 32 := 0#32
  let v143 : BitVec 1 := Scalar.cmpi .ne v142 c0_i32_79
  v143

def k0_mult24 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c1_i32_63 : BitVec 32 := 1#32
  let v116 : BitVec 32 := Scalar.addi arg18 c1_i32_63
  let c10_i32 : BitVec 32 := 10#32
  let v117 : BitVec 32 := Scalar.minsi v116 c10_i32
  let c768_i32_103 : BitVec 32 := 768#32
  let v188 : BitVec 32 := Scalar.muli v117 c768_i32_103
  v188
def k0_off19 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c1_i32_63 : BitVec 32 := 1#32
  let v116 : BitVec 32 := Scalar.addi arg18 c1_i32_63
  let c10_i32 : BitVec 32 := 10#32
  let v117 : BitVec 32 := Scalar.minsi v116 c10_i32
  let c768_i32_103 : BitVec 32 := 768#32
  let v188 : BitVec 32 := Scalar.muli v117 c768_i32_103
  let v189 : BitVec 32 := v188
  let v190 : Index := Scalar.indexCast v189
  let c0_104 : Index := 0#32
  ![v190.toNat, 0]
def k0_mult25 : BitVec 32 :=
  let c0_i32_105 : BitVec 32 := 0#32
  c0_i32_105
def k0_mult26 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32_115 : BitVec 32 := 768#32
  let v209 : BitVec 32 := Scalar.muli arg18 c768_i32_115
  v209
def k0_off20 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32_115 : BitVec 32 := 768#32
  let v209 : BitVec 32 := Scalar.muli arg18 c768_i32_115
  let v210 : BitVec 32 := v209
  let v211 : Index := Scalar.indexCast v210
  let c0_116 : Index := 0#32
  ![v211.toNat, 0]
def k0_mult27 (k0_t1 : Fin k0_t1_loop.trips) : BitVec 32 :=
  let c0_i32_45 : BitVec 32 := 0#32
  let c1_i32 : BitVec 32 := 1#32
  let arg18 : BitVec 32 := Scf.iv c0_i32_45 c1_i32 k0_t1
  let c768_i32 : BitVec 32 := 768#32
  let v176 : BitVec 32 := Scalar.muli arg18 c768_i32
  v176
def k0_off21 (k0_t1 : Fin k0_t1_loop.trips) : Fin 2 → Nat :=
  let c0_i32_45 : BitVec 32 := 0#32
  let c1_i32 : BitVec 32 := 1#32
  let arg18 : BitVec 32 := Scf.iv c0_i32_45 c1_i32 k0_t1
  let c768_i32 : BitVec 32 := 768#32
  let v176 : BitVec 32 := Scalar.muli arg18 c768_i32
  let v177 : BitVec 32 := v176
  let v178 : Index := Scalar.indexCast v177
  let c0_96 : Index := 0#32
  ![v178.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8448x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== S5.lean ====
abbrev S16896x4096 : Shape := ⟨2, ![16896, 4096]⟩
abbrev S16896x1 : Shape := ⟨2, ![16896, 1]⟩
abbrev S2x4096 : Shape := ⟨2, ![2, 4096]⟩
abbrev S1x256x64 : Shape := ⟨3, ![1, 256, 64]⟩
abbrev S1x256 : Shape := ⟨2, ![1, 256]⟩
abbrev S1x256x64x16 : Shape := ⟨4, ![1, 256, 64, 16]⟩
abbrev S1x256x16x64 : Shape := ⟨4, ![1, 256, 16, 64]⟩
abbrev S1x4096 : Shape := ⟨2, ![1, 4096]⟩
abbrev S4096 : Shape := ⟨1, ![4096]⟩
abbrev S256x64 : Shape := ⟨2, ![256, 64]⟩
abbrev S256 : Shape := ⟨1, ![256]⟩
abbrev S256x64x16 : Shape := ⟨3, ![256, 64, 16]⟩
abbrev S256x16x64 : Shape := ⟨3, ![256, 16, 64]⟩
abbrev S2x8x66x16x4096 : Shape := ⟨5, ![2, 8, 66, 16, 4096]⟩
abbrev S16x2x66x8x4096 : Shape := ⟨5, ![16, 2, 66, 8, 4096]⟩
abbrev S16x1056x4096 : Shape := ⟨3, ![16, 1056, 4096]⟩
abbrev S2x8x66x16x1 : Shape := ⟨5, ![2, 8, 66, 16, 1]⟩
abbrev S16x2x66x8x1 : Shape := ⟨5, ![16, 2, 66, 8, 1]⟩
abbrev S16x1056x1 : Shape := ⟨3, ![16, 1056, 1]⟩
abbrev S256x1 : Shape := ⟨2, ![256, 1]⟩
abbrev S_ : Shape := ⟨0, ![]⟩
abbrev S256x64x1 : Shape := ⟨3, ![256, 64, 1]⟩
abbrev S16x256x64 : Shape := ⟨3, ![16, 256, 64]⟩
abbrev S2x256x64 : Shape := ⟨3, ![2, 256, 64]⟩
abbrev S18x256x64 : Shape := ⟨3, ![18, 256, 64]⟩
abbrev S18x32x512 : Shape := ⟨3, ![18, 32, 512]⟩
abbrev S32x18x512 : Shape := ⟨3, ![32, 18, 512]⟩
abbrev S32x24x512 : Shape := ⟨3, ![32, 24, 512]⟩
abbrev S32x512x24 : Shape := ⟨3, ![32, 512, 24]⟩
abbrev S8x8 : Shape := ⟨2, ![8, 8]⟩
abbrev S32x8x64x16 : Shape := ⟨4, ![32, 8, 64, 16]⟩
abbrev S32x8x16x64 : Shape := ⟨4, ![32, 8, 16, 64]⟩
abbrev S32x8x16x1x64 : Shape := ⟨5, ![32, 8, 16, 1, 64]⟩
abbrev S1x8x1x8x1 : Shape := ⟨5, ![1, 8, 1, 8, 1]⟩
abbrev S32x8x16x8x64 : Shape := ⟨5, ![32, 8, 16, 8, 64]⟩
abbrev S32x128x512 : Shape := ⟨3, ![32, 128, 512]⟩
abbrev S32x128x1024 : Shape := ⟨3, ![32, 128, 1024]⟩
abbrev S32x8x64x1x16 : Shape := ⟨5, ![32, 8, 64, 1, 16]⟩
abbrev S32x8x64x8x16 : Shape := ⟨5, ![32, 8, 64, 8, 16]⟩
abbrev S32x512x128 : Shape := ⟨3, ![32, 512, 128]⟩
abbrev S32x1024x128 : Shape := ⟨3, ![32, 1024, 128]⟩
abbrev S16x528x128 : Shape := ⟨3, ![16, 528, 128]⟩
abbrev S16x528x1 : Shape := ⟨3, ![16, 528, 1]⟩
abbrev S1x128 : Shape := ⟨2, ![1, 128]⟩
abbrev S1x128x1024 : Shape := ⟨3, ![1, 128, 1024]⟩
abbrev S1x1024x128 : Shape := ⟨3, ![1, 1024, 128]⟩
abbrev S1x24x512 : Shape := ⟨3, ![1, 24, 512]⟩
abbrev S1x512x24 : Shape := ⟨3, ![1, 512, 24]⟩
abbrev S2048x2048 : Shape := ⟨2, ![2048, 2048]⟩
abbrev S2048x1024 : Shape := ⟨2, ![2048, 1024]⟩
abbrev S1024x2048 : Shape := ⟨2, ![1024, 2048]⟩
abbrev S528x1024 : Shape := ⟨2, ![528, 1024]⟩
abbrev S128x1024 : Shape := ⟨2, ![128, 1024]⟩
abbrev S128x512 : Shape := ⟨2, ![128, 512]⟩
abbrev S1024x128 : Shape := ⟨2, ![1024, 128]⟩
abbrev S128x128 : Shape := ⟨2, ![128, 128]⟩
abbrev S1x1x512 : Shape := ⟨3, ![1, 1, 512]⟩
abbrev S1x512 : Shape := ⟨2, ![1, 512]⟩
abbrev S512x128 : Shape := ⟨2, ![512, 128]⟩
abbrev S1x512x1 : Shape := ⟨3, ![1, 512, 1]⟩
abbrev S512x1 : Shape := ⟨2, ![512, 1]⟩
abbrev S1x528x128 : Shape := ⟨3, ![1, 528, 128]⟩
abbrev S528x128 : Shape := ⟨2, ![528, 128]⟩
abbrev S1x528x1 : Shape := ⟨3, ![1, 528, 1]⟩
abbrev S528x1 : Shape := ⟨2, ![528, 1]⟩
abbrev S528x2048 : Shape := ⟨2, ![528, 2048]⟩
abbrev S8x512 : Shape := ⟨2, ![8, 512]⟩
abbrev S8x1024 : Shape := ⟨2, ![8, 1024]⟩
abbrev S528x512 : Shape := ⟨2, ![528, 512]⟩
abbrev S512x512 : Shape := ⟨2, ![512, 512]⟩
abbrev S1024x512 : Shape := ⟨2, ![1024, 512]⟩
abbrev S528x1536 : Shape := ⟨2, ![528, 1536]⟩
abbrev S1536x512 : Shape := ⟨2, ![1536, 512]⟩
abbrev S2048x512 : Shape := ⟨2, ![2048, 512]⟩

abbrev nBuf : Space → Nat
  | .hbm => 316
  | .vmem => 27
  | .smem => 0
  | _ => 0

abbrev hbmTy0_0 (i : Nat) : BufTy := match i % 128 with
  | 0 => ⟨S16896x4096, .bf16⟩
  | 1 => ⟨S16896x1, .f32⟩
  | 2 => ⟨S2x4096, .f32⟩
  | 3 => ⟨S1x256x64, .f32⟩
  | 4 => ⟨S1x256x64, .f32⟩
  | 5 => ⟨S1x256, .f32⟩
  | 6 => ⟨S1x256x64x16, .f32⟩
  | 7 => ⟨S1x256x64x16, .f32⟩
  | 8 => ⟨S1x256x16x64, .f32⟩
  | 9 => ⟨S1x256x16x64, .f32⟩
  | 10 => ⟨S1x4096, .f32⟩
  | 11 => ⟨S1x4096, .f32⟩
  | 12 => ⟨S4096, .f32⟩
  | 13 => ⟨S256x64, .f32⟩
  | 14 => ⟨S256x64, .f32⟩
  | 15 => ⟨S256, .f32⟩
  | 16 => ⟨S256x64x16, .f32⟩
  | 17 => ⟨S256x64x16, .f32⟩
  | 18 => ⟨S256x16x64, .f32⟩
  | 19 => ⟨S256x16x64, .f32⟩
  | 20 => ⟨S4096, .f32⟩
  | 21 => ⟨S2x8x66x16x4096, .bf16⟩
  | 22 => ⟨S16x2x66x8x4096, .bf16⟩
  | 23 => ⟨S16x1056x4096, .bf16⟩
  | 24 => ⟨S2x8x66x16x1, .f32⟩
  | 25 => ⟨S16x2x66x8x1, .f32⟩
  | 26 => ⟨S16x1056x1, .f32⟩
  | 27 => ⟨S256, .f32⟩
  | 28 => ⟨S256x1, .f32⟩
  | 29 => ⟨S256x64, .f32⟩
  | 30 => ⟨S256x64, .f32⟩
  | 31 => ⟨S256x64, .f32⟩
  | 32 => ⟨S256x64, .f32⟩
  | 33 => ⟨S256x64, .f32⟩
  | 34 => ⟨S256x64, .f32⟩
  | 35 => ⟨S256x64, .f32⟩
  | 36 => ⟨S256x64, .f32⟩
  | 37 => ⟨S256x64, .f32⟩
  | 38 => ⟨S_, .f32⟩
  | 39 => ⟨S256x64, .f32⟩
  | 40 => ⟨S256x64, .f32⟩
  | 41 => ⟨S256x64, .f32⟩
  | 42 => ⟨S256x64, .f32⟩
  | 43 => ⟨S256x64, .f32⟩
  | 44 => ⟨S256x64, .f32⟩
  | 45 => ⟨S256x64, .f32⟩
  | 46 => ⟨S256x64, .f32⟩
  | 47 => ⟨S256x64, .f32⟩
  | 48 => ⟨S256x64, .f32⟩
  | 49 => ⟨S256x64, .f32⟩
  | 50 => ⟨S256x64, .f32⟩
  | 51 => ⟨S256x64, .f32⟩
  | 52 => ⟨S256x64x1, .f32⟩
  | 53 => ⟨S256x64x16, .f32⟩
  | 54 => ⟨S256x64x16, .f32⟩
  | 55 => ⟨S256x64x1, .f32⟩
  | 56 => ⟨S256x64x16, .f32⟩
  | 57 => ⟨S256x64x16, .f32⟩
  | 58 => ⟨S256x64x16, .f32⟩
  | 59 => ⟨S256x64x1, .f32⟩
  | 60 => ⟨S256x64x16, .f32⟩
  | 61 => ⟨S256x64x16, .f32⟩
  | 62 => ⟨S256x64x1, .f32⟩
  | 63 => ⟨S256x64x16, .f32⟩
  | 64 => ⟨S256x64x16, .f32⟩
  | 65 => ⟨S256x64x16, .f32⟩
  | 66 => ⟨S_, .f32⟩
  | 67 => ⟨S256x64, .f32⟩
  | 68 => ⟨S_, .f32⟩
  | 69 => ⟨S256x64, .f32⟩
  | 70 => ⟨S256x64, .f32⟩
  | 71 => ⟨S256x64, .f32⟩
  | 72 => ⟨S256x64, .f32⟩
  | 73 => ⟨S256x64, .f32⟩
  | 74 => ⟨S256x64, .f32⟩
  | 75 => ⟨S256x64, .f32⟩
  | 76 => ⟨S256x64, .f32⟩
  | 77 => ⟨S256x64, .f32⟩
  | 78 => ⟨S256x64, .f32⟩
  | 79 => ⟨S256x64, .f32⟩
  | 80 => ⟨S256x64, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S256x64, .f32⟩
  | 87 => ⟨S256x64, .f32⟩
  | 88 => ⟨S256x64, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S256x64, .f32⟩
  | 104 => ⟨S256x64, .f32⟩
  | 105 => ⟨S256x64, .f32⟩
  | 106 => ⟨S256x64, .f32⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x64, .f32⟩
  | 114 => ⟨S256x64, .f32⟩
  | 115 => ⟨S256x64, .f32⟩
  | 116 => ⟨S256x64, .f32⟩
  | 117 => ⟨S256x64, .f32⟩
  | 118 => ⟨S256x64, .f32⟩
  | 119 => ⟨S256x64, .f32⟩
  | 120 => ⟨S256x64, .f32⟩
  | 121 => ⟨S256x64, .f32⟩
  | 122 => ⟨S256x64, .f32⟩
  | 123 => ⟨S256x64, .f32⟩
  | 124 => ⟨S256x64, .f32⟩
  | 125 => ⟨S256x64, .f32⟩
  | 126 => ⟨S256x64, .f32⟩
  | 127 => ⟨S256x64, .f32⟩
  | _ => ⟨S16896x4096, .bf16⟩

abbrev hbmTy0_1 (i : Nat) : BufTy := match i % 128 with
  | 0 => ⟨S256x64, .f32⟩
  | 1 => ⟨S256x64, .f32⟩
  | 2 => ⟨S256x64, .f32⟩
  | 3 => ⟨S256x64, .f32⟩
  | 4 => ⟨S256x64, .f32⟩
  | 5 => ⟨S256x64, .f32⟩
  | 6 => ⟨S256x64, .f32⟩
  | 7 => ⟨S256x64, .f32⟩
  | 8 => ⟨S256x64, .f32⟩
  | 9 => ⟨S256x64, .f32⟩
  | 10 => ⟨S256x64, .f32⟩
  | 11 => ⟨S256x64, .f32⟩
  | 12 => ⟨S256x64, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S256x64, .f32⟩
  | 22 => ⟨S256x64, .f32⟩
  | 23 => ⟨S256x64, .f32⟩
  | 24 => ⟨S256x64, .f32⟩
  | 25 => ⟨S256x64, .f32⟩
  | 26 => ⟨S256x64, .f32⟩
  | 27 => ⟨S256x64, .f32⟩
  | 28 => ⟨S256x64, .f32⟩
  | 29 => ⟨S256x64, .f32⟩
  | 30 => ⟨S256x64, .f32⟩
  | 31 => ⟨S256x64, .f32⟩
  | 32 => ⟨S256x64, .f32⟩
  | 33 => ⟨S256x64, .f32⟩
  | 34 => ⟨S256x64, .f32⟩
  | 35 => ⟨S256x64, .f32⟩
  | 36 => ⟨S256x64, .f32⟩
  | 37 => ⟨S256x64, .f32⟩
  | 38 => ⟨S256x64, .f32⟩
  | 39 => ⟨S256x64, .f32⟩
  | 40 => ⟨S256x64, .f32⟩
  | 41 => ⟨S_, .f32⟩
  | 42 => ⟨S256x64, .f32⟩
  | 43 => ⟨S256x64, .f32⟩
  | 44 => ⟨S256x64, .f32⟩
  | 45 => ⟨S256x64, .f32⟩
  | 46 => ⟨S256x64, .f32⟩
  | 47 => ⟨S256x64, .f32⟩
  | 48 => ⟨S_, .f32⟩
  | 49 => ⟨S256x64, .f32⟩
  | 50 => ⟨S256x64, .f32⟩
  | 51 => ⟨S256x64, .f32⟩
  | 52 => ⟨S256x64, .f32⟩
  | 53 => ⟨S256x64, .f32⟩
  | 54 => ⟨S256x64, .f32⟩
  | 55 => ⟨S_, .f32⟩
  | 56 => ⟨S256x64, .f32⟩
  | 57 => ⟨S256x64, .f32⟩
  | 58 => ⟨S256x64, .f32⟩
  | 59 => ⟨S256x64, .f32⟩
  | 60 => ⟨S256x64, .f32⟩
  | 61 => ⟨S256x64, .f32⟩
  | 62 => ⟨S_, .f32⟩
  | 63 => ⟨S256x64, .f32⟩
  | 64 => ⟨S256x64, .f32⟩
  | 65 => ⟨S256x64, .f32⟩
  | 66 => ⟨S256x64, .f32⟩
  | 67 => ⟨S256x64, .f32⟩
  | 68 => ⟨S256x64, .f32⟩
  | 69 => ⟨S_, .f32⟩
  | 70 => ⟨S256x64, .f32⟩
  | 71 => ⟨S256x64, .f32⟩
  | 72 => ⟨S256x64, .f32⟩
  | 73 => ⟨S256x64, .f32⟩
  | 74 => ⟨S256x64, .f32⟩
  | 75 => ⟨S256x64, .f32⟩
  | 76 => ⟨S_, .f32⟩
  | 77 => ⟨S256x64, .f32⟩
  | 78 => ⟨S256x64, .f32⟩
  | 79 => ⟨S256x64, .f32⟩
  | 80 => ⟨S256x64, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S1x256x64, .f32⟩
  | 87 => ⟨S1x256x64, .f32⟩
  | 88 => ⟨S1x256x64, .f32⟩
  | 89 => ⟨S1x256x64, .f32⟩
  | 90 => ⟨S1x256x64, .f32⟩
  | 91 => ⟨S1x256x64, .f32⟩
  | 92 => ⟨S1x256x64, .f32⟩
  | 93 => ⟨S1x256x64, .f32⟩
  | 94 => ⟨S1x256x64, .f32⟩
  | 95 => ⟨S1x256x64, .f32⟩
  | 96 => ⟨S1x256x64, .f32⟩
  | 97 => ⟨S1x256x64, .f32⟩
  | 98 => ⟨S1x256x64, .f32⟩
  | 99 => ⟨S1x256x64, .f32⟩
  | 100 => ⟨S1x256x64, .f32⟩
  | 101 => ⟨S1x256x64, .f32⟩
  | 102 => ⟨S1x256x64, .f32⟩
  | 103 => ⟨S1x256x64, .f32⟩
  | 104 => ⟨S16x256x64, .f32⟩
  | 105 => ⟨S2x256x64, .f32⟩
  | 106 => ⟨S18x256x64, .f32⟩
  | 107 => ⟨S18x32x512, .f32⟩
  | 108 => ⟨S32x18x512, .f32⟩
  | 109 => ⟨S1x256x64, .f32⟩
  | 110 => ⟨S1x256x64, .f32⟩
  | 111 => ⟨S1x256x64, .f32⟩
  | 112 => ⟨S1x256x64, .f32⟩
  | 113 => ⟨S1x256x64, .f32⟩
  | 114 => ⟨S1x256x64, .f32⟩
  | 115 => ⟨S1x256x64, .f32⟩
  | 116 => ⟨S1x256x64, .f32⟩
  | 117 => ⟨S1x256x64, .f32⟩
  | 118 => ⟨S1x256x64, .f32⟩
  | 119 => ⟨S1x256x64, .f32⟩
  | 120 => ⟨S1x256x64, .f32⟩
  | 121 => ⟨S1x256x64, .f32⟩
  | 122 => ⟨S1x256x64, .f32⟩
  | 123 => ⟨S1x256x64, .f32⟩
  | 124 => ⟨S1x256x64, .f32⟩
  | 125 => ⟨S1x256x64, .f32⟩
  | 126 => ⟨S1x256x64, .f32⟩
  | 127 => ⟨S16x256x64, .f32⟩
  | _ => ⟨S16896x4096, .bf16⟩

abbrev hbmTy0_2 (i : Nat) : BufTy := match i % 128 with
  | 0 => ⟨S2x256x64, .f32⟩
  | 1 => ⟨S18x256x64, .f32⟩
  | 2 => ⟨S18x32x512, .f32⟩
  | 3 => ⟨S32x18x512, .f32⟩
  | 4 => ⟨S_, .i32⟩
  | 5 => ⟨S_, .f32⟩
  | 6 => ⟨S32x24x512, .f32⟩
  | 7 => ⟨S_, .i32⟩
  | 8 => ⟨S_, .f32⟩
  | 9 => ⟨S32x24x512, .f32⟩
  | 10 => ⟨S32x512x24, .f32⟩
  | 11 => ⟨S32x512x24, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S32x8x64x16, .f32⟩
  | 20 => ⟨S32x8x16x64, .f32⟩
  | 21 => ⟨S32x8x16x1x64, .f32⟩
  | 22 => ⟨S1x8x1x8x1, .f32⟩
  | 23 => ⟨S32x8x16x8x64, .f32⟩
  | 24 => ⟨S32x8x16x8x64, .f32⟩
  | 25 => ⟨S32x8x16x8x64, .f32⟩
  | 26 => ⟨S32x128x512, .f32⟩
  | 27 => ⟨S32x8x64x16, .f32⟩
  | 28 => ⟨S32x8x16x64, .f32⟩
  | 29 => ⟨S32x8x16x1x64, .f32⟩
  | 30 => ⟨S1x8x1x8x1, .f32⟩
  | 31 => ⟨S32x8x16x8x64, .f32⟩
  | 32 => ⟨S32x8x16x8x64, .f32⟩
  | 33 => ⟨S32x8x16x8x64, .f32⟩
  | 34 => ⟨S32x128x512, .f32⟩
  | 35 => ⟨S32x128x1024, .f32⟩
  | 36 => ⟨S32x8x16x64, .f32⟩
  | 37 => ⟨S32x8x64x16, .f32⟩
  | 38 => ⟨S32x8x64x1x16, .f32⟩
  | 39 => ⟨S1x8x1x8x1, .f32⟩
  | 40 => ⟨S32x8x64x8x16, .f32⟩
  | 41 => ⟨S32x8x64x8x16, .f32⟩
  | 42 => ⟨S32x8x64x8x16, .f32⟩
  | 43 => ⟨S32x512x128, .f32⟩
  | 44 => ⟨S32x8x16x64, .f32⟩
  | 45 => ⟨S32x8x64x16, .f32⟩
  | 46 => ⟨S32x8x64x1x16, .f32⟩
  | 47 => ⟨S1x8x1x8x1, .f32⟩
  | 48 => ⟨S32x8x64x8x16, .f32⟩
  | 49 => ⟨S32x8x64x8x16, .f32⟩
  | 50 => ⟨S32x8x64x8x16, .f32⟩
  | 51 => ⟨S32x512x128, .f32⟩
  | 52 => ⟨S32x512x128, .f32⟩
  | 53 => ⟨S32x1024x128, .f32⟩
  | 54 => ⟨S1x4096, .f32⟩
  | 55 => ⟨S1x4096, .f32⟩
  | 56 => ⟨S16x1056x4096, .bf16⟩
  | 57 => ⟨S16x2x66x8x4096, .bf16⟩
  | 58 => ⟨S2x8x66x16x4096, .bf16⟩
  | 59 => ⟨S16896x4096, .bf16⟩
  | _ => ⟨S16896x4096, .bf16⟩

abbrev hbmTy (i : Nat) : BufTy := match i / 128 with
  | 0 => hbmTy0_0 i
  | 1 => hbmTy0_1 i
  | 2 => hbmTy0_2 i
  | _ => ⟨S16896x4096, .bf16⟩

abbrev bufTy : (tb : Table) → Fin (tcTables nBuf tb) → BufTy
  | .hbm, ⟨i, _⟩ => hbmTy i
  | .local _ .vmem, ⟨0, _⟩ => ⟨S16x528x128, .bf16⟩
  | .local _ .vmem, ⟨1, _⟩ => ⟨S16x528x128, .bf16⟩
  | .local _ .vmem, ⟨2, _⟩ => ⟨S16x528x1, .f32⟩
  | .local _ .vmem, ⟨3, _⟩ => ⟨S16x528x1, .f32⟩
  | .local _ .vmem, ⟨4, _⟩ => ⟨S1x128, .f32⟩
  | .local _ .vmem, ⟨5, _⟩ => ⟨S1x128, .f32⟩
  | .local _ .vmem, ⟨6, _⟩ => ⟨S1x128x1024, .f32⟩
  | .local _ .vmem, ⟨7, _⟩ => ⟨S1x128x1024, .f32⟩
  | .local _ .vmem, ⟨8, _⟩ => ⟨S1x1024x128, .f32⟩
  | .local _ .vmem, ⟨9, _⟩ => ⟨S1x1024x128, .f32⟩
  | .local _ .vmem, ⟨10, _⟩ => ⟨S1x24x512, .f32⟩
  | .local _ .vmem, ⟨11, _⟩ => ⟨S1x24x512, .f32⟩
  | .local _ .vmem, ⟨12, _⟩ => ⟨S1x24x512, .f32⟩
  | .local _ .vmem, ⟨13, _⟩ => ⟨S1x24x512, .f32⟩
  | .local _ .vmem, ⟨14, _⟩ => ⟨S1x512x24, .f32⟩
  | .local _ .vmem, ⟨15, _⟩ => ⟨S1x512x24, .f32⟩
  | .local _ .vmem, ⟨16, _⟩ => ⟨S1x512x24, .f32⟩
  | .local _ .vmem, ⟨17, _⟩ => ⟨S1x512x24, .f32⟩
  | .local _ .vmem, ⟨18, _⟩ => ⟨S1x128, .f32⟩
  | .local _ .vmem, ⟨19, _⟩ => ⟨S1x128, .f32⟩
  | .local _ .vmem, ⟨20, _⟩ => ⟨S16x528x128, .bf16⟩
  | .local _ .vmem, ⟨21, _⟩ => ⟨S16x528x128, .bf16⟩
  | .local _ .vmem, ⟨22, _⟩ => ⟨S2048x2048, .bf16⟩
  | .local _ .vmem, ⟨23, _⟩ => ⟨S2048x1024, .bf16⟩
  | .local _ .vmem, ⟨24, _⟩ => ⟨S1024x2048, .bf16⟩
  | .local _ .vmem, ⟨25, _⟩ => ⟨S528x1024, .f32⟩
  | .local _ .vmem, ⟨26, _⟩ => ⟨S528x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_0 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_cst_2 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_cst_3 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_cst_4 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_cst_5 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_cst_6 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_cst_7 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_c : Ref sig .tc := ⟨.hbm, 260, rfl⟩
abbrev main_call0_v0 : Ref sig .tc := ⟨.hbm, 261, rfl⟩
abbrev main_v240 : Ref sig .tc := ⟨.hbm, 262, rfl⟩
abbrev main_c_8 : Ref sig .tc := ⟨.hbm, 263, rfl⟩
abbrev main_call1_v0 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_c_9 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_130 : BitVec 32 := 0#32
  let c66_i32 : BitVec 32 := 66#32
  let v269 : BitVec 32 := Scalar.addi c0_i32_130 c66_i32
  let c1_i32 : BitVec 32 := 1#32
  ⟨c0_i32_130, v269, c1_i32⟩
def k0_mult1 (k0_t1 : Fin k0_t1_loop.trips) : BitVec 32 :=
  let c0_i32_130 : BitVec 32 := 0#32
  let c1_i32 : BitVec 32 := 1#32
  let arg18 : BitVec 32 := Scf.iv c0_i32_130 c1_i32 k0_t1
  let c8_i32 : BitVec 32 := 8#32
  let v566 : BitVec 32 := Scalar.muli arg18 c8_i32
  v566
def k0_off1 (k0_t1 : Fin k0_t1_loop.trips) : Fin 2 → Nat :=
  let c0_i32_130 : BitVec 32 := 0#32
  let c1_i32 : BitVec 32 := 1#32
  let arg18 : BitVec 32 := Scf.iv c0_i32_130 c1_i32 k0_t1
  let c8_i32 : BitVec 32 := 8#32
  let v566 : BitVec 32 := Scalar.muli arg18 c8_i32
  let v567 : BitVec 32 := v566
  let v568 : Index := Scalar.indexCast v567
  let c0_271 : Index := 0#32
  ![v568.toNat, 0]
@[reducible] def k0_t2_loop : Scf.Loop 32 :=
  let c0_i32_180 : BitVec 32 := 0#32
  let c66_i32_181 : BitVec 32 := 66#32
  let v407 : BitVec 32 := Scalar.addi c0_i32_180 c66_i32_181
  let c1_i32_182 : BitVec 32 := 1#32
  ⟨c0_i32_180, v407, c1_i32_182⟩
def k0_mult2 (k0_t2 : Fin k0_t2_loop.trips) : BitVec 32 :=
  let c0_i32_180 : BitVec 32 := 0#32
  let c1_i32_182 : BitVec 32 := 1#32
  let arg18 : BitVec 32 := Scf.iv c0_i32_180 c1_i32_182 k0_t2
  let c8_i32 : BitVec 32 := 8#32
  let v567 : BitVec 32 := Scalar.muli arg18 c8_i32
  v567
def k0_off2 (k0_t2 : Fin k0_t2_loop.trips) : Fin 2 → Nat :=
  let c0_i32_180 : BitVec 32 := 0#32
  let c1_i32_182 : BitVec 32 := 1#32
  let arg18 : BitVec 32 := Scf.iv c0_i32_180 c1_i32_182 k0_t2
  let c8_i32 : BitVec 32 := 8#32
  let v567 : BitVec 32 := Scalar.muli arg18 c8_i32
  let v568 : BitVec 32 := v567
  let v569 : Index := Scalar.indexCast v568
  let c0_271 : Index := 0#32
  ![v569.toNat, 0]
def k0_mult3 (k0_t2 : Fin k0_t2_loop.trips) : BitVec 32 :=
  let c0_i32_180 : BitVec 32 := 0#32
  let c1_i32_182 : BitVec 32 := 1#32
  let arg18 : BitVec 32 := Scf.iv c0_i32_180 c1_i32_182 k0_t2
  let c8_i32_272 : BitVec 32 := 8#32
  let v573 : BitVec 32 := Scalar.muli arg18 c8_i32_272
  v573
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S16x528x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x528x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x24x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x24 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x528x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.GluSpec.lean ====
/-
  The gated unit over the extended reals, as functions of the argument arrays alone: what one row and column of the
  residual stream holds after the layer, and the sum of squares of a row.
-/
module

public import Idealize.ShloMosaic.Lib.Pointwise

@[expose] public section

set_option maxRecDepth 16384

noncomputable section

namespace Cert.Proof.Glu

open Idealize.ShloMosaic

/-- The batch a flat row of the 16384 belongs to. -/
abbrev batch (i : Fin 16384) : Fin 2 := ⟨i.val / 8192, by have := i.isLt; omega⟩
/-- Its position in the padded sequence: 16 meta tokens come first. -/
abbrev pos (i : Fin 16384) : Fin 8448 := ⟨16 + i.val % 8192, by omega⟩

/-- The projection of row `i` on column `j` of the 8192 output columns. -/
def proj (z : (⟨3, ![2, 8448, 4096]⟩ : Shape).Idx → EReal) (w : (⟨3, ![1, 4096, 8192]⟩ : Shape).Idx → EReal)
    (b : (⟨2, ![1, 8192]⟩ : Shape).Idx → EReal) (i : Fin 16384) (j : Fin 8192) : EReal :=
  (∑ k : Fin 4096, z (ix3 (batch i) (pos i) k) * w (ix3 0 k j)) + b (ix2 0 j)

/-- The gated unit added to the residual stream: value columns `j`, gate columns `4096 + j`. -/
def hval (z : (⟨3, ![2, 8448, 4096]⟩ : Shape).Idx → EReal) (w : (⟨3, ![1, 4096, 8192]⟩ : Shape).Idx → EReal)
    (b : (⟨2, ![1, 8192]⟩ : Shape).Idx → EReal) (h : (⟨3, ![2, 8448, 4096]⟩ : Shape).Idx → EReal)
    (i : Fin 16384) (j : Fin 4096) : EReal :=
  h (ix3 (batch i) (pos i) j)
    + proj z w b i ⟨j.val, by have := j.isLt; omega⟩ * Ideal.logistic (proj z w b i ⟨4096 + j.val, by have := j.isLt; omega⟩)

/-- The sum of squares of row `i`. -/
def ssq (z : (⟨3, ![2, 8448, 4096]⟩ : Shape).Idx → EReal) (w : (⟨3, ![1, 4096, 8192]⟩ : Shape).Idx → EReal)
    (b : (⟨2, ![1, 8192]⟩ : Shape).Idx → EReal) (h : (⟨3, ![2, 8448, 4096]⟩ : Shape).Idx → EReal)
    (i : Fin 16384) : EReal :=
  ∑ j : Fin 4096, hval z w b h i j * hval z w b h i j

end Cert.Proof.Glu

end
-- ==== Proof.GluTile.lean ====
/-
  One 1024 x 512 tile of the gated unit: what the body stores at one grid point, read as one function of the six blocks
  it loads. The body works in two panels of 256 columns; here the two are joined.
-/
module

public import proofs.«01_k».proof.Proof.Gen.KernelIdeal.Skeleton
public import proofs.«01_k».proof.Proof.GluSpec
public import Idealize.ShloMosaic.Lib.Pipeline.ValueKit

@[expose] public section

set_option maxRecDepth 16384

noncomputable section

namespace Cert.Proof.Glu

open Cert.KernelIdeal Cert.KernelIdeal.Gen Idealize.ShloMosaic

/-- Row `r`, column `l` of the tile: residual plus value times gate. -/
def tile (x0 : Vec Ideal S1024x4096 .bf16) (x1 x2 : Vec Ideal S4096x512 .bf16) (x3 x4 : Vec Ideal S1x512 .f32)
    (x5 : Vec Ideal S1024x512 .f32) (r : Fin 1024) (l : Fin 512) : EReal :=
  x5 (ix2 r l) + ((∑ k : Fin 4096, x0 (ix2 r k) * x1 (ix2 k l)) + x3 (ix2 0 l))
    * Ideal.logistic ((∑ k : Fin 4096, x0 (ix2 r k) * x2 (ix2 k l)) + x4 (ix2 0 l))

variable (x0 : Vec Ideal S1024x4096 .bf16) (x1 x2 : Vec Ideal S4096x512 .bf16) (x3 x4 : Vec Ideal S1x512 .f32)
    (x5 : Vec Ideal S1024x512 .f32)

/-- What the body stores for the left 256 columns. -/
abbrev left : FVec Ideal S1024x256 .f32 :=
  k0_pay3 x0 (View.ld x1 (Rect.unit ![0, 0] ![4096, 256] inb_S4096x512_S4096x256_0_0))
    (View.ld x3 (Rect.unit ![0, 0] ![1, 256] inb_S1x512_S1x256_0_0)) x0
    (View.ld x2 (Rect.unit ![0, 0] ![4096, 256] inb_S4096x512_S4096x256_0_0))
    (View.ld x4 (Rect.unit ![0, 0] ![1, 256] inb_S1x512_S1x256_0_0))
    (View.ld x5 (Rect.unit ![0, 0] ![1024, 256] inb_S1024x512_S1024x256_0_0))

/-- What it stores for the right 256 columns. -/
abbrev right : FVec Ideal S1024x256 .f32 :=
  k0_pay6 x0 (View.ld x1 (Rect.unit ![0, 256] ![4096, 256] inb_S4096x512_S4096x256_0_256))
    (View.ld x3 (Rect.unit ![0, 256] ![1, 256] inb_S1x512_S1x256_0_256)) x0
    (View.ld x2 (Rect.unit ![0, 256] ![4096, 256] inb_S4096x512_S4096x256_0_256))
    (View.ld x4 (Rect.unit ![0, 256] ![1, 256] inb_S1x512_S1x256_0_256))
    (View.ld x5 (Rect.unit ![0, 256] ![1024, 256] inb_S1024x512_S1024x256_0_256))

theorem left_apply (r : Fin 1024) (l : Fin 256) :
    left x0 x1 x2 x3 x4 x5 (ix2 r l) = tile x0 x1 x2 x3 x4 x5 r ⟨l.val, by have := l.isLt; omega⟩ := by
  unfold tile left
  pointwise [k0_pay3]

theorem right_apply (r : Fin 1024) (l : Fin 256) :
    right x0 x1 x2 x3 x4 x5 (ix2 r l) = tile x0 x1 x2 x3 x4 x5 r ⟨256 + l.val, by have := l.isLt; omega⟩ := by
  unfold tile right
  pointwise [k0_pay6]

/-- The two panels stored into the staging buffer, read back at any place, are the tile. -/
theorem canon_tile (y : S1024x512.Idx) :
    View.canon (Val := Elt Ideal) (e := .f32)
      [⟨Rect.unit ![0, 256] ![1024, 256] inb_S1024x512_S1024x256_0_256, right x0 x1 x2 x3 x4 x5⟩,
        ⟨Rect.unit ![0, 0] ![1024, 256] inb_S1024x512_S1024x256_0_0, left x0 x1 x2 x3 x4 x5⟩]
      y = tile x0 x1 x2 x3 x4 x5 (y 0) (y 1) := by
  canon_tiles x h
  · obtain ⟨r, l, rfl⟩ : ∃ (r : Fin 1024) (l : Fin 256), x = ix2 r l := ⟨x 0, x 1, eq_ix2 x⟩
    rw [right_apply, show y 0 = r from Fin.ext h0, show y 1 = (⟨256 + l.val, by have := l.isLt; omega⟩ : Fin 512) from Fin.ext h1]
  · obtain ⟨r, l, rfl⟩ : ∃ (r : Fin 1024) (l : Fin 256), x = ix2 r l := ⟨x 0, x 1, eq_ix2 x⟩
    rw [left_apply, show y 0 = r from Fin.ext h0, show y 1 = (⟨l.val, by have := l.isLt; omega⟩ : Fin 512) from Fin.ext h1]

/-- The same for the copy stored in the shorter format: over the extended reals the cast changes nothing. -/
theorem canon_tile_cast (y : S1024x512.Idx) :
    View.canon (Val := Elt Ideal) (e := .bf16)
      [⟨Rect.unit ![0, 256] ![1024, 256] inb_S1024x512_S1024x256_0_256, (truncf .bf16 (right x0 x1 x2 x3 x4 x5) bitsLt_bf16_f32 : FVec Ideal S1024x256 .bf16)⟩,
        ⟨Rect.unit ![0, 0] ![1024, 256] inb_S1024x512_S1024x256_0_0, (truncf .bf16 (left x0 x1 x2 x3 x4 x5) bitsLt_bf16_f32 : FVec Ideal S1024x256 .bf16)⟩]
      y = tile x0 x1 x2 x3 x4 x5 (y 0) (y 1) := by
  canon_tiles x h
  · obtain ⟨r, l, rfl⟩ : ∃ (r : Fin 1024) (l : Fin 256), x = ix2 r l := ⟨x 0, x 1, eq_ix2 x⟩
    show right x0 x1 x2 x3 x4 x5 (ix2 r l) = _
    rw [right_apply, show y 0 = r from Fin.ext h0, show y 1 = (⟨256 + l.val, by have := l.isLt; omega⟩ : Fin 512) from Fin.ext h1]
  · obtain ⟨r, l, rfl⟩ : ∃ (r : Fin 1024) (l : Fin 256), x = ix2 r l := ⟨x 0, x 1, eq_ix2 x⟩
    show left x0 x1 x2 x3 x4 x5 (ix2 r l) = _
    rw [left_apply, show y 0 = r from Fin.ext h0, show y 1 = (⟨l.val, by have := l.isLt; omega⟩ : Fin 512) from Fin.ext h1]

/-- The squares of the tile's row `r`, added up. -/
def tileSq (r : Fin 1024) : EReal := ∑ l : Fin 512, tile x0 x1 x2 x3 x4 x5 r l * tile x0 x1 x2 x3 x4 x5 r l

/-- The two panels' row sums added onto `a` one after the other add the tile's. -/
theorem squares (a : Vec Ideal S1024x1 .f32) (y : S1024x1.Idx) :
    k0_pay1 (right x0 x1 x2 x3 x4 x5) (k0_pay5 (left x0 x1 x2 x3 x4 x5) a) y = a y + tileSq x0 x1 x2 x3 x4 x5 (y 0) := by
  obtain ⟨r, u, rfl⟩ : ∃ (r : Fin 1024) (u : Fin 1), y = ix2 r u := ⟨y 0, y 1, eq_ix2 y⟩
  unfold tileSq
  rw [Fin.sum_univ_two_halves 256 256 rfl]
  generalize hR : right x0 x1 x2 x3 x4 x5 = R
  generalize hL : left x0 x1 x2 x3 x4 x5 = L
  pointwise [k0_pay1, k0_pay5]
  subst hR hL
  simp only [left_apply, right_apply]
  exact add_assoc _ _ _

end Cert.Proof.Glu

end
-- ==== Proof.GluValue.lean ====
/-
  The three arrays the gated unit's launch leaves, over the extended reals: the residual stream, its short copy and the
  row sums of squares, each as one function of the four argument arrays.
-/
module

public import proofs.«01_k».proof.Proof.Gen.KernelIdeal.Value
public import proofs.«01_k».proof.Proof.GluTile

@[expose] public section

set_option maxRecDepth 16384

noncomputable section

namespace Cert.Proof.Glu

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Where each window's block lies at grid point `t` -/

theorem idx0 : ∀ t : Fin cfg0.N, (cfg0.win 0).index t = ![t.val / 64 * 8448 + 16 + t.val / 8 % 8 * 1024, 0] :=
  (by decide +kernel : ∀ t : Fin grid0.N, win0_0.index t = ![t.val / 64 * 8448 + 16 + t.val / 8 % 8 * 1024, 0])
theorem idx1 : ∀ t : Fin cfg0.N, (cfg0.win 1).index t = ![0, t.val % 8] :=
  (by decide +kernel : ∀ t : Fin grid0.N, win0_1.index t = ![0, t.val % 8])
theorem idx2 : ∀ t : Fin cfg0.N, (cfg0.win 2).index t = ![0, 8 + t.val % 8] :=
  (by decide +kernel : ∀ t : Fin grid0.N, win0_2.index t = ![0, 8 + t.val % 8])
theorem idx3 : ∀ t : Fin cfg0.N, (cfg0.win 3).index t = ![0, t.val % 8] :=
  (by decide +kernel : ∀ t : Fin grid0.N, win0_3.index t = ![0, t.val % 8])
theorem idx4 : ∀ t : Fin cfg0.N, (cfg0.win 4).index t = ![0, 8 + t.val % 8] :=
  (by decide +kernel : ∀ t : Fin grid0.N, win0_4.index t = ![0, 8 + t.val % 8])
theorem idx5 : ∀ t : Fin cfg0.N, (cfg0.win 5).index t = ![t.val / 64 * 8448 + 16 + t.val / 8 % 8 * 1024, t.val % 8 * 512] :=
  (by decide +kernel : ∀ t : Fin grid0.N, win0_5.index t = ![t.val / 64 * 8448 + 16 + t.val / 8 % 8 * 1024, t.val % 8 * 512])
theorem idx6 : ∀ t : Fin cfg0.N, (cfg0.win 6).index t = ![t.val / 8, t.val % 8] :=
  (by decide +kernel : ∀ t : Fin grid0.N, win0_6.index t = ![t.val / 8, t.val % 8])
theorem idx7 : ∀ t : Fin cfg0.N, (cfg0.win 7).index t = ![t.val / 8, t.val % 8] :=
  (by decide +kernel : ∀ t : Fin grid0.N, win0_7.index t = ![t.val / 8, t.val % 8])
theorem idx8 : ∀ t : Fin cfg0.N, (cfg0.win 8).index t = ![t.val / 8, 0] :=
  (by decide +kernel : ∀ t : Fin grid0.N, win0_8.index t = ![t.val / 8, 0])

/-- The flat row a tile's row `r` is at point `t`. -/
abbrev row (t : Fin cfg0.N) (r : Fin 1024) : Fin 16384 :=
  ⟨t.val / 8 * 1024 + r.val, by have h : t.val < 128 := lt_of_lt_of_eq t.isLt N_0; have := r.isLt; omega⟩
/-- The column a tile's column `l` is at point `t`. -/
abbrev col (t : Fin cfg0.N) (l : Fin 512) : Fin 4096 :=
  ⟨t.val % 8 * 512 + l.val, by have := l.isLt; omega⟩

/-! ## The input blocks, read off the arguments -/

/-- The two windows placed by elements rather than by blocks: where an element of the block lies in the array. -/
theorem place0 (t : Fin cfg0.N) (r : Fin 1024) (k : Fin 4096) :
    ((View.whole main_v2).slice (win0_0.rect t)).emb (ix2 r k)
      = ix2 (⟨t.val / 64 * 8448 + 16 + t.val / 8 % 8 * 1024 + r.val, by have h : t.val < 128 := lt_of_lt_of_eq t.isLt N_0; have := r.isLt; omega⟩ : Fin 16896) k := by
  funext a
  apply Fin.ext
  refine (win0_0.rect_emb_val_off t (ix2 r k) a).trans ?_
  rw [show win0_0.index t = _ from idx0 t]
  match a with
  | ⟨0, _⟩ => rfl
  | ⟨1, _⟩ => exact Nat.zero_add _

theorem place5 (t : Fin cfg0.N) (r : Fin 1024) (l : Fin 512) :
    ((View.whole main_v4).slice (win0_5.rect t)).emb (ix2 r l)
      = ix2 (⟨t.val / 64 * 8448 + 16 + t.val / 8 % 8 * 1024 + r.val, by have h : t.val < 128 := lt_of_lt_of_eq t.isLt N_0; have := r.isLt; omega⟩ : Fin 16896)
          (col t l) := by
  funext a
  apply Fin.ext
  refine (win0_5.rect_emb_val_off t (ix2 r l) a).trans ?_
  rw [show win0_5.index t = _ from idx5 t]
  match a with
  | ⟨0, _⟩ => rfl
  | ⟨1, _⟩ => rfl

/-- Row `r` of the block at point `t`, counted inside its batch entry: the skipped rows, then the row's own place. -/
theorem place_mod (t r : Nat) (h : t < 128) (hr : r < 1024) :
    (t / 64 * 8448 + 16 + t / 8 % 8 * 1024 + r) % 8448 = 16 + (t / 8 * 1024 + r) % 8192 := by
  rcases (by omega : t / 64 = 0 ∨ t / 64 = 1) with e | e
  · have q : t / 8 < 8 := by omega
    rw [e, Nat.mod_eq_of_lt q, Nat.mod_eq_of_lt (by omega), Nat.mod_eq_of_lt (by omega)]; omega
  · obtain ⟨q, hq, h8⟩ : ∃ q, q < 8 ∧ t / 8 = 8 + q := ⟨t / 8 - 8, by omega, by omega⟩
    rw [e, h8, Nat.add_mod_left, Nat.mod_eq_of_lt hq, show 1 * 8448 + 16 + q * 1024 + r = 8448 + (16 + q * 1024 + r) by omega,
      Nat.add_mod_left, show (8 + q) * 1024 + r = 8192 + (q * 1024 + r) by omega, Nat.add_mod_left, Nat.mod_eq_of_lt (by omega),
      Nat.mod_eq_of_lt (by omega)]; omega

theorem blk_z (c : Dev nD) (t : Fin cfg0.N) (r : Fin 1024) (k : Fin 4096) :
    iblk m c 0 t (ix2 r k) = m ((c.tc : Thread nD τ).loc main_arg0) (ix3 (batch (row t r)) (pos (row t r)) k) := by
  have h : t.val < 128 := lt_of_lt_of_eq t.isLt N_0
  blk_simp [iblk]
  rw [place0]
  entry_read
  pointwise
  blk_ext
  exact place_mod t.val r.val h r.isLt

theorem blk_wv (c : Dev nD) (t : Fin cfg0.N) (k : Fin 4096) (l : Fin 512) :
    iblk m c 1 t (ix2 k l) = m ((c.tc : Thread nD τ).loc main_arg1) (ix3 0 k ⟨(col t l).val, by have := (col t l).isLt; omega⟩) := by
  have h : t.val < 128 := lt_of_lt_of_eq t.isLt N_0
  blk_simp [iblk, idx1]
  entry_read
  pointwise
  blk_ext [idx1 t]

theorem blk_wg (c : Dev nD) (t : Fin cfg0.N) (k : Fin 4096) (l : Fin 512) :
    iblk m c 2 t (ix2 k l) = m ((c.tc : Thread nD τ).loc main_arg1) (ix3 0 k ⟨4096 + (col t l).val, by have := (col t l).isLt; omega⟩) := by
  have h : t.val < 128 := lt_of_lt_of_eq t.isLt N_0
  blk_simp [iblk, idx2]
  entry_read
  pointwise
  blk_ext [idx2 t]

theorem blk_bv (c : Dev nD) (t : Fin cfg0.N) (l : Fin 512) :
    iblk m c 3 t (ix2 0 l) = m ((c.tc : Thread nD τ).loc main_arg2) (ix2 0 ⟨(col t l).val, by have := (col t l).isLt; omega⟩) := by
  have h : t.val < 128 := lt_of_lt_of_eq t.isLt N_0
  blk_simp [iblk, idx3]
  entry_read
  pointwise
  blk_ext [idx3 t]

theorem blk_bg (c : Dev nD) (t : Fin cfg0.N) (l : Fin 512) :
    iblk m c 4 t (ix2 0 l) = m ((c.tc : Thread nD τ).loc main_arg2) (ix2 0 ⟨4096 + (col t l).val, by have := (col t l).isLt; omega⟩) := by
  have h : t.val < 128 := lt_of_lt_of_eq t.isLt N_0
  blk_simp [iblk, idx4]
  entry_read
  pointwise
  blk_ext [idx4 t]

theorem blk_h (c : Dev nD) (t : Fin cfg0.N) (r : Fin 1024) (l : Fin 512) :
    iblk m c 5 t (ix2 r l) = m ((c.tc : Thread nD τ).loc main_arg3) (ix3 (batch (row t r)) (pos (row t r)) (col t l)) := by
  have h : t.val < 128 := lt_of_lt_of_eq t.isLt N_0
  blk_simp [iblk]
  rw [place5]
  entry_read
  pointwise
  blk_ext
  exact place_mod t.val r.val h r.isLt

/-- The residual stream after the layer, as the arguments give it. -/
abbrev hv (c : Dev nD) : Fin 16384 → Fin 4096 → EReal :=
  hval (m ((c.tc : Thread nD τ).loc main_arg0)) (m ((c.tc : Thread nD τ).loc main_arg1)) (m ((c.tc : Thread nD τ).loc main_arg2))
    (m ((c.tc : Thread nD τ).loc main_arg3))

/-- The tile computed at point `t` is the stream at the tile's rows and columns. -/
theorem tile_eq (c : Dev nD) (t : Fin cfg0.N) (r : Fin 1024) (l : Fin 512) :
    tile (iblk m c 0 t) (iblk m c 1 t) (iblk m c 2 t) (iblk m c 3 t) (iblk m c 4 t) (iblk m c 5 t) r l = hv m c (row t r) (col t l) := by
  unfold tile hv hval proj
  simp only [blk_z, blk_wv, blk_wg, blk_bv, blk_bg, blk_h]

/-! ## Where the blocks of the results lie -/

theorem written6 (c : Dev nD) (t : Fin cfg0.N) (y : S1024x512.Idx) :
    tile (iblk m c 0 t) (iblk m c 1 t) (iblk m c 2 t) (iblk m c 3 t) (iblk m c 4 t) (iblk m c 5 t) (y 0) (y 1)
      = hv m c (((View.whole main_v6_0).slice (win0_6.rect t)).emb y 0) (((View.whole main_v6_0).slice (win0_6.rect t)).emb y 1) := by
  refine (tile_eq m c t (y 0) (y 1)).trans ?_
  have e0 : (row t (y 0) : Fin 16384) = ((View.whole main_v6_0).slice (win0_6.rect t)).emb y 0 := by
    refine Fin.ext (((win0_6.rect_emb_val t y 0).trans ?_).symm)
    rw [show win0_6.index t = _ from idx6 t]
    rfl
  have e1 : (col t (y 1) : Fin 4096) = ((View.whole main_v6_0).slice (win0_6.rect t)).emb y 1 := by
    refine Fin.ext (((win0_6.rect_emb_val t y 1).trans ?_).symm)
    rw [show win0_6.index t = _ from idx6 t]
    rfl
  exact congrArg₂ (hv m c) e0 e1

theorem written7 (c : Dev nD) (t : Fin cfg0.N) (y : S1024x512.Idx) :
    tile (iblk m c 0 t) (iblk m c 1 t) (iblk m c 2 t) (iblk m c 3 t) (iblk m c 4 t) (iblk m c 5 t) (y 0) (y 1)
      = hv m c (((View.whole main_v6_1).slice (win0_7.rect t)).emb y 0) (((View.whole main_v6_1).slice (win0_7.rect t)).emb y 1) := by
  refine (tile_eq m c t (y 0) (y 1)).trans ?_
  have e0 : (row t (y 0) : Fin 16384) = ((View.whole main_v6_1).slice (win0_7.rect t)).emb y 0 := by
    refine Fin.ext (((win0_7.rect_emb_val t y 0).trans ?_).symm)
    rw [show win0_7.index t = _ from idx7 t]
    rfl
  have e1 : (col t (y 1) : Fin 4096) = ((View.whole main_v6_1).slice (win0_7.rect t)).emb y 1 := by
    refine Fin.ext (((win0_7.rect_emb_val t y 1).trans ?_).symm)
    rw [show win0_7.index t = _ from idx7 t]
    rfl
  exact congrArg₂ (hv m c) e0 e1

/-! ## The arrays after the run -/

theorem out_h (c : Dev nD) : (dats m 0 c).arrAt 6 cfg0.N = fun i : S16384x4096.Idx => hv m c (i 0) (i 1) := by
  refine (dats m 0 c).arrAt_eq_of_covers 6 _ (by decide +kernel) fun t hf y => ?_
  blk_simp
  rw [after0_6]
  refine Eq.trans ?_ (written6 m c t y)
  by_cases h0 : t.val % 8 = 0
  · rw [outsAt0_A m c t h0]
    frame_out
    exact (canon_tile _ _ _ _ _ _ y)
  · rw [outsAt0_B m c t h0]
    frame_out
    exact (canon_tile _ _ _ _ _ _ y)

theorem out_short (c : Dev nD) : (dats m 0 c).arrAt 7 cfg0.N = fun i : S16384x4096.Idx => hv m c (i 0) (i 1) := by
  refine (dats m 0 c).arrAt_eq_of_covers 7 _ (by decide +kernel) fun t hf y => ?_
  blk_simp
  rw [after0_7]
  refine Eq.trans ?_ (written7 m c t y)
  by_cases h0 : t.val % 8 = 0
  · rw [outsAt0_A m c t h0]
    frame_out
    exact (canon_tile_cast _ _ _ _ _ _ y)
  · rw [outsAt0_B m c t h0]
    frame_out
    exact (canon_tile_cast _ _ _ _ _ _ y)

/-- What point `t` adds to row `r`'s sum of squares: the squares of its 512 columns. -/
def part (c : Dev nD) (t : Fin cfg0.N) (y : S1024x1.Idx) : EReal :=
  ∑ l : Fin 512, hv m c (row t (y 0)) (col t l) * hv m c (row t (y 0)) (col t l)

theorem part_eq (c : Dev nD) (t : Fin cfg0.N) (y : S1024x1.Idx) :
    tileSq (iblk m c 0 t) (iblk m c 1 t) (iblk m c 2 t) (iblk m c 3 t) (iblk m c 4 t) (iblk m c 5 t) (y 0) = part m c t y := by
  unfold tileSq part
  refine Finset.sum_congr rfl fun l _ => ?_
  rw [show tile (iblk m c 0 t) (iblk m c 1 t) (iblk m c 2 t) (iblk m c 3 t) (iblk m c 4 t) (iblk m c 5 t) (y 0) l = _ from tile_eq m c t (y 0) l]

theorem sum_reset (c : Dev nD) (t : Fin cfg0.N) (h0 : t.val % 8 = 0) (y : S1024x1.Idx) :
    (outsAt0 m c t.val t.isLt).2.2 y = 0 + part m c t y := by
  rw [outsAt0_A m c t h0]
  frame_out
  refine (squares _ _ _ _ _ _ _ y).trans (congrArg₂ (· + ·) ?_ (part_eq m c t y))
  pointwise [k0_pay2]

theorem sum_step (c : Dev nD) (t : Fin cfg0.N) (h0 : ¬t.val % 8 = 0) (y : S1024x1.Idx) :
    (outsAt0 m c t.val t.isLt).2.2 y
      = (outsAt0 m c (t.val - 1) (Nat.lt_of_le_of_lt (Nat.sub_le _ _) t.isLt)).2.2 y + part m c t y := by
  rw [outsAt0_B m c t h0]
  frame_out
  refine (squares _ _ _ _ _ _ _ y).trans ?_
  rw [part_eq m c t y]

theorem out_sum (c : Dev nD) : (dats m 0 c).arrAt 8 cfg0.N
    = fun i : S16384x1.Idx => ∑ j : Fin 4096, hv m c (i 0) j * hv m c (i 0) j := by
  refine (dats m 0 c).arrAt_eq_of_covers 8 _ (by decide +kernel) fun t hf y => ?_
  blk_simp
  rw [after0_8]
  have h7 : t.val % 8 = 7 := (flush0_8 t).mp hf
  have hN : t.val < 128 := lt_of_lt_of_eq t.isLt N_0
  refine (Pipeline.eq_sum_fin_of_reset_step_apply_of_flush (fun n h => (outsAt0 m c n h).2.2) 8 (fun _ => (0 : EReal))
    (fun t y => part m c t y) (fun t h y => sum_reset m c t h y) (fun t h y => sum_step m c t h y) t h7 y).trans ?_
  rw [zero_add]
  unfold part
  have er : ((View.whole main_v6_2).slice (win0_8.rect t)).emb y 0 = (row t (y 0) : Fin 16384) := by
    refine Fin.ext ((win0_8.rect_emb_val t y 0).trans ?_)
    rw [show win0_8.index t = _ from idx8 t]
    rfl
  show _ = ∑ j : Fin 4096, hv m c (((View.whole main_v6_2).slice (win0_8.rect t)).emb y 0) j * hv m c (((View.whole main_v6_2).slice (win0_8.rect t)).emb y 0) j
  rw [er]
  refine Fin.sum_mul_add_congr fun s k hl => ?_
  have e1 : row ⟨8 * (t.val / 8) + s.val, Pipeline.run_point_lt_of_flush t h7 s⟩ (y 0) = row t (y 0) := by
    apply Fin.ext; show (8 * (t.val / 8) + s.val) / 8 * 1024 + _ = t.val / 8 * 1024 + _; have := s.isLt; omega
  have e2 : col ⟨8 * (t.val / 8) + s.val, Pipeline.run_point_lt_of_flush t h7 s⟩ k = ⟨s.val * 512 + k.val, hl⟩ := by
    apply Fin.ext; show (8 * (t.val / 8) + s.val) % 8 * 512 + k.val = s.val * 512 + k.val; rw [Nat.mul_add_mod, Nat.mod_eq_of_lt s.isLt]
  rw [e1, e2]

end Cert.Proof.Glu

end
-- ==== Proof.GluRef.lean ====
/-
  The reference's run of the gated unit: its three results are the stream, its copy and the row sums of squares.
-/
module

public import proofs.«01_k».proof.Proof.Gen.ReferenceIdeal.Run
public import proofs.«01_k».proof.Proof.GluSpec
public import Idealize.ShloMosaic.Lib.Pipeline.ValueKit
public import Idealize.ShloMosaic.Lib.Pointwise

@[expose] public section

set_option maxRecDepth 16384

noncomputable section

namespace Cert.Proof.GluRef

open Cert.ReferenceIdeal Cert.ReferenceIdeal.Gen Idealize.ShloMosaic Idealize.SL.Sem
open Cert.Proof.Glu (hval proj ssq batch pos)

section Terms

variable (z : FVec Ideal S2x8448x4096 .bf16) (w : FVec Ideal S1x4096x8192 .f32) (b : FVec Ideal S1x8192 .f32) (h : FVec Ideal S2x8448x4096 .f32)

/-- The projection of the kept rows, with its bias. -/
abbrev projT : FVec Ideal S2x8192x8192 .f32 :=
  addf (Host.dotGeneral dot_S2x8192x4096_S4096x8192_S2x8192x8192_2_0_01_1_n_n none
      (extf .f32 (extractStridedSlice S2x8192x4096 ![0, 16, 0] z slices_S2x8448x4096_S2x8192x4096_0_16_0) bitsLt_bf16_f32)
      (shapeCast _ w shapeCasts_S1x4096x8192_S4096x8192))
    (broadcastInDim S2x8192x8192 ![0, 1, 2] bcast_S1x1x8192_S2x8192x8192_0_1_2
      (broadcastInDim S1x1x8192 ![2] bcast_S8192_S1x1x8192_2 (shapeCast _ b shapeCasts_S1x8192_S8192)))

theorem projT_apply (n : Fin 2) (p : Fin 8192) (j : Fin 8192) :
    projT z w b (ix3 n p j)
      = (∑ k : Fin 4096, z (ix3 n ⟨16 + p.val, by have := p.isLt; omega⟩ k) * w (ix3 0 k j)) + b (ix2 0 j) := by
  unfold projT
  pointwise

/-- Value times gate on the residual, by batch entry. -/
abbrev gluT (q : FVec Ideal S2x8192x8192 .f32) : FVec Ideal S2x8192x4096 .f32 :=
  addf (extractStridedSlice S2x8192x4096 ![0, 16, 0] h slices_S2x8448x4096_S2x8192x4096_0_16_0)
    (mulf (extractStridedSlice S2x8192x4096 ![0, 0, 0] q slices_S2x8192x8192_S2x8192x4096_0_0_0)
      (Host.divf (broadcastInDim S2x8192x4096 ![] bcast_S_S2x8192x4096 (constant S_ .f32 0x3F800000#32))
        (addf (broadcastInDim S2x8192x4096 ![] bcast_S_S2x8192x4096 (constant S_ .f32 0x3F800000#32))
          (Host.exp (Host.negf (extractStridedSlice S2x8192x4096 ![0, 0, 4096] q slices_S2x8192x8192_S2x8192x4096_0_0_4096))))))

theorem gluT_apply (q : FVec Ideal S2x8192x8192 .f32) (n : Fin 2) (p : Fin 8192) (j : Fin 4096) :
    gluT h q (ix3 n p j)
      = h (ix3 n ⟨16 + p.val, by have := p.isLt; omega⟩ j)
        + q (ix3 n p ⟨j.val, by have := j.isLt; omega⟩) * Ideal.logistic (q (ix3 n p ⟨4096 + j.val, by have := j.isLt; omega⟩)) := by
  unfold gluT
  pointwise
  rfl

/-- The stream by flat rows. -/
abbrev flatT : FVec Ideal S16384x4096 .f32 := shapeCast _ (gluT h (projT z w b)) shapeCasts_S2x8192x4096_S16384x4096

theorem flatT_apply (i : S16384x4096.Idx) : flatT z w b h i = hval z w b h (i 0) (i 1) := by
  obtain ⟨r, l, rfl⟩ : ∃ (r : Fin 16384) (l : Fin 4096), i = ix2 r l := ⟨i 0, i 1, eq_ix2 i⟩
  have e : flatT z w b h (ix2 r l) = gluT h (projT z w b) (ix3 (batch r) ⟨r.val % 8192, by omega⟩ l) := by
    unfold flatT
    generalize gluT h (projT z w b) = g
    pointwise
  rw [e, gluT_apply, projT_apply, projT_apply]
  rfl

/-- The row sums of squares of a flat array. -/
theorem squares_apply (x : FVec Ideal S16384x4096 .f32) (i : S16384x1.Idx) :
    (broadcastInDim S16384x1 ![0] bcast_S16384_S16384x1_0
      (Host.reduceAdd (mulf x x) (constant S_ .f32 0x00000000#32) reducesTo_S16384x4096_S16384_d1 h_S_) : FVec Ideal S16384x1 .f32) i
      = ∑ j : Fin 4096, x (ix2 (i 0) j) * x (ix2 (i 0) j) := by
  obtain ⟨r, l, rfl⟩ : ∃ (r : Fin 16384) (l : Fin 1), i = ix2 r l := ⟨i 0, i 1, eq_ix2 i⟩
  pointwise

theorem sumT_apply (i : S16384x1.Idx) :
    (broadcastInDim S16384x1 ![0] bcast_S16384_S16384x1_0
      (Host.reduceAdd (mulf (flatT z w b h) (flatT z w b h)) (constant S_ .f32 0x00000000#32) reducesTo_S16384x4096_S16384_d1 h_S_) :
        FVec Ideal S16384x1 .f32) i
      = ∑ j : Fin 4096, hval z w b h (i 0) j * hval z w b h (i 0) j :=
  (squares_apply (flatT z w b h) i).trans (Finset.sum_congr rfl fun j _ =>
    congrArg₂ (· * ·) (flatT_apply z w b h (ix2 (i 0) j)) (flatT_apply z w b h (ix2 (i 0) j)))

end Terms

variable (m : (ℓ : Loc nD τ sig) → Buf (Elt Ideal) ℓ)

/-- The residual stream after the layer, as the reference's arguments give it. -/
abbrev hv (c : Dev nD) : Fin 16384 → Fin 4096 → EReal :=
  hval (m ((c.tc : Thread nD τ).loc main_arg0)) (m ((c.tc : Thread nD τ).loc main_arg1)) (m ((c.tc : Thread nD τ).loc main_arg2))
    (m ((c.tc : Thread nD τ).loc main_arg3))

theorem run_values (ρ : Dev nD → PrngReg) :
    θ_run defs (onTc (τ := τ) (main (F := Ideal))) ⟨m, fun _ => 0, ρ⟩ fun r => ∀ c : Dev nD,
      (r.2.mem ((c.tc : Thread nD τ).loc main_v19) = fun i : S16384x4096.Idx => hv m c (i 0) (i 1))
      ∧ (r.2.mem ((c.tc : Thread nD τ).loc main_v20) = fun i : S16384x4096.Idx => hv m c (i 0) (i 1))
      ∧ (r.2.mem ((c.tc : Thread nD τ).loc main_v23) = fun i : S16384x1.Idx => ∑ j : Fin 4096, hv m c (i 0) j * hv m c (i 0) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceIdeal.Value.run m ρ)
  obtain ⟨h1, h2, h3, h4⟩ := h c
  refine ⟨h1.trans (funext fun i => ?_), h2.trans (funext fun i => ?_), h3.trans (funext fun i => ?_), h4⟩
  · exact flatT_apply _ _ _ _ i
  · exact flatT_apply _ _ _ _ i
  · exact sumT_apply _ _ _ _ i

end Cert.Proof.GluRef

end
-- ==== Proof.GluClaims.lean ====
/-
  The claims about the call of the gated unit: the three frames, and the equality of its results with the reference's.
-/
module

public import proofs.«01_k».proof.Defs
public import proofs.«01_k».proof.Proof.Gen.Kernel.Frame
public import proofs.«01_k».proof.Proof.GluValue
public import proofs.«01_k».proof.Proof.GluRef
public import Idealize.ShloMosaic.Adequacy

@[expose] public section

set_option maxRecDepth 16384

noncomputable section

namespace Cert.Proof.Glu

open Idealize.ShloMosaic Idealize.SL.Sem

/-- The call as it is executed at the machine's words ends with its arguments unchanged and every counter at zero. -/
theorem frame_kernel : Cert.quiescent_Kernel := fun m ρ _ => Cert.Kernel.Gen.frame m ρ

theorem frame_kernelIdeal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.Proof.GluRef.run_values m ρ)

/-- The call's three results are the reference's. -/
theorem algebraic_glu : Cert.algebraic_KernelIdeal_ReferenceIdeal := by
  intro m ρ m' ρ' _ hagree
  refine ⟨fun c i => hv m c (i 0) (i 1), fun c i => hv m c (i 0) (i 1), fun c i => (∑ j : Fin 4096, hv m c (i 0) j * hv m c (i 0) j : EReal),
    (θ_run Cert.KernelIdeal.defs _ _).mono (fun r h c => ?_) (Cert.KernelIdeal.Value.run_blocks m ρ),
    (θ_run Cert.ReferenceIdeal.defs _ _).mono (fun r h c => ?_) (Cert.Proof.GluRef.run_values m' ρ')⟩
  · obtain ⟨h0, h1, h2, h3⟩ := h c
    exact ⟨h0.trans (out_h m c), h1.trans (out_short m c), h2.trans (out_sum m c), h3⟩
  · obtain ⟨h0, h1, h2, h3⟩ := h c
    obtain ⟨a0, a1, a2, a3⟩ := hagree c
    have e : Cert.Proof.GluRef.hv m' c = hv m c := by
      unfold Cert.Proof.GluRef.hv hv
      rw [a0, a1, a2, a3]
    rw [e] at h0 h1 h2
    exact ⟨h0, h1, h2, h3⟩

end Cert.Proof.Glu

end
-- ==== Proof.NormMath.lean ====
/-
  The norm's scale taken out of a product and a squared rectifier, over the extended reals.
-/
module

public import Idealize.ShloMosaic.Lib.Pointwise

@[expose] public section

noncomputable section

namespace Cert.Proof.Norm

open Idealize.ShloMosaic

/-- The row length, as the reference divides by it. -/
theorem len_bits : Ideal.ofBits .f32 0x45800000#32 = ((4096 : ℝ) : EReal) := by
  simp [Ideal.ofBits, Ideal.ieee, -EReal.coe_mul]; norm_num

/-- Its reciprocal, as the kernel multiplies by it. -/
theorem inv_bits : Ideal.ofBits .f32 0x39800000#32 = ((1 / 4096 : ℝ) : EReal) := by
  simp [Ideal.ofBits, Ideal.ieee, -EReal.coe_mul]; norm_num

/-- The norm's epsilon is a positive real. -/
theorem eps_bits : ∃ e : ℝ, 0 < e ∧ Ideal.ofBits .f32 0x358637BD#32 = ((e : ℝ) : EReal) := by
  refine ⟨8796093 / 2 ^ 43, by norm_num, ?_⟩
  simp [Ideal.ofBits, Ideal.ieee, -EReal.coe_mul]; norm_num

/-- The mean square plus epsilon of a row whose squares sum to `s`. -/
def ms (s : EReal) : EReal := Ideal.div s (Ideal.ofBits .f32 0x45800000#32) + Ideal.ofBits .f32 0x358637BD#32

theorem ms_mul (s : EReal) : s * Ideal.ofBits .f32 0x39800000#32 + Ideal.ofBits .f32 0x358637BD#32 = ms s := by
  unfold ms
  rw [len_bits, inv_bits, Ideal.div_coe (by norm_num : (4096 : ℝ) ≠ 0)]

theorem sq_nonneg (x : EReal) : 0 ≤ x * x := by
  rcases le_total 0 x with h | h
  · exact mul_nonneg h h
  · have h' : 0 ≤ -x := EReal.neg_nonneg.mpr h
    have := mul_nonneg h' h'
    rwa [neg_mul_neg] at this

theorem sumSq_nonneg {n : Nat} (h : Fin n → EReal) : 0 ≤ ∑ k, h k * h k :=
  Finset.sum_nonneg fun _ _ => sq_nonneg _

theorem ms_pos {s : EReal} (hs : 0 ≤ s) : 0 < ms s := by
  obtain ⟨e, he, hb⟩ := eps_bits
  unfold ms
  rw [hb, len_bits, Ideal.div_coe (by norm_num : (4096 : ℝ) ≠ 0)]
  have h1 : (0 : EReal) ≤ s * ((1 / 4096 : ℝ) : EReal) := mul_nonneg hs (by exact_mod_cast (by norm_num : (0 : ℝ) ≤ 1 / 4096))
  calc (0 : EReal) < (e : EReal) := by exact_mod_cast he
    _ = 0 + (e : EReal) := (zero_add _).symm
    _ ≤ _ := by gcongr

/-- A nonnegative real factor moves out of a sum. -/
theorem mul_sum {n : Nat} (r : ℝ) (hr : 0 ≤ r) (f : Fin n → EReal) : ∑ k, (r : EReal) * f k = (r : EReal) * ∑ k, f k := by
  have key : ∀ s : Finset (Fin n), ∑ k ∈ s, (r : EReal) * f k = (r : EReal) * ∑ k ∈ s, f k := by
    intro s
    induction s using Finset.induction_on with
    | empty => simp
    | insert a s ha ih =>
      rw [Finset.sum_insert ha, Finset.sum_insert ha, ih,
        EReal.left_distrib_of_nonneg_of_ne_top (by exact_mod_cast hr) (EReal.coe_ne_top r)]
  exact key Finset.univ

theorem mul_max_zero (r : ℝ) (hr : 0 ≤ r) (x : EReal) : max ((r : EReal) * x) 0 = (r : EReal) * max x 0 := by
  have h0 : (0 : EReal) ≤ (r : EReal) := by exact_mod_cast hr
  rcases le_total 0 x with h | h
  · rw [max_eq_left h, max_eq_left (mul_nonneg h0 h)]
  · rw [max_eq_right h, mul_zero]
    refine max_eq_right ?_
    have := mul_nonneg h0 (EReal.neg_nonneg.mpr h)
    rw [mul_neg] at this
    exact EReal.neg_nonneg.mp this

/-- The squared rectifier of a row's product with the weights, the norm's scale applied last and squared. -/
def up {n : Nat} (h g w : Fin n → EReal) : EReal :=
  max (∑ k, h k * (w k * g k)) 0 * max (∑ k, h k * (w k * g k)) 0 * Ideal.div 1 (ms (∑ k, h k * h k))

/-- It is the squared rectifier of the normed row's product. -/
theorem up_eq {n : Nat} (h g w : Fin n → EReal) :
    max (∑ k, h k * Ideal.rsqrt (ms (∑ k, h k * h k)) * g k * w k) 0 * max (∑ k, h k * Ideal.rsqrt (ms (∑ k, h k * h k)) * g k * w k) 0
      = up h g w := by
  unfold up
  have hp : 0 < ms (∑ k, h k * h k) := ms_pos (sumSq_nonneg h)
  generalize ms (∑ k, h k * h k) = M at hp
  induction M with
  | bot => simp at hp
  | top => simp [Ideal.div]
  | coe x =>
    have hx : 0 < x := by exact_mod_cast hp
    have e : Ideal.rsqrt (x : EReal) = (((Real.sqrt x)⁻¹ : ℝ) : EReal) := by
      rw [Ideal.rsqrt_coe, if_neg (not_lt.mpr hx.le), if_neg hx.ne']
    have hr : 0 ≤ (Real.sqrt x)⁻¹ := inv_nonneg.mpr (Real.sqrt_nonneg x)
    have hs : ∑ k, h k * Ideal.rsqrt (x : EReal) * g k * w k = (((Real.sqrt x)⁻¹ : ℝ) : EReal) * ∑ k, h k * (w k * g k) := by
      rw [e, ← mul_sum _ hr]
      exact Finset.sum_congr rfl fun k _ => by ac_rfl
    have hd : Ideal.div 1 (x : EReal) = (((Real.sqrt x)⁻¹ : ℝ) : EReal) * (((Real.sqrt x)⁻¹ : ℝ) : EReal) := by
      rw [Ideal.div_coe hx.ne', one_mul, ← EReal.coe_mul, ← mul_inv, Real.mul_self_sqrt hx.le, one_div]
    rw [hs, mul_max_zero _ hr, hd, mul_mul_mul_comm, mul_comm]

end Cert.Proof.Norm

end
-- ==== Proof.UpValue.lean ====
/-
  The squared-rectifier up-projection: the product's tiles and the cast weights, each as one function of the arguments.
-/
module

public import proofs.«01_k».proof.Proof.Gen.UpIdeal.Value
public import proofs.«01_k».proof.Proof.NormMath
public import Idealize.ShloMosaic.Lib.Pipeline.ValueKit
public import Idealize.ShloMosaic.Lib.Pointwise

@[expose] public section

set_option maxRecDepth 16384

noncomputable section

namespace Cert.Proof.Up

open Cert.UpIdeal Cert.UpIdeal.Gen Idealize.ShloMosaic Idealize.ShloMosaic.TcCoe Idealize.SL.Sem
open Idealize.ShloMosaic.Pipeline (Dat)
open Cert.Proof.Norm (up ms ms_mul)

/-! ## One tile of the product -/

section Tile

variable (x0 : Vec Ideal S768x4096 .bf16) (x1 : Vec Ideal S4096x1024 .bf16) (x2 : Vec Ideal S768x1 .f32)

/-- Row `r`, column `l` of the tile. -/
def tile (r : Fin 768) (l : Fin 1024) : EReal :=
  max (∑ k : Fin 4096, x0 (ix2 r k) * x1 (ix2 k l)) 0 * max (∑ k : Fin 4096, x0 (ix2 r k) * x1 (ix2 k l)) 0
    * Ideal.div 1 (ms (x2 (ix2 r 0)))

theorem panel0 (r : Fin 768) (l : Fin 256) :
    (k0_pay8 (k0_pay2 (View.ld x2 r0_0)) (k0_pay6 (View.ld x0 r0_8)) (k0_pay7 (View.ld x1 r0_9)) (constant S768x256 .f32 0x00000000#32) : FVec Ideal S768x256 .bf16) (ix2 r l)
      = tile x0 x1 x2 r ⟨0 + l.val, by have := l.isLt; omega⟩ := by
  unfold tile
  rw [← ms_mul]
  pointwise [k0_pay8, k0_pay2, k0_pay6, k0_pay7]

theorem panel1 (r : Fin 768) (l : Fin 256) :
    (k0_pay9 (k0_pay2 (View.ld x2 r0_0)) (View.ld x0 r0_8) (View.ld x1 r0_11) : FVec Ideal S768x256 .bf16) (ix2 r l)
      = tile x0 x1 x2 r ⟨256 + l.val, by have := l.isLt; omega⟩ := by
  unfold tile
  rw [← ms_mul]
  pointwise [k0_pay9, k0_pay2]

theorem panel2 (r : Fin 768) (l : Fin 256) :
    (k0_pay10 (k0_pay2 (View.ld x2 r0_0)) (View.ld x0 r0_8) (View.ld x1 r0_13) : FVec Ideal S768x256 .bf16) (ix2 r l)
      = tile x0 x1 x2 r ⟨512 + l.val, by have := l.isLt; omega⟩ := by
  unfold tile
  rw [← ms_mul]
  pointwise [k0_pay10, k0_pay2]

theorem panel3 (r : Fin 768) (l : Fin 256) :
    (k0_pay1 (k0_pay2 (View.ld x2 r0_0)) (k0_pay11 (View.ld x0 r0_8)) (View.ld x1 r0_15) : FVec Ideal S768x256 .bf16) (ix2 r l)
      = tile x0 x1 x2 r ⟨768 + l.val, by have := l.isLt; omega⟩ := by
  unfold tile
  rw [← ms_mul]
  pointwise [k0_pay1, k0_pay2, k0_pay11]

/-- The four panels stored into the staging buffer, read back at any place, are the tile. -/
theorem canon_tile (y : S768x1024.Idx) :
    View.canon (Val := Elt Ideal) (e := .bf16)
      [⟨r0_16, k0_pay1 (k0_pay2 (View.ld x2 r0_0)) (k0_pay11 (View.ld x0 r0_8)) (View.ld x1 r0_15)⟩, ⟨r0_14, k0_pay10 (k0_pay2 (View.ld x2 r0_0)) (View.ld x0 r0_8) (View.ld x1 r0_13)⟩, ⟨r0_12, k0_pay9 (k0_pay2 (View.ld x2 r0_0)) (View.ld x0 r0_8) (View.ld x1 r0_11)⟩, ⟨r0_10, k0_pay8 (k0_pay2 (View.ld x2 r0_0)) (k0_pay6 (View.ld x0 r0_8)) (k0_pay7 (View.ld x1 r0_9)) (constant S768x256 .f32 0x00000000#32)⟩]
      y = tile x0 x1 x2 (y 0) (y 1) := by
  canon_tiles x h
  · obtain ⟨r, l, rfl⟩ : ∃ (r : Fin 768) (l : Fin 256), x = ix2 r l := ⟨x 0, x 1, eq_ix2 x⟩
    rw [panel3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel0, show y 0 = r from Fin.ext h0, show y 1 = (⟨0 + l.val, by have := l.isLt; omega⟩ : Fin 1024) from Fin.ext (h1.trans (Nat.zero_add _).symm)]

end Tile

variable (m : (ℓ : Loc nD τ sig) → Buf (Elt Ideal) ℓ)

/-! ## Where each window's block lies at grid point `t` -/

theorem idx0 : ∀ t : Fin cfg0.N, (cfg0.win 0).index t = ![t.val / 16, 0] :=
  (by decide +kernel : ∀ t : Fin grid0.N, win0_0.index t = ![t.val / 16, 0])
theorem idx1 : ∀ t : Fin cfg0.N, (cfg0.win 1).index t = ![0, t.val % 16] :=
  (by decide +kernel : ∀ t : Fin grid0.N, win0_1.index t = ![0, t.val % 16])
theorem idx2 : ∀ t : Fin cfg0.N, (cfg0.win 2).index t = ![t.val / 16, 0] :=
  (by decide +kernel : ∀ t : Fin grid0.N, win0_2.index t = ![t.val / 16, 0])
theorem idx7 : ∀ t : Fin cfg0.N, (cfg0.win 7).index t = ![t.val / 16, t.val % 16] :=
  (by decide +kernel : ∀ t : Fin grid0.N, win0_7.index t = ![t.val / 16, t.val % 16])

/-- The flat row a tile's row `r` is at point `t`. -/
abbrev row (t : Fin cfg0.N) (r : Fin 768) : Fin 16896 :=
  ⟨t.val / 16 * 768 + r.val, by have h : t.val < 352 := lt_of_lt_of_eq t.isLt N_0; have := r.isLt; omega⟩
/-- The column a tile's column `l` is at point `t`. -/
abbrev col (t : Fin cfg0.N) (l : Fin 1024) : Fin 16384 :=
  ⟨t.val % 16 * 1024 + l.val, by have := l.isLt; omega⟩

/-- The arguments' entries the result depends on: the stream's row, the gain, the weights' column. -/
abbrev hrow (c : Dev nD) (i : Fin 16896) (k : Fin 4096) : EReal :=
  m ((c.tc : Thread nD τ).loc main_arg0) (ix3 (⟨i.val / 8448, by have := i.isLt; omega⟩ : Fin 2) (⟨i.val % 8448, by omega⟩ : Fin 8448) k)
abbrev gain (c : Dev nD) (k : Fin 4096) : EReal := m ((c.tc : Thread nD τ).loc main_arg1) (ix2 0 k)
abbrev wcol (c : Dev nD) (j : Fin 16384) (k : Fin 4096) : EReal := m ((c.tc : Thread nD τ).loc main_arg2) (ix3 0 k j)

/-! ## The input blocks, read off the arguments -/

theorem blk_h (c : Dev nD) (t : Fin cfg0.N) (r : Fin 768) (k : Fin 4096) : iblk m c 0 t (ix2 r k) = hrow m c (row t r) k := by
  have h : t.val < 352 := lt_of_lt_of_eq t.isLt N_0
  blk_simp [iblk, idx0]
  entry_read
  pointwise
  blk_ext [idx0 t]

theorem blk_w (c : Dev nD) (t : Fin cfg0.N) (k : Fin 4096) (l : Fin 1024) :
    iblk m c 1 t (ix2 k l) = wcol m c (col t l) k * gain m c k := by
  have h : t.val < 352 := lt_of_lt_of_eq t.isLt N_0
  blk_simp [iblk, idx1]
  entry_read
  pointwise
  refine congrArg₂ (· * ·) (congrArg _ ?_) (congrArg _ ?_) <;> blk_ext [idx1 t]

theorem blk_s (c : Dev nD) (t : Fin cfg0.N) (r : Fin 768) :
    iblk m c 2 t (ix2 r 0) = (∑ k : Fin 4096, hrow m c (row t r) k * hrow m c (row t r) k : EReal) := by
  have h : t.val < 352 := lt_of_lt_of_eq t.isLt N_0
  blk_simp [iblk, idx2]
  entry_read
  pointwise
  refine congrArg (fun f : Fin 4096 → EReal => ∑ k, f k) (funext fun k => congrArg₂ (· * ·) (congrArg _ ?_) (congrArg _ ?_)) <;> blk_ext [idx2 t]

/-- The product at row `i` and column `j`, as the arguments give it. -/
abbrev fv (c : Dev nD) (i : Fin 16896) (j : Fin 16384) : EReal := up (hrow m c i) (gain m c) (wcol m c j)

theorem tile_eq (c : Dev nD) (t : Fin cfg0.N) (r : Fin 768) (l : Fin 1024) :
    tile (iblk m c 0 t) (iblk m c 1 t) (iblk m c 2 t) r l = fv m c (row t r) (col t l) := by
  unfold tile fv up
  simp only [blk_h, blk_w]
  rw [blk_s]

theorem written (c : Dev nD) (t : Fin cfg0.N) (y : S768x1024.Idx) :
    tile (iblk m c 0 t) (iblk m c 1 t) (iblk m c 2 t) (y 0) (y 1)
      = fv m c (((View.whole main_v16_0).slice (win0_7.rect t)).emb y 0) (((View.whole main_v16_0).slice (win0_7.rect t)).emb y 1) := by
  refine (tile_eq m c t (y 0) (y 1)).trans ?_
  have e0 : (row t (y 0) : Fin 16896) = ((View.whole main_v16_0).slice (win0_7.rect t)).emb y 0 := by
    refine Fin.ext (((win0_7.rect_emb_val t y 0).trans ?_).symm)
    rw [show win0_7.index t = _ from idx7 t]
    rfl
  have e1 : (col t (y 1) : Fin 16384) = ((View.whole main_v16_0).slice (win0_7.rect t)).emb y 1 := by
    refine Fin.ext (((win0_7.rect_emb_val t y 1).trans ?_).symm)
    rw [show win0_7.index t = _ from idx7 t]
    rfl
  exact congrArg₂ (fv m c) e0 e1

/-! ## The arrays after the run -/

theorem out_f (c : Dev nD) : (dats m 0 c).arrAt 7 cfg0.N = fun i : S16896x16384.Idx => fv m c (i 0) (i 1) := by
  refine (dats m 0 c).arrAt_eq_of_covers 7 _ (by decide +kernel) fun t hf y => ?_
  blk_simp
  rw [after0_7]
  refine Eq.trans ?_ (written m c t y)
  unfold_out out0_7
  exact canon_tile _ _ _ y

theorem idx3 : ∀ t : Fin cfg0.N, (cfg0.win 3).index t = ![0, min t.val 255, 0] :=
  (by decide +kernel : ∀ t : Fin grid0.N, win0_3.index t = ![0, min t.val 255, 0])
theorem idx8 : ∀ t : Fin cfg0.N, (cfg0.win 8).index t = ![min t.val 255, 0] :=
  (by decide +kernel : ∀ t : Fin grid0.N, win0_8.index t = ![min t.val 255, 0])

/-- The weights cast along the way: row `i`, column `j`. -/
abbrev src8 (c : Dev nD) (i : Fin 16384) (j : Fin 4096) : EReal := m ((c.tc : Thread nD τ).loc main_arg3) (ix3 0 i j)
/-- What the run leaves there. -/
abbrev cv8 (c : Dev nD) (i : Fin 16384) (j : Fin 4096) : EReal := src8 m c i j
/-- The array's row a block's row is at point `t`. -/
abbrev row8 (t : Fin cfg0.N) (r : Fin 64) : Fin 16384 :=
  ⟨min t.val 255 * 64 + r.val, by have := r.isLt; omega⟩

theorem blk3 (c : Dev nD) (t : Fin cfg0.N) (r : Fin 64) (l : Fin 4096) :
    iblk m c 3 t (ix3 0 r l) = src8 m c (row8 t r) l := by
  blk_simp [iblk, idx3]
  entry_read
  refine congrArg _ ?_
  blk_ext [idx3 t]

theorem k0_pay3_apply (x : Vec Ideal S1x64x4096 .f32) (r : Fin 64) (l : Fin 4096) :
    (k0_pay3 x : FVec Ideal S64x4096 .bf16) (ix2 r l) = x (ix3 0 r l) := by
  pointwise [k0_pay3]

theorem out_cast8 (c : Dev nD) : (dats m 0 c).arrAt 8 cfg0.N
    = fun i : S16384x4096.Idx => cv8 m c (i 0) (i 1) := by
  refine (dats m 0 c).arrAt_eq_of_covers 8 _ (by decide +kernel) fun t hf y => ?_
  blk_simp
  rw [after0_8]
  frame_out
  obtain ⟨r, l, rfl⟩ : ∃ (r : Fin 64) (l : Fin 4096), y = ix2 r l := ⟨y 0, y 1, eq_ix2 y⟩
  refine (k0_pay3_apply _ r l).trans ?_
  rw [blk3]
  have e0 : (row8 t r : Fin 16384) = ((View.whole main_v16_1).slice (win0_8.rect t)).emb (ix2 r l) 0 := by
    refine Fin.ext (((win0_8.rect_emb_val t (ix2 r l) 0).trans ?_).symm)
    rw [show win0_8.index t = _ from idx8 t]
    rfl
  have e1 : (l : Fin 4096) = ((View.whole main_v16_1).slice (win0_8.rect t)).emb (ix2 r l) 1 := by
    refine Fin.ext (((win0_8.rect_emb_val t (ix2 r l) 1).trans ?_).symm)
    rw [show win0_8.index t = _ from idx8 t]
    exact (congrArg (· + l.val) (Nat.zero_mul 4096)).trans (Nat.zero_add l.val)
  exact congrArg₂ (cv8 m c) e0 e1

theorem idx4 : ∀ t : Fin cfg0.N, (cfg0.win 4).index t = ![0, min t.val 255, 0] :=
  (by decide +kernel : ∀ t : Fin grid0.N, win0_4.index t = ![0, min t.val 255, 0])
theorem idx9 : ∀ t : Fin cfg0.N, (cfg0.win 9).index t = ![min t.val 255, 0] :=
  (by decide +kernel : ∀ t : Fin grid0.N, win0_9.index t = ![min t.val 255, 0])

/-- The weights cast along the way: row `i`, column `j`. -/
abbrev src9 (c : Dev nD) (i : Fin 4096) (j : Fin 8192) : EReal := m ((c.tc : Thread nD τ).loc main_arg4) (ix3 0 i j)
/-- What the run leaves there. -/
abbrev cv9 (c : Dev nD) (i : Fin 4096) (j : Fin 8192) : EReal := src9 m c i j
/-- The array's row a block's row is at point `t`. -/
abbrev row9 (t : Fin cfg0.N) (r : Fin 16) : Fin 4096 :=
  ⟨min t.val 255 * 16 + r.val, by have := r.isLt; omega⟩

theorem blk4 (c : Dev nD) (t : Fin cfg0.N) (r : Fin 16) (l : Fin 8192) :
    iblk m c 4 t (ix3 0 r l) = src9 m c (row9 t r) l := by
  blk_simp [iblk, idx4]
  entry_read
  refine congrArg _ ?_
  blk_ext [idx4 t]

theorem k0_pay4_apply (x : Vec Ideal S1x16x8192 .f32) (r : Fin 16) (l : Fin 8192) :
    (k0_pay4 x : FVec Ideal S16x8192 .bf16) (ix2 r l) = x (ix3 0 r l) := by
  pointwise [k0_pay4]

theorem out_cast9 (c : Dev nD) : (dats m 0 c).arrAt 9 cfg0.N
    = fun i : S4096x8192.Idx => cv9 m c (i 0) (i 1) := by
  refine (dats m 0 c).arrAt_eq_of_covers 9 _ (by decide +kernel) fun t hf y => ?_
  blk_simp
  rw [after0_9]
  frame_out
  obtain ⟨r, l, rfl⟩ : ∃ (r : Fin 16) (l : Fin 8192), y = ix2 r l := ⟨y 0, y 1, eq_ix2 y⟩
  refine (k0_pay4_apply _ r l).trans ?_
  rw [blk4]
  have e0 : (row9 t r : Fin 4096) = ((View.whole main_v16_2).slice (win0_9.rect t)).emb (ix2 r l) 0 := by
    refine Fin.ext (((win0_9.rect_emb_val t (ix2 r l) 0).trans ?_).symm)
    rw [show win0_9.index t = _ from idx9 t]
    rfl
  have e1 : (l : Fin 8192) = ((View.whole main_v16_2).slice (win0_9.rect t)).emb (ix2 r l) 1 := by
    refine Fin.ext (((win0_9.rect_emb_val t (ix2 r l) 1).trans ?_).symm)
    rw [show win0_9.index t = _ from idx9 t]
    exact (congrArg (· + l.val) (Nat.zero_mul 8192)).trans (Nat.zero_add l.val)
  exact congrArg₂ (cv9 m c) e0 e1

theorem idx5 : ∀ t : Fin cfg0.N, (cfg0.win 5).index t = ![1, min t.val 255, 0] :=
  (by decide +kernel : ∀ t : Fin grid0.N, win0_5.index t = ![1, min t.val 255, 0])
theorem idx10 : ∀ t : Fin cfg0.N, (cfg0.win 10).index t = ![min t.val 255, 0] :=
  (by decide +kernel : ∀ t : Fin grid0.N, win0_10.index t = ![min t.val 255, 0])
theorem idx6 : ∀ t : Fin cfg0.N, (cfg0.win 6).index t = ![min t.val 255, 0] :=
  (by decide +kernel : ∀ t : Fin grid0.N, win0_6.index t = ![min t.val 255, 0])

/-- The weights cast along the way: row `i`, column `j`. -/
abbrev src10 (c : Dev nD) (i : Fin 4096) (j : Fin 16384) : EReal := m ((c.tc : Thread nD τ).loc main_arg2) (ix3 1 i j)
/-- The gain of row `i`. -/
abbrev gain10 (c : Dev nD) (i : Fin 4096) : EReal := m ((c.tc : Thread nD τ).loc main_arg1) (ix2 1 i)
/-- What the run leaves there. -/
abbrev cv10 (c : Dev nD) (i : Fin 4096) (j : Fin 16384) : EReal := src10 m c i j * gain10 m c i
/-- The array's row a block's row is at point `t`. -/
abbrev row10 (t : Fin cfg0.N) (r : Fin 16) : Fin 4096 :=
  ⟨min t.val 255 * 16 + r.val, by have := r.isLt; omega⟩

theorem blk5 (c : Dev nD) (t : Fin cfg0.N) (r : Fin 16) (l : Fin 16384) :
    iblk m c 5 t (ix3 0 r l) = src10 m c (row10 t r) l := by
  blk_simp [iblk, idx5]
  entry_read
  refine congrArg _ ?_
  blk_ext [idx5 t]

theorem blk6 (c : Dev nD) (t : Fin cfg0.N) (r : Fin 16) :
    iblk m c 6 t (ix2 r 0) = gain10 m c (row10 t r) := by
  blk_simp [iblk, idx6]
  entry_read
  pointwise
  refine congrArg _ ?_
  blk_ext [idx6 t]

theorem k0_pay5_apply (x : Vec Ideal S1x16x16384 .f32) (g : Vec Ideal S16x1 .f32) (r : Fin 16) (l : Fin 16384) :
    (k0_pay5 x g : FVec Ideal S16x16384 .bf16) (ix2 r l) = x (ix3 0 r l) * g (ix2 r 0) := by
  pointwise [k0_pay5]

theorem out_cast10 (c : Dev nD) : (dats m 0 c).arrAt 10 cfg0.N
    = fun i : S4096x16384.Idx => cv10 m c (i 0) (i 1) := by
  refine (dats m 0 c).arrAt_eq_of_covers 10 _ (by decide +kernel) fun t hf y => ?_
  blk_simp
  rw [after0_10]
  frame_out
  obtain ⟨r, l, rfl⟩ : ∃ (r : Fin 16) (l : Fin 16384), y = ix2 r l := ⟨y 0, y 1, eq_ix2 y⟩
  refine (k0_pay5_apply _ _ r l).trans ?_
  rw [blk5, blk6]
  have e0 : (row10 t r : Fin 4096) = ((View.whole main_v16_3).slice (win0_10.rect t)).emb (ix2 r l) 0 := by
    refine Fin.ext (((win0_10.rect_emb_val t (ix2 r l) 0).trans ?_).symm)
    rw [show win0_10.index t = _ from idx10 t]
    rfl
  have e1 : (l : Fin 16384) = ((View.whole main_v16_3).slice (win0_10.rect t)).emb (ix2 r l) 1 := by
    refine Fin.ext (((win0_10.rect_emb_val t (ix2 r l) 1).trans ?_).symm)
    rw [show win0_10.index t = _ from idx10 t]
    exact (congrArg (· + l.val) (Nat.zero_mul 16384)).trans (Nat.zero_add l.val)
  exact congrArg₂ (cv10 m c) e0 e1

end Cert.Proof.Up

end
-- ==== Proof.UpRef.lean ====
/-
  The reference's run of the up-projection: the normalised stream's product, squared after the rectifier, and the cast weights.
-/
module

public import proofs.«01_k».proof.Proof.Gen.UpRefIdeal.Run
public import proofs.«01_k».proof.Proof.NormMath
public import Idealize.ShloMosaic.Lib.Pipeline.ValueKit
public import Idealize.ShloMosaic.Lib.Pointwise

@[expose] public section

set_option maxRecDepth 16384

noncomputable section

namespace Cert.Proof.UpRef

open Cert.UpRefIdeal Cert.UpRefIdeal.Gen Idealize.ShloMosaic Idealize.SL.Sem
open Cert.Proof.Norm (up up_eq ms)

section Terms

variable (h : FVec Ideal S2x8448x4096 .f32) (g : FVec Ideal S2x4096 .f32) (w : FVec Ideal S2x4096x16384 .f32)

/-- The root mean square's reciprocal, one entry per row. -/
abbrev scaleT : FVec Ideal S2x8448x1 .f32 :=
  Host.rsqrt (addf (Host.divf (broadcastInDim S2x8448x1 ![0, 1] bcast_S2x8448_S2x8448x1_0_1 (Host.reduceAdd (mulf h h) (constant S_ .f32 0x00000000#32) reducesTo_S2x8448x4096_S2x8448_d2 h_S_)) (broadcastInDim S2x8448x1 ![] bcast_S_S2x8448x1 (constant S_ .f32 0x45800000#32))) (broadcastInDim S2x8448x1 ![] bcast_S_S2x8448x1 (constant S_ .f32 0x358637BD#32)))

theorem scaleT_apply (n : Fin 2) (p : Fin 8448) :
    scaleT h (ix3 n p 0) = Ideal.rsqrt (ms (∑ k : Fin 4096, h (ix3 n p k) * h (ix3 n p k))) := by
  unfold scaleT ms
  pointwise

/-- The normalised stream. -/
abbrev normT (s : FVec Ideal S2x8448x1 .f32) : FVec Ideal S2x8448x4096 .f32 :=
  mulf (mulf h (broadcastInDim S2x8448x4096 ![0, 1, 2] bcast_S2x8448x1_S2x8448x4096_0_1_2 s)) (broadcastInDim S2x8448x4096 ![0, 1, 2] bcast_S1x1x4096_S2x8448x4096_0_1_2 (broadcastInDim S1x1x4096 ![2] bcast_S4096_S1x1x4096_2 (shapeCast _ (extractStridedSlice S1x4096 ![0, 0] g slices_S2x4096_S1x4096_0_0) shapeCasts_S1x4096_S4096)))

theorem normT_apply (s : FVec Ideal S2x8448x1 .f32) (n : Fin 2) (p : Fin 8448) (k : Fin 4096) :
    normT h g s (ix3 n p k) = h (ix3 n p k) * s (ix3 n p 0) * g (ix2 0 k) := by
  unfold normT
  pointwise

/-- The rectified product. -/
abbrev reluT (x : FVec Ideal S2x8448x4096 .f32) : FVec Ideal S2x8448x16384 .f32 :=
  maximumf (Host.dotGeneral dot_S2x8448x4096_S4096x16384_S2x8448x16384_2_0_01_1_n_n none x (shapeCast _ (extractStridedSlice S1x4096x16384 ![0, 0, 0] w slices_S2x4096x16384_S1x4096x16384_0_0_0) shapeCasts_S1x4096x16384_S4096x16384)) (broadcastInDim S2x8448x16384 ![] bcast_S_S2x8448x16384 (constant S_ .f32 0x00000000#32))

theorem reluT_apply (x : FVec Ideal S2x8448x4096 .f32) (n : Fin 2) (p : Fin 8448) (j : Fin 16384) :
    reluT w x (ix3 n p j) = max (∑ k : Fin 4096, x (ix3 n p k) * w (ix3 0 k j)) 0 := by
  unfold reluT
  pointwise

/-- The result by flat rows. -/
abbrev flatT : FVec Ideal S16896x16384 .bf16 :=
  truncf .bf16 (shapeCast _ (mulf (reluT w (normT h g (scaleT h))) (reluT w (normT h g (scaleT h)))) shapeCasts_S2x8448x16384_S16896x16384) bitsLt_bf16_f32

/-- One row of a batched array. -/
abbrev rowOf (i : Fin 16896) (k : Fin 4096) : EReal :=
  h (ix3 (⟨i.val / 8448, by have := i.isLt; omega⟩ : Fin 2) (⟨i.val % 8448, by omega⟩ : Fin 8448) k)

theorem flatT_apply (i : S16896x16384.Idx) :
    flatT h g w i = up (rowOf h (i 0)) (fun k => g (ix2 0 k)) (fun k => w (ix3 0 k (i 1))) := by
  obtain ⟨r, l, rfl⟩ : ∃ (r : Fin 16896) (l : Fin 16384), i = ix2 r l := ⟨i 0, i 1, eq_ix2 i⟩
  have e : flatT h g w (ix2 r l)
      = reluT w (normT h g (scaleT h)) (ix3 (⟨r.val / 8448, by have := r.isLt; omega⟩ : Fin 2) (⟨r.val % 8448, by omega⟩ : Fin 8448) l)
        * reluT w (normT h g (scaleT h)) (ix3 (⟨r.val / 8448, by have := r.isLt; omega⟩ : Fin 2) (⟨r.val % 8448, by omega⟩ : Fin 8448) l) := by
    unfold flatT
    generalize reluT w (normT h g (scaleT h)) = q
    pointwise
  rw [e, reluT_apply]
  simp only [normT_apply, scaleT_apply]
  exact up_eq _ _ _

end Terms

section Casts

theorem down_apply (x : FVec Ideal S2x16384x4096 .f32) (i : S16384x4096.Idx) :
    (truncf .bf16 (shapeCast _ (extractStridedSlice S1x16384x4096 ![0, 0, 0] x slices_S2x16384x4096_S1x16384x4096_0_0_0) shapeCasts_S1x16384x4096_S16384x4096) bitsLt_bf16_f32 : FVec Ideal S16384x4096 .bf16) i = x (ix3 0 (i 0) (i 1)) := by
  obtain ⟨r, l, rfl⟩ : ∃ (r : Fin 16384) (l : Fin 4096), i = ix2 r l := ⟨i 0, i 1, eq_ix2 i⟩
  pointwise

theorem glu_apply (x : FVec Ideal S1x4096x8192 .f32) (i : S4096x8192.Idx) :
    (truncf .bf16 (shapeCast _ x shapeCasts_S1x4096x8192_S4096x8192) bitsLt_bf16_f32 : FVec Ideal S4096x8192 .bf16) i = x (ix3 0 (i 0) (i 1)) := by
  obtain ⟨r, l, rfl⟩ : ∃ (r : Fin 4096) (l : Fin 8192), i = ix2 r l := ⟨i 0, i 1, eq_ix2 i⟩
  pointwise

theorem gained_apply (x : FVec Ideal S2x4096x16384 .f32) (g : FVec Ideal S2x4096 .f32) (i : S4096x16384.Idx) :
    (truncf .bf16 (mulf (shapeCast _ (extractStridedSlice S1x4096x16384 ![1, 0, 0] x slices_S2x4096x16384_S1x4096x16384_1_0_0) shapeCasts_S1x4096x16384_S4096x16384) (broadcastInDim S4096x16384 ![0, 1] bcast_S4096x1_S4096x16384_0_1 (broadcastInDim S4096x1 ![0] bcast_S4096_S4096x1_0 (shapeCast _ (extractStridedSlice S1x4096 ![1, 0] g slices_S2x4096_S1x4096_1_0) shapeCasts_S1x4096_S4096)))) bitsLt_bf16_f32 : FVec Ideal S4096x16384 .bf16) i = x (ix3 1 (i 0) (i 1)) * g (ix2 1 (i 0)) := by
  obtain ⟨r, l, rfl⟩ : ∃ (r : Fin 4096) (l : Fin 16384), i = ix2 r l := ⟨i 0, i 1, eq_ix2 i⟩
  pointwise

end Casts

variable (m : (ℓ : Loc nD τ sig) → Buf (Elt Ideal) ℓ)

/-- The result at row `i`, column `j`, as the reference's arguments give it. -/
abbrev fv (c : Dev nD) (i : Fin 16896) (j : Fin 16384) : EReal :=
  up (rowOf (m ((c.tc : Thread nD τ).loc main_arg0)) i) (fun k => m ((c.tc : Thread nD τ).loc main_arg1) (ix2 0 k))
    (fun k => m ((c.tc : Thread nD τ).loc main_arg2) (ix3 0 k j))
abbrev downv (c : Dev nD) (i : Fin 16384) (j : Fin 4096) : EReal := m ((c.tc : Thread nD τ).loc main_arg3) (ix3 0 i j)
abbrev gluv (c : Dev nD) (i : Fin 4096) (j : Fin 8192) : EReal := m ((c.tc : Thread nD τ).loc main_arg4) (ix3 0 i j)
abbrev gainedw (c : Dev nD) (i : Fin 4096) (j : Fin 16384) : EReal := m ((c.tc : Thread nD τ).loc main_arg2) (ix3 1 i j)
abbrev gainedg (c : Dev nD) (i : Fin 4096) : EReal := m ((c.tc : Thread nD τ).loc main_arg1) (ix2 1 i)
abbrev gainedv (c : Dev nD) (i : Fin 4096) (j : Fin 16384) : EReal := gainedw m c i j * gainedg m c i

theorem run_values (ρ : Dev nD → PrngReg) :
    θ_run defs (onTc (τ := τ) (main (F := Ideal))) ⟨m, fun _ => 0, ρ⟩ fun r => ∀ c : Dev nD,
      (r.2.mem ((c.tc : Thread nD τ).loc main_v21) = fun i : S16896x16384.Idx => fv m c (i 0) (i 1))
      ∧ (r.2.mem ((c.tc : Thread nD τ).loc main_v24) = fun i : S16384x4096.Idx => downv m c (i 0) (i 1))
      ∧ (r.2.mem ((c.tc : Thread nD τ).loc main_v26) = fun i : S4096x8192.Idx => gluv m c (i 0) (i 1))
      ∧ (r.2.mem ((c.tc : Thread nD τ).loc main_v34) = fun i : S4096x16384.Idx => gainedv m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.UpRefIdeal.Value.run m ρ)
  obtain ⟨h1, h2, h3, h4, h5⟩ := h c
  refine ⟨h1.trans (funext fun i => ?_), h2.trans (funext fun i => ?_), h3.trans (funext fun i => ?_), h4.trans (funext fun i => ?_), h5⟩
  · exact flatT_apply _ _ _ i
  · exact down_apply _ i
  · exact glu_apply _ i
  · exact gained_apply _ _ i

end Cert.Proof.UpRef

end
-- ==== Proof.UpClaims.lean ====
/-
  The claims about the first layer's up-projection: the three frames, and the equality of its results with the reference's.
-/
module

public import proofs.«01_k».proof.Defs
public import proofs.«01_k».proof.Proof.Gen.Up.Frame
public import proofs.«01_k».proof.Proof.UpValue
public import proofs.«01_k».proof.Proof.UpRef
public import Idealize.ShloMosaic.Adequacy

@[expose] public section

set_option maxRecDepth 16384

noncomputable section

namespace Cert.Proof.Up

open Idealize.ShloMosaic Idealize.SL.Sem

/-- The call as it is executed at the machine's words ends with its arguments unchanged and every counter at zero. -/
theorem frame_call : Cert.quiescent_Up := fun m ρ _ => Cert.Up.Gen.frame m ρ

theorem frame_callIdeal : Cert.quiescent_UpIdeal := fun m ρ _ => Cert.UpIdeal.Gen.frame m ρ

theorem frame_reference : Cert.quiescent_UpRefIdeal := fun m ρ _ =>
  (θ_run Cert.UpRefIdeal.defs _ _).mono
    (fun r h => ⟨fun c => (h c).2.2.2.2, Idealize.ShloMosaic.sem_eq_zero_of_no_sems (by decide) r.2⟩)
    (Cert.Proof.UpRef.run_values m ρ)

/-- The call's results are the reference's. -/
theorem algebraic : Cert.algebraic_UpIdeal_UpRefIdeal := by
  intro m ρ m' ρ' _ hagree
  refine ⟨fun c i => fv m c (i 0) (i 1), fun c i => cv8 m c (i 0) (i 1), fun c i => cv9 m c (i 0) (i 1), fun c i => cv10 m c (i 0) (i 1),
    (θ_run Cert.UpIdeal.defs _ _).mono (fun r h c => ?_) (Cert.UpIdeal.Value.run_blocks m ρ),
    (θ_run Cert.UpRefIdeal.defs _ _).mono (fun r h c => ?_) (Cert.Proof.UpRef.run_values m' ρ')⟩
  · obtain ⟨h0, h1, h2, h3, h4⟩ := h c
    exact ⟨h0.trans (out_f m c), h1.trans (out_cast8 m c), h2.trans (out_cast9 m c), h3.trans (out_cast10 m c), h4⟩
  · obtain ⟨h0, h1, h2, h3, h4⟩ := h c
    obtain ⟨a0, a1, a2, a3, a4⟩ := hagree c
    have e0 : Cert.Proof.UpRef.fv m' c = fv m c := by
      unfold Cert.Proof.UpRef.fv fv Cert.Proof.UpRef.rowOf hrow gain wcol
      rw [a0, a1, a2]
    have e1 : Cert.Proof.UpRef.downv m' c = cv8 m c := by
      unfold Cert.Proof.UpRef.downv cv8 src8
      rw [a3]
    have e2 : Cert.Proof.UpRef.gluv m' c = cv9 m c := by
      unfold Cert.Proof.UpRef.gluv cv9 src9
      rw [a4]
    have e3 : Cert.Proof.UpRef.gainedv m' c = cv10 m c := by
      unfold Cert.Proof.UpRef.gainedv Cert.Proof.UpRef.gainedw Cert.Proof.UpRef.gainedg cv10 src10 gain10
      rw [a1, a2]
    rw [e0] at h0
    rw [e1] at h1
    rw [e2] at h2
    rw [e3] at h3
    exact ⟨h0, h1, h2, h3, h4⟩

end Cert.Proof.Up

end
-- ==== Proof.SumMath.lean ====
/-
  Sums regrouped: a row's columns by panels, a run's points by column blocks.
-/
module

public import Idealize.ShloMosaic.Lib.Pipeline.ValueKit

@[expose] public section

noncomputable section

namespace Cert.Proof.Sums

/-- A thousand and twenty-four terms, by four panels of two hundred and fifty-six. -/
theorem four_panels (g : Fin 1024 → EReal) :
    (∑ l : Fin 1024, g l) = (∑ l : Fin 256, g ⟨0 + l.val, by have := l.isLt; omega⟩) + (∑ l : Fin 256, g ⟨256 + l.val, by have := l.isLt; omega⟩)
      + (∑ l : Fin 256, g ⟨512 + l.val, by have := l.isLt; omega⟩) + (∑ l : Fin 256, g ⟨768 + l.val, by have := l.isLt; omega⟩) := by
  rw [← Fin.sum_mul_add_congr (S := 4) (n := 256) (f := g) (F := fun s k => g ⟨s.val * 256 + k.val, by have := s.isLt; have := k.isLt; omega⟩)
    (fun s k hl => rfl), Fin.sum_univ_four]
  rfl

/-- Sixteen terms of which only every fourth counts. -/
theorem every_fourth (g : Fin 16 → EReal) (h : ∀ s : Fin 16, ¬s.val % 4 = 3 → g s = 0) :
    (∑ s : Fin 16, g s) = ∑ q : Fin 4, g ⟨q.val * 4 + 3, by have := q.isLt; omega⟩ := by
  rw [← Fin.sum_mul_add_congr (S := 4) (n := 4) (f := g) (F := fun s k => g ⟨s.val * 4 + k.val, by have := s.isLt; have := k.isLt; omega⟩)
    (fun s k hl => rfl)]
  refine Finset.sum_congr rfl fun q _ => ?_
  have z : ∀ k : Fin 4, ¬k.val = 3 → g ⟨q.val * 4 + k.val, by have := q.isLt; have := k.isLt; omega⟩ = 0 := fun k hk =>
    h _ (by show ¬(q.val * 4 + k.val) % 4 = 3; have := k.isLt; omega)
  rw [Fin.sum_univ_four, z 0 (by decide), z 1 (by decide), z 2 (by decide), zero_add, zero_add, zero_add]
  rfl

end Cert.Proof.Sums

end
-- ==== Proof.DownValue.lean ====
/-
  The down-projection added onto the stream: the accumulated tile, its copy and its row sums, each as one function of the arguments.
-/
module

public import proofs.«01_k».proof.Proof.Gen.DownIdeal.Value
public import proofs.«01_k».proof.Proof.SumMath
public import Idealize.ShloMosaic.Lib.Pipeline.ValueKit
public import Idealize.ShloMosaic.Lib.Pointwise

@[expose] public section

set_option maxRecDepth 16384

noncomputable section

namespace Cert.Proof.Down

open Cert.DownIdeal Cert.DownIdeal.Gen Idealize.ShloMosaic Idealize.ShloMosaic.TcCoe Idealize.SL.Sem
open Idealize.ShloMosaic.Pipeline (Dat)

/-! ## One point's work on its tile -/

section Tile

variable (a : Vec Ideal S768x1024 .f32) (x0 : Vec Ideal S768x4096 .bf16) (x1 : Vec Ideal S4096x1024 .bf16)

/-- Row `r`, column `l` of the tile: what was there, plus the product. -/
def step (r : Fin 768) (l : Fin 1024) : EReal := a (ix2 r l) + ∑ k : Fin 4096, x0 (ix2 r k) * x1 (ix2 k l)

/-- A panel of the tile's columns as it is loaded. -/
abbrev la0 : FVec Ideal S768x256 .f32 := View.ld a (Rect.unit ![0, 0] ![768, 256] inb_S768x1024_S768x256_0_0)
abbrev lw0 : FVec Ideal S4096x256 .bf16 := View.ld x1 (Rect.unit ![0, 0] ![4096, 256] inb_S4096x1024_S4096x256_0_0)
abbrev la1 : FVec Ideal S768x256 .f32 := View.ld a (Rect.unit ![0, 256] ![768, 256] inb_S768x1024_S768x256_0_256)
abbrev lw1 : FVec Ideal S4096x256 .bf16 := View.ld x1 (Rect.unit ![0, 256] ![4096, 256] inb_S4096x1024_S4096x256_0_256)
abbrev la2 : FVec Ideal S768x256 .f32 := View.ld a (Rect.unit ![0, 512] ![768, 256] inb_S768x1024_S768x256_0_512)
abbrev lw2 : FVec Ideal S4096x256 .bf16 := View.ld x1 (Rect.unit ![0, 512] ![4096, 256] inb_S4096x1024_S4096x256_0_512)
abbrev la3 : FVec Ideal S768x256 .f32 := View.ld a (Rect.unit ![0, 768] ![768, 256] inb_S768x1024_S768x256_0_768)
abbrev lw3 : FVec Ideal S4096x256 .bf16 := View.ld x1 (Rect.unit ![0, 768] ![4096, 256] inb_S4096x1024_S4096x256_0_768)

theorem panel_A0 (r : Fin 768) (l : Fin 256) :
    (k0_pay7 (la0 a) x0 (lw0 x1) : FVec Ideal S768x256 .f32) (ix2 r l) = step a x0 x1 r ⟨0 + l.val, by have := l.isLt; omega⟩ := by
  unfold step
  pointwise [k0_pay7, la0, lw0]

theorem panel_A1 (r : Fin 768) (l : Fin 256) :
    (k0_pay8 (la1 a) x0 (lw1 x1) : FVec Ideal S768x256 .f32) (ix2 r l) = step a x0 x1 r ⟨256 + l.val, by have := l.isLt; omega⟩ := by
  unfold step
  pointwise [k0_pay8, la1, lw1]

theorem panel_A2 (r : Fin 768) (l : Fin 256) :
    (k0_pay9 (la2 a) x0 (lw2 x1) : FVec Ideal S768x256 .f32) (ix2 r l) = step a x0 x1 r ⟨512 + l.val, by have := l.isLt; omega⟩ := by
  unfold step
  pointwise [k0_pay9, la2, lw2]

theorem panel_A3 (r : Fin 768) (l : Fin 256) :
    (k0_pay2 (la3 a) x0 (lw3 x1) : FVec Ideal S768x256 .f32) (ix2 r l) = step a x0 x1 r ⟨768 + l.val, by have := l.isLt; omega⟩ := by
  unfold step
  pointwise [k0_pay2, la3, lw3]

theorem canon_A (y : S768x1024.Idx) :
    View.canon (Val := Elt Ideal) (e := .f32)
      [⟨Rect.unit ![0, 768] ![768, 256] inb_S768x1024_S768x256_0_768, k0_pay2 (la3 a) x0 (lw3 x1)⟩, ⟨Rect.unit ![0, 512] ![768, 256] inb_S768x1024_S768x256_0_512, k0_pay9 (la2 a) x0 (lw2 x1)⟩, ⟨Rect.unit ![0, 256] ![768, 256] inb_S768x1024_S768x256_0_256, k0_pay8 (la1 a) x0 (lw1 x1)⟩, ⟨Rect.unit ![0, 0] ![768, 256] inb_S768x1024_S768x256_0_0, k0_pay7 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_A3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A0, show y 0 = r from Fin.ext h0, show y 1 = (⟨0 + l.val, by have := l.isLt; omega⟩ : Fin 1024) from Fin.ext (h1.trans (Nat.zero_add _).symm)]

theorem panel_B0 (r : Fin 768) (l : Fin 256) :
    (k0_pay10 (la0 a) x0 (lw0 x1) : FVec Ideal S768x256 .f32) (ix2 r l) = step a x0 x1 r ⟨0 + l.val, by have := l.isLt; omega⟩ := by
  unfold step
  pointwise [k0_pay10, la0, lw0]

theorem panel_B1 (r : Fin 768) (l : Fin 256) :
    (k0_pay11 (la1 a) x0 (lw1 x1) : FVec Ideal S768x256 .f32) (ix2 r l) = step a x0 x1 r ⟨256 + l.val, by have := l.isLt; omega⟩ := by
  unfold step
  pointwise [k0_pay11, la1, lw1]

theorem panel_B2 (r : Fin 768) (l : Fin 256) :
    (k0_pay12 (la2 a) x0 (lw2 x1) : FVec Ideal S768x256 .f32) (ix2 r l) = step a x0 x1 r ⟨512 + l.val, by have := l.isLt; omega⟩ := by
  unfold step
  pointwise [k0_pay12, la2, lw2]

theorem panel_B3 (r : Fin 768) (l : Fin 256) :
    (k0_pay3 (la3 a) x0 (lw3 x1) : FVec Ideal S768x256 .f32) (ix2 r l) = step a x0 x1 r ⟨768 + l.val, by have := l.isLt; omega⟩ := by
  unfold step
  pointwise [k0_pay3, la3, lw3]

theorem canon_B (y : S768x1024.Idx) :
    View.canon (Val := Elt Ideal) (e := .f32)
      [⟨Rect.unit ![0, 768] ![768, 256] inb_S768x1024_S768x256_0_768, k0_pay3 (la3 a) x0 (lw3 x1)⟩, ⟨Rect.unit ![0, 512] ![768, 256] inb_S768x1024_S768x256_0_512, k0_pay12 (la2 a) x0 (lw2 x1)⟩, ⟨Rect.unit ![0, 256] ![768, 256] inb_S768x1024_S768x256_0_256, k0_pay11 (la1 a) x0 (lw1 x1)⟩, ⟨Rect.unit ![0, 0] ![768, 256] inb_S768x1024_S768x256_0_0, k0_pay10 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_B3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_B2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_B1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_B0, show y 0 = r from Fin.ext h0, show y 1 = (⟨0 + l.val, by have := l.isLt; omega⟩ : Fin 1024) from Fin.ext (h1.trans (Nat.zero_add _).symm)]

theorem panel_C0 (r : Fin 768) (l : Fin 256) :
    (k0_pay13 (la0 a) x0 (lw0 x1) : FVec Ideal S768x256 .f32) (ix2 r l) = step a x0 x1 r ⟨0 + l.val, by have := l.isLt; omega⟩ := by
  unfold step
  pointwise [k0_pay13, la0, lw0]

theorem panel_C1 (r : Fin 768) (l : Fin 256) :
    (k0_pay16 (la1 a) x0 (lw1 x1) : FVec Ideal S768x256 .f32) (ix2 r l) = step a x0 x1 r ⟨256 + l.val, by have := l.isLt; omega⟩ := by
  unfold step
  pointwise [k0_pay16, la1, lw1]

theorem panel_C2 (r : Fin 768) (l : Fin 256) :
    (k0_pay19 (la2 a) x0 (lw2 x1) : FVec Ideal S768x256 .f32) (ix2 r l) = step a x0 x1 r ⟨512 + l.val, by have := l.isLt; omega⟩ := by
  unfold step
  pointwise [k0_pay19, la2, lw2]

theorem panel_C3 (r : Fin 768) (l : Fin 256) :
    (k0_pay4 (k0_pay22 (la3 a)) (k0_pay23 x0) (lw3 x1) : FVec Ideal S768x256 .f32) (ix2 r l) = step a x0 x1 r ⟨768 + l.val, by have := l.isLt; omega⟩ := by
  unfold step
  pointwise [k0_pay4, k0_pay22, k0_pay23, la3, lw3]

theorem canon_C (y : S768x1024.Idx) :
    View.canon (Val := Elt Ideal) (e := .f32)
      [⟨Rect.unit ![0, 768] ![768, 256] inb_S768x1024_S768x256_0_768, k0_pay4 (k0_pay22 (la3 a)) (k0_pay23 x0) (lw3 x1)⟩, ⟨Rect.unit ![0, 512] ![768, 256] inb_S768x1024_S768x256_0_512, k0_pay19 (la2 a) x0 (lw2 x1)⟩, ⟨Rect.unit ![0, 256] ![768, 256] inb_S768x1024_S768x256_0_256, k0_pay16 (la1 a) x0 (lw1 x1)⟩, ⟨Rect.unit ![0, 0] ![768, 256] inb_S768x1024_S768x256_0_0, k0_pay13 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_C3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_C2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_C1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_C0, show y 0 = r from Fin.ext h0, show y 1 = (⟨0 + l.val, by have := l.isLt; omega⟩ : Fin 1024) from Fin.ext (h1.trans (Nat.zero_add _).symm)]

theorem panel_S0 (r : Fin 768) (l : Fin 256) :
    (k0_pay14 (la0 a) x0 (lw0 x1) : FVec Ideal S768x256 .bf16) (ix2 r l) = step a x0 x1 r ⟨0 + l.val, by have := l.isLt; omega⟩ := by
  unfold step
  pointwise [k0_pay14, k0_pay13, la0, lw0]

theorem panel_S1 (r : Fin 768) (l : Fin 256) :
    (k0_pay17 (la1 a) x0 (lw1 x1) : FVec Ideal S768x256 .bf16) (ix2 r l) = step a x0 x1 r ⟨256 + l.val, by have := l.isLt; omega⟩ := by
  unfold step
  pointwise [k0_pay17, k0_pay16, la1, lw1]

theorem panel_S2 (r : Fin 768) (l : Fin 256) :
    (k0_pay20 (la2 a) x0 (lw2 x1) : FVec Ideal S768x256 .bf16) (ix2 r l) = step a x0 x1 r ⟨512 + l.val, by have := l.isLt; omega⟩ := by
  unfold step
  pointwise [k0_pay20, k0_pay19, la2, lw2]

theorem panel_S3 (r : Fin 768) (l : Fin 256) :
    (k0_pay5 (k0_pay22 (la3 a)) (k0_pay23 x0) (lw3 x1) : FVec Ideal S768x256 .bf16) (ix2 r l) = step a x0 x1 r ⟨768 + l.val, by have := l.isLt; omega⟩ := by
  unfold step
  pointwise [k0_pay5, k0_pay4, k0_pay22, k0_pay23, la3, lw3]

theorem canon_S (y : S768x1024.Idx) :
    View.canon (Val := Elt Ideal) (e := .bf16)
      [⟨Rect.unit ![0, 768] ![768, 256] inb_S768x1024_S768x256_0_768, k0_pay5 (k0_pay22 (la3 a)) (k0_pay23 x0) (lw3 x1)⟩, ⟨Rect.unit ![0, 512] ![768, 256] inb_S768x1024_S768x256_0_512, k0_pay20 (la2 a) x0 (lw2 x1)⟩, ⟨Rect.unit ![0, 256] ![768, 256] inb_S768x1024_S768x256_0_256, k0_pay17 (la1 a) x0 (lw1 x1)⟩, ⟨Rect.unit ![0, 0] ![768, 256] inb_S768x1024_S768x256_0_0, k0_pay14 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_S3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S0, show y 0 = r from Fin.ext h0, show y 1 = (⟨0 + l.val, by have := l.isLt; omega⟩ : Fin 1024) from Fin.ext (h1.trans (Nat.zero_add _).symm)]

theorem square0 (v : Vec Ideal S768x256 .f32) (x : Vec Ideal S768x4096 .bf16) (w : Vec Ideal S4096x256 .bf16) (b : Vec Ideal S768x1 .f32) (r : Fin 768) (u : Fin 1) :
    (k0_pay15 v x w b : FVec Ideal S768x1 .f32) (ix2 r u) = b (ix2 r u) + ∑ l : Fin 256, (k0_pay13 v x w) (ix2 r l) * (k0_pay13 v x w) (ix2 r l) := by
  unfold k0_pay15
  generalize (k0_pay13 v x w) = q
  pointwise

theorem square1 (q : FVec Ideal S768x256 .f32) (b : Vec Ideal S768x1 .f32) (r : Fin 768) (u : Fin 1) :
    (k0_pay18 q b : FVec Ideal S768x1 .f32) (ix2 r u) = b (ix2 r u) + ∑ l : Fin 256, q (ix2 r l) * q (ix2 r l) := by
  pointwise [k0_pay18]

theorem square2 (v : Vec Ideal S768x256 .f32) (x : Vec Ideal S768x4096 .bf16) (w : Vec Ideal S4096x256 .bf16) (b : Vec Ideal S768x1 .f32) (r : Fin 768) (u : Fin 1) :
    (k0_pay21 v x w b : FVec Ideal S768x1 .f32) (ix2 r u) = b (ix2 r u) + ∑ l : Fin 256, (k0_pay19 v x w) (ix2 r l) * (k0_pay19 v x w) (ix2 r l) := by
  unfold k0_pay21
  generalize (k0_pay19 v x w) = q
  pointwise

theorem square3 (v : Vec Ideal S768x256 .f32) (x : Vec Ideal S768x4096 .bf16) (w : Vec Ideal S4096x256 .bf16) (b : Vec Ideal S768x1 .f32) (r : Fin 768) (u : Fin 1) :
    (k0_pay6 v x w b : FVec Ideal S768x1 .f32) (ix2 r u) = b (ix2 r u) + ∑ l : Fin 256, (k0_pay4 v x w) (ix2 r l) * (k0_pay4 v x w) (ix2 r l) := by
  unfold k0_pay6
  generalize (k0_pay4 v x w) = q
  pointwise

/-- The squares of the tile's row `r`, added up. -/
def stepSq (r : Fin 768) : EReal := ∑ l : Fin 1024, step a x0 x1 r l * step a x0 x1 r l

/-- The four panels' row sums added onto `b` one after the other add the tile's. -/
theorem squares (b : Vec Ideal S768x1 .f32) (y : S768x1.Idx) :
    (k0_pay6 (k0_pay22 (la3 a)) (k0_pay23 x0) (lw3 x1) (k0_pay21 (la2 a) x0 (lw2 x1) (k0_pay18 (k0_pay16 (la1 a) x0 (lw1 x1)) (k0_pay15 (la0 a) x0 (lw0 x1) b))) : FVec Ideal S768x1 .f32) y = b y + stepSq a x0 x1 (y 0) := by
  obtain ⟨r, u, rfl⟩ : ∃ (r : Fin 768) (u : Fin 1), y = ix2 r u := ⟨y 0, y 1, eq_ix2 y⟩
  unfold stepSq
  rw [Sums.four_panels, square3, square2, square1, square0]
  simp only [panel_C0, panel_C1, panel_C2, panel_C3]
  rw [add_assoc, add_assoc, add_assoc, add_assoc, add_assoc]
  rfl

end Tile

variable (m : (ℓ : Loc nD τ sig) → Buf (Elt Ideal) ℓ)

/-! ## Where each window's block lies at grid point `t` -/

theorem idx0 : ∀ t : Fin cfg0.N, (cfg0.win 0).index t = ![t.val / 16, t.val % 4] :=
  (by decide +kernel : ∀ t : Fin grid0.N, win0_0.index t = ![t.val / 16, t.val % 4])
theorem idx1 : ∀ t : Fin cfg0.N, (cfg0.win 1).index t = ![t.val % 4, t.val / 4 % 4] :=
  (by decide +kernel : ∀ t : Fin grid0.N, win0_1.index t = ![t.val % 4, t.val / 4 % 4])
theorem idx2 : ∀ t : Fin cfg0.N, (cfg0.win 2).index t = ![t.val / 16, t.val / 4 % 4] :=
  (by decide +kernel : ∀ t : Fin grid0.N, win0_2.index t = ![t.val / 16, t.val / 4 % 4])
theorem idx3 : ∀ t : Fin cfg0.N, (cfg0.win 3).index t = ![t.val / 16, t.val / 4 % 4] :=
  (by decide +kernel : ∀ t : Fin grid0.N, win0_3.index t = ![t.val / 16, t.val / 4 % 4])
theorem idx4 : ∀ t : Fin cfg0.N, (cfg0.win 4).index t = ![t.val / 16, t.val / 4 % 4] :=
  (by decide +kernel : ∀ t : Fin grid0.N, win0_4.index t = ![t.val / 16, t.val / 4 % 4])
theorem idx5 : ∀ t : Fin cfg0.N, (cfg0.win 5).index t = ![t.val / 16, 0] :=
  (by decide +kernel : ∀ t : Fin grid0.N, win0_5.index t = ![t.val / 16, 0])

/-- The flat row a tile's row `r` is at point `t`. -/
abbrev row (t : Fin cfg0.N) (r : Fin 768) : Fin 16896 :=
  ⟨t.val / 16 * 768 + r.val, by have h : t.val < 352 := lt_of_lt_of_eq t.isLt N_0; have := r.isLt; omega⟩
/-- The column a tile's column `l` is at point `t`. -/
abbrev col (t : Fin cfg0.N) (l : Fin 1024) : Fin 4096 :=
  ⟨t.val / 4 % 4 * 1024 + l.val, by have := l.isLt; omega⟩
/-- The contracted place the blocks' place `k` is at point `t`. -/
abbrev mid (t : Fin cfg0.N) (k : Fin 4096) : Fin 16384 :=
  ⟨t.val % 4 * 4096 + k.val, by have := k.isLt; omega⟩

/-- The arguments' entries. -/
abbrev arow (c : Dev nD) (i : Fin 16896) (k : Fin 16384) : EReal :=
  m ((c.tc : Thread nD τ).loc main_arg0) (ix3 (⟨i.val / 8448, by have := i.isLt; omega⟩ : Fin 2) (⟨i.val % 8448, by omega⟩ : Fin 8448) k)
abbrev wcol (c : Dev nD) (j : Fin 4096) (k : Fin 16384) : EReal := m ((c.tc : Thread nD τ).loc main_arg1) (ix3 0 k j)
abbrev res (c : Dev nD) (i : Fin 16896) (j : Fin 4096) : EReal :=
  m ((c.tc : Thread nD τ).loc main_arg2) (ix3 (⟨i.val / 8448, by have := i.isLt; omega⟩ : Fin 2) (⟨i.val % 8448, by omega⟩ : Fin 8448) j)

/-- The stream after the addition, as the arguments give it. -/
abbrev hv (c : Dev nD) (i : Fin 16896) (j : Fin 4096) : EReal := res m c i j + ∑ k : Fin 16384, arow m c i k * wcol m c j k

theorem blk_a (c : Dev nD) (t : Fin cfg0.N) (r : Fin 768) (k : Fin 4096) : iblk m c 0 t (ix2 r k) = arow m c (row t r) (mid t k) := by
  have h : t.val < 352 := lt_of_lt_of_eq t.isLt N_0
  blk_simp [iblk, idx0]
  entry_read
  pointwise
  blk_ext [idx0 t]

theorem blk_w (c : Dev nD) (t : Fin cfg0.N) (k : Fin 4096) (l : Fin 1024) : iblk m c 1 t (ix2 k l) = wcol m c (col t l) (mid t k) := by
  have h : t.val < 352 := lt_of_lt_of_eq t.isLt N_0
  blk_simp [iblk, idx1]
  entry_read
  pointwise
  blk_ext [idx1 t]

theorem blk_r (c : Dev nD) (t : Fin cfg0.N) (r : Fin 768) (l : Fin 1024) : iblk m c 2 t (ix2 r l) = res m c (row t r) (col t l) := by
  have h : t.val < 352 := lt_of_lt_of_eq t.isLt N_0
  blk_simp [iblk, idx2]
  entry_read
  pointwise
  blk_ext [idx2 t]

/-- What point `t` adds to the tile. -/
def part (c : Dev nD) (t : Fin cfg0.N) (r : Fin 768) (l : Fin 1024) : EReal :=
  ∑ k : Fin 4096, arow m c (row t r) (mid t k) * wcol m c (col t l) (mid t k)

theorem step_eq (c : Dev nD) (t : Fin cfg0.N) (a : Vec Ideal S768x1024 .f32) (r : Fin 768) (l : Fin 1024) :
    step a (iblk m c 0 t) (iblk m c 1 t) r l = a (ix2 r l) + part m c t r l := by
  unfold step part
  simp only [blk_a, blk_w]

/-! ## The tile after each point -/

/-- What point `t` adds, the stream's own entries counted with a tile's first point. -/
def term (c : Dev nD) (t : Fin cfg0.N) (y : S768x1024.Idx) : EReal :=
  (if t.val % 4 = 0 then res m c (row t (y 0)) (col t (y 1)) else 0) + part m c t (y 0) (y 1)

theorem acc_reset (c : Dev nD) (t : Fin cfg0.N) (hk : t.val % 4 = 0) (y : S768x1024.Idx) :
    (outsAt0 m c t.val t.isLt).1 y = 0 + term m c t y := by
  have e : step (iblk m c 2 t) (iblk m c 0 t) (iblk m c 1 t) (y 0) (y 1) = 0 + term m c t y := by
    unfold term
    rw [step_eq m c t (iblk m c 2 t) (y 0) (y 1), if_pos hk, zero_add, blk_r m c t (y 0) (y 1)]
  refine Eq.trans ?_ e
  by_cases h0 : t.val % 16 = 0
  · rw [outsAt0_A m c t h0 hk (by omega) (by omega)]
    frame_out
    exact canon_A _ _ _ y
  · rw [outsAt0_D m c t h0 hk (by omega) (by omega)]
    frame_out
    exact canon_A _ _ _ y

theorem acc_step (c : Dev nD) (t : Fin cfg0.N) (hk : ¬t.val % 4 = 0) (y : S768x1024.Idx) :
    (outsAt0 m c t.val t.isLt).1 y = (outsAt0 m c (t.val - 1) (Nat.lt_of_le_of_lt (Nat.sub_le _ _) t.isLt)).1 y + term m c t y := by
  have e : step (outsAt0 m c (t.val - 1) (Nat.lt_of_le_of_lt (Nat.sub_le _ _) t.isLt)).1 (iblk m c 0 t) (iblk m c 1 t) (y 0) (y 1) = (outsAt0 m c (t.val - 1) (Nat.lt_of_le_of_lt (Nat.sub_le _ _) t.isLt)).1 y + term m c t y := by
    unfold term
    rw [step_eq m c t _ (y 0) (y 1), if_neg hk, zero_add, ← eq_ix2 y]
  refine Eq.trans ?_ e
  by_cases h3 : t.val % 4 = 3
  · rw [outsAt0_C m c t (by omega) hk (by omega) h3]
    frame_out
    exact canon_C _ _ _ y
  · rw [outsAt0_B m c t (by omega) hk (by omega) h3]
    frame_out
    exact canon_B _ _ _ y

theorem acc_eq (c : Dev nD) (t : Fin cfg0.N) (h3 : t.val % 4 = 3) (y : S768x1024.Idx) :
    (outsAt0 m c t.val t.isLt).1 y = hv m c (row t (y 0)) (col t (y 1)) := by
  refine (Pipeline.eq_sum_fin_of_reset_step_apply_of_flush (fun n h => (outsAt0 m c n h).1) 4 (fun _ => (0 : EReal))
    (fun t y => term m c t y) (fun t h y => acc_reset m c t h y) (fun t h y => acc_step m c t h y) t h3 y).trans ?_
  have er : ∀ s : Fin 4, row ⟨4 * (t.val / 4) + s.val, Pipeline.run_point_lt_of_flush t h3 s⟩ (y 0) = row t (y 0) := fun s => by
    apply Fin.ext; show (4 * (t.val / 4) + s.val) / 16 * 768 + _ = t.val / 16 * 768 + _; have := s.isLt; omega
  have ec : ∀ s : Fin 4, col ⟨4 * (t.val / 4) + s.val, Pipeline.run_point_lt_of_flush t h3 s⟩ (y 1) = col t (y 1) := fun s => by
    apply Fin.ext; show (4 * (t.val / 4) + s.val) / 4 % 4 * 1024 + _ = t.val / 4 % 4 * 1024 + _
    rw [show (4 * (t.val / 4) + s.val) / 4 = t.val / 4 by have := s.isLt; omega]
  have ep : (∑ s : Fin 4, part m c ⟨4 * (t.val / 4) + s.val, Pipeline.run_point_lt_of_flush t h3 s⟩ (y 0) (y 1))
      = ∑ k : Fin 16384, arow m c (row t (y 0)) k * wcol m c (col t (y 1)) k := by
    unfold part
    refine Fin.sum_mul_add_congr fun s k hl => ?_
    have e2 : mid ⟨4 * (t.val / 4) + s.val, Pipeline.run_point_lt_of_flush t h3 s⟩ k = ⟨s.val * 4096 + k.val, hl⟩ := by
      apply Fin.ext; show (4 * (t.val / 4) + s.val) % 4 * 4096 + k.val = s.val * 4096 + k.val; rw [Nat.mul_add_mod, Nat.mod_eq_of_lt s.isLt]
    rw [er, ec, e2]
  have ei : (∑ s : Fin 4, if (4 * (t.val / 4) + s.val) % 4 = 0
      then res m c (row ⟨4 * (t.val / 4) + s.val, Pipeline.run_point_lt_of_flush t h3 s⟩ (y 0)) (col ⟨4 * (t.val / 4) + s.val, Pipeline.run_point_lt_of_flush t h3 s⟩ (y 1)) else (0 : EReal))
      = res m c (row t (y 0)) (col t (y 1)) := by
    have n : ∀ s : Fin 4, ¬s.val = 0 → ¬(4 * (t.val / 4) + s.val) % 4 = 0 := fun s hs => by have := s.isLt; omega
    rw [Fin.sum_univ_four, if_pos (show (4 * (t.val / 4) + (0 : Fin 4).val) % 4 = 0 by show (4 * (t.val / 4) + 0) % 4 = 0; omega),
      if_neg (n 1 (by decide)), if_neg (n 2 (by decide)), if_neg (n 3 (by decide)), add_zero, add_zero, add_zero, er, ec]
  rw [zero_add]
  unfold term
  rw [Finset.sum_add_distrib, ep]
  exact congrArg (· + _) ei

theorem copy_eq (c : Dev nD) (t : Fin cfg0.N) (h3 : t.val % 4 = 3) (y : S768x1024.Idx) :
    (outsAt0 m c t.val t.isLt).2.1 y = (outsAt0 m c t.val t.isLt).1 y := by
  rw [outsAt0_C m c t (by omega) (by omega) (by omega) h3]
  frame_out
  exact (canon_S _ _ _ y).trans (canon_C _ _ _ y).symm

/-! ## The arrays after the run -/

theorem out_h (c : Dev nD) : (dats m 0 c).arrAt 3 cfg0.N = fun i : S16896x4096.Idx => hv m c (i 0) (i 1) := by
  refine (dats m 0 c).arrAt_eq_of_covers 3 _ (by decide +kernel) fun t hf y => ?_
  blk_simp
  rw [after0_3]
  refine (acc_eq m c t ((flush0_3 t).mp hf) y).trans ?_
  have e0 : (row t (y 0) : Fin 16896) = ((View.whole main_v5_0).slice (win0_3.rect t)).emb y 0 := by
    refine Fin.ext (((win0_3.rect_emb_val t y 0).trans ?_).symm)
    rw [show win0_3.index t = _ from idx3 t]
    rfl
  have e1 : (col t (y 1) : Fin 4096) = ((View.whole main_v5_0).slice (win0_3.rect t)).emb y 1 := by
    refine Fin.ext (((win0_3.rect_emb_val t y 1).trans ?_).symm)
    rw [show win0_3.index t = _ from idx3 t]
    rfl
  exact congrArg₂ (hv m c) e0 e1

theorem out_short (c : Dev nD) : (dats m 0 c).arrAt 4 cfg0.N = fun i : S16896x4096.Idx => hv m c (i 0) (i 1) := by
  refine (dats m 0 c).arrAt_eq_of_covers 4 _ (by decide +kernel) fun t hf y => ?_
  blk_simp
  rw [after0_4]
  refine ((copy_eq m c t ((flush0_4 t).mp hf) y).trans (acc_eq m c t ((flush0_4 t).mp hf) y)).trans ?_
  have e0 : (row t (y 0) : Fin 16896) = ((View.whole main_v5_1).slice (win0_4.rect t)).emb y 0 := by
    refine Fin.ext (((win0_4.rect_emb_val t y 0).trans ?_).symm)
    rw [show win0_4.index t = _ from idx4 t]
    rfl
  have e1 : (col t (y 1) : Fin 4096) = ((View.whole main_v5_1).slice (win0_4.rect t)).emb y 1 := by
    refine Fin.ext (((win0_4.rect_emb_val t y 1).trans ?_).symm)
    rw [show win0_4.index t = _ from idx4 t]
    rfl
  exact congrArg₂ (hv m c) e0 e1

/-- What point `t` adds to row `r`'s sum of squares: the finished tile's squares, at its last point. -/
def sqTerm (c : Dev nD) (t : Fin cfg0.N) (y : S768x1.Idx) : EReal :=
  if t.val % 4 = 3 then ∑ l : Fin 1024, hv m c (row t (y 0)) (col t l) * hv m c (row t (y 0)) (col t l) else 0

theorem sum_reset (c : Dev nD) (t : Fin cfg0.N) (h0 : t.val % 16 = 0) (y : S768x1.Idx) :
    (outsAt0 m c t.val t.isLt).2.2 y = 0 + sqTerm m c t y := by
  unfold sqTerm
  rw [if_neg (show ¬t.val % 4 = 3 by omega), add_zero, outsAt0_A m c t h0 (by omega) (by omega) (by omega)]
  frame_out
  pointwise [k0_pay1]

theorem tile_last (c : Dev nD) (t : Fin cfg0.N) (h3 : t.val % 4 = 3) (y : S768x1024.Idx) :
    step (outsAt0 m c (t.val - 1) (Nat.lt_of_le_of_lt (Nat.sub_le _ _) t.isLt)).1 (iblk m c 0 t) (iblk m c 1 t) (y 0) (y 1) = hv m c (row t (y 0)) (col t (y 1)) := by
  refine Eq.trans ?_ (acc_eq m c t h3 y)
  rw [outsAt0_C m c t (by omega) (by omega) (by omega) h3]
  frame_out
  exact (canon_C _ _ _ y).symm

theorem sum_step (c : Dev nD) (t : Fin cfg0.N) (h0 : ¬t.val % 16 = 0) (y : S768x1.Idx) :
    (outsAt0 m c t.val t.isLt).2.2 y = (outsAt0 m c (t.val - 1) (Nat.lt_of_le_of_lt (Nat.sub_le _ _) t.isLt)).2.2 y + sqTerm m c t y := by
  unfold sqTerm
  by_cases h3 : t.val % 4 = 3
  · rw [if_pos h3, outsAt0_C m c t h0 (by omega) (by omega) h3]
    frame_out
    refine (squares _ _ _ _ y).trans (congrArg (_ + ·) ?_)
    unfold stepSq
    refine congrArg (fun f : Fin 1024 → EReal => ∑ k, f k) (funext fun l => ?_)
    have e := tile_last m c t h3 (ix2 (y 0) l)
    exact congrArg₂ (· * ·) e e
  · rw [if_neg h3, add_zero]
    by_cases hk : t.val % 4 = 0
    · rw [outsAt0_D m c t h0 hk (by omega) h3]
      rfl
    · rw [outsAt0_B m c t h0 hk (by omega) h3]
      rfl

theorem out_sum (c : Dev nD) : (dats m 0 c).arrAt 5 cfg0.N
    = fun i : S16896x1.Idx => ∑ j : Fin 4096, hv m c (i 0) j * hv m c (i 0) j := by
  refine (dats m 0 c).arrAt_eq_of_covers 5 _ (by decide +kernel) fun t hf y => ?_
  blk_simp
  rw [after0_5]
  have h15 : t.val % 16 = 15 := (flush0_5 t).mp hf
  have hN : t.val < 352 := lt_of_lt_of_eq t.isLt N_0
  refine (Pipeline.eq_sum_fin_of_reset_step_apply_of_flush (fun n h => (outsAt0 m c n h).2.2) 16 (fun _ => (0 : EReal))
    (fun t y => sqTerm m c t y) (fun t h y => sum_reset m c t h y) (fun t h y => sum_step m c t h y) t h15 y).trans ?_
  rw [zero_add]
  have er : ((View.whole main_v5_2).slice (win0_5.rect t)).emb y 0 = (row t (y 0) : Fin 16896) := by
    refine Fin.ext ((win0_5.rect_emb_val t y 0).trans ?_)
    rw [show win0_5.index t = _ from idx5 t]
    rfl
  show _ = ∑ j : Fin 4096, hv m c (((View.whole main_v5_2).slice (win0_5.rect t)).emb y 0) j * hv m c (((View.whole main_v5_2).slice (win0_5.rect t)).emb y 0) j
  rw [er]
  refine Eq.trans (Sums.every_fourth _ fun s hs => if_neg (show ¬(16 * (t.val / 16) + s.val) % 4 = 3 by omega)) ?_
  refine Eq.trans (Finset.sum_congr rfl fun q _ => if_pos (show (16 * (t.val / 16) + (q.val * 4 + 3)) % 4 = 3 by omega)) ?_
  refine Fin.sum_mul_add_congr fun s k hl => ?_
  have hs : s.val * 4 + 3 < 16 := by have := s.isLt; omega
  have e1 : row ⟨16 * (t.val / 16) + (s.val * 4 + 3), Pipeline.run_point_lt_of_flush t h15 ⟨s.val * 4 + 3, hs⟩⟩ (y 0) = row t (y 0) := by
    apply Fin.ext; show (16 * (t.val / 16) + (s.val * 4 + 3)) / 16 * 768 + _ = t.val / 16 * 768 + _
    rw [show (16 * (t.val / 16) + (s.val * 4 + 3)) / 16 = t.val / 16 by omega]
  have e2 : col ⟨16 * (t.val / 16) + (s.val * 4 + 3), Pipeline.run_point_lt_of_flush t h15 ⟨s.val * 4 + 3, hs⟩⟩ k = ⟨s.val * 1024 + k.val, hl⟩ := by
    apply Fin.ext; show (16 * (t.val / 16) + (s.val * 4 + 3)) / 4 % 4 * 1024 + k.val = s.val * 1024 + k.val
    rw [show (16 * (t.val / 16) + (s.val * 4 + 3)) / 4 % 4 = s.val by omega]
  exact congrArg₂ (fun i j => hv m c i j * hv m c i j) e1 e2

end Cert.Proof.Down

end
-- ==== Proof.DownRef.lean ====
/-
  The reference's run of the projection added onto the stream.
-/
module

public import proofs.«01_k».proof.Proof.Gen.DownRefIdeal.Run
public import Idealize.ShloMosaic.Lib.Pipeline.ValueKit
public import Idealize.ShloMosaic.Lib.Pointwise

@[expose] public section

set_option maxRecDepth 16384

noncomputable section

namespace Cert.Proof.DownRef

open Cert.DownRefIdeal Cert.DownRefIdeal.Gen Idealize.ShloMosaic Idealize.SL.Sem

section Terms

variable (a : FVec Ideal S2x8448x16384 .bf16) (w : FVec Ideal S2x16384x4096 .f32) (h : FVec Ideal S2x8448x4096 .f32)

/-- The stream with the product added, by batch entry. -/
abbrev addT : FVec Ideal S2x8448x4096 .f32 :=
  addf h (Host.dotGeneral dot_S2x8448x16384_S16384x4096_S2x8448x4096_2_0_01_1_n_n none (extf .f32 a bitsLt_bf16_f32) (shapeCast _ (extractStridedSlice S1x16384x4096 ![0, 0, 0] w slices_S2x16384x4096_S1x16384x4096_0_0_0) shapeCasts_S1x16384x4096_S16384x4096))

theorem addT_apply (n : Fin 2) (p : Fin 8448) (j : Fin 4096) :
    addT a w h (ix3 n p j) = h (ix3 n p j) + ∑ k : Fin 16384, a (ix3 n p k) * w (ix3 0 k j) := by
  unfold addT
  pointwise

/-- The same at a flat row. -/
abbrev hvT (i : Fin 16896) (j : Fin 4096) : EReal :=
  h (ix3 (⟨i.val / 8448, by have := i.isLt; omega⟩ : Fin 2) (⟨i.val % 8448, by omega⟩ : Fin 8448) j)
    + ∑ k : Fin 16384, a (ix3 (⟨i.val / 8448, by have := i.isLt; omega⟩ : Fin 2) (⟨i.val % 8448, by omega⟩ : Fin 8448) k) * w (ix3 0 k j)

/-- The stream by flat rows. -/
abbrev flatT : FVec Ideal S16896x4096 .f32 := shapeCast _ (addT a w h) shapeCasts_S2x8448x4096_S16896x4096

theorem flatT_apply (i : S16896x4096.Idx) : flatT a w h i = hvT a w h (i 0) (i 1) := by
  obtain ⟨r, l, rfl⟩ : ∃ (r : Fin 16896) (l : Fin 4096), i = ix2 r l := ⟨i 0, i 1, eq_ix2 i⟩
  have e : flatT a w h (ix2 r l) = addT a w h (ix3 (⟨r.val / 8448, by have := r.isLt; omega⟩ : Fin 2) (⟨r.val % 8448, by omega⟩ : Fin 8448) l) := by
    unfold flatT
    generalize addT a w h = g
    pointwise
  rw [e, addT_apply]
  rfl

theorem squares_apply (x : FVec Ideal S16896x4096 .f32) (i : S16896x1.Idx) :
    (broadcastInDim S16896x1 ![0] bcast_S16896_S16896x1_0
      (Host.reduceAdd (mulf x x) (constant S_ .f32 0x00000000#32) reducesTo_S16896x4096_S16896_d1 h_S_) : FVec Ideal S16896x1 .f32) i
      = ∑ j : Fin 4096, x (ix2 (i 0) j) * x (ix2 (i 0) j) := by
  obtain ⟨r, l, rfl⟩ : ∃ (r : Fin 16896) (l : Fin 1), i = ix2 r l := ⟨i 0, i 1, eq_ix2 i⟩
  pointwise

theorem sumT_apply (i : S16896x1.Idx) :
    (broadcastInDim S16896x1 ![0] bcast_S16896_S16896x1_0
      (Host.reduceAdd (mulf (flatT a w h) (flatT a w h)) (constant S_ .f32 0x00000000#32) reducesTo_S16896x4096_S16896_d1 h_S_) :
        FVec Ideal S16896x1 .f32) i
      = ∑ j : Fin 4096, hvT a w h (i 0) j * hvT a w h (i 0) j :=
  (squares_apply (flatT a w h) i).trans (Finset.sum_congr rfl fun j _ =>
    congrArg₂ (· * ·) (flatT_apply a w h (ix2 (i 0) j)) (flatT_apply a w h (ix2 (i 0) j)))

end Terms

variable (m : (ℓ : Loc nD τ sig) → Buf (Elt Ideal) ℓ)

/-- The stream after the addition, as the reference's arguments give it. -/
abbrev hv (c : Dev nD) : Fin 16896 → Fin 4096 → EReal :=
  hvT (m ((c.tc : Thread nD τ).loc main_arg0)) (m ((c.tc : Thread nD τ).loc main_arg1)) (m ((c.tc : Thread nD τ).loc main_arg2))

theorem run_values (ρ : Dev nD → PrngReg) :
    θ_run defs (onTc (τ := τ) (main (F := Ideal))) ⟨m, fun _ => 0, ρ⟩ fun r => ∀ c : Dev nD,
      (r.2.mem ((c.tc : Thread nD τ).loc main_v5) = fun i : S16896x4096.Idx => hv m c (i 0) (i 1))
      ∧ (r.2.mem ((c.tc : Thread nD τ).loc main_v6) = fun i : S16896x4096.Idx => hv m c (i 0) (i 1))
      ∧ (r.2.mem ((c.tc : Thread nD τ).loc main_v9) = fun i : S16896x1.Idx => ∑ j : Fin 4096, hv m c (i 0) j * hv m c (i 0) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.DownRefIdeal.Value.run m ρ)
  obtain ⟨h1, h2, h3, h4⟩ := h c
  refine ⟨h1.trans (funext fun i => ?_), h2.trans (funext fun i => ?_), h3.trans (funext fun i => ?_), h4⟩
  · exact flatT_apply _ _ _ i
  · exact flatT_apply _ _ _ i
  · exact sumT_apply _ _ _ i

end Cert.Proof.DownRef

end
-- ==== Proof.DownClaims.lean ====
/-
  The claims about the first layer's down-projection: the three frames, and the equality of its results with the reference's.
-/
module

public import proofs.«01_k».proof.Defs
public import proofs.«01_k».proof.Proof.Gen.Down.Frame
public import proofs.«01_k».proof.Proof.DownValue
public import proofs.«01_k».proof.Proof.DownRef
public import Idealize.ShloMosaic.Adequacy

@[expose] public section

set_option maxRecDepth 16384

noncomputable section

namespace Cert.Proof.Down

open Idealize.ShloMosaic Idealize.SL.Sem

/-- The call as it is executed at the machine's words ends with its arguments unchanged and every counter at zero. -/
theorem frame_call : Cert.quiescent_Down := fun m ρ _ => Cert.Down.Gen.frame m ρ

theorem frame_callIdeal : Cert.quiescent_DownIdeal := fun m ρ _ => Cert.DownIdeal.Gen.frame m ρ

theorem frame_reference : Cert.quiescent_DownRefIdeal := fun m ρ _ =>
  (θ_run Cert.DownRefIdeal.defs _ _).mono
    (fun r h => ⟨fun c => (h c).2.2.2, Idealize.ShloMosaic.sem_eq_zero_of_no_sems (by decide) r.2⟩)
    (Cert.Proof.DownRef.run_values m ρ)

/-- The call's results are the reference's. -/
theorem algebraic : Cert.algebraic_DownIdeal_DownRefIdeal := by
  intro m ρ m' ρ' _ hagree
  refine ⟨fun c i => hv m c (i 0) (i 1), fun c i => hv m c (i 0) (i 1), fun c i => (∑ j : Fin 4096, hv m c (i 0) j * hv m c (i 0) j : EReal),
    (θ_run Cert.DownIdeal.defs _ _).mono (fun r h c => ?_) (Cert.DownIdeal.Value.run_blocks m ρ),
    (θ_run Cert.DownRefIdeal.defs _ _).mono (fun r h c => ?_) (Cert.Proof.DownRef.run_values m' ρ')⟩
  · obtain ⟨h0, h1, h2, h3⟩ := h c
    exact ⟨h0.trans (out_h m c), h1.trans (out_short m c), h2.trans (out_sum m c), h3⟩
  · obtain ⟨h0, h1, h2, h3⟩ := h c
    obtain ⟨a0, a1, a2⟩ := hagree c
    have e0 : Cert.Proof.DownRef.hv m' c = hv m c := by
      unfold Cert.Proof.DownRef.hv Cert.Proof.DownRef.hvT hv res arow wcol
      rw [a0, a1, a2]
    rw [e0] at h0
    rw [e0] at h1
    rw [e0] at h2
    exact ⟨h0, h1, h2, h3⟩

end Cert.Proof.Down

end
-- ==== Proof.UpLastValue.lean ====
/-
  The squared-rectifier up-projection: the product's tiles and the cast weights, each as one function of the arguments.
-/
module

public import proofs.«01_k».proof.Proof.Gen.UpLastIdeal.Value
public import proofs.«01_k».proof.Proof.NormMath
public import Idealize.ShloMosaic.Lib.Pipeline.ValueKit
public import Idealize.ShloMosaic.Lib.Pointwise

@[expose] public section

set_option maxRecDepth 16384

noncomputable section

namespace Cert.Proof.UpLast

open Cert.UpLastIdeal Cert.UpLastIdeal.Gen Idealize.ShloMosaic Idealize.ShloMosaic.TcCoe Idealize.SL.Sem
open Idealize.ShloMosaic.Pipeline (Dat)
open Cert.Proof.Norm (up ms ms_mul)

/-! ## One tile of the product -/

section Tile

variable (x0 : Vec Ideal S1024x4096 .bf16) (x1 : Vec Ideal S4096x1024 .bf16) (x2 : Vec Ideal S1024x1 .f32)

/-- Row `r`, column `l` of the tile. -/
def tile (r : Fin 1024) (l : Fin 1024) : EReal :=
  max (∑ k : Fin 4096, x0 (ix2 r k) * x1 (ix2 k l)) 0 * max (∑ k : Fin 4096, x0 (ix2 r k) * x1 (ix2 k l)) 0
    * Ideal.div 1 (ms (x2 (ix2 r 0)))

theorem panel0 (r : Fin 1024) (l : Fin 256) :
    (k0_pay6 (View.ld x2 r0_0) (View.ld x0 r0_3) (View.ld x1 r0_4) : FVec Ideal S1024x256 .bf16) (ix2 r l)
      = tile x0 x1 x2 r ⟨0 + l.val, by have := l.isLt; omega⟩ := by
  unfold tile
  rw [← ms_mul]
  pointwise [k0_pay6, k0_pay4]

theorem panel1 (r : Fin 1024) (l : Fin 256) :
    (k0_pay1 (k0_pay4 (View.ld x2 r0_0)) (k0_pay7 (View.ld x0 r0_3) (View.ld x1 r0_6)) : FVec Ideal S1024x256 .bf16) (ix2 r l)
      = tile x0 x1 x2 r ⟨256 + l.val, by have := l.isLt; omega⟩ := by
  unfold tile
  rw [← ms_mul]
  pointwise [k0_pay1, k0_pay4, k0_pay7]

theorem panel2 (r : Fin 1024) (l : Fin 256) :
    (k0_pay2 (k0_pay4 (View.ld x2 r0_0)) (View.ld x0 r0_3) (View.ld x1 r0_8) : FVec Ideal S1024x256 .bf16) (ix2 r l)
      = tile x0 x1 x2 r ⟨512 + l.val, by have := l.isLt; omega⟩ := by
  unfold tile
  rw [← ms_mul]
  pointwise [k0_pay2, k0_pay4]

theorem panel3 (r : Fin 1024) (l : Fin 256) :
    (k0_pay3 (k0_pay4 (View.ld x2 r0_0)) (View.ld x0 r0_3) (View.ld x1 r0_10) : FVec Ideal S1024x256 .bf16) (ix2 r l)
      = tile x0 x1 x2 r ⟨768 + l.val, by have := l.isLt; omega⟩ := by
  unfold tile
  rw [← ms_mul]
  pointwise [k0_pay3, k0_pay4]

/-- The four panels stored into the staging buffer, read back at any place, are the tile. -/
theorem canon_tile (y : S1024x1024.Idx) :
    View.canon (Val := Elt Ideal) (e := .bf16)
      [⟨r0_11, k0_pay3 (k0_pay4 (View.ld x2 r0_0)) (View.ld x0 r0_3) (View.ld x1 r0_10)⟩, ⟨r0_9, k0_pay2 (k0_pay4 (View.ld x2 r0_0)) (View.ld x0 r0_3) (View.ld x1 r0_8)⟩, ⟨r0_7, k0_pay1 (k0_pay4 (View.ld x2 r0_0)) (k0_pay7 (View.ld x0 r0_3) (View.ld x1 r0_6))⟩, ⟨r0_5, k0_pay6 (View.ld x2 r0_0) (View.ld x0 r0_3) (View.ld x1 r0_4)⟩]
      y = tile x0 x1 x2 (y 0) (y 1) := by
  canon_tiles x h
  · obtain ⟨r, l, rfl⟩ : ∃ (r : Fin 1024) (l : Fin 256), x = ix2 r l := ⟨x 0, x 1, eq_ix2 x⟩
    rw [panel3, show y 0 = r from Fin.ext h0, show y 1 = (⟨768 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel2, show y 0 = r from Fin.ext h0, show y 1 = (⟨512 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel1, show y 0 = r from Fin.ext h0, show y 1 = (⟨256 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel0, show y 0 = r from Fin.ext h0, show y 1 = (⟨0 + l.val, by have := l.isLt; omega⟩ : Fin 1024) from Fin.ext (h1.trans (Nat.zero_add _).symm)]

end Tile

variable (m : (ℓ : Loc nD τ sig) → Buf (Elt Ideal) ℓ)

/-! ## Where each window's block lies at grid point `t` -/

theorem idx0 : ∀ t : Fin cfg0.N, (cfg0.win 0).index t = ![t.val / 16, 0] :=
  (by decide +kernel : ∀ t : Fin grid0.N, win0_0.index t = ![t.val / 16, 0])
theorem idx1 : ∀ t : Fin cfg0.N, (cfg0.win 1).index t = ![0, t.val % 16] :=
  (by decide +kernel : ∀ t : Fin grid0.N, win0_1.index t = ![0, t.val % 16])
theorem idx2 : ∀ t : Fin cfg0.N, (cfg0.win 2).index t = ![t.val / 16, 0] :=
  (by decide +kernel : ∀ t : Fin grid0.N, win0_2.index t = ![t.val / 16, 0])
theorem idx4 : ∀ t : Fin cfg0.N, (cfg0.win 4).index t = ![t.val / 16, t.val % 16] :=
  (by decide +kernel : ∀ t : Fin grid0.N, win0_4.index t = ![t.val / 16, t.val % 16])

/-- The flat row a tile's row `r` is at point `t`. -/
abbrev row (t : Fin cfg0.N) (r : Fin 1024) : Fin 16384 :=
  ⟨t.val / 16 * 1024 + r.val, by have h : t.val < 256 := lt_of_lt_of_eq t.isLt N_0; have := r.isLt; omega⟩
/-- The column a tile's column `l` is at point `t`. -/
abbrev col (t : Fin cfg0.N) (l : Fin 1024) : Fin 16384 :=
  ⟨t.val % 16 * 1024 + l.val, by have := l.isLt; omega⟩

/-- The arguments' entries the result depends on: the stream's row, the gain, the weights' column. -/
abbrev hrow (c : Dev nD) (i : Fin 16384) (k : Fin 4096) : EReal :=
  m ((c.tc : Thread nD τ).loc main_arg0) (ix3 (⟨i.val / 8192, by have := i.isLt; omega⟩ : Fin 2) (⟨i.val % 8192, by omega⟩ : Fin 8192) k)
abbrev gain (c : Dev nD) (k : Fin 4096) : EReal := m ((c.tc : Thread nD τ).loc main_arg1) (ix2 1 k)
abbrev wcol (c : Dev nD) (j : Fin 16384) (k : Fin 4096) : EReal := m ((c.tc : Thread nD τ).loc main_arg2) (ix3 1 k j)

/-! ## The input blocks, read off the arguments -/

theorem blk_h (c : Dev nD) (t : Fin cfg0.N) (r : Fin 1024) (k : Fin 4096) : iblk m c 0 t (ix2 r k) = hrow m c (row t r) k := by
  have h : t.val < 256 := lt_of_lt_of_eq t.isLt N_0
  blk_simp [iblk, idx0]
  entry_read
  pointwise
  blk_ext [idx0 t]

theorem blk_w (c : Dev nD) (t : Fin cfg0.N) (k : Fin 4096) (l : Fin 1024) :
    iblk m c 1 t (ix2 k l) = wcol m c (col t l) k * gain m c k := by
  have h : t.val < 256 := lt_of_lt_of_eq t.isLt N_0
  blk_simp [iblk, idx1]
  entry_read
  pointwise
  refine congrArg₂ (· * ·) (congrArg _ ?_) (congrArg _ ?_) <;> blk_ext [idx1 t]

theorem blk_s (c : Dev nD) (t : Fin cfg0.N) (r : Fin 1024) :
    iblk m c 2 t (ix2 r 0) = (∑ k : Fin 4096, hrow m c (row t r) k * hrow m c (row t r) k : EReal) := by
  have h : t.val < 256 := lt_of_lt_of_eq t.isLt N_0
  blk_simp [iblk, idx2]
  entry_read
  pointwise
  refine congrArg (fun f : Fin 4096 → EReal => ∑ k, f k) (funext fun k => congrArg₂ (· * ·) (congrArg _ ?_) (congrArg _ ?_)) <;> blk_ext [idx2 t]

/-- The product at row `i` and column `j`, as the arguments give it. -/
abbrev fv (c : Dev nD) (i : Fin 16384) (j : Fin 16384) : EReal := up (hrow m c i) (gain m c) (wcol m c j)

theorem tile_eq (c : Dev nD) (t : Fin cfg0.N) (r : Fin 1024) (l : Fin 1024) :
    tile (iblk m c 0 t) (iblk m c 1 t) (iblk m c 2 t) r l = fv m c (row t r) (col t l) := by
  unfold tile fv up
  simp only [blk_h, blk_w]
  rw [blk_s]

theorem written (c : Dev nD) (t : Fin cfg0.N) (y : S1024x1024.Idx) :
    tile (iblk m c 0 t) (iblk m c 1 t) (iblk m c 2 t) (y 0) (y 1)
      = fv m c (((View.whole main_v13_0).slice (win0_4.rect t)).emb y 0) (((View.whole main_v13_0).slice (win0_4.rect t)).emb y 1) := by
  refine (tile_eq m c t (y 0) (y 1)).trans ?_
  have e0 : (row t (y 0) : Fin 16384) = ((View.whole main_v13_0).slice (win0_4.rect t)).emb y 0 := by
    refine Fin.ext (((win0_4.rect_emb_val t y 0).trans ?_).symm)
    rw [show win0_4.index t = _ from idx4 t]
    rfl
  have e1 : (col t (y 1) : Fin 16384) = ((View.whole main_v13_0).slice (win0_4.rect t)).emb y 1 := by
    refine Fin.ext (((win0_4.rect_emb_val t y 1).trans ?_).symm)
    rw [show win0_4.index t = _ from idx4 t]
    rfl
  exact congrArg₂ (fv m c) e0 e1

/-! ## The arrays after the run -/

theorem out_f (c : Dev nD) : (dats m 0 c).arrAt 4 cfg0.N = fun i : S16384x16384.Idx => fv m c (i 0) (i 1) := by
  refine (dats m 0 c).arrAt_eq_of_covers 4 _ (by decide +kernel) fun t hf y => ?_
  blk_simp
  rw [after0_4]
  refine Eq.trans ?_ (written m c t y)
  unfold_out out0_4
  exact canon_tile _ _ _ y

theorem idx3 : ∀ t : Fin cfg0.N, (cfg0.win 3).index t = ![1, min t.val 255, 0] :=
  (by decide +kernel : ∀ t : Fin grid0.N, win0_3.index t = ![1, min t.val 255, 0])
theorem idx5 : ∀ t : Fin cfg0.N, (cfg0.win 5).index t = ![min t.val 255, 0] :=
  (by decide +kernel : ∀ t : Fin grid0.N, win0_5.index t = ![min t.val 255, 0])

/-- The weights cast along the way: row `i`, column `j`. -/
abbrev src5 (c : Dev nD) (i : Fin 16384) (j : Fin 4096) : EReal := m ((c.tc : Thread nD τ).loc main_arg3) (ix3 1 i j)
/-- What the run leaves there. -/
abbrev cv5 (c : Dev nD) (i : Fin 16384) (j : Fin 4096) : EReal := src5 m c i j
/-- The array's row a block's row is at point `t`. -/
abbrev row5 (t : Fin cfg0.N) (r : Fin 64) : Fin 16384 :=
  ⟨min t.val 255 * 64 + r.val, by have := r.isLt; omega⟩

theorem blk3 (c : Dev nD) (t : Fin cfg0.N) (r : Fin 64) (l : Fin 4096) :
    iblk m c 3 t (ix3 0 r l) = src5 m c (row5 t r) l := by
  blk_simp [iblk, idx3]
  entry_read
  refine congrArg _ ?_
  blk_ext [idx3 t]

theorem k0_pay5_apply (x : Vec Ideal S1x64x4096 .f32) (r : Fin 64) (l : Fin 4096) :
    (k0_pay5 x : FVec Ideal S64x4096 .bf16) (ix2 r l) = x (ix3 0 r l) := by
  pointwise [k0_pay5]

theorem out_cast5 (c : Dev nD) : (dats m 0 c).arrAt 5 cfg0.N
    = fun i : S16384x4096.Idx => cv5 m c (i 0) (i 1) := by
  refine (dats m 0 c).arrAt_eq_of_covers 5 _ (by decide +kernel) fun t hf y => ?_
  blk_simp
  rw [after0_5]
  frame_out
  obtain ⟨r, l, rfl⟩ : ∃ (r : Fin 64) (l : Fin 4096), y = ix2 r l := ⟨y 0, y 1, eq_ix2 y⟩
  refine (k0_pay5_apply _ r l).trans ?_
  rw [blk3]
  have e0 : (row5 t r : Fin 16384) = ((View.whole main_v13_1).slice (win0_5.rect t)).emb (ix2 r l) 0 := by
    refine Fin.ext (((win0_5.rect_emb_val t (ix2 r l) 0).trans ?_).symm)
    rw [show win0_5.index t = _ from idx5 t]
    rfl
  have e1 : (l : Fin 4096) = ((View.whole main_v13_1).slice (win0_5.rect t)).emb (ix2 r l) 1 := by
    refine Fin.ext (((win0_5.rect_emb_val t (ix2 r l) 1).trans ?_).symm)
    rw [show win0_5.index t = _ from idx5 t]
    exact (congrArg (· + l.val) (Nat.zero_mul 4096)).trans (Nat.zero_add l.val)
  exact congrArg₂ (cv5 m c) e0 e1

end Cert.Proof.UpLast

end
-- ==== Proof.UpLastRef.lean ====
/-
  The reference's run of the up-projection: the normalised stream's product, squared after the rectifier, and the cast weights.
-/
module

public import proofs.«01_k».proof.Proof.Gen.UpLastRefIdeal.Run
public import proofs.«01_k».proof.Proof.NormMath
public import Idealize.ShloMosaic.Lib.Pipeline.ValueKit
public import Idealize.ShloMosaic.Lib.Pointwise

@[expose] public section

set_option maxRecDepth 16384

noncomputable section

namespace Cert.Proof.UpLastRef

open Cert.UpLastRefIdeal Cert.UpLastRefIdeal.Gen Idealize.ShloMosaic Idealize.SL.Sem
open Cert.Proof.Norm (up up_eq ms)

section Terms

variable (h : FVec Ideal S2x8192x4096 .f32) (g : FVec Ideal S2x4096 .f32) (w : FVec Ideal S2x4096x16384 .f32)

/-- The root mean square's reciprocal, one entry per row. -/
abbrev scaleT : FVec Ideal S2x8192x1 .f32 :=
  Host.rsqrt (addf (Host.divf (broadcastInDim S2x8192x1 ![0, 1] bcast_S2x8192_S2x8192x1_0_1 (Host.reduceAdd (mulf h h) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))

theorem scaleT_apply (n : Fin 2) (p : Fin 8192) :
    scaleT h (ix3 n p 0) = Ideal.rsqrt (ms (∑ k : Fin 4096, h (ix3 n p k) * h (ix3 n p k))) := by
  unfold scaleT ms
  pointwise

/-- The normalised stream. -/
abbrev normT (s : FVec Ideal S2x8192x1 .f32) : FVec Ideal S2x8192x4096 .f32 :=
  mulf (mulf h (broadcastInDim S2x8192x4096 ![0, 1, 2] bcast_S2x8192x1_S2x8192x4096_0_1_2 s)) (broadcastInDim S2x8192x4096 ![0, 1, 2] bcast_S1x1x4096_S2x8192x4096_0_1_2 (broadcastInDim S1x1x4096 ![2] bcast_S4096_S1x1x4096_2 (shapeCast _ (extractStridedSlice S1x4096 ![1, 0] g slices_S2x4096_S1x4096_1_0) shapeCasts_S1x4096_S4096)))

theorem normT_apply (s : FVec Ideal S2x8192x1 .f32) (n : Fin 2) (p : Fin 8192) (k : Fin 4096) :
    normT h g s (ix3 n p k) = h (ix3 n p k) * s (ix3 n p 0) * g (ix2 1 k) := by
  unfold normT
  pointwise

/-- The rectified product. -/
abbrev reluT (x : FVec Ideal S2x8192x4096 .f32) : FVec Ideal S2x8192x16384 .f32 :=
  maximumf (Host.dotGeneral dot_S2x8192x4096_S4096x16384_S2x8192x16384_2_0_01_1_n_n none x (shapeCast _ (extractStridedSlice S1x4096x16384 ![1, 0, 0] w slices_S2x4096x16384_S1x4096x16384_1_0_0) shapeCasts_S1x4096x16384_S4096x16384)) (broadcastInDim S2x8192x16384 ![] bcast_S_S2x8192x16384 (constant S_ .f32 0x00000000#32))

theorem reluT_apply (x : FVec Ideal S2x8192x4096 .f32) (n : Fin 2) (p : Fin 8192) (j : Fin 16384) :
    reluT w x (ix3 n p j) = max (∑ k : Fin 4096, x (ix3 n p k) * w (ix3 1 k j)) 0 := by
  unfold reluT
  pointwise

/-- The result by flat rows. -/
abbrev flatT : FVec Ideal S16384x16384 .bf16 :=
  truncf .bf16 (shapeCast _ (mulf (reluT w (normT h g (scaleT h))) (reluT w (normT h g (scaleT h)))) shapeCasts_S2x8192x16384_S16384x16384) bitsLt_bf16_f32

/-- One row of a batched array. -/
abbrev rowOf (i : Fin 16384) (k : Fin 4096) : EReal :=
  h (ix3 (⟨i.val / 8192, by have := i.isLt; omega⟩ : Fin 2) (⟨i.val % 8192, by omega⟩ : Fin 8192) k)

theorem flatT_apply (i : S16384x16384.Idx) :
    flatT h g w i = up (rowOf h (i 0)) (fun k => g (ix2 1 k)) (fun k => w (ix3 1 k (i 1))) := by
  obtain ⟨r, l, rfl⟩ : ∃ (r : Fin 16384) (l : Fin 16384), i = ix2 r l := ⟨i 0, i 1, eq_ix2 i⟩
  have e : flatT h g w (ix2 r l)
      = reluT w (normT h g (scaleT h)) (ix3 (⟨r.val / 8192, by have := r.isLt; omega⟩ : Fin 2) (⟨r.val % 8192, by omega⟩ : Fin 8192) l)
        * reluT w (normT h g (scaleT h)) (ix3 (⟨r.val / 8192, by have := r.isLt; omega⟩ : Fin 2) (⟨r.val % 8192, by omega⟩ : Fin 8192) l) := by
    unfold flatT
    generalize reluT w (normT h g (scaleT h)) = q
    pointwise
  rw [e, reluT_apply]
  simp only [normT_apply, scaleT_apply]
  exact up_eq _ _ _

end Terms

section Casts

theorem down_apply (x : FVec Ideal S2x16384x4096 .f32) (i : S16384x4096.Idx) :
    (truncf .bf16 (shapeCast _ (extractStridedSlice S1x16384x4096 ![1, 0, 0] x slices_S2x16384x4096_S1x16384x4096_1_0_0) shapeCasts_S1x16384x4096_S16384x4096) bitsLt_bf16_f32 : FVec Ideal S16384x4096 .bf16) i = x (ix3 1 (i 0) (i 1)) := by
  obtain ⟨r, l, rfl⟩ : ∃ (r : Fin 16384) (l : Fin 4096), i = ix2 r l := ⟨i 0, i 1, eq_ix2 i⟩
  pointwise

end Casts

variable (m : (ℓ : Loc nD τ sig) → Buf (Elt Ideal) ℓ)

/-- The result at row `i`, column `j`, as the reference's arguments give it. -/
abbrev fv (c : Dev nD) (i : Fin 16384) (j : Fin 16384) : EReal :=
  up (rowOf (m ((c.tc : Thread nD τ).loc main_arg0)) i) (fun k => m ((c.tc : Thread nD τ).loc main_arg1) (ix2 1 k))
    (fun k => m ((c.tc : Thread nD τ).loc main_arg2) (ix3 1 k j))
abbrev downv (c : Dev nD) (i : Fin 16384) (j : Fin 4096) : EReal := m ((c.tc : Thread nD τ).loc main_arg3) (ix3 1 i j)

theorem run_values (ρ : Dev nD → PrngReg) :
    θ_run defs (onTc (τ := τ) (main (F := Ideal))) ⟨m, fun _ => 0, ρ⟩ fun r => ∀ c : Dev nD,
      (r.2.mem ((c.tc : Thread nD τ).loc main_v21) = fun i : S16384x16384.Idx => fv m c (i 0) (i 1))
      ∧ (r.2.mem ((c.tc : Thread nD τ).loc main_v24) = fun i : S16384x4096.Idx => downv m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.UpLastRefIdeal.Value.run m ρ)
  obtain ⟨h1, h2, h3⟩ := h c
  refine ⟨h1.trans (funext fun i => ?_), h2.trans (funext fun i => ?_), h3⟩
  · exact flatT_apply _ _ _ i
  · exact down_apply _ i

end Cert.Proof.UpLastRef

end
-- ==== Proof.UpLastClaims.lean ====
/-
  The claims about the last layer's up-projection: the three frames, and the equality of its results with the reference's.
-/
module

public import proofs.«01_k».proof.Defs
public import proofs.«01_k».proof.Proof.Gen.UpLast.Frame
public import proofs.«01_k».proof.Proof.UpLastValue
public import proofs.«01_k».proof.Proof.UpLastRef
public import Idealize.ShloMosaic.Adequacy

@[expose] public section

set_option maxRecDepth 16384

noncomputable section

namespace Cert.Proof.UpLast

open Idealize.ShloMosaic Idealize.SL.Sem

/-- The call as it is executed at the machine's words ends with its arguments unchanged and every counter at zero. -/
theorem frame_call : Cert.quiescent_UpLast := fun m ρ _ => Cert.UpLast.Gen.frame m ρ

theorem frame_callIdeal : Cert.quiescent_UpLastIdeal := fun m ρ _ => Cert.UpLastIdeal.Gen.frame m ρ

theorem frame_reference : Cert.quiescent_UpLastRefIdeal := fun m ρ _ =>
  (θ_run Cert.UpLastRefIdeal.defs _ _).mono
    (fun r h => ⟨fun c => (h c).2.2, Idealize.ShloMosaic.sem_eq_zero_of_no_sems (by decide) r.2⟩)
    (Cert.Proof.UpLastRef.run_values m ρ)

/-- The call's results are the reference's. -/
theorem algebraic : Cert.algebraic_UpLastIdeal_UpLastRefIdeal := by
  intro m ρ m' ρ' _ hagree
  refine ⟨fun c i => fv m c (i 0) (i 1), fun c i => cv5 m c (i 0) (i 1),
    (θ_run Cert.UpLastIdeal.defs _ _).mono (fun r h c => ?_) (Cert.UpLastIdeal.Value.run_blocks m ρ),
    (θ_run Cert.UpLastRefIdeal.defs _ _).mono (fun r h c => ?_) (Cert.Proof.UpLastRef.run_values m' ρ')⟩
  · obtain ⟨h0, h1, h2⟩ := h c
    exact ⟨h0.trans (out_f m c), h1.trans (out_cast5 m c), h2⟩
  · obtain ⟨h0, h1, h2⟩ := h c
    obtain ⟨a0, a1, a2, a3⟩ := hagree c
    have e0 : Cert.Proof.UpLastRef.fv m' c = fv m c := by
      unfold Cert.Proof.UpLastRef.fv fv Cert.Proof.UpLastRef.rowOf hrow gain wcol
      rw [a0, a1, a2]
    have e1 : Cert.Proof.UpLastRef.downv m' c = cv5 m c := by
      unfold Cert.Proof.UpLastRef.downv cv5 src5
      rw [a3]
    rw [e0] at h0
    rw [e1] at h1
    exact ⟨h0, h1, h2⟩

end Cert.Proof.UpLast

end
-- ==== Proof.DownLastValue.lean ====
/-
  The last layer's down-projection added onto the stream: the accumulated tile, its copy and its row sums, each as one function of the arguments.
-/
module

public import proofs.«01_k».proof.Proof.Gen.DownLastIdeal.Value
public import proofs.«01_k».proof.Proof.SumMath
public import Idealize.ShloMosaic.Lib.Pipeline.ValueKit
public import Idealize.ShloMosaic.Lib.Pointwise

@[expose] public section

set_option maxRecDepth 16384

noncomputable section

namespace Cert.Proof.DownLast

open Cert.DownLastIdeal Cert.DownLastIdeal.Gen Idealize.ShloMosaic Idealize.ShloMosaic.TcCoe Idealize.SL.Sem
open Idealize.ShloMosaic.Pipeline (Dat)

/-! ## One point's work on its tile -/

section Tile

variable (a : Vec Ideal S1024x1024 .f32) (x0 : Vec Ideal S1024x4096 .bf16) (x1 : Vec Ideal S4096x1024 .bf16)

/-- Row `r`, column `l` of the tile: what was there, plus the product. -/
def step (r : Fin 1024) (l : Fin 1024) : EReal := a (ix2 r l) + ∑ k : Fin 4096, x0 (ix2 r k) * x1 (ix2 k l)

/-- A panel of the tile's columns as it is loaded. -/
abbrev la0 : FVec Ideal S1024x256 .f32 := View.ld a (Rect.unit ![0, 0] ![1024, 256] inb_S1024x1024_S1024x256_0_0)
abbrev lw0 : FVec Ideal S4096x256 .bf16 := View.ld x1 (Rect.unit ![0, 0] ![4096, 256] inb_S4096x1024_S4096x256_0_0)
abbrev la1 : FVec Ideal S1024x256 .f32 := View.ld a (Rect.unit ![0, 256] ![1024, 256] inb_S1024x1024_S1024x256_0_256)
abbrev lw1 : FVec Ideal S4096x256 .bf16 := View.ld x1 (Rect.unit ![0, 256] ![4096, 256] inb_S4096x1024_S4096x256_0_256)
abbrev la2 : FVec Ideal S1024x256 .f32 := View.ld a (Rect.unit ![0, 512] ![1024, 256] inb_S1024x1024_S1024x256_0_512)
abbrev lw2 : FVec Ideal S4096x256 .bf16 := View.ld x1 (Rect.unit ![0, 512] ![4096, 256] inb_S4096x1024_S4096x256_0_512)
abbrev la3 : FVec Ideal S1024x256 .f32 := View.ld a (Rect.unit ![0, 768] ![1024, 256] inb_S1024x1024_S1024x256_0_768)
abbrev lw3 : FVec Ideal S4096x256 .bf16 := View.ld x1 (Rect.unit ![0, 768] ![4096, 256] inb_S4096x1024_S4096x256_0_768)

theorem panel_A0 (r : Fin 1024) (l : Fin 256) :
    (k0_pay4 (la0 a) x0 (lw0 x1) : FVec Ideal S1024x256 .f32) (ix2 r l) = step a x0 x1 r ⟨0 + l.val, by have := l.isLt; omega⟩ := by
  unfold step
  pointwise [k0_pay4, la0, lw0]

theorem panel_A1 (r : Fin 1024) (l : Fin 256) :
    (k0_pay5 (la1 a) x0 (lw1 x1) : FVec Ideal S1024x256 .f32) (ix2 r l) = step a x0 x1 r ⟨256 + l.val, by have := l.isLt; omega⟩ := by
  unfold step
  pointwise [k0_pay5, la1, lw1]

theorem panel_A2 (r : Fin 1024) (l : Fin 256) :
    (k0_pay6 (la2 a) x0 (lw2 x1) : FVec Ideal S1024x256 .f32) (ix2 r l) = step a x0 x1 r ⟨512 + l.val, by have := l.isLt; omega⟩ := by
  unfold step
  pointwise [k0_pay6, la2, lw2]

theorem panel_A3 (r : Fin 1024) (l : Fin 256) :
    (k0_pay1 (la3 a) x0 (lw3 x1) : FVec Ideal S1024x256 .f32) (ix2 r l) = step a x0 x1 r ⟨768 + l.val, by have := l.isLt; omega⟩ := by
  unfold step
  pointwise [k0_pay1, la3, lw3]

theorem canon_A (y : S1024x1024.Idx) :
    View.canon (Val := Elt Ideal) (e := .f32)
      [⟨Rect.unit ![0, 768] ![1024, 256] inb_S1024x1024_S1024x256_0_768, k0_pay1 (la3 a) x0 (lw3 x1)⟩, ⟨Rect.unit ![0, 512] ![1024, 256] inb_S1024x1024_S1024x256_0_512, k0_pay6 (la2 a) x0 (lw2 x1)⟩, ⟨Rect.unit ![0, 256] ![1024, 256] inb_S1024x1024_S1024x256_0_256, k0_pay5 (la1 a) x0 (lw1 x1)⟩, ⟨Rect.unit ![0, 0] ![1024, 256] inb_S1024x1024_S1024x256_0_0, k0_pay4 (la0 a) x0 (lw0 x1)⟩]
      y = step a x0 x1 (y 0) (y 1) := by
  canon_tiles x h
  · obtain ⟨r, l, rfl⟩ : ∃ (r : Fin 1024) (l : Fin 256), x = ix2 r l := ⟨x 0, x 1, eq_ix2 x⟩
    rw [panel_A3, show y 0 = r from Fin.ext h0, show y 1 = (⟨768 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_A2, show y 0 = r from Fin.ext h0, show y 1 = (⟨512 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_A1, show y 0 = r from Fin.ext h0, show y 1 = (⟨256 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_A0, show y 0 = r from Fin.ext h0, show y 1 = (⟨0 + l.val, by have := l.isLt; omega⟩ : Fin 1024) from Fin.ext (h1.trans (Nat.zero_add _).symm)]

theorem panel_B0 (r : Fin 1024) (l : Fin 256) :
    (k0_pay7 (la0 a) x0 (lw0 x1) : FVec Ideal S1024x256 .f32) (ix2 r l) = step a x0 x1 r ⟨0 + l.val, by have := l.isLt; omega⟩ := by
  unfold step
  pointwise [k0_pay7, la0, lw0]

theorem panel_B1 (r : Fin 1024) (l : Fin 256) :
    (k0_pay8 (la1 a) x0 (lw1 x1) : FVec Ideal S1024x256 .f32) (ix2 r l) = step a x0 x1 r ⟨256 + l.val, by have := l.isLt; omega⟩ := by
  unfold step
  pointwise [k0_pay8, la1, lw1]

theorem panel_B2 (r : Fin 1024) (l : Fin 256) :
    (k0_pay9 (la2 a) x0 (lw2 x1) : FVec Ideal S1024x256 .f32) (ix2 r l) = step a x0 x1 r ⟨512 + l.val, by have := l.isLt; omega⟩ := by
  unfold step
  pointwise [k0_pay9, la2, lw2]

theorem panel_B3 (r : Fin 1024) (l : Fin 256) :
    (k0_pay2 (la3 a) x0 (lw3 x1) : FVec Ideal S1024x256 .f32) (ix2 r l) = step a x0 x1 r ⟨768 + l.val, by have := l.isLt; omega⟩ := by
  unfold step
  pointwise [k0_pay2, la3, lw3]

theorem canon_B (y : S1024x1024.Idx) :
    View.canon (Val := Elt Ideal) (e := .f32)
      [⟨Rect.unit ![0, 768] ![1024, 256] inb_S1024x1024_S1024x256_0_768, k0_pay2 (la3 a) x0 (lw3 x1)⟩, ⟨Rect.unit ![0, 512] ![1024, 256] inb_S1024x1024_S1024x256_0_512, k0_pay9 (la2 a) x0 (lw2 x1)⟩, ⟨Rect.unit ![0, 256] ![1024, 256] inb_S1024x1024_S1024x256_0_256, k0_pay8 (la1 a) x0 (lw1 x1)⟩, ⟨Rect.unit ![0, 0] ![1024, 256] inb_S1024x1024_S1024x256_0_0, k0_pay7 (la0 a) x0 (lw0 x1)⟩]
      y = step a x0 x1 (y 0) (y 1) := by
  canon_tiles x h
  · obtain ⟨r, l, rfl⟩ : ∃ (r : Fin 1024) (l : Fin 256), x = ix2 r l := ⟨x 0, x 1, eq_ix2 x⟩
    rw [panel_B3, show y 0 = r from Fin.ext h0, show y 1 = (⟨768 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_B2, show y 0 = r from Fin.ext h0, show y 1 = (⟨512 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_B1, show y 0 = r from Fin.ext h0, show y 1 = (⟨256 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_B0, show y 0 = r from Fin.ext h0, show y 1 = (⟨0 + l.val, by have := l.isLt; omega⟩ : Fin 1024) from Fin.ext (h1.trans (Nat.zero_add _).symm)]

theorem panel_C0 (r : Fin 1024) (l : Fin 256) :
    (k0_pay10 (la0 a) x0 (lw0 x1) : FVec Ideal S1024x256 .f32) (ix2 r l) = step a x0 x1 r ⟨0 + l.val, by have := l.isLt; omega⟩ := by
  unfold step
  pointwise [k0_pay10, la0, lw0]

theorem panel_C1 (r : Fin 1024) (l : Fin 256) :
    (k0_pay11 (la1 a) x0 (lw1 x1) : FVec Ideal S1024x256 .f32) (ix2 r l) = step a x0 x1 r ⟨256 + l.val, by have := l.isLt; omega⟩ := by
  unfold step
  pointwise [k0_pay11, la1, lw1]

theorem panel_C2 (r : Fin 1024) (l : Fin 256) :
    (k0_pay12 (la2 a) x0 (lw2 x1) : FVec Ideal S1024x256 .f32) (ix2 r l) = step a x0 x1 r ⟨512 + l.val, by have := l.isLt; omega⟩ := by
  unfold step
  pointwise [k0_pay12, la2, lw2]

theorem panel_C3 (r : Fin 1024) (l : Fin 256) :
    (k0_pay3 (la3 a) x0 (lw3 x1) : FVec Ideal S1024x256 .f32) (ix2 r l) = step a x0 x1 r ⟨768 + l.val, by have := l.isLt; omega⟩ := by
  unfold step
  pointwise [k0_pay3, la3, lw3]

theorem canon_C (y : S1024x1024.Idx) :
    View.canon (Val := Elt Ideal) (e := .f32)
      [⟨Rect.unit ![0, 768] ![1024, 256] inb_S1024x1024_S1024x256_0_768, k0_pay3 (la3 a) x0 (lw3 x1)⟩, ⟨Rect.unit ![0, 512] ![1024, 256] inb_S1024x1024_S1024x256_0_512, k0_pay12 (la2 a) x0 (lw2 x1)⟩, ⟨Rect.unit ![0, 256] ![1024, 256] inb_S1024x1024_S1024x256_0_256, k0_pay11 (la1 a) x0 (lw1 x1)⟩, ⟨Rect.unit ![0, 0] ![1024, 256] inb_S1024x1024_S1024x256_0_0, k0_pay10 (la0 a) x0 (lw0 x1)⟩]
      y = step a x0 x1 (y 0) (y 1) := by
  canon_tiles x h
  · obtain ⟨r, l, rfl⟩ : ∃ (r : Fin 1024) (l : Fin 256), x = ix2 r l := ⟨x 0, x 1, eq_ix2 x⟩
    rw [panel_C3, show y 0 = r from Fin.ext h0, show y 1 = (⟨768 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_C2, show y 0 = r from Fin.ext h0, show y 1 = (⟨512 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_C1, show y 0 = r from Fin.ext h0, show y 1 = (⟨256 + l.val, by have := l.isLt; omega⟩ : Fin 1024) from Fin.ext (h1)]
  · obtain ⟨r, l, rfl⟩ : ∃ (r : Fin 1024) (l : Fin 256), x = ix2 r l := ⟨x 0, x 1, eq_ix2 x⟩
    rw [panel_C0, show y 0 = r from Fin.ext h0, show y 1 = (⟨0 + l.val, by have := l.isLt; omega⟩ : Fin 1024) from Fin.ext (h1.trans (Nat.zero_add _).symm)]

end Tile

variable (m : (ℓ : Loc nD τ sig) → Buf (Elt Ideal) ℓ)

/-! ## Where each window's block lies at grid point `t` -/

theorem idx0 : ∀ t : Fin cfg0.N, (cfg0.win 0).index t = ![t.val / 16, t.val % 4] :=
  (by decide +kernel : ∀ t : Fin grid0.N, win0_0.index t = ![t.val / 16, t.val % 4])
theorem idx1 : ∀ t : Fin cfg0.N, (cfg0.win 1).index t = ![t.val % 4, t.val / 4 % 4] :=
  (by decide +kernel : ∀ t : Fin grid0.N, win0_1.index t = ![t.val % 4, t.val / 4 % 4])
theorem idx2 : ∀ t : Fin cfg0.N, (cfg0.win 2).index t = ![t.val / 16, t.val / 4 % 4] :=
  (by decide +kernel : ∀ t : Fin grid0.N, win0_2.index t = ![t.val / 16, t.val / 4 % 4])
theorem idx3 : ∀ t : Fin cfg0.N, (cfg0.win 3).index t = ![t.val / 16, t.val / 4 % 4] :=
  (by decide +kernel : ∀ t : Fin grid0.N, win0_3.index t = ![t.val / 16, t.val / 4 % 4])

/-- The flat row a tile's row `r` is at point `t`. -/
abbrev row (t : Fin cfg0.N) (r : Fin 1024) : Fin 16384 :=
  ⟨t.val / 16 * 1024 + r.val, by have h : t.val < 256 := lt_of_lt_of_eq t.isLt N_0; have := r.isLt; omega⟩
/-- The column a tile's column `l` is at point `t`. -/
abbrev col (t : Fin cfg0.N) (l : Fin 1024) : Fin 4096 :=
  ⟨t.val / 4 % 4 * 1024 + l.val, by have := l.isLt; omega⟩
/-- The contracted place the blocks' place `k` is at point `t`. -/
abbrev mid (t : Fin cfg0.N) (k : Fin 4096) : Fin 16384 :=
  ⟨t.val % 4 * 4096 + k.val, by have := k.isLt; omega⟩

/-- The arguments' entries. -/
abbrev arow (c : Dev nD) (i : Fin 16384) (k : Fin 16384) : EReal :=
  m ((c.tc : Thread nD τ).loc main_arg0) (ix3 (⟨i.val / 8192, by have := i.isLt; omega⟩ : Fin 2) (⟨i.val % 8192, by omega⟩ : Fin 8192) k)
abbrev wcol (c : Dev nD) (j : Fin 4096) (k : Fin 16384) : EReal := m ((c.tc : Thread nD τ).loc main_arg1) (ix3 1 k j)
abbrev res (c : Dev nD) (i : Fin 16384) (j : Fin 4096) : EReal :=
  m ((c.tc : Thread nD τ).loc main_arg2) (ix3 (⟨i.val / 8192, by have := i.isLt; omega⟩ : Fin 2) (⟨i.val % 8192, by omega⟩ : Fin 8192) j)

/-- The stream after the addition, as the arguments give it. -/
abbrev hv (c : Dev nD) (i : Fin 16384) (j : Fin 4096) : EReal := res m c i j + ∑ k : Fin 16384, arow m c i k * wcol m c j k

theorem blk_a (c : Dev nD) (t : Fin cfg0.N) (r : Fin 1024) (k : Fin 4096) : iblk m c 0 t (ix2 r k) = arow m c (row t r) (mid t k) := by
  have h : t.val < 256 := lt_of_lt_of_eq t.isLt N_0
  blk_simp [iblk, idx0]
  entry_read
  pointwise
  blk_ext [idx0 t]

theorem blk_w (c : Dev nD) (t : Fin cfg0.N) (k : Fin 4096) (l : Fin 1024) : iblk m c 1 t (ix2 k l) = wcol m c (col t l) (mid t k) := by
  have h : t.val < 256 := lt_of_lt_of_eq t.isLt N_0
  blk_simp [iblk, idx1]
  entry_read
  pointwise
  blk_ext [idx1 t]

theorem blk_r (c : Dev nD) (t : Fin cfg0.N) (r : Fin 1024) (l : Fin 1024) : iblk m c 2 t (ix2 r l) = res m c (row t r) (col t l) := by
  have h : t.val < 256 := lt_of_lt_of_eq t.isLt N_0
  blk_simp [iblk, idx2]
  entry_read
  pointwise
  blk_ext [idx2 t]

/-- What point `t` adds to the tile. -/
def part (c : Dev nD) (t : Fin cfg0.N) (r : Fin 1024) (l : Fin 1024) : EReal :=
  ∑ k : Fin 4096, arow m c (row t r) (mid t k) * wcol m c (col t l) (mid t k)

theorem step_eq (c : Dev nD) (t : Fin cfg0.N) (a : Vec Ideal S1024x1024 .f32) (r : Fin 1024) (l : Fin 1024) :
    step a (iblk m c 0 t) (iblk m c 1 t) r l = a (ix2 r l) + part m c t r l := by
  unfold step part
  simp only [blk_a, blk_w]

/-! ## The tile after each point -/

/-- What point `t` adds, the stream's own entries counted with a tile's first point. -/
def term (c : Dev nD) (t : Fin cfg0.N) (y : S1024x1024.Idx) : EReal :=
  (if t.val % 4 = 0 then res m c (row t (y 0)) (col t (y 1)) else 0) + part m c t (y 0) (y 1)

theorem acc_reset (c : Dev nD) (t : Fin cfg0.N) (hk : t.val % 4 = 0) (y : S1024x1024.Idx) :
    (outsAt0 m c t.val t.isLt) y = 0 + term m c t y := by
  have e : step (iblk m c 2 t) (iblk m c 0 t) (iblk m c 1 t) (y 0) (y 1) = 0 + term m c t y := by
    unfold term
    rw [step_eq m c t (iblk m c 2 t) (y 0) (y 1), if_pos hk, zero_add, blk_r m c t (y 0) (y 1)]
  refine Eq.trans ?_ e
  rw [outsAt0_A m c t hk (by omega) (by omega)]
  frame_out
  exact canon_A _ _ _ y

theorem acc_step (c : Dev nD) (t : Fin cfg0.N) (hk : ¬t.val % 4 = 0) (y : S1024x1024.Idx) :
    (outsAt0 m c t.val t.isLt) y = (outsAt0 m c (t.val - 1) (Nat.lt_of_le_of_lt (Nat.sub_le _ _) t.isLt)) y + term m c t y := by
  have e : step (outsAt0 m c (t.val - 1) (Nat.lt_of_le_of_lt (Nat.sub_le _ _) t.isLt)) (iblk m c 0 t) (iblk m c 1 t) (y 0) (y 1) = (outsAt0 m c (t.val - 1) (Nat.lt_of_le_of_lt (Nat.sub_le _ _) t.isLt)) y + term m c t y := by
    unfold term
    rw [step_eq m c t _ (y 0) (y 1), if_neg hk, zero_add, ← eq_ix2 y]
  refine Eq.trans ?_ e
  by_cases h3 : t.val % 4 = 3
  · rw [outsAt0_C m c t hk (by omega) h3]
    frame_out
    exact canon_C _ _ _ y
  · rw [outsAt0_B m c t hk (by omega) h3]
    frame_out
    exact canon_B _ _ _ y

theorem acc_eq (c : Dev nD) (t : Fin cfg0.N) (h3 : t.val % 4 = 3) (y : S1024x1024.Idx) :
    (outsAt0 m c t.val t.isLt) y = hv m c (row t (y 0)) (col t (y 1)) := by
  refine (Pipeline.eq_sum_fin_of_reset_step_apply_of_flush (fun n h => (outsAt0 m c n h)) 4 (fun _ => (0 : EReal))
    (fun t y => term m c t y) (fun t h y => acc_reset m c t h y) (fun t h y => acc_step m c t h y) t h3 y).trans ?_
  have er : ∀ s : Fin 4, row ⟨4 * (t.val / 4) + s.val, Pipeline.run_point_lt_of_flush t h3 s⟩ (y 0) = row t (y 0) := fun s => by
    apply Fin.ext; show (4 * (t.val / 4) + s.val) / 16 * 1024 + _ = t.val / 16 * 1024 + _; have := s.isLt; omega
  have ec : ∀ s : Fin 4, col ⟨4 * (t.val / 4) + s.val, Pipeline.run_point_lt_of_flush t h3 s⟩ (y 1) = col t (y 1) := fun s => by
    apply Fin.ext; show (4 * (t.val / 4) + s.val) / 4 % 4 * 1024 + _ = t.val / 4 % 4 * 1024 + _
    rw [show (4 * (t.val / 4) + s.val) / 4 = t.val / 4 by have := s.isLt; omega]
  have ep : (∑ s : Fin 4, part m c ⟨4 * (t.val / 4) + s.val, Pipeline.run_point_lt_of_flush t h3 s⟩ (y 0) (y 1))
      = ∑ k : Fin 16384, arow m c (row t (y 0)) k * wcol m c (col t (y 1)) k := by
    unfold part
    refine Fin.sum_mul_add_congr fun s k hl => ?_
    have e2 : mid ⟨4 * (t.val / 4) + s.val, Pipeline.run_point_lt_of_flush t h3 s⟩ k = ⟨s.val * 4096 + k.val, hl⟩ := by
      apply Fin.ext; show (4 * (t.val / 4) + s.val) % 4 * 4096 + k.val = s.val * 4096 + k.val; rw [Nat.mul_add_mod, Nat.mod_eq_of_lt s.isLt]
    rw [er, ec, e2]
  have ei : (∑ s : Fin 4, if (4 * (t.val / 4) + s.val) % 4 = 0
      then res m c (row ⟨4 * (t.val / 4) + s.val, Pipeline.run_point_lt_of_flush t h3 s⟩ (y 0)) (col ⟨4 * (t.val / 4) + s.val, Pipeline.run_point_lt_of_flush t h3 s⟩ (y 1)) else (0 : EReal))
      = res m c (row t (y 0)) (col t (y 1)) := by
    have n : ∀ s : Fin 4, ¬s.val = 0 → ¬(4 * (t.val / 4) + s.val) % 4 = 0 := fun s hs => by have := s.isLt; omega
    rw [Fin.sum_univ_four, if_pos (show (4 * (t.val / 4) + (0 : Fin 4).val) % 4 = 0 by show (4 * (t.val / 4) + 0) % 4 = 0; omega),
      if_neg (n 1 (by decide)), if_neg (n 2 (by decide)), if_neg (n 3 (by decide)), add_zero, add_zero, add_zero, er, ec]
  rw [zero_add]
  unfold term
  rw [Finset.sum_add_distrib, ep]
  exact congrArg (· + _) ei

/-! ## The arrays after the run -/

theorem out_h (c : Dev nD) : (dats m 0 c).arrAt 3 cfg0.N = fun i : S16384x4096.Idx => hv m c (i 0) (i 1) := by
  refine (dats m 0 c).arrAt_eq_of_covers 3 _ (by decide +kernel) fun t hf y => ?_
  blk_simp
  rw [after0_3]
  refine (acc_eq m c t ((flush0_3 t).mp hf) y).trans ?_
  have e0 : (row t (y 0) : Fin 16384) = ((View.whole main_v5).slice (win0_3.rect t)).emb y 0 := by
    refine Fin.ext (((win0_3.rect_emb_val t y 0).trans ?_).symm)
    rw [show win0_3.index t = _ from idx3 t]
    rfl
  have e1 : (col t (y 1) : Fin 4096) = ((View.whole main_v5).slice (win0_3.rect t)).emb y 1 := by
    refine Fin.ext (((win0_3.rect_emb_val t y 1).trans ?_).symm)
    rw [show win0_3.index t = _ from idx3 t]
    rfl
  exact congrArg₂ (hv m c) e0 e1

end Cert.Proof.DownLast

end
-- ==== Proof.DownLastRef.lean ====
/-
  The reference's run of the projection added onto the stream.
-/
module

public import proofs.«01_k».proof.Proof.Gen.DownLastRefIdeal.Run
public import Idealize.ShloMosaic.Lib.Pipeline.ValueKit
public import Idealize.ShloMosaic.Lib.Pointwise

@[expose] public section

set_option maxRecDepth 16384

noncomputable section

namespace Cert.Proof.DownLastRef

open Cert.DownLastRefIdeal Cert.DownLastRefIdeal.Gen Idealize.ShloMosaic Idealize.SL.Sem

section Terms

variable (a : FVec Ideal S2x8192x16384 .bf16) (w : FVec Ideal S2x16384x4096 .f32) (h : FVec Ideal S2x8192x4096 .f32)

/-- The stream with the product added, by batch entry. -/
abbrev addT : FVec Ideal S2x8192x4096 .f32 :=
  addf h (Host.dotGeneral dot_S2x8192x16384_S16384x4096_S2x8192x4096_2_0_01_1_n_n none (extf .f32 a bitsLt_bf16_f32) (shapeCast _ (extractStridedSlice S1x16384x4096 ![1, 0, 0] w slices_S2x16384x4096_S1x16384x4096_1_0_0) shapeCasts_S1x16384x4096_S16384x4096))

theorem addT_apply (n : Fin 2) (p : Fin 8192) (j : Fin 4096) :
    addT a w h (ix3 n p j) = h (ix3 n p j) + ∑ k : Fin 16384, a (ix3 n p k) * w (ix3 1 k j) := by
  unfold addT
  pointwise

/-- The same at a flat row. -/
abbrev hvT (i : Fin 16384) (j : Fin 4096) : EReal :=
  h (ix3 (⟨i.val / 8192, by have := i.isLt; omega⟩ : Fin 2) (⟨i.val % 8192, by omega⟩ : Fin 8192) j)
    + ∑ k : Fin 16384, a (ix3 (⟨i.val / 8192, by have := i.isLt; omega⟩ : Fin 2) (⟨i.val % 8192, by omega⟩ : Fin 8192) k) * w (ix3 1 k j)

/-- The stream by flat rows. -/
abbrev flatT : FVec Ideal S16384x4096 .f32 := shapeCast _ (addT a w h) shapeCasts_S2x8192x4096_S16384x4096

theorem flatT_apply (i : S16384x4096.Idx) : flatT a w h i = hvT a w h (i 0) (i 1) := by
  obtain ⟨r, l, rfl⟩ : ∃ (r : Fin 16384) (l : Fin 4096), i = ix2 r l := ⟨i 0, i 1, eq_ix2 i⟩
  have e : flatT a w h (ix2 r l) = addT a w h (ix3 (⟨r.val / 8192, by have := r.isLt; omega⟩ : Fin 2) (⟨r.val % 8192, by omega⟩ : Fin 8192) l) := by
    unfold flatT
    generalize addT a w h = g
    pointwise
  rw [e, addT_apply]
  rfl

end Terms

variable (m : (ℓ : Loc nD τ sig) → Buf (Elt Ideal) ℓ)

/-- The stream after the addition, as the reference's arguments give it. -/
abbrev hv (c : Dev nD) : Fin 16384 → Fin 4096 → EReal :=
  hvT (m ((c.tc : Thread nD τ).loc main_arg0)) (m ((c.tc : Thread nD τ).loc main_arg1)) (m ((c.tc : Thread nD τ).loc main_arg2))

theorem run_values (ρ : Dev nD → PrngReg) :
    θ_run defs (onTc (τ := τ) (main (F := Ideal))) ⟨m, fun _ => 0, ρ⟩ fun r => ∀ c : Dev nD,
      (r.2.mem ((c.tc : Thread nD τ).loc main_v5) = fun i : S16384x4096.Idx => hv m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.DownLastRefIdeal.Value.run m ρ)
  obtain ⟨h1, h2⟩ := h c
  refine ⟨h1.trans (funext fun i => ?_), h2⟩
  exact flatT_apply _ _ _ i

end Cert.Proof.DownLastRef

end
-- ==== Proof.DownLastClaims.lean ====
/-
  The claims about the last layer's down-projection: the three frames, and the equality of its results with the reference's.
-/
module

public import proofs.«01_k».proof.Defs
public import proofs.«01_k».proof.Proof.Gen.DownLast.Frame
public import proofs.«01_k».proof.Proof.DownLastValue
public import proofs.«01_k».proof.Proof.DownLastRef
public import Idealize.ShloMosaic.Adequacy

@[expose] public section

set_option maxRecDepth 16384

noncomputable section

namespace Cert.Proof.DownLast

open Idealize.ShloMosaic Idealize.SL.Sem

/-- The call as it is executed at the machine's words ends with its arguments unchanged and every counter at zero. -/
theorem frame_call : Cert.quiescent_DownLast := fun m ρ _ => Cert.DownLast.Gen.frame m ρ

theorem frame_callIdeal : Cert.quiescent_DownLastIdeal := fun m ρ _ => Cert.DownLastIdeal.Gen.frame m ρ

theorem frame_reference : Cert.quiescent_DownLastRefIdeal := fun m ρ _ =>
  (θ_run Cert.DownLastRefIdeal.defs _ _).mono
    (fun r h => ⟨fun c => (h c).2, Idealize.ShloMosaic.sem_eq_zero_of_no_sems (by decide) r.2⟩)
    (Cert.Proof.DownLastRef.run_values m ρ)

/-- The call's results are the reference's. -/
theorem algebraic : Cert.algebraic_DownLastIdeal_DownLastRefIdeal := by
  intro m ρ m' ρ' _ hagree
  refine ⟨fun c i => hv m c (i 0) (i 1),
    (θ_run Cert.DownLastIdeal.defs _ _).mono (fun r h c => ?_) (Cert.DownLastIdeal.Value.run_blocks m ρ),
    (θ_run Cert.DownLastRefIdeal.defs _ _).mono (fun r h c => ?_) (Cert.Proof.DownLastRef.run_values m' ρ')⟩
  · obtain ⟨h0, h1⟩ := h c
    exact ⟨h0.trans (out_h m c), h1⟩
  · obtain ⟨h0, h1⟩ := h c
    obtain ⟨a0, a1, a2⟩ := hagree c
    have e0 : Cert.Proof.DownLastRef.hv m' c = hv m c := by
      unfold Cert.Proof.DownLastRef.hv Cert.Proof.DownLastRef.hvT hv res arow wcol
      rw [a0, a1, a2]
    rw [e0] at h0
    exact ⟨h0, h1⟩

end Cert.Proof.DownLast

end
-- ==== Proof.OutValue.lean ====
/-
  The attention's output projection added onto the stream: the accumulated tile, its copy and its row sums, each as one function of the arguments.
-/
module

public import proofs.«01_k».proof.Proof.Gen.OutIdeal.Value
public import proofs.«01_k».proof.Proof.SumMath
public import Idealize.ShloMosaic.Lib.Pipeline.ValueKit
public import Idealize.ShloMosaic.Lib.Pointwise

@[expose] public section

set_option maxRecDepth 16384

noncomputable section

namespace Cert.Proof.Out

open Cert.OutIdeal Cert.OutIdeal.Gen Idealize.ShloMosaic Idealize.ShloMosaic.TcCoe Idealize.SL.Sem
open Idealize.ShloMosaic.Pipeline (Dat)

/-! ## One point's work on its tile -/

section Tile

variable (a : Vec Ideal S768x1024 .f32) (x0 : Vec Ideal S768x4096 .bf16) (x1 : Vec Ideal S4096x1024 .bf16)

/-- Row `r`, column `l` of the tile: what was there, plus the product. -/
def step (r : Fin 768) (l : Fin 1024) : EReal := a (ix2 r l) + ∑ k : Fin 4096, x0 (ix2 r k) * x1 (ix2 k l)

/-- A panel of the tile's columns as it is loaded. -/
abbrev la0 : FVec Ideal S768x256 .f32 := View.ld a (Rect.unit ![0, 0] ![768, 256] inb_S768x1024_S768x256_0_0)
abbrev lw0 : FVec Ideal S4096x256 .bf16 := View.ld x1 (Rect.unit ![0, 0] ![4096, 256] inb_S4096x1024_S4096x256_0_0)
abbrev la1 : FVec Ideal S768x256 .f32 := View.ld a (Rect.unit ![0, 256] ![768, 256] inb_S768x1024_S768x256_0_256)
abbrev lw1 : FVec Ideal S4096x256 .bf16 := View.ld x1 (Rect.unit ![0, 256] ![4096, 256] inb_S4096x1024_S4096x256_0_256)
abbrev la2 : FVec Ideal S768x256 .f32 := View.ld a (Rect.unit ![0, 512] ![768, 256] inb_S768x1024_S768x256_0_512)
abbrev lw2 : FVec Ideal S4096x256 .bf16 := View.ld x1 (Rect.unit ![0, 512] ![4096, 256] inb_S4096x1024_S4096x256_0_512)
abbrev la3 : FVec Ideal S768x256 .f32 := View.ld a (Rect.unit ![0, 768] ![768, 256] inb_S768x1024_S768x256_0_768)
abbrev lw3 : FVec Ideal S4096x256 .bf16 := View.ld x1 (Rect.unit ![0, 768] ![4096, 256] inb_S4096x1024_S4096x256_0_768)

theorem panel_A0 (r : Fin 768) (l : Fin 256) :
    (k0_pay5 (la0 a) x0 (lw0 x1) : FVec Ideal S768x256 .f32) (ix2 r l) = step a x0 x1 r ⟨0 + l.val, by have := l.isLt; omega⟩ := by
  unfold step
  pointwise [k0_pay5, la0, lw0]

theorem panel_A1 (r : Fin 768) (l : Fin 256) :
    (k0_pay8 (la1 a) x0 (lw1 x1) : FVec Ideal S768x256 .f32) (ix2 r l) = step a x0 x1 r ⟨256 + l.val, by have := l.isLt; omega⟩ := by
  unfold step
  pointwise [k0_pay8, la1, lw1]

theorem panel_A2 (r : Fin 768) (l : Fin 256) :
    (k0_pay11 (la2 a) x0 (lw2 x1) : FVec Ideal S768x256 .f32) (ix2 r l) = step a x0 x1 r ⟨512 + l.val, by have := l.isLt; omega⟩ := by
  unfold step
  pointwise [k0_pay11, la2, lw2]

theorem panel_A3 (r : Fin 768) (l : Fin 256) :
    (k0_pay1 (la3 a) x0 (lw3 x1) : FVec Ideal S768x256 .f32) (ix2 r l) = step a x0 x1 r ⟨768 + l.val, by have := l.isLt; omega⟩ := by
  unfold step
  pointwise [k0_pay1, la3, lw3]

theorem canon_A (y : S768x1024.Idx) :
    View.canon (Val := Elt Ideal) (e := .f32)
      [⟨Rect.unit ![0, 768] ![768, 256] inb_S768x1024_S768x256_0_768, k0_pay1 (la3 a) x0 (lw3 x1)⟩, ⟨Rect.unit ![0, 512] ![768, 256] inb_S768x1024_S768x256_0_512, k0_pay11 (la2 a) x0 (lw2 x1)⟩, ⟨Rect.unit ![0, 256] ![768, 256] inb_S768x1024_S768x256_0_256, k0_pay8 (la1 a) x0 (lw1 x1)⟩, ⟨Rect.unit ![0, 0] ![768, 256] inb_S768x1024_S768x256_0_0, k0_pay5 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_A3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_A0, show y 0 = r from Fin.ext h0, show y 1 = (⟨0 + l.val, by have := l.isLt; omega⟩ : Fin 1024) from Fin.ext (h1.trans (Nat.zero_add _).symm)]

theorem panel_S0 (r : Fin 768) (l : Fin 256) :
    (k0_pay6 (la0 a) x0 (lw0 x1) : FVec Ideal S768x256 .bf16) (ix2 r l) = step a x0 x1 r ⟨0 + l.val, by have := l.isLt; omega⟩ := by
  unfold step
  pointwise [k0_pay6, k0_pay5, la0, lw0]

theorem panel_S1 (r : Fin 768) (l : Fin 256) :
    (k0_pay9 (k0_pay8 (la1 a) x0 (lw1 x1)) : FVec Ideal S768x256 .bf16) (ix2 r l) = step a x0 x1 r ⟨256 + l.val, by have := l.isLt; omega⟩ := by
  unfold step
  pointwise [k0_pay9, k0_pay8, la1, lw1]

theorem panel_S2 (r : Fin 768) (l : Fin 256) :
    (k0_pay12 (la2 a) x0 (lw2 x1) : FVec Ideal S768x256 .bf16) (ix2 r l) = step a x0 x1 r ⟨512 + l.val, by have := l.isLt; omega⟩ := by
  unfold step
  pointwise [k0_pay12, k0_pay11, la2, lw2]

theorem panel_S3 (r : Fin 768) (l : Fin 256) :
    (k0_pay2 (la3 a) x0 (lw3 x1) : FVec Ideal S768x256 .bf16) (ix2 r l) = step a x0 x1 r ⟨768 + l.val, by have := l.isLt; omega⟩ := by
  unfold step
  pointwise [k0_pay2, k0_pay1, la3, lw3]

theorem canon_S (y : S768x1024.Idx) :
    View.canon (Val := Elt Ideal) (e := .bf16)
      [⟨Rect.unit ![0, 768] ![768, 256] inb_S768x1024_S768x256_0_768, k0_pay2 (la3 a) x0 (lw3 x1)⟩, ⟨Rect.unit ![0, 512] ![768, 256] inb_S768x1024_S768x256_0_512, k0_pay12 (la2 a) x0 (lw2 x1)⟩, ⟨Rect.unit ![0, 256] ![768, 256] inb_S768x1024_S768x256_0_256, k0_pay9 (k0_pay8 (la1 a) x0 (lw1 x1))⟩, ⟨Rect.unit ![0, 0] ![768, 256] inb_S768x1024_S768x256_0_0, k0_pay6 (la0 a) x0 (lw0 x1)⟩]
      y = step a x0 x1 (y 0) (y 1) := by
  canon_tiles x h
  · obtain ⟨r, l, rfl⟩ : ∃ (r : Fin 768) (l : Fin 256), x = ix2 r l := ⟨x 0, x 1, eq_ix2 x⟩
    rw [panel_S3, show y 0 = r from Fin.ext h0, show y 1 = (⟨768 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S2, show y 0 = r from Fin.ext h0, show y 1 = (⟨512 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S1, show y 0 = r from Fin.ext h0, show y 1 = (⟨256 + l.val, by have := l.isLt; omega⟩ : Fin 1024) from Fin.ext (h1)]
  · obtain ⟨r, l, rfl⟩ : ∃ (r : Fin 768) (l : Fin 256), x = ix2 r l := ⟨x 0, x 1, eq_ix2 x⟩
    rw [panel_S0, show y 0 = r from Fin.ext h0, show y 1 = (⟨0 + l.val, by have := l.isLt; omega⟩ : Fin 1024) from Fin.ext (h1.trans (Nat.zero_add _).symm)]

theorem square0 (v : Vec Ideal S768x256 .f32) (x : Vec Ideal S768x4096 .bf16) (w : Vec Ideal S4096x256 .bf16) (b : Vec Ideal S768x1 .f32) (r : Fin 768) (u : Fin 1) :
    (k0_pay7 v x w b : FVec Ideal S768x1 .f32) (ix2 r u) = b (ix2 r u) + ∑ l : Fin 256, (k0_pay5 v x w) (ix2 r l) * (k0_pay5 v x w) (ix2 r l) := by
  unfold k0_pay7
  generalize (k0_pay5 v x w) = q
  pointwise

theorem square1 (q : FVec Ideal S768x256 .f32) (b : Vec Ideal S768x1 .f32) (r : Fin 768) (u : Fin 1) :
    (k0_pay10 q b : FVec Ideal S768x1 .f32) (ix2 r u) = b (ix2 r u) + ∑ l : Fin 256, q (ix2 r l) * q (ix2 r l) := by
  pointwise [k0_pay10]

theorem square2 (v : Vec Ideal S768x256 .f32) (x : Vec Ideal S768x4096 .bf16) (w : Vec Ideal S4096x256 .bf16) (b : Vec Ideal S768x1 .f32) (r : Fin 768) (u : Fin 1) :
    (k0_pay13 v x w b : FVec Ideal S768x1 .f32) (ix2 r u) = b (ix2 r u) + ∑ l : Fin 256, (k0_pay11 v x w) (ix2 r l) * (k0_pay11 v x w) (ix2 r l) := by
  unfold k0_pay13
  generalize (k0_pay11 v x w) = q
  pointwise

theorem square3 (v : Vec Ideal S768x256 .f32) (x : Vec Ideal S768x4096 .bf16) (w : Vec Ideal S4096x256 .bf16) (b : Vec Ideal S768x1 .f32) (r : Fin 768) (u : Fin 1) :
    (k0_pay3 v x w b : FVec Ideal S768x1 .f32) (ix2 r u) = b (ix2 r u) + ∑ l : Fin 256, (k0_pay1 v x w) (ix2 r l) * (k0_pay1 v x w) (ix2 r l) := by
  unfold k0_pay3
  generalize (k0_pay1 v x w) = q
  pointwise

/-- The squares of the tile's row `r`, added up. -/
def stepSq (r : Fin 768) : EReal := ∑ l : Fin 1024, step a x0 x1 r l * step a x0 x1 r l

/-- The four panels' row sums added onto `b` one after the other add the tile's. -/
theorem squares (b : Vec Ideal S768x1 .f32) (y : S768x1.Idx) :
    (k0_pay3 (la3 a) x0 (lw3 x1) (k0_pay13 (la2 a) x0 (lw2 x1) (k0_pay10 (k0_pay8 (la1 a) x0 (lw1 x1)) (k0_pay7 (la0 a) x0 (lw0 x1) b))) : FVec Ideal S768x1 .f32) y = b y + stepSq a x0 x1 (y 0) := by
  obtain ⟨r, u, rfl⟩ : ∃ (r : Fin 768) (u : Fin 1), y = ix2 r u := ⟨y 0, y 1, eq_ix2 y⟩
  unfold stepSq
  rw [Sums.four_panels, square3, square2, square1, square0]
  simp only [panel_A0, panel_A1, panel_A2, panel_A3]
  rw [add_assoc, add_assoc, add_assoc, add_assoc, add_assoc]
  rfl

end Tile

variable (m : (ℓ : Loc nD τ sig) → Buf (Elt Ideal) ℓ)

/-! ## Where each window's block lies at grid point `t` -/

theorem idx0 : ∀ t : Fin cfg0.N, (cfg0.win 0).index t = ![t.val / 4, 0] :=
  (by decide +kernel : ∀ t : Fin grid0.N, win0_0.index t = ![t.val / 4, 0])
theorem idx1 : ∀ t : Fin cfg0.N, (cfg0.win 1).index t = ![0, t.val % 4] :=
  (by decide +kernel : ∀ t : Fin grid0.N, win0_1.index t = ![0, t.val % 4])
theorem idx2 : ∀ t : Fin cfg0.N, (cfg0.win 2).index t = ![t.val / 4, t.val % 4] :=
  (by decide +kernel : ∀ t : Fin grid0.N, win0_2.index t = ![t.val / 4, t.val % 4])
theorem idx3 : ∀ t : Fin cfg0.N, (cfg0.win 3).index t = ![t.val / 4, t.val % 4] :=
  (by decide +kernel : ∀ t : Fin grid0.N, win0_3.index t = ![t.val / 4, t.val % 4])
theorem idx4 : ∀ t : Fin cfg0.N, (cfg0.win 4).index t = ![t.val / 4, t.val % 4] :=
  (by decide +kernel : ∀ t : Fin grid0.N, win0_4.index t = ![t.val / 4, t.val % 4])
theorem idx5 : ∀ t : Fin cfg0.N, (cfg0.win 5).index t = ![t.val / 4, 0] :=
  (by decide +kernel : ∀ t : Fin grid0.N, win0_5.index t = ![t.val / 4, 0])

/-- The flat row a tile's row `r` is at point `t`. -/
abbrev row (t : Fin cfg0.N) (r : Fin 768) : Fin 16896 :=
  ⟨t.val / 4 * 768 + r.val, by have h : t.val < 88 := lt_of_lt_of_eq t.isLt N_0; have := r.isLt; omega⟩
/-- The column a tile's column `l` is at point `t`. -/
abbrev col (t : Fin cfg0.N) (l : Fin 1024) : Fin 4096 :=
  ⟨t.val % 4 * 1024 + l.val, by have := l.isLt; omega⟩
/-- The contracted place the blocks' place `k` is at point `t`. -/
abbrev mid (t : Fin cfg0.N) (k : Fin 4096) : Fin 4096 :=
  ⟨0 * 4096 + k.val, by have := k.isLt; omega⟩

/-- The arguments' entries. -/
abbrev arow (c : Dev nD) (i : Fin 16896) (k : Fin 4096) : EReal :=
  m ((c.tc : Thread nD τ).loc main_arg0) (ix3 (⟨i.val / 8448, by have := i.isLt; omega⟩ : Fin 2) (⟨i.val % 8448, by omega⟩ : Fin 8448) k)
abbrev wcol (c : Dev nD) (j : Fin 4096) (k : Fin 4096) : EReal := m ((c.tc : Thread nD τ).loc main_arg1) (ix3 0 k j)
abbrev res (c : Dev nD) (i : Fin 16896) (j : Fin 4096) : EReal :=
  m ((c.tc : Thread nD τ).loc main_arg2) (ix3 (⟨i.val / 8448, by have := i.isLt; omega⟩ : Fin 2) (⟨i.val % 8448, by omega⟩ : Fin 8448) j)

/-- The stream after the addition, as the arguments give it. -/
abbrev hv (c : Dev nD) (i : Fin 16896) (j : Fin 4096) : EReal := res m c i j + ∑ k : Fin 4096, arow m c i k * wcol m c j k

theorem blk_a (c : Dev nD) (t : Fin cfg0.N) (r : Fin 768) (k : Fin 4096) : iblk m c 0 t (ix2 r k) = arow m c (row t r) (mid t k) := by
  have h : t.val < 88 := lt_of_lt_of_eq t.isLt N_0
  blk_simp [iblk, idx0]
  entry_read
  pointwise
  blk_ext [idx0 t]

theorem blk_w (c : Dev nD) (t : Fin cfg0.N) (k : Fin 4096) (l : Fin 1024) : iblk m c 1 t (ix2 k l) = wcol m c (col t l) (mid t k) := by
  have h : t.val < 88 := lt_of_lt_of_eq t.isLt N_0
  blk_simp [iblk, idx1]
  entry_read
  pointwise
  blk_ext [idx1 t]

theorem blk_r (c : Dev nD) (t : Fin cfg0.N) (r : Fin 768) (l : Fin 1024) : iblk m c 2 t (ix2 r l) = res m c (row t r) (col t l) := by
  have h : t.val < 88 := lt_of_lt_of_eq t.isLt N_0
  blk_simp [iblk, idx2]
  entry_read
  pointwise
  blk_ext [idx2 t]

/-- What point `t` adds to the tile. -/
def part (c : Dev nD) (t : Fin cfg0.N) (r : Fin 768) (l : Fin 1024) : EReal :=
  ∑ k : Fin 4096, arow m c (row t r) (mid t k) * wcol m c (col t l) (mid t k)

theorem step_eq (c : Dev nD) (t : Fin cfg0.N) (a : Vec Ideal S768x1024 .f32) (r : Fin 768) (l : Fin 1024) :
    step a (iblk m c 0 t) (iblk m c 1 t) r l = a (ix2 r l) + part m c t r l := by
  unfold step part
  simp only [blk_a, blk_w]

/-! ## The tile after each point -/

theorem acc_eq (c : Dev nD) (t : Fin cfg0.N) (y : S768x1024.Idx) :
    (outsAt0 m c t.val t.isLt).1 y = hv m c (row t (y 0)) (col t (y 1)) := by
  have e : step (iblk m c 2 t) (iblk m c 0 t) (iblk m c 1 t) (y 0) (y 1) = hv m c (row t (y 0)) (col t (y 1)) := by
    rw [step_eq m c t (iblk m c 2 t) (y 0) (y 1), blk_r m c t (y 0) (y 1)]
    unfold part
    refine congrArg (_ + ·) (congrArg (fun f : Fin 4096 → EReal => ∑ k, f k) (funext fun k => ?_))
    rw [show mid t k = k from Fin.ext ((congrArg (· + k.val) (Nat.zero_mul 4096)).trans (Nat.zero_add k.val))]
  refine Eq.trans ?_ e
  by_cases h0 : t.val % 4 = 0
  · rw [outsAt0_A m c t h0]
    frame_out
    exact canon_A _ _ _ y
  · rw [outsAt0_B m c t h0]
    frame_out
    exact canon_A _ _ _ y

theorem copy_eq (c : Dev nD) (t : Fin cfg0.N) (y : S768x1024.Idx) :
    (outsAt0 m c t.val t.isLt).2.1 y = (outsAt0 m c t.val t.isLt).1 y := by
  by_cases h0 : t.val % 4 = 0
  · rw [outsAt0_A m c t h0]
    frame_out
    exact (canon_S _ _ _ y).trans (canon_A _ _ _ y).symm
  · rw [outsAt0_B m c t h0]
    frame_out
    exact (canon_S _ _ _ y).trans (canon_A _ _ _ y).symm

/-! ## The arrays after the run -/

theorem out_h (c : Dev nD) : (dats m 0 c).arrAt 3 cfg0.N = fun i : S16896x4096.Idx => hv m c (i 0) (i 1) := by
  refine (dats m 0 c).arrAt_eq_of_covers 3 _ (by decide +kernel) fun t hf y => ?_
  blk_simp
  rw [after0_3]
  refine (acc_eq m c t y).trans ?_
  have e0 : (row t (y 0) : Fin 16896) = ((View.whole main_v4_0).slice (win0_3.rect t)).emb y 0 := by
    refine Fin.ext (((win0_3.rect_emb_val t y 0).trans ?_).symm)
    rw [show win0_3.index t = _ from idx3 t]
    rfl
  have e1 : (col t (y 1) : Fin 4096) = ((View.whole main_v4_0).slice (win0_3.rect t)).emb y 1 := by
    refine Fin.ext (((win0_3.rect_emb_val t y 1).trans ?_).symm)
    rw [show win0_3.index t = _ from idx3 t]
    rfl
  exact congrArg₂ (hv m c) e0 e1

theorem out_short (c : Dev nD) : (dats m 0 c).arrAt 4 cfg0.N = fun i : S16896x4096.Idx => hv m c (i 0) (i 1) := by
  refine (dats m 0 c).arrAt_eq_of_covers 4 _ (by decide +kernel) fun t hf y => ?_
  blk_simp
  rw [after0_4]
  refine ((copy_eq m c t y).trans (acc_eq m c t y)).trans ?_
  have e0 : (row t (y 0) : Fin 16896) = ((View.whole main_v4_1).slice (win0_4.rect t)).emb y 0 := by
    refine Fin.ext (((win0_4.rect_emb_val t y 0).trans ?_).symm)
    rw [show win0_4.index t = _ from idx4 t]
    rfl
  have e1 : (col t (y 1) : Fin 4096) = ((View.whole main_v4_1).slice (win0_4.rect t)).emb y 1 := by
    refine Fin.ext (((win0_4.rect_emb_val t y 1).trans ?_).symm)
    rw [show win0_4.index t = _ from idx4 t]
    rfl
  exact congrArg₂ (hv m c) e0 e1

/-- What point `t` adds to row `r`'s sum of squares. -/
def sqTerm (c : Dev nD) (t : Fin cfg0.N) (y : S768x1.Idx) : EReal :=
  ∑ l : Fin 1024, hv m c (row t (y 0)) (col t l) * hv m c (row t (y 0)) (col t l)

theorem tile_last (c : Dev nD) (t : Fin cfg0.N) (y : S768x1024.Idx) :
    step (iblk m c 2 t) (iblk m c 0 t) (iblk m c 1 t) (y 0) (y 1) = hv m c (row t (y 0)) (col t (y 1)) := by
  refine Eq.trans ?_ (acc_eq m c t y)
  by_cases h0 : t.val % 4 = 0
  · rw [outsAt0_A m c t h0]
    frame_out
    exact (canon_A _ _ _ y).symm
  · rw [outsAt0_B m c t h0]
    frame_out
    exact (canon_A _ _ _ y).symm

theorem stepSq_eq (c : Dev nD) (t : Fin cfg0.N) (y : S768x1.Idx) :
    stepSq (iblk m c 2 t) (iblk m c 0 t) (iblk m c 1 t) (y 0) = sqTerm m c t y := by
  unfold stepSq sqTerm
  refine congrArg (fun f : Fin 1024 → EReal => ∑ k, f k) (funext fun l => ?_)
  have e := tile_last m c t (ix2 (y 0) l)
  exact congrArg₂ (· * ·) e e

theorem sum_reset (c : Dev nD) (t : Fin cfg0.N) (h0 : t.val % 4 = 0) (y : S768x1.Idx) :
    (outsAt0 m c t.val t.isLt).2.2 y = 0 + sqTerm m c t y := by
  rw [outsAt0_A m c t h0]
  frame_out
  refine (squares _ _ _ _ y).trans (congrArg₂ (· + ·) ?_ (stepSq_eq m c t y))
  pointwise [k0_pay4]

theorem sum_step (c : Dev nD) (t : Fin cfg0.N) (h0 : ¬t.val % 4 = 0) (y : S768x1.Idx) :
    (outsAt0 m c t.val t.isLt).2.2 y = (outsAt0 m c (t.val - 1) (Nat.lt_of_le_of_lt (Nat.sub_le _ _) t.isLt)).2.2 y + sqTerm m c t y := by
  rw [outsAt0_B m c t h0]
  frame_out
  exact (squares _ _ _ _ y).trans (congrArg (_ + ·) (stepSq_eq m c t y))

theorem out_sum (c : Dev nD) : (dats m 0 c).arrAt 5 cfg0.N
    = fun i : S16896x1.Idx => ∑ j : Fin 4096, hv m c (i 0) j * hv m c (i 0) j := by
  refine (dats m 0 c).arrAt_eq_of_covers 5 _ (by decide +kernel) fun t hf y => ?_
  blk_simp
  rw [after0_5]
  have h15 : t.val % 4 = 3 := (flush0_5 t).mp hf
  have hN : t.val < 88 := lt_of_lt_of_eq t.isLt N_0
  refine (Pipeline.eq_sum_fin_of_reset_step_apply_of_flush (fun n h => (outsAt0 m c n h).2.2) 4 (fun _ => (0 : EReal))
    (fun t y => sqTerm m c t y) (fun t h y => sum_reset m c t h y) (fun t h y => sum_step m c t h y) t h15 y).trans ?_
  rw [zero_add]
  have er : ((View.whole main_v4_2).slice (win0_5.rect t)).emb y 0 = (row t (y 0) : Fin 16896) := by
    refine Fin.ext ((win0_5.rect_emb_val t y 0).trans ?_)
    rw [show win0_5.index t = _ from idx5 t]
    rfl
  show _ = ∑ j : Fin 4096, hv m c (((View.whole main_v4_2).slice (win0_5.rect t)).emb y 0) j * hv m c (((View.whole main_v4_2).slice (win0_5.rect t)).emb y 0) j
  rw [er]
  unfold sqTerm
  refine Fin.sum_mul_add_congr fun s k hl => ?_
  have e1 : row ⟨4 * (t.val / 4) + s.val, Pipeline.run_point_lt_of_flush t h15 s⟩ (y 0) = row t (y 0) := by
    apply Fin.ext; show (4 * (t.val / 4) + s.val) / 4 * 768 + _ = t.val / 4 * 768 + _; have := s.isLt; omega
  have e2 : col ⟨4 * (t.val / 4) + s.val, Pipeline.run_point_lt_of_flush t h15 s⟩ k = ⟨s.val * 1024 + k.val, hl⟩ := by
    apply Fin.ext; show (4 * (t.val / 4) + s.val) % 4 * 1024 + k.val = s.val * 1024 + k.val; rw [Nat.mul_add_mod, Nat.mod_eq_of_lt s.isLt]
  exact congrArg₂ (fun i j => hv m c i j * hv m c i j) e1 e2

end Cert.Proof.Out

end
-- ==== Proof.OutRef.lean ====
/-
  The reference's run of the projection added onto the stream.
-/
module

public import proofs.«01_k».proof.Proof.Gen.OutRefIdeal.Run
public import Idealize.ShloMosaic.Lib.Pipeline.ValueKit
public import Idealize.ShloMosaic.Lib.Pointwise

@[expose] public section

set_option maxRecDepth 16384

noncomputable section

namespace Cert.Proof.OutRef

open Cert.OutRefIdeal Cert.OutRefIdeal.Gen Idealize.ShloMosaic Idealize.SL.Sem

section Terms

variable (a : FVec Ideal S2x8448x4096 .bf16) (w : FVec Ideal S1x4096x4096 .f32) (h : FVec Ideal S2x8448x4096 .f32)

/-- The stream with the product added, by batch entry. -/
abbrev addT : FVec Ideal S2x8448x4096 .f32 :=
  addf h (Host.dotGeneral dot_S2x8448x4096_S4096x4096_S2x8448x4096_2_0_01_1_n_n none (extf .f32 a bitsLt_bf16_f32) (shapeCast _ w shapeCasts_S1x4096x4096_S4096x4096))

theorem addT_apply (n : Fin 2) (p : Fin 8448) (j : Fin 4096) :
    addT a w h (ix3 n p j) = h (ix3 n p j) + ∑ k : Fin 4096, a (ix3 n p k) * w (ix3 0 k j) := by
  unfold addT
  pointwise

/-- The same at a flat row. -/
abbrev hvT (i : Fin 16896) (j : Fin 4096) : EReal :=
  h (ix3 (⟨i.val / 8448, by have := i.isLt; omega⟩ : Fin 2) (⟨i.val % 8448, by omega⟩ : Fin 8448) j)
    + ∑ k : Fin 4096, a (ix3 (⟨i.val / 8448, by have := i.isLt; omega⟩ : Fin 2) (⟨i.val % 8448, by omega⟩ : Fin 8448) k) * w (ix3 0 k j)

/-- The stream by flat rows. -/
abbrev flatT : FVec Ideal S16896x4096 .f32 := shapeCast _ (addT a w h) shapeCasts_S2x8448x4096_S16896x4096

theorem flatT_apply (i : S16896x4096.Idx) : flatT a w h i = hvT a w h (i 0) (i 1) := by
  obtain ⟨r, l, rfl⟩ : ∃ (r : Fin 16896) (l : Fin 4096), i = ix2 r l := ⟨i 0, i 1, eq_ix2 i⟩
  have e : flatT a w h (ix2 r l) = addT a w h (ix3 (⟨r.val / 8448, by have := r.isLt; omega⟩ : Fin 2) (⟨r.val % 8448, by omega⟩ : Fin 8448) l) := by
    unfold flatT
    generalize addT a w h = g
    pointwise
  rw [e, addT_apply]
  rfl

theorem squares_apply (x : FVec Ideal S16896x4096 .f32) (i : S16896x1.Idx) :
    (broadcastInDim S16896x1 ![0] bcast_S16896_S16896x1_0
      (Host.reduceAdd (mulf x x) (constant S_ .f32 0x00000000#32) reducesTo_S16896x4096_S16896_d1 h_S_) : FVec Ideal S16896x1 .f32) i
      = ∑ j : Fin 4096, x (ix2 (i 0) j) * x (ix2 (i 0) j) := by
  obtain ⟨r, l, rfl⟩ : ∃ (r : Fin 16896) (l : Fin 1), i = ix2 r l := ⟨i 0, i 1, eq_ix2 i⟩
  pointwise

theorem sumT_apply (i : S16896x1.Idx) :
    (broadcastInDim S16896x1 ![0] bcast_S16896_S16896x1_0
      (Host.reduceAdd (mulf (flatT a w h) (flatT a w h)) (constant S_ .f32 0x00000000#32) reducesTo_S16896x4096_S16896_d1 h_S_) :
        FVec Ideal S16896x1 .f32) i
      = ∑ j : Fin 4096, hvT a w h (i 0) j * hvT a w h (i 0) j :=
  (squares_apply (flatT a w h) i).trans (Finset.sum_congr rfl fun j _ =>
    congrArg₂ (· * ·) (flatT_apply a w h (ix2 (i 0) j)) (flatT_apply a w h (ix2 (i 0) j)))

end Terms

variable (m : (ℓ : Loc nD τ sig) → Buf (Elt Ideal) ℓ)

/-- The stream after the addition, as the reference's arguments give it. -/
abbrev hv (c : Dev nD) : Fin 16896 → Fin 4096 → EReal :=
  hvT (m ((c.tc : Thread nD τ).loc main_arg0)) (m ((c.tc : Thread nD τ).loc main_arg1)) (m ((c.tc : Thread nD τ).loc main_arg2))

theorem run_values (ρ : Dev nD → PrngReg) :
    θ_run defs (onTc (τ := τ) (main (F := Ideal))) ⟨m, fun _ => 0, ρ⟩ fun r => ∀ c : Dev nD,
      (r.2.mem ((c.tc : Thread nD τ).loc main_v4) = fun i : S16896x4096.Idx => hv m c (i 0) (i 1))
      ∧ (r.2.mem ((c.tc : Thread nD τ).loc main_v5) = fun i : S16896x4096.Idx => hv m c (i 0) (i 1))
      ∧ (r.2.mem ((c.tc : Thread nD τ).loc main_v8) = fun i : S16896x1.Idx => ∑ j : Fin 4096, hv m c (i 0) j * hv m c (i 0) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.OutRefIdeal.Value.run m ρ)
  obtain ⟨h1, h2, h3, h4⟩ := h c
  refine ⟨h1.trans (funext fun i => ?_), h2.trans (funext fun i => ?_), h3.trans (funext fun i => ?_), h4⟩
  · exact flatT_apply _ _ _ i
  · exact flatT_apply _ _ _ i
  · exact sumT_apply _ _ _ i

end Cert.Proof.OutRef

end
-- ==== Proof.OutClaims.lean ====
/-
  The claims about the attention's output projection: the three frames, and the equality of its results with the reference's.
-/
module

public import proofs.«01_k».proof.Defs
public import proofs.«01_k».proof.Proof.Gen.Out.Frame
public import proofs.«01_k».proof.Proof.OutValue
public import proofs.«01_k».proof.Proof.OutRef
public import Idealize.ShloMosaic.Adequacy

@[expose] public section

set_option maxRecDepth 16384

noncomputable section

namespace Cert.Proof.Out

open Idealize.ShloMosaic Idealize.SL.Sem

/-- The call as it is executed at the machine's words ends with its arguments unchanged and every counter at zero. -/
theorem frame_call : Cert.quiescent_Out := fun m ρ _ => Cert.Out.Gen.frame m ρ

theorem frame_callIdeal : Cert.quiescent_OutIdeal := fun m ρ _ => Cert.OutIdeal.Gen.frame m ρ

theorem frame_reference : Cert.quiescent_OutRefIdeal := fun m ρ _ =>
  (θ_run Cert.OutRefIdeal.defs _ _).mono
    (fun r h => ⟨fun c => (h c).2.2.2, Idealize.ShloMosaic.sem_eq_zero_of_no_sems (by decide) r.2⟩)
    (Cert.Proof.OutRef.run_values m ρ)

/-- The call's results are the reference's. -/
theorem algebraic : Cert.algebraic_OutIdeal_OutRefIdeal := by
  intro m ρ m' ρ' _ hagree
  refine ⟨fun c i => hv m c (i 0) (i 1), fun c i => hv m c (i 0) (i 1), fun c i => (∑ j : Fin 4096, hv m c (i 0) j * hv m c (i 0) j : EReal),
    (θ_run Cert.OutIdeal.defs _ _).mono (fun r h c => ?_) (Cert.OutIdeal.Value.run_blocks m ρ),
    (θ_run Cert.OutRefIdeal.defs _ _).mono (fun r h c => ?_) (Cert.Proof.OutRef.run_values m' ρ')⟩
  · obtain ⟨h0, h1, h2, h3⟩ := h c
    exact ⟨h0.trans (out_h m c), h1.trans (out_short m c), h2.trans (out_sum m c), h3⟩
  · obtain ⟨h0, h1, h2, h3⟩ := h c
    obtain ⟨a0, a1, a2⟩ := hagree c
    have e0 : Cert.Proof.OutRef.hv m' c = hv m c := by
      unfold Cert.Proof.OutRef.hv Cert.Proof.OutRef.hvT hv res arow wcol
      rw [a0, a1, a2]
    rw [e0] at h0
    rw [e0] at h1
    rw [e0] at h2
    exact ⟨h0, h1, h2, h3⟩

end Cert.Proof.Out

end
-- ==== Proof.RopeMath.lean ====
/-
  One head normalised and rotated: the pair of half-length tables against the doubled ones.
-/
module

public import Idealize.ShloMosaic.Lib.Pointwise

@[expose] public section

noncomputable section

namespace Cert.Proof.Rope

open Idealize.ShloMosaic

/-- A head's entry over its root mean square, times the gain. -/
def unit (x g : Fin 128 → EReal) (e : Fin 128) : EReal :=
  x e * Ideal.rsqrt (Ideal.div (∑ k, x k * x k) (Ideal.ofBits .f32 0x43000000#32) + Ideal.ofBits .f32 0x358637BD#32) * g e

/-- The rotation written with tables as long as the head: each entry meets the one half a head away. -/
def rot (y c s : Fin 128 → EReal) (e : Fin 128) : EReal :=
  y e * c e + y ⟨(e.val + 128 - 64) % 128, Nat.mod_lt _ (by norm_num)⟩ * s e

/-- The half-length table twice over. -/
def twice (c : Fin 64 → EReal) (e : Fin 128) : EReal :=
  if h : e.val < 64 then c ⟨e.val, h⟩ else c ⟨e.val - 64, by have := e.isLt; omega⟩

/-- The half-length table twice over, its first copy negated. -/
def flip (s : Fin 64 → EReal) (e : Fin 128) : EReal :=
  if h : e.val < 64 then -s ⟨e.val, h⟩ else s ⟨e.val - 64, by have := e.isLt; omega⟩

theorem rot_low (y : Fin 128 → EReal) (c s : Fin 64 → EReal) (e : Fin 64) :
    rot y (twice c) (flip s) ⟨e.val, by have := e.isLt; omega⟩
      = y ⟨e.val, by have := e.isLt; omega⟩ * c e - y ⟨64 + e.val, by have := e.isLt; omega⟩ * s e := by
  have he := e.isLt
  unfold rot twice flip
  rw [dif_pos he, dif_pos he, mul_neg, sub_eq_add_neg]
  have i : (⟨(e.val + 128 - 64) % 128, Nat.mod_lt _ (by norm_num)⟩ : Fin 128) = ⟨64 + e.val, by omega⟩ := Fin.ext (by show (e.val + 128 - 64) % 128 = 64 + e.val; omega)
  exact congrArg (fun z => _ + -(y z * s e)) i

theorem rot_high (y : Fin 128 → EReal) (c s : Fin 64 → EReal) (e : Fin 64) :
    rot y (twice c) (flip s) ⟨64 + e.val, by have := e.isLt; omega⟩
      = y ⟨64 + e.val, by have := e.isLt; omega⟩ * c e + y ⟨e.val, by have := e.isLt; omega⟩ * s e := by
  have he := e.isLt
  unfold rot twice flip
  rw [dif_neg (by show ¬64 + e.val < 64; omega), dif_neg (by show ¬64 + e.val < 64; omega)]
  have i : (⟨(64 + e.val + 128 - 64) % 128, Nat.mod_lt _ (by norm_num)⟩ : Fin 128) = ⟨e.val, by omega⟩ := Fin.ext (by show (64 + e.val + 128 - 64) % 128 = e.val; omega)
  have j : (⟨64 + e.val - 64, by omega⟩ : Fin 64) = e := Fin.ext (by show 64 + e.val - 64 = e.val; omega)
  exact congrArg₂ (· + ·) (congrArg (fun z => _ * c z) j) (congrArg₂ (fun z z' => y z * s z') i j)

/-- The head of an array's row that column `j` lies in, normalised and rotated, read at `j`. -/
def head (p : Fin 4096 → EReal) (g : Fin 128 → EReal) (c s : Fin 64 → EReal) (j : Fin 4096) : EReal :=
  rot (unit (fun e => p ⟨j.val / 128 * 128 + e.val, by have := j.isLt; have := e.isLt; omega⟩) g) (twice c) (flip s)
    ⟨j.val % 128, Nat.mod_lt _ (by norm_num)⟩

/-- The scale of the queries. -/
abbrev qscale : EReal := Ideal.ofBits .f32 0x3E0293EE#32

/-- A row of the result by its three parts: rotated queries, rotated keys, values. -/
def parts (p : Fin 12288 → EReal) (qg kg : Fin 128 → EReal) (c s : Fin 64 → EReal) (j : Fin 12288) : EReal :=
  if h : j.val < 4096 then head (fun l => p ⟨0 + l.val, by have := l.isLt; omega⟩) qg c s ⟨j.val, h⟩ * qscale
  else if h' : j.val < 8192 then head (fun l => p ⟨4096 + l.val, by have := l.isLt; omega⟩) kg c s ⟨j.val - 4096, by omega⟩
  else p j

end Cert.Proof.Rope

end
-- ==== Proof.QkvValue.lean ====
/-
  The projected queries, keys and values, normalised and rotated by tiles, and the cast weights.
-/
module

public import proofs.«01_k».proof.Proof.Gen.QkvIdeal.Value
public import proofs.«01_k».proof.Proof.RopeMath
public import Idealize.ShloMosaic.Lib.Pipeline.ValueKit
public import Idealize.ShloMosaic.Lib.Pointwise

@[expose] public section

set_option maxRecDepth 16384

noncomputable section

namespace Cert.Proof.Qkv

open Cert.QkvIdeal Cert.QkvIdeal.Gen Idealize.ShloMosaic Idealize.ShloMosaic.TcCoe Idealize.SL.Sem
open Idealize.ShloMosaic.Pipeline (Dat)
open Cert.Proof.Rope (unit rot twice flip head qscale parts)

/-! ## One tile -/

section Tile

variable (v : FVec Ideal S1536x512 .f32) (g : Vec Ideal S1x128 .f32) (cs sn : Vec Ideal S1536x128 .f32)

/-- Row `r`, column `l` of a tile of heads, normalised and rotated. -/
def tile (r : Fin 1536) (l : Fin 512) : EReal :=
  rot (unit (fun e => v (ix2 r ⟨l.val / 128 * 128 + e.val, by have := l.isLt; have := e.isLt; omega⟩)) (fun e => g (ix2 0 e)))
    (fun e => cs (ix2 r e)) (fun e => sn (ix2 r e)) ⟨l.val % 128, Nat.mod_lt _ (by norm_num)⟩

theorem tile_at (q : Nat) (hq : q < 4) (r : Fin 1536) (e : Fin 128) :
    tile v g cs sn r ⟨128 * q + e.val, by have := e.isLt; omega⟩
      = rot (unit (fun e => v (ix2 r ⟨128 * q + e.val, by have := e.isLt; omega⟩)) (fun e => g (ix2 0 e)))
          (fun e => cs (ix2 r e)) (fun e => sn (ix2 r e)) e := by
  have he := e.isLt
  unfold tile
  have h1 : (128 * q + e.val) / 128 * 128 = 128 * q := by omega
  have h2 : (⟨(128 * q + e.val) % 128, Nat.mod_lt _ (by norm_num)⟩ : Fin 128) = e := Fin.ext (by show (128 * q + e.val) % 128 = e.val; omega)
  simp only [h1, h2]

theorem panel_A0 (r : Fin 1536) (e : Fin 128) :
    (k0_pay13 v g cs sn : FVec Ideal S1536x128 .bf16) (ix2 r e)
      = rot (unit (fun e => v (ix2 r ⟨0 + e.val, by have := e.isLt; omega⟩)) (fun e => g (ix2 0 e)))
          (fun e => cs (ix2 r e)) (fun e => sn (ix2 r e)) e * qscale := by
  unfold rot unit
  pointwise [k0_pay13, k0_pay10, k0_pay11, k0_pay12]

theorem panel_A1 (r : Fin 1536) (e : Fin 128) :
    (k0_pay17 (k0_pay12 sn) (k0_pay15 v g cs) (k0_pay16 v g) : FVec Ideal S1536x128 .bf16) (ix2 r e)
      = rot (unit (fun e => v (ix2 r ⟨128 + e.val, by have := e.isLt; omega⟩)) (fun e => g (ix2 0 e)))
          (fun e => cs (ix2 r e)) (fun e => sn (ix2 r e)) e * qscale := by
  unfold rot unit
  pointwise [k0_pay17, k0_pay15, k0_pay16, k0_pay14, k0_pay10, k0_pay11, k0_pay12]

theorem panel_A2 (r : Fin 1536) (e : Fin 128) :
    (k0_pay18 v (k0_pay10 g) (k0_pay11 cs) (k0_pay12 sn) : FVec Ideal S1536x128 .bf16) (ix2 r e)
      = rot (unit (fun e => v (ix2 r ⟨256 + e.val, by have := e.isLt; omega⟩)) (fun e => g (ix2 0 e)))
          (fun e => cs (ix2 r e)) (fun e => sn (ix2 r e)) e * qscale := by
  unfold rot unit
  pointwise [k0_pay18, k0_pay10, k0_pay11, k0_pay12]

theorem panel_A3 (r : Fin 1536) (e : Fin 128) :
    (k0_pay2 (k0_pay19 v (k0_pay10 g) (k0_pay11 cs) (k0_pay12 sn)) : FVec Ideal S1536x128 .bf16) (ix2 r e)
      = rot (unit (fun e => v (ix2 r ⟨384 + e.val, by have := e.isLt; omega⟩)) (fun e => g (ix2 0 e)))
          (fun e => cs (ix2 r e)) (fun e => sn (ix2 r e)) e * qscale := by
  unfold rot unit
  pointwise [k0_pay2, k0_pay19, k0_pay10, k0_pay11, k0_pay12]

theorem canon_A (y : S1536x512.Idx) :
    View.canon (Val := Elt Ideal) (e := .bf16)
      [⟨Rect.unit ![0, 384] ![1536, 128] inb_S1536x512_S1536x128_0_384, k0_pay2 (k0_pay19 v (k0_pay10 g) (k0_pay11 cs) (k0_pay12 sn))⟩, ⟨Rect.unit ![0, 256] ![1536, 128] inb_S1536x512_S1536x128_0_256, k0_pay18 v (k0_pay10 g) (k0_pay11 cs) (k0_pay12 sn)⟩, ⟨Rect.unit ![0, 128] ![1536, 128] inb_S1536x512_S1536x128_0_128, k0_pay17 (k0_pay12 sn) (k0_pay15 v g cs) (k0_pay16 v g)⟩, ⟨Rect.unit ![0, 0] ![1536, 128] inb_S1536x512_S1536x128_0_0, k0_pay13 v g cs sn⟩]
      y = tile v g cs sn (y 0) (y 1) * qscale := by
  canon_tiles x h
  · obtain ⟨r, l, rfl⟩ : ∃ (r : Fin 1536) (l : Fin 128), x = ix2 r l := ⟨x 0, x 1, eq_ix2 x⟩
    rw [panel_A3, show y 0 = r from Fin.ext h0, show y 1 = (⟨128 * 3 + l.val, by have := l.isLt; omega⟩ : Fin 512) from Fin.ext (h1),
      tile_at v g cs sn 3 (by norm_num) r l]
  · obtain ⟨r, l, rfl⟩ : ∃ (r : Fin 1536) (l : Fin 128), x = ix2 r l := ⟨x 0, x 1, eq_ix2 x⟩
    rw [panel_A2, show y 0 = r from Fin.ext h0, show y 1 = (⟨128 * 2 + l.val, by have := l.isLt; omega⟩ : Fin 512) from Fin.ext (h1),
      tile_at v g cs sn 2 (by norm_num) r l]
  · obtain ⟨r, l, rfl⟩ : ∃ (r : Fin 1536) (l : Fin 128), x = ix2 r l := ⟨x 0, x 1, eq_ix2 x⟩
    rw [panel_A1, show y 0 = r from Fin.ext h0, show y 1 = (⟨128 * 1 + l.val, by have := l.isLt; omega⟩ : Fin 512) from Fin.ext (h1),
      tile_at v g cs sn 1 (by norm_num) r l]
  · obtain ⟨r, l, rfl⟩ : ∃ (r : Fin 1536) (l : Fin 128), x = ix2 r l := ⟨x 0, x 1, eq_ix2 x⟩
    rw [panel_A0, show y 0 = r from Fin.ext h0, show y 1 = (⟨128 * 0 + l.val, by have := l.isLt; omega⟩ : Fin 512) from Fin.ext (h1.trans (Nat.zero_add _).symm),
      tile_at v g cs sn 0 (by norm_num) r l]

theorem panel_B0 (r : Fin 1536) (e : Fin 128) :
    (k0_pay23 v g cs sn : FVec Ideal S1536x128 .bf16) (ix2 r e)
      = rot (unit (fun e => v (ix2 r ⟨0 + e.val, by have := e.isLt; omega⟩)) (fun e => g (ix2 0 e)))
          (fun e => cs (ix2 r e)) (fun e => sn (ix2 r e)) e := by
  unfold rot unit
  pointwise [k0_pay23, k0_pay20, k0_pay21, k0_pay22]

theorem panel_B1 (r : Fin 1536) (e : Fin 128) :
    (k0_pay24 v g cs sn : FVec Ideal S1536x128 .bf16) (ix2 r e)
      = rot (unit (fun e => v (ix2 r ⟨128 + e.val, by have := e.isLt; omega⟩)) (fun e => g (ix2 0 e)))
          (fun e => cs (ix2 r e)) (fun e => sn (ix2 r e)) e := by
  unfold rot unit
  pointwise [k0_pay24, k0_pay20, k0_pay21, k0_pay22]

theorem panel_B2 (r : Fin 1536) (e : Fin 128) :
    (k0_pay25 v (k0_pay20 g) (k0_pay21 cs) (k0_pay22 sn) : FVec Ideal S1536x128 .bf16) (ix2 r e)
      = rot (unit (fun e => v (ix2 r ⟨256 + e.val, by have := e.isLt; omega⟩)) (fun e => g (ix2 0 e)))
          (fun e => cs (ix2 r e)) (fun e => sn (ix2 r e)) e := by
  unfold rot unit
  pointwise [k0_pay25, k0_pay20, k0_pay21, k0_pay22]

theorem panel_B3 (r : Fin 1536) (e : Fin 128) :
    (k0_pay26 v (k0_pay20 g) (k0_pay21 cs) (k0_pay22 sn) : FVec Ideal S1536x128 .bf16) (ix2 r e)
      = rot (unit (fun e => v (ix2 r ⟨384 + e.val, by have := e.isLt; omega⟩)) (fun e => g (ix2 0 e)))
          (fun e => cs (ix2 r e)) (fun e => sn (ix2 r e)) e := by
  unfold rot unit
  pointwise [k0_pay26, k0_pay20, k0_pay21, k0_pay22]

theorem canon_B (y : S1536x512.Idx) :
    View.canon (Val := Elt Ideal) (e := .bf16)
      [⟨Rect.unit ![0, 384] ![1536, 128] inb_S1536x512_S1536x128_0_384, k0_pay26 v (k0_pay20 g) (k0_pay21 cs) (k0_pay22 sn)⟩, ⟨Rect.unit ![0, 256] ![1536, 128] inb_S1536x512_S1536x128_0_256, k0_pay25 v (k0_pay20 g) (k0_pay21 cs) (k0_pay22 sn)⟩, ⟨Rect.unit ![0, 128] ![1536, 128] inb_S1536x512_S1536x128_0_128, k0_pay24 v g cs sn⟩, ⟨Rect.unit ![0, 0] ![1536, 128] inb_S1536x512_S1536x128_0_0, k0_pay23 v g cs sn⟩]
      y = tile v g cs sn (y 0) (y 1) := by
  canon_tiles x h
  · obtain ⟨r, l, rfl⟩ : ∃ (r : Fin 1536) (l : Fin 128), x = ix2 r l := ⟨x 0, x 1, eq_ix2 x⟩
    rw [panel_B3, show y 0 = r from Fin.ext h0, show y 1 = (⟨128 * 3 + l.val, by have := l.isLt; omega⟩ : Fin 512) from Fin.ext (h1),
      tile_at v g cs sn 3 (by norm_num) r l]
  · obtain ⟨r, l, rfl⟩ : ∃ (r : Fin 1536) (l : Fin 128), x = ix2 r l := ⟨x 0, x 1, eq_ix2 x⟩
    rw [panel_B2, show y 0 = r from Fin.ext h0, show y 1 = (⟨128 * 2 + l.val, by have := l.isLt; omega⟩ : Fin 512) from Fin.ext (h1),
      tile_at v g cs sn 2 (by norm_num) r l]
  · obtain ⟨r, l, rfl⟩ : ∃ (r : Fin 1536) (l : Fin 128), x = ix2 r l := ⟨x 0, x 1, eq_ix2 x⟩
    rw [panel_B1, show y 0 = r from Fin.ext h0, show y 1 = (⟨128 * 1 + l.val, by have := l.isLt; omega⟩ : Fin 512) from Fin.ext (h1),
      tile_at v g cs sn 1 (by norm_num) r l]
  · obtain ⟨r, l, rfl⟩ : ∃ (r : Fin 1536) (l : Fin 128), x = ix2 r l := ⟨x 0, x 1, eq_ix2 x⟩
    rw [panel_B0, show y 0 = r from Fin.ext h0, show y 1 = (⟨128 * 0 + l.val, by have := l.isLt; omega⟩ : Fin 512) from Fin.ext (h1.trans (Nat.zero_add _).symm),
      tile_at v g cs sn 0 (by norm_num) r l]

theorem prod_apply (x0 : Vec Ideal S1536x4096 .bf16) (x1 : Vec Ideal S4096x512 .bf16) (r : Fin 1536) (l : Fin 512) :
    (k0_pay1 x0 x1 : FVec Ideal S1536x512 .f32) (ix2 r l) = ∑ k : Fin 4096, x0 (ix2 r k) * x1 (ix2 k l) := by
  pointwise [k0_pay1]

theorem short_apply (x0 : Vec Ideal S1536x4096 .bf16) (x1 : Vec Ideal S4096x512 .bf16) (r : Fin 1536) (l : Fin 512) :
    (k0_pay7 x0 x1 : FVec Ideal S1536x512 .bf16) (ix2 r l) = ∑ k : Fin 4096, x0 (ix2 r k) * x1 (ix2 k l) := by
  pointwise [k0_pay7, k0_pay1]

end Tile

variable (m : (ℓ : Loc nD τ sig) → Buf (Elt Ideal) ℓ)

/-! ## Where each window's block lies at grid point `t` -/

theorem idx0 : ∀ t : Fin cfg0.N, (cfg0.win 0).index t = ![t.val / 24, 0] :=
  (by decide +kernel : ∀ t : Fin grid0.N, win0_0.index t = ![t.val / 24, 0])
theorem idx1 : ∀ t : Fin cfg0.N, (cfg0.win 1).index t = ![0, t.val % 24] :=
  (by decide +kernel : ∀ t : Fin grid0.N, win0_1.index t = ![0, t.val % 24])
theorem idx2 : ∀ t : Fin cfg0.N, (cfg0.win 2).index t = ![t.val / 24, 0] :=
  (by decide +kernel : ∀ t : Fin grid0.N, win0_2.index t = ![t.val / 24, 0])
theorem idx3 : ∀ t : Fin cfg0.N, (cfg0.win 3).index t = ![t.val / 24, 0] :=
  (by decide +kernel : ∀ t : Fin grid0.N, win0_3.index t = ![t.val / 24, 0])
theorem idx4 : ∀ t : Fin cfg0.N, (cfg0.win 4).index t = ![0, 0] :=
  (by decide +kernel : ∀ t : Fin grid0.N, win0_4.index t = ![0, 0])
theorem idx5 : ∀ t : Fin cfg0.N, (cfg0.win 5).index t = ![0, 0] :=
  (by decide +kernel : ∀ t : Fin grid0.N, win0_5.index t = ![0, 0])
theorem idx9 : ∀ t : Fin cfg0.N, (cfg0.win 9).index t = ![t.val / 24, t.val % 24] :=
  (by decide +kernel : ∀ t : Fin grid0.N, win0_9.index t = ![t.val / 24, t.val % 24])

/-- The flat row a tile's row `r` is at point `t`. -/
abbrev row (t : Fin cfg0.N) (r : Fin 1536) : Fin 16896 :=
  ⟨t.val / 24 * 1536 + r.val, by have h : t.val < 264 := lt_of_lt_of_eq t.isLt N_0; have := r.isLt; omega⟩
/-- The column a tile's column `l` is at point `t`. -/
abbrev col (t : Fin cfg0.N) (l : Fin 512) : Fin 12288 :=
  ⟨t.val % 24 * 512 + l.val, by have := l.isLt; omega⟩

/-- The arguments' entries. -/
abbrev urow (c : Dev nD) (i : Fin 16896) (k : Fin 4096) : EReal :=
  m ((c.tc : Thread nD τ).loc main_arg0) (ix3 (⟨i.val / 8448, by have := i.isLt; omega⟩ : Fin 2) (⟨i.val % 8448, by omega⟩ : Fin 8448) k)
abbrev wcol (c : Dev nD) (j : Fin 12288) (k : Fin 4096) : EReal := m ((c.tc : Thread nD τ).loc main_arg1) (ix3 0 k j)
abbrev qgain (c : Dev nD) (e : Fin 128) : EReal := m ((c.tc : Thread nD τ).loc main_arg2) (ix2 0 e)
abbrev kgain (c : Dev nD) (e : Fin 128) : EReal := m ((c.tc : Thread nD τ).loc main_arg3) (ix2 0 e)
abbrev cosv (c : Dev nD) (i : Fin 16896) (e : Fin 64) : EReal :=
  m ((c.tc : Thread nD τ).loc main_arg4) (ix2 (⟨i.val % 8448, by omega⟩ : Fin 8448) e)
abbrev sinv (c : Dev nD) (i : Fin 16896) (e : Fin 64) : EReal :=
  m ((c.tc : Thread nD τ).loc main_arg5) (ix2 (⟨i.val % 8448, by omega⟩ : Fin 8448) e)

/-- The product, row by row. -/
abbrev pv (c : Dev nD) (i : Fin 16896) (j : Fin 12288) : EReal := ∑ k : Fin 4096, urow m c i k * wcol m c j k

/-- The result as the arguments give it. -/
abbrev qkvv (c : Dev nD) (i : Fin 16896) (j : Fin 12288) : EReal :=
  parts (pv m c i) (qgain m c) (kgain m c) (cosv m c i) (sinv m c i) j

theorem blk_u (c : Dev nD) (t : Fin cfg0.N) (r : Fin 1536) (k : Fin 4096) : iblk m c 0 t (ix2 r k) = urow m c (row t r) k := by
  have h : t.val < 264 := lt_of_lt_of_eq t.isLt N_0
  blk_simp [iblk, idx0]
  entry_read
  pointwise
  blk_ext [idx0 t]

theorem blk_w (c : Dev nD) (t : Fin cfg0.N) (k : Fin 4096) (l : Fin 512) : iblk m c 1 t (ix2 k l) = wcol m c (col t l) k := by
  have h : t.val < 264 := lt_of_lt_of_eq t.isLt N_0
  blk_simp [iblk, idx1]
  entry_read
  pointwise
  blk_ext [idx1 t]

theorem blk_qg (c : Dev nD) (t : Fin cfg0.N) (e : Fin 128) : iblk m c 4 t (ix2 0 e) = qgain m c e := by
  blk_simp [iblk, idx4]
  entry_read
  pointwise
  blk_ext [idx4 t]

theorem blk_kg (c : Dev nD) (t : Fin cfg0.N) (e : Fin 128) : iblk m c 5 t (ix2 0 e) = kgain m c e := by
  blk_simp [iblk, idx5]
  entry_read
  pointwise
  blk_ext [idx5 t]

theorem at_cos0 (t : Fin cfg0.N) (r : Fin 1536) (e : Fin 128) :
    ((View.whole main_v3).slice (win0_2.rect t)).emb (ix2 r e) 0 = row t r := by
  refine Fin.ext ((win0_2.rect_emb_val t (ix2 r e) 0).trans ?_)
  rw [show win0_2.index t = _ from idx2 t]
  rfl
theorem at_cos1 (t : Fin cfg0.N) (r : Fin 1536) (e : Fin 128) :
    ((View.whole main_v3).slice (win0_2.rect t)).emb (ix2 r e) 1 = e := by
  refine Fin.ext ((win0_2.rect_emb_val t (ix2 r e) 1).trans ?_)
  rw [show win0_2.index t = _ from idx2 t]
  exact (congrArg (· + e.val) (Nat.zero_mul 128)).trans (Nat.zero_add e.val)

theorem blk_cos (c : Dev nD) (t : Fin cfg0.N) (r : Fin 1536) (e : Fin 128) :
    iblk m c 2 t (ix2 r e) = twice (cosv m c (row t r)) e := by
  have e0 := at_cos0 t r e
  have e1 := at_cos1 t r e
  blk_simp [iblk, idx2]
  entry_read
  generalize ((View.whole main_v3).slice (win0_2.rect t)).emb (ix2 r e) = z at e0 e1 ⊢
  obtain ⟨z0, z1, rfl⟩ : ∃ (z0 : Fin 16896) (z1 : Fin 128), z = ix2 z0 z1 := ⟨z 0, z 1, eq_ix2 z⟩
  obtain rfl : z0 = row t r := e0
  obtain rfl : z1 = e := e1
  pointwise
  rfl

theorem at_sin0 (t : Fin cfg0.N) (r : Fin 1536) (e : Fin 128) :
    ((View.whole main_v8).slice (win0_3.rect t)).emb (ix2 r e) 0 = row t r := by
  refine Fin.ext ((win0_3.rect_emb_val t (ix2 r e) 0).trans ?_)
  rw [show win0_3.index t = _ from idx3 t]
  rfl
theorem at_sin1 (t : Fin cfg0.N) (r : Fin 1536) (e : Fin 128) :
    ((View.whole main_v8).slice (win0_3.rect t)).emb (ix2 r e) 1 = e := by
  refine Fin.ext ((win0_3.rect_emb_val t (ix2 r e) 1).trans ?_)
  rw [show win0_3.index t = _ from idx3 t]
  exact (congrArg (· + e.val) (Nat.zero_mul 128)).trans (Nat.zero_add e.val)

theorem blk_sin (c : Dev nD) (t : Fin cfg0.N) (r : Fin 1536) (e : Fin 128) :
    iblk m c 3 t (ix2 r e) = flip (sinv m c (row t r)) e := by
  have e0 := at_sin0 t r e
  have e1 := at_sin1 t r e
  blk_simp [iblk, idx3]
  entry_read
  generalize ((View.whole main_v8).slice (win0_3.rect t)).emb (ix2 r e) = z at e0 e1 ⊢
  obtain ⟨z0, z1, rfl⟩ : ∃ (z0 : Fin 16896) (z1 : Fin 128), z = ix2 z0 z1 := ⟨z 0, z 1, eq_ix2 z⟩
  obtain rfl : z0 = row t r := e0
  obtain rfl : z1 = e := e1
  pointwise
  rfl

/-- The tile of queries is the rotated heads of the product. -/
theorem tile_q (c : Dev nD) (t : Fin cfg0.N) (r : Fin 1536) (l : Fin 512) :
    tile (k0_pay1 (iblk m c 0 t) (iblk m c 1 t)) (iblk m c 4 t) (iblk m c 2 t) (iblk m c 3 t) r l
      = rot (unit (fun e => pv m c (row t r) (col t ⟨l.val / 128 * 128 + e.val, by have := l.isLt; have := e.isLt; omega⟩)) (qgain m c))
          (twice (cosv m c (row t r))) (flip (sinv m c (row t r))) ⟨l.val % 128, Nat.mod_lt _ (by norm_num)⟩ := by
  unfold tile
  have hp : ∀ l : Fin 512, (k0_pay1 (iblk m c 0 t) (iblk m c 1 t) : FVec Ideal S1536x512 .f32) (ix2 r l) = pv m c (row t r) (col t l) := fun l => by
    rw [prod_apply]
    simp only [blk_u, blk_w]
  have hg : (fun e => iblk m c 4 t (ix2 0 e) : Fin 128 → EReal) = qgain m c := funext fun e => blk_qg m c t e
  have hc : (fun e => iblk m c 2 t (ix2 r e) : Fin 128 → EReal) = twice (cosv m c (row t r)) := funext fun e => blk_cos m c t r e
  have hs : (fun e => iblk m c 3 t (ix2 r e) : Fin 128 → EReal) = flip (sinv m c (row t r)) := funext fun e => blk_sin m c t r e
  simp only [hp]
  exact congrArg₂ (fun G C => rot (unit _ G) C.1 C.2 _) hg (congrArg₂ Prod.mk hc hs)

/-- The tile of keys is the rotated heads of the product. -/
theorem tile_k (c : Dev nD) (t : Fin cfg0.N) (r : Fin 1536) (l : Fin 512) :
    tile (k0_pay1 (iblk m c 0 t) (iblk m c 1 t)) (iblk m c 5 t) (iblk m c 2 t) (iblk m c 3 t) r l
      = rot (unit (fun e => pv m c (row t r) (col t ⟨l.val / 128 * 128 + e.val, by have := l.isLt; have := e.isLt; omega⟩)) (kgain m c))
          (twice (cosv m c (row t r))) (flip (sinv m c (row t r))) ⟨l.val % 128, Nat.mod_lt _ (by norm_num)⟩ := by
  unfold tile
  have hp : ∀ l : Fin 512, (k0_pay1 (iblk m c 0 t) (iblk m c 1 t) : FVec Ideal S1536x512 .f32) (ix2 r l) = pv m c (row t r) (col t l) := fun l => by
    rw [prod_apply]
    simp only [blk_u, blk_w]
  have hg : (fun e => iblk m c 5 t (ix2 0 e) : Fin 128 → EReal) = kgain m c := funext fun e => blk_kg m c t e
  have hc : (fun e => iblk m c 2 t (ix2 r e) : Fin 128 → EReal) = twice (cosv m c (row t r)) := funext fun e => blk_cos m c t r e
  have hs : (fun e => iblk m c 3 t (ix2 r e) : Fin 128 → EReal) = flip (sinv m c (row t r)) := funext fun e => blk_sin m c t r e
  simp only [hp]
  exact congrArg₂ (fun G C => rot (unit _ G) C.1 C.2 _) hg (congrArg₂ Prod.mk hc hs)

theorem parts_q (c : Dev nD) (t : Fin cfg0.N) (ht : t.val % 24 ≤ 7) (r : Fin 1536) (l : Fin 512) :
    rot (unit (fun e => pv m c (row t r) (col t ⟨l.val / 128 * 128 + e.val, by have := l.isLt; have := e.isLt; omega⟩)) (qgain m c))
        (twice (cosv m c (row t r))) (flip (sinv m c (row t r))) ⟨l.val % 128, Nat.mod_lt _ (by norm_num)⟩ * qscale
      = qkvv m c (row t r) (col t l) := by
  have hl := l.isLt
  unfold qkvv parts head
  rw [dif_pos (show (col t l).val < 4096 by show t.val % 24 * 512 + l.val < 4096; omega)]
  have h1 : ∀ e : Fin 128, (col t ⟨l.val / 128 * 128 + e.val, by have := e.isLt; omega⟩ : Fin 12288)
      = ⟨0 + ((t.val % 24 * 512 + l.val) / 128 * 128 + e.val), by have := e.isLt; omega⟩ := fun e =>
    Fin.ext (by show t.val % 24 * 512 + (l.val / 128 * 128 + e.val) = 0 + ((t.val % 24 * 512 + l.val) / 128 * 128 + e.val); omega)
  have h2 : (⟨l.val % 128, Nat.mod_lt _ (by norm_num)⟩ : Fin 128) = ⟨(t.val % 24 * 512 + l.val) % 128, Nat.mod_lt _ (by norm_num)⟩ :=
    Fin.ext (by show l.val % 128 = (t.val % 24 * 512 + l.val) % 128; omega)
  simp only [h1, h2]

theorem parts_k (c : Dev nD) (t : Fin cfg0.N) (h8 : 8 ≤ t.val % 24) (h15 : t.val % 24 ≤ 15) (r : Fin 1536) (l : Fin 512) :
    rot (unit (fun e => pv m c (row t r) (col t ⟨l.val / 128 * 128 + e.val, by have := l.isLt; have := e.isLt; omega⟩)) (kgain m c))
        (twice (cosv m c (row t r))) (flip (sinv m c (row t r))) ⟨l.val % 128, Nat.mod_lt _ (by norm_num)⟩
      = qkvv m c (row t r) (col t l) := by
  have hl := l.isLt
  unfold qkvv parts head
  rw [dif_neg (show ¬(col t l).val < 4096 by show ¬t.val % 24 * 512 + l.val < 4096; omega),
    dif_pos (show (col t l).val < 8192 by show t.val % 24 * 512 + l.val < 8192; omega)]
  have h1 : ∀ e : Fin 128, (col t ⟨l.val / 128 * 128 + e.val, by have := e.isLt; omega⟩ : Fin 12288)
      = ⟨4096 + ((t.val % 24 * 512 + l.val - 4096) / 128 * 128 + e.val), by have := e.isLt; omega⟩ := fun e =>
    Fin.ext (by show t.val % 24 * 512 + (l.val / 128 * 128 + e.val) = 4096 + ((t.val % 24 * 512 + l.val - 4096) / 128 * 128 + e.val); omega)
  have h2 : (⟨l.val % 128, Nat.mod_lt _ (by norm_num)⟩ : Fin 128) = ⟨(t.val % 24 * 512 + l.val - 4096) % 128, Nat.mod_lt _ (by norm_num)⟩ :=
    Fin.ext (by show l.val % 128 = (t.val % 24 * 512 + l.val - 4096) % 128; omega)
  simp only [h1, h2]

theorem parts_v (c : Dev nD) (t : Fin cfg0.N) (h16 : 16 ≤ t.val % 24) (r : Fin 1536) (l : Fin 512) :
    pv m c (row t r) (col t l) = qkvv m c (row t r) (col t l) := by
  unfold qkvv parts
  rw [dif_neg (show ¬(col t l).val < 4096 by show ¬t.val % 24 * 512 + l.val < 4096; omega),
    dif_neg (show ¬(col t l).val < 8192 by show ¬t.val % 24 * 512 + l.val < 8192; omega)]

theorem out_eq (c : Dev nD) (t : Fin cfg0.N) (y : S1536x512.Idx) :
    (outsAt0 m c t.val t.isLt).1 y = qkvv m c (row t (y 0)) (col t (y 1)) := by
  by_cases hq : t.val % 24 ≤ 7
  · rw [outsAt0_A m c t hq (by omega) (by omega)]
    frame_out
    refine (canon_A _ _ _ _ y).trans ?_
    rw [← parts_q m c t hq (y 0) (y 1), ← tile_q m c t (y 0) (y 1)]
  · by_cases hk : t.val % 24 ≤ 15
    · rw [outsAt0_B m c t hq (by omega) (by omega)]
      frame_out
      refine (canon_B _ _ _ _ y).trans ?_
      rw [← parts_k m c t (by omega) hk (y 0) (y 1), ← tile_k m c t (y 0) (y 1)]
    · rw [outsAt0_C m c t hq (by omega) (by omega)]
      frame_out
      obtain ⟨r, l, rfl⟩ : ∃ (r : Fin 1536) (l : Fin 512), y = ix2 r l := ⟨y 0, y 1, eq_ix2 y⟩
      refine (short_apply _ _ r l).trans (Eq.trans ?_ (parts_v m c t (by omega) r l))
      simp only [blk_u, blk_w]

/-! ## The arrays after the run -/

theorem out_qkv (c : Dev nD) : (dats m 0 c).arrAt 9 cfg0.N = fun i : S16896x12288.Idx => qkvv m c (i 0) (i 1) := by
  refine (dats m 0 c).arrAt_eq_of_covers 9 _ (by decide +kernel) fun t hf y => ?_
  blk_simp
  rw [after0_9]
  refine (out_eq m c t y).trans ?_
  have e0 : (row t (y 0) : Fin 16896) = ((View.whole main_v19_0).slice (win0_9.rect t)).emb y 0 := by
    refine Fin.ext (((win0_9.rect_emb_val t y 0).trans ?_).symm)
    rw [show win0_9.index t = _ from idx9 t]
    rfl
  have e1 : (col t (y 1) : Fin 12288) = ((View.whole main_v19_0).slice (win0_9.rect t)).emb y 1 := by
    refine Fin.ext (((win0_9.rect_emb_val t y 1).trans ?_).symm)
    rw [show win0_9.index t = _ from idx9 t]
    rfl
  exact congrArg₂ (qkvv m c) e0 e1

theorem idx6 : ∀ t : Fin cfg0.N, (cfg0.win 6).index t = ![0, min t.val 255, 0] :=
  (by decide +kernel : ∀ t : Fin grid0.N, win0_6.index t = ![0, min t.val 255, 0])
theorem idx10 : ∀ t : Fin cfg0.N, (cfg0.win 10).index t = ![min t.val 255, 0] :=
  (by decide +kernel : ∀ t : Fin grid0.N, win0_10.index t = ![min t.val 255, 0])

/-- The weights cast along the way: row `i`, column `j`. -/
abbrev src10 (c : Dev nD) (i : Fin 4096) (j : Fin 4096) : EReal := m ((c.tc : Thread nD τ).loc main_arg6) (ix3 0 i j)
/-- What the run leaves there. -/
abbrev cv10 (c : Dev nD) (i : Fin 4096) (j : Fin 4096) : EReal := src10 m c i j
/-- The array's row a block's row is at point `t`. -/
abbrev row10 (t : Fin cfg0.N) (r : Fin 16) : Fin 4096 :=
  ⟨min t.val 255 * 16 + r.val, by have := r.isLt; omega⟩

theorem blk6 (c : Dev nD) (t : Fin cfg0.N) (r : Fin 16) (l : Fin 4096) :
    iblk m c 6 t (ix3 0 r l) = src10 m c (row10 t r) l := by
  blk_simp [iblk, idx6]
  entry_read
  refine congrArg _ ?_
  blk_ext [idx6 t]

theorem k0_pay3_apply (x : Vec Ideal S1x16x4096 .f32) (r : Fin 16) (l : Fin 4096) :
    (k0_pay3 x : FVec Ideal S16x4096 .bf16) (ix2 r l) = x (ix3 0 r l) := by
  pointwise [k0_pay3]

theorem k0_pay5_apply (x : Vec Ideal S1x16x4096 .f32) (r : Fin 16) (l : Fin 4096) :
    (k0_pay5 x : FVec Ideal S16x4096 .bf16) (ix2 r l) = x (ix3 0 r l) := by
  pointwise [k0_pay5]

theorem k0_pay8_apply (x : Vec Ideal S1x16x4096 .f32) (r : Fin 16) (l : Fin 4096) :
    (k0_pay8 x : FVec Ideal S16x4096 .bf16) (ix2 r l) = x (ix3 0 r l) := by
  pointwise [k0_pay8]

theorem left10 (c : Dev nD) (t : Fin cfg0.N) (r : Fin 16) (l : Fin 4096) :
    (outsAt0 m c t.val t.isLt).2.1 (ix2 r l) = cv10 m c (row10 t r) l := by
  have e := blk6 m c t r l
  refine Eq.trans ?_ e
  by_cases hq : t.val % 24 ≤ 7
  · rw [outsAt0_A m c t hq (by omega) (by omega)]
    frame_out
    exact k0_pay3_apply _ r l
  · by_cases hk : t.val % 24 ≤ 15
    · rw [outsAt0_B m c t hq (by omega) (by omega)]
      frame_out
      exact k0_pay5_apply _ r l
    · rw [outsAt0_C m c t hq (by omega) (by omega)]
      frame_out
      exact k0_pay8_apply _ r l

theorem out_cast10 (c : Dev nD) : (dats m 0 c).arrAt 10 cfg0.N
    = fun i : S4096x4096.Idx => cv10 m c (i 0) (i 1) := by
  refine (dats m 0 c).arrAt_eq_of_covers 10 _ (by decide +kernel) fun t hf y => ?_
  blk_simp
  rw [after0_10]
  obtain ⟨r, l, rfl⟩ : ∃ (r : Fin 16) (l : Fin 4096), y = ix2 r l := ⟨y 0, y 1, eq_ix2 y⟩
  refine (left10 m c t r l).trans ?_
  have e0 : (row10 t r : Fin 4096) = ((View.whole main_v19_1).slice (win0_10.rect t)).emb (ix2 r l) 0 := by
    refine Fin.ext (((win0_10.rect_emb_val t (ix2 r l) 0).trans ?_).symm)
    rw [show win0_10.index t = _ from idx10 t]
    rfl
  have e1 : (l : Fin 4096) = ((View.whole main_v19_1).slice (win0_10.rect t)).emb (ix2 r l) 1 := by
    refine Fin.ext (((win0_10.rect_emb_val t (ix2 r l) 1).trans ?_).symm)
    rw [show win0_10.index t = _ from idx10 t]
    exact (congrArg (· + l.val) (Nat.zero_mul 4096)).trans (Nat.zero_add l.val)
  exact congrArg₂ (cv10 m c) e0 e1

theorem idx7 : ∀ t : Fin cfg0.N, (cfg0.win 7).index t = ![0, min t.val 255, 0] :=
  (by decide +kernel : ∀ t : Fin grid0.N, win0_7.index t = ![0, min t.val 255, 0])
theorem idx11 : ∀ t : Fin cfg0.N, (cfg0.win 11).index t = ![min t.val 255, 0] :=
  (by decide +kernel : ∀ t : Fin grid0.N, win0_11.index t = ![min t.val 255, 0])
theorem idx8 : ∀ t : Fin cfg0.N, (cfg0.win 8).index t = ![min t.val 255, 0] :=
  (by decide +kernel : ∀ t : Fin grid0.N, win0_8.index t = ![min t.val 255, 0])

/-- The weights cast along the way: row `i`, column `j`. -/
abbrev src11 (c : Dev nD) (i : Fin 4096) (j : Fin 16384) : EReal := m ((c.tc : Thread nD τ).loc main_arg7) (ix3 0 i j)
/-- The gain of row `i`. -/
abbrev gain11 (c : Dev nD) (i : Fin 4096) : EReal := m ((c.tc : Thread nD τ).loc main_arg8) (ix2 0 i)
/-- What the run leaves there. -/
abbrev cv11 (c : Dev nD) (i : Fin 4096) (j : Fin 16384) : EReal := src11 m c i j * gain11 m c i
/-- The array's row a block's row is at point `t`. -/
abbrev row11 (t : Fin cfg0.N) (r : Fin 16) : Fin 4096 :=
  ⟨min t.val 255 * 16 + r.val, by have := r.isLt; omega⟩

theorem blk7 (c : Dev nD) (t : Fin cfg0.N) (r : Fin 16) (l : Fin 16384) :
    iblk m c 7 t (ix3 0 r l) = src11 m c (row11 t r) l := by
  blk_simp [iblk, idx7]
  entry_read
  refine congrArg _ ?_
  blk_ext [idx7 t]

theorem blk8 (c : Dev nD) (t : Fin cfg0.N) (r : Fin 16) :
    iblk m c 8 t (ix2 r 0) = gain11 m c (row11 t r) := by
  blk_simp [iblk, idx8]
  entry_read
  pointwise
  refine congrArg _ ?_
  blk_ext [idx8 t]

theorem k0_pay4_apply (x : Vec Ideal S1x16x16384 .f32) (g : Vec Ideal S16x1 .f32) (r : Fin 16) (l : Fin 16384) :
    (k0_pay4 x g : FVec Ideal S16x16384 .bf16) (ix2 r l) = x (ix3 0 r l) * g (ix2 r 0) := by
  pointwise [k0_pay4]

theorem k0_pay6_apply (x : Vec Ideal S1x16x16384 .f32) (g : Vec Ideal S16x1 .f32) (r : Fin 16) (l : Fin 16384) :
    (k0_pay6 x g : FVec Ideal S16x16384 .bf16) (ix2 r l) = x (ix3 0 r l) * g (ix2 r 0) := by
  pointwise [k0_pay6]

theorem k0_pay9_apply (x : Vec Ideal S1x16x16384 .f32) (g : Vec Ideal S16x1 .f32) (r : Fin 16) (l : Fin 16384) :
    (k0_pay9 x g : FVec Ideal S16x16384 .bf16) (ix2 r l) = x (ix3 0 r l) * g (ix2 r 0) := by
  pointwise [k0_pay9]

theorem left11 (c : Dev nD) (t : Fin cfg0.N) (r : Fin 16) (l : Fin 16384) :
    (outsAt0 m c t.val t.isLt).2.2 (ix2 r l) = cv11 m c (row11 t r) l := by
  have e := congrArg₂ (fun x y : EReal => x * y) (blk7 m c t r l) (blk8 m c t r)
  refine Eq.trans ?_ e
  by_cases hq : t.val % 24 ≤ 7
  · rw [outsAt0_A m c t hq (by omega) (by omega)]
    frame_out
    exact k0_pay4_apply _ _ r l
  · by_cases hk : t.val % 24 ≤ 15
    · rw [outsAt0_B m c t hq (by omega) (by omega)]
      frame_out
      exact k0_pay6_apply _ _ r l
    · rw [outsAt0_C m c t hq (by omega) (by omega)]
      frame_out
      exact k0_pay9_apply _ _ r l

theorem out_cast11 (c : Dev nD) : (dats m 0 c).arrAt 11 cfg0.N
    = fun i : S4096x16384.Idx => cv11 m c (i 0) (i 1) := by
  refine (dats m 0 c).arrAt_eq_of_covers 11 _ (by decide +kernel) fun t hf y => ?_
  blk_simp
  rw [after0_11]
  obtain ⟨r, l, rfl⟩ : ∃ (r : Fin 16) (l : Fin 16384), y = ix2 r l := ⟨y 0, y 1, eq_ix2 y⟩
  refine (left11 m c t r l).trans ?_
  have e0 : (row11 t r : Fin 4096) = ((View.whole main_v19_2).slice (win0_11.rect t)).emb (ix2 r l) 0 := by
    refine Fin.ext (((win0_11.rect_emb_val t (ix2 r l) 0).trans ?_).symm)
    rw [show win0_11.index t = _ from idx11 t]
    rfl
  have e1 : (l : Fin 16384) = ((View.whole main_v19_2).slice (win0_11.rect t)).emb (ix2 r l) 1 := by
    refine Fin.ext (((win0_11.rect_emb_val t (ix2 r l) 1).trans ?_).symm)
    rw [show win0_11.index t = _ from idx11 t]
    exact (congrArg (· + l.val) (Nat.zero_mul 16384)).trans (Nat.zero_add l.val)
  exact congrArg₂ (cv11 m c) e0 e1

end Cert.Proof.Qkv

end
-- ==== Proof.QkvRef.lean ====
/-
  The reference's run of the projection to queries, keys and values.
-/
module

public import proofs.«01_k».proof.Proof.Gen.QkvRefIdeal.Run
public import proofs.«01_k».proof.Proof.RopeMath
public import Idealize.ShloMosaic.Lib.Pipeline.ValueKit
public import Idealize.ShloMosaic.Lib.Pointwise

@[expose] public section

set_option maxRecDepth 16384

noncomputable section

namespace Cert.Proof.QkvRef

open Cert.QkvRefIdeal Cert.QkvRefIdeal.Gen Idealize.ShloMosaic Idealize.SL.Sem
open Cert.Proof.Rope (unit rot twice flip head qscale parts rot_low rot_high)

section Terms

variable (u : FVec Ideal S2x8448x4096 .bf16) (w : FVec Ideal S1x4096x12288 .f32) (qg kg : FVec Ideal S1x128 .f32)
  (cs sn : FVec Ideal S8448x64 .f32)

/-- The product, by batch entry. -/
abbrev dotT : FVec Ideal S2x8448x12288 .f32 :=
  Host.dotGeneral dot_S2x8448x4096_S4096x12288_S2x8448x12288_2_0_01_1_n_n none (extf .f32 u bitsLt_bf16_f32) (shapeCast _ w shapeCasts_S1x4096x12288_S4096x12288)

theorem dotT_apply (n : Fin 2) (p : Fin 8448) (j : Fin 12288) :
    dotT u w (ix3 n p j) = ∑ k : Fin 4096, u (ix3 n p k) * w (ix3 0 k j) := by
  unfold dotT
  pointwise

/-- A third of the product's columns, by heads. -/
abbrev heads0 (d : FVec Ideal S2x8448x12288 .f32) : FVec Ideal S2x8448x32x128 .f32 :=
  shapeCast _ (extractStridedSlice S2x8448x4096 ![0, 0, 0] d slices_S2x8448x12288_S2x8448x4096_0_0_0) shapeCasts_S2x8448x4096_S2x8448x32x128

theorem heads0_apply (d : FVec Ideal S2x8448x12288 .f32) (n : Fin 2) (p : Fin 8448) (a : Fin 32) (e : Fin 128) :
    heads0 d (ix4 n p a e) = d (ix3 n p ⟨0 + (a.val * 128 + e.val), by have := a.isLt; have := e.isLt; omega⟩) := by
  unfold heads0
  pointwise

/-- A third of the product's columns, by heads. -/
abbrev heads4096 (d : FVec Ideal S2x8448x12288 .f32) : FVec Ideal S2x8448x32x128 .f32 :=
  shapeCast _ (extractStridedSlice S2x8448x4096 ![0, 0, 4096] d slices_S2x8448x12288_S2x8448x4096_0_0_4096) shapeCasts_S2x8448x4096_S2x8448x32x128

theorem heads4096_apply (d : FVec Ideal S2x8448x12288 .f32) (n : Fin 2) (p : Fin 8448) (a : Fin 32) (e : Fin 128) :
    heads4096 d (ix4 n p a e) = d (ix3 n p ⟨4096 + (a.val * 128 + e.val), by have := a.isLt; have := e.isLt; omega⟩) := by
  unfold heads4096
  pointwise

/-- Heads normalised. -/
abbrev normT (x : FVec Ideal S2x8448x32x128 .f32) (g : FVec Ideal S1x128 .f32) : FVec Ideal S2x8448x32x128 .f32 :=
  mulf (mulf x (broadcastInDim S2x8448x32x128 ![0, 1, 2, 3] bcast_S2x8448x32x1_S2x8448x32x128_0_1_2_3 (Host.rsqrt (addf (Host.divf (broadcastInDim S2x8448x32x1 ![0, 1, 2] bcast_S2x8448x32_S2x8448x32x1_0_1_2 (Host.reduceAdd (mulf x x) (constant S_ .f32 0x00000000#32) reducesTo_S2x8448x32x128_S2x8448x32_d3 h_S_)) (broadcastInDim S2x8448x32x1 ![] bcast_S_S2x8448x32x1 (constant S_ .f32 0x43000000#32))) (broadcastInDim S2x8448x32x1 ![] bcast_S_S2x8448x32x1 (constant S_ .f32 0x358637BD#32)))))) (broadcastInDim S2x8448x32x128 ![0, 1, 2, 3] bcast_S1x1x1x128_S2x8448x32x128_0_1_2_3 (broadcastInDim S1x1x1x128 ![3] bcast_S128_S1x1x1x128_3 (shapeCast _ g shapeCasts_S1x128_S128)))

theorem normT_apply (x : FVec Ideal S2x8448x32x128 .f32) (g : FVec Ideal S1x128 .f32) (n : Fin 2) (p : Fin 8448) (a : Fin 32) (e : Fin 128) :
    normT x g (ix4 n p a e) = unit (fun e => x (ix4 n p a e)) (fun e => g (ix2 0 e)) e := by
  unfold normT unit
  pointwise

/-- Heads rotated. -/
abbrev rotT (y : FVec Ideal S2x8448x32x128 .f32) : FVec Ideal S2x8448x32x128 .f32 :=
  concatenate S2x8448x32x128 3 [⟨S2x8448x32x64, (subf (mulf (extractStridedSlice S2x8448x32x64 ![0, 0, 0, 0] y slices_S2x8448x32x128_S2x8448x32x64_0_0_0_0) (broadcastInDim S2x8448x32x64 ![0, 1, 2, 3] bcast_S1x8448x1x64_S2x8448x32x64_0_1_2_3 (broadcastInDim S1x8448x1x64 ![1, 3] bcast_S8448x64_S1x8448x1x64_1_3 cs))) (mulf (extractStridedSlice S2x8448x32x64 ![0, 0, 0, 64] y slices_S2x8448x32x128_S2x8448x32x64_0_0_0_64) (broadcastInDim S2x8448x32x64 ![0, 1, 2, 3] bcast_S1x8448x1x64_S2x8448x32x64_0_1_2_3 (broadcastInDim S1x8448x1x64 ![1, 3] bcast_S8448x64_S1x8448x1x64_1_3 sn))))⟩, ⟨S2x8448x32x64, (addf (mulf (extractStridedSlice S2x8448x32x64 ![0, 0, 0, 64] y slices_S2x8448x32x128_S2x8448x32x64_0_0_0_64) (broadcastInDim S2x8448x32x64 ![0, 1, 2, 3] bcast_S1x8448x1x64_S2x8448x32x64_0_1_2_3 (broadcastInDim S1x8448x1x64 ![1, 3] bcast_S8448x64_S1x8448x1x64_1_3 cs))) (mulf (extractStridedSlice S2x8448x32x64 ![0, 0, 0, 0] y slices_S2x8448x32x128_S2x8448x32x64_0_0_0_0) (broadcastInDim S2x8448x32x64 ![0, 1, 2, 3] bcast_S1x8448x1x64_S2x8448x32x64_0_1_2_3 (broadcastInDim S1x8448x1x64 ![1, 3] bcast_S8448x64_S1x8448x1x64_1_3 sn))))⟩] concatenates_S2x8448x32x64_S2x8448x32x64_S2x8448x32x128_d3

theorem rotT_apply (y : FVec Ideal S2x8448x32x128 .f32) (n : Fin 2) (p : Fin 8448) (a : Fin 32) (e : Fin 128) :
    rotT cs sn y (ix4 n p a e)
      = rot (fun e => y (ix4 n p a e)) (twice fun e => cs (ix2 p e)) (flip fun e => sn (ix2 p e)) e := by
  unfold rotT
  pointwise
  split
  · rename_i h
    exact (rot_low (fun e => y (ix4 n p a e)) (fun e => cs (ix2 p e)) (fun e => sn (ix2 p e)) ⟨e.val, h⟩).symm
  · rename_i h
    have he := e.isLt
    have i : e = ⟨64 + (⟨e.val - 64, by omega⟩ : Fin 64).val, by show 64 + (e.val - 64) < 128; omega⟩ := Fin.ext (by show e.val = 64 + (e.val - 64); omega)
    refine Eq.trans ?_ (congrArg _ i.symm)
    exact (rot_high (fun e => y (ix4 n p a e)) (fun e => cs (ix2 p e)) (fun e => sn (ix2 p e)) ⟨e.val - 64, by omega⟩).symm

/-- Heads by flat rows and columns. -/
theorem flat_apply (y : FVec Ideal S2x8448x32x128 .f32) (i : Fin 16896) (j : Fin 4096) :
    (shapeCast S16896x4096 y shapeCasts_S2x8448x32x128_S16896x4096 : FVec Ideal S16896x4096 .f32) (ix2 i j)
      = y (ix4 (⟨i.val / 8448, by have := i.isLt; omega⟩ : Fin 2) (⟨i.val % 8448, by omega⟩ : Fin 8448)
          (⟨j.val / 128, by have := j.isLt; omega⟩ : Fin 32) (⟨j.val % 128, by omega⟩ : Fin 128)) := by
  pointwise

/-- The three parts side by side. -/
abbrev catT (q k v : FVec Ideal S16896x4096 .f32) : FVec Ideal S16896x12288 .bf16 :=
  truncf .bf16 (concatenate S16896x12288 1 [⟨S16896x4096, q⟩, ⟨S16896x4096, k⟩, ⟨S16896x4096, v⟩] concatenates_S16896x4096_S16896x4096_S16896x4096_S16896x12288_d1 : FVec Ideal S16896x12288 .f32) bitsLt_bf16_f32

theorem catT_apply (q k v : FVec Ideal S16896x4096 .f32) (i : Fin 16896) (j : Fin 12288) :
    catT q k v (ix2 i j) = if h : j.val < 4096 then q (ix2 i ⟨j.val, h⟩)
      else if h' : j.val < 8192 then k (ix2 i ⟨j.val - 4096, by omega⟩) else v (ix2 i ⟨j.val - 8192, by have := j.isLt; omega⟩) := by
  unfold catT
  pointwise
  split
  · rfl
  · by_cases h' : j.val < 8192
    · rw [dif_pos h', dif_pos (by omega)]
    · rw [dif_neg h', dif_neg (by omega)]
      exact congrArg v (congrArg (ix2 i) (Fin.ext (by show j.val - 4096 - 4096 = j.val - 8192; omega)))

end Terms

variable (m : (ℓ : Loc nD τ sig) → Buf (Elt Ideal) ℓ)

/-- The arguments' entries. -/
abbrev urow (c : Dev nD) (i : Fin 16896) (k : Fin 4096) : EReal :=
  m ((c.tc : Thread nD τ).loc main_arg0) (ix3 (⟨i.val / 8448, by have := i.isLt; omega⟩ : Fin 2) (⟨i.val % 8448, by omega⟩ : Fin 8448) k)
abbrev wcol (c : Dev nD) (j : Fin 12288) (k : Fin 4096) : EReal := m ((c.tc : Thread nD τ).loc main_arg1) (ix3 0 k j)
abbrev qgain (c : Dev nD) (e : Fin 128) : EReal := m ((c.tc : Thread nD τ).loc main_arg2) (ix2 0 e)
abbrev kgain (c : Dev nD) (e : Fin 128) : EReal := m ((c.tc : Thread nD τ).loc main_arg3) (ix2 0 e)
abbrev cosv (c : Dev nD) (i : Fin 16896) (e : Fin 64) : EReal :=
  m ((c.tc : Thread nD τ).loc main_arg4) (ix2 (⟨i.val % 8448, by omega⟩ : Fin 8448) e)
abbrev sinv (c : Dev nD) (i : Fin 16896) (e : Fin 64) : EReal :=
  m ((c.tc : Thread nD τ).loc main_arg5) (ix2 (⟨i.val % 8448, by omega⟩ : Fin 8448) e)
abbrev wov (c : Dev nD) (i : Fin 4096) (j : Fin 4096) : EReal := m ((c.tc : Thread nD τ).loc main_arg6) (ix3 0 i j)
abbrev upw (c : Dev nD) (i : Fin 4096) (j : Fin 16384) : EReal := m ((c.tc : Thread nD τ).loc main_arg7) (ix3 0 i j)
abbrev upg (c : Dev nD) (i : Fin 4096) : EReal := m ((c.tc : Thread nD τ).loc main_arg8) (ix2 0 i)
abbrev upv (c : Dev nD) (i : Fin 4096) (j : Fin 16384) : EReal := upw m c i j * upg m c i

/-- The product, row by row. -/
abbrev pv (c : Dev nD) (i : Fin 16896) (j : Fin 12288) : EReal := ∑ k : Fin 4096, urow m c i k * wcol m c j k

/-- The result as the reference's arguments give it. -/
abbrev qkvv (c : Dev nD) (i : Fin 16896) (j : Fin 12288) : EReal :=
  parts (pv m c i) (qgain m c) (kgain m c) (cosv m c i) (sinv m c i) j

/-- The projected array by batch entry, as the arguments give it. -/
abbrev dotA (c : Dev nD) : FVec Ideal S2x8448x12288 .f32 :=
  dotT (m ((c.tc : Thread nD τ).loc main_arg0)) (m ((c.tc : Thread nD τ).loc main_arg1))

theorem dotA_apply (c : Dev nD) (i : Fin 16896) (j : Fin 12288) :
    dotA m c (ix3 (⟨i.val / 8448, by have := i.isLt; omega⟩ : Fin 2) (⟨i.val % 8448, by omega⟩ : Fin 8448) j) = pv m c i j :=
  dotT_apply _ _ _ _ j

/-- The rotated queries. -/
abbrev ropeQ (c : Dev nD) : FVec Ideal S2x8448x32x128 .f32 :=
  rotT (m ((c.tc : Thread nD τ).loc main_arg4)) (m ((c.tc : Thread nD τ).loc main_arg5)) (normT (heads0 (dotA m c)) (m ((c.tc : Thread nD τ).loc main_arg2)))
/-- The rotated keys. -/
abbrev ropeK (c : Dev nD) : FVec Ideal S2x8448x32x128 .f32 :=
  rotT (m ((c.tc : Thread nD τ).loc main_arg4)) (m ((c.tc : Thread nD τ).loc main_arg5)) (normT (heads4096 (dotA m c)) (m ((c.tc : Thread nD τ).loc main_arg3)))
/-- The values by flat rows. -/
abbrev valT (d : FVec Ideal S2x8448x12288 .f32) : FVec Ideal S16896x4096 .f32 :=
  shapeCast _ (extractStridedSlice S2x8448x4096 ![0, 0, 8192] d slices_S2x8448x12288_S2x8448x4096_0_0_8192) shapeCasts_S2x8448x4096_S16896x4096

theorem valT_apply (d : FVec Ideal S2x8448x12288 .f32) (i : Fin 16896) (j : Fin 4096) :
    valT d (ix2 i j) = d (ix3 (⟨i.val / 8448, by have := i.isLt; omega⟩ : Fin 2) (⟨i.val % 8448, by omega⟩ : Fin 8448) ⟨8192 + j.val, by have := j.isLt; omega⟩) := by
  unfold valT
  pointwise

/-- The queries by the scale, by flat rows. -/
abbrev scaledT (y : FVec Ideal S2x8448x32x128 .f32) : FVec Ideal S16896x4096 .f32 :=
  shapeCast _ (mulf y (broadcastInDim S2x8448x32x128 ![] bcast_S_S2x8448x32x128 (constant S_ .f32 0x3E0293EE#32))) shapeCasts_S2x8448x32x128_S16896x4096

theorem scaledT_apply (y : FVec Ideal S2x8448x32x128 .f32) (i : Fin 16896) (j : Fin 4096) :
    scaledT y (ix2 i j) = y (ix4 (⟨i.val / 8448, by have := i.isLt; omega⟩ : Fin 2) (⟨i.val % 8448, by omega⟩ : Fin 8448)
          (⟨j.val / 128, by have := j.isLt; omega⟩ : Fin 32) (⟨j.val % 128, by omega⟩ : Fin 128)) * qscale := by
  unfold scaledT
  pointwise

theorem ropeQ_apply (c : Dev nD) (i : Fin 16896) (j : Fin 4096) :
    ropeQ m c (ix4 (⟨i.val / 8448, by have := i.isLt; omega⟩ : Fin 2) (⟨i.val % 8448, by omega⟩ : Fin 8448)
          (⟨j.val / 128, by have := j.isLt; omega⟩ : Fin 32) (⟨j.val % 128, by omega⟩ : Fin 128))
      = head (fun l => pv m c i ⟨0 + l.val, by have := l.isLt; omega⟩) (qgain m c) (cosv m c i) (sinv m c i) j := by
  refine (rotT_apply _ _ _ _ _ _ _).trans ?_
  unfold head
  refine congrArg (fun f => rot f _ _ _) (funext fun e => ?_)
  refine (normT_apply _ _ _ _ _ _).trans ?_
  refine congrArg (fun f => unit f _ _) (funext fun e => ?_)
  exact (heads0_apply _ _ _ _ _).trans (dotA_apply m c i _)

theorem ropeK_apply (c : Dev nD) (i : Fin 16896) (j : Fin 4096) :
    ropeK m c (ix4 (⟨i.val / 8448, by have := i.isLt; omega⟩ : Fin 2) (⟨i.val % 8448, by omega⟩ : Fin 8448)
          (⟨j.val / 128, by have := j.isLt; omega⟩ : Fin 32) (⟨j.val % 128, by omega⟩ : Fin 128))
      = head (fun l => pv m c i ⟨4096 + l.val, by have := l.isLt; omega⟩) (kgain m c) (cosv m c i) (sinv m c i) j := by
  refine (rotT_apply _ _ _ _ _ _ _).trans ?_
  unfold head
  refine congrArg (fun f => rot f _ _ _) (funext fun e => ?_)
  refine (normT_apply _ _ _ _ _ _).trans ?_
  refine congrArg (fun f => unit f _ _) (funext fun e => ?_)
  exact (heads4096_apply _ _ _ _ _).trans (dotA_apply m c i _)

theorem qkv_apply (c : Dev nD) (i : Fin 16896) (j : Fin 12288) :
    catT (scaledT (ropeQ m c)) (shapeCast _ (ropeK m c) shapeCasts_S2x8448x32x128_S16896x4096) (valT (dotA m c)) (ix2 i j) = qkvv m c i j := by
  refine (catT_apply _ _ _ i j).trans ?_
  unfold qkvv parts
  split
  · rw [scaledT_apply, ropeQ_apply]
  · split
    · rw [flat_apply, ropeK_apply]
    · rename_i h h'
      rw [valT_apply]
      exact (dotA_apply m c i _).trans (congrArg (pv m c i) (Fin.ext (by show 8192 + (j.val - 8192) = j.val; omega)))

theorem wo_apply (x : FVec Ideal S1x4096x4096 .f32) (i : S4096x4096.Idx) :
    (truncf .bf16 (shapeCast _ x shapeCasts_S1x4096x4096_S4096x4096) bitsLt_bf16_f32 : FVec Ideal S4096x4096 .bf16) i = x (ix3 0 (i 0) (i 1)) := by
  obtain ⟨r, l, rfl⟩ : ∃ (r : Fin 4096) (l : Fin 4096), i = ix2 r l := ⟨i 0, i 1, eq_ix2 i⟩
  pointwise

theorem up_apply (x : FVec Ideal S2x4096x16384 .f32) (g : FVec Ideal S2x4096 .f32) (i : S4096x16384.Idx) :
    (truncf .bf16 (mulf (shapeCast _ (extractStridedSlice S1x4096x16384 ![0, 0, 0] x slices_S2x4096x16384_S1x4096x16384_0_0_0) shapeCasts_S1x4096x16384_S4096x16384) (broadcastInDim S4096x16384 ![0, 1] bcast_S4096x1_S4096x16384_0_1 (broadcastInDim S4096x1 ![0] bcast_S4096_S4096x1_0 (shapeCast _ (extractStridedSlice S1x4096 ![0, 0] g slices_S2x4096_S1x4096_0_0) shapeCasts_S1x4096_S4096)))) bitsLt_bf16_f32 : FVec Ideal S4096x16384 .bf16) i
      = x (ix3 0 (i 0) (i 1)) * g (ix2 0 (i 0)) := by
  obtain ⟨r, l, rfl⟩ : ∃ (r : Fin 4096) (l : Fin 16384), i = ix2 r l := ⟨i 0, i 1, eq_ix2 i⟩
  pointwise

theorem run_values (ρ : Dev nD → PrngReg) :
    θ_run defs (onTc (τ := τ) (main (F := Ideal))) ⟨m, fun _ => 0, ρ⟩ fun r => ∀ c : Dev nD,
      (r.2.mem ((c.tc : Thread nD τ).loc main_v72) = fun i : S16896x12288.Idx => qkvv m c (i 0) (i 1))
      ∧ (r.2.mem ((c.tc : Thread nD τ).loc main_v74) = fun i : S4096x4096.Idx => wov m c (i 0) (i 1))
      ∧ (r.2.mem ((c.tc : Thread nD τ).loc main_v82) = fun i : S4096x16384.Idx => upv m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.QkvRefIdeal.Value.run m ρ)
  obtain ⟨h1, h2, h3, h4⟩ := h c
  refine ⟨h1.trans (funext fun i => ?_), h2.trans (funext fun i => ?_), h3.trans (funext fun i => ?_), h4⟩
  · obtain ⟨a, b, rfl⟩ : ∃ (a : Fin 16896) (b : Fin 12288), i = ix2 a b := ⟨i 0, i 1, eq_ix2 i⟩
    unfold Cert.QkvRefIdeal.Value.res_main_v72
    exact qkv_apply m c a b
  · exact wo_apply _ i
  · exact up_apply _ _ i

end Cert.Proof.QkvRef

end
-- ==== Proof.QkvClaims.lean ====
/-
  The claims about the projection to queries, keys and values: the three frames, and the equality of its results with the reference's.
-/
module

public import proofs.«01_k».proof.Defs
public import proofs.«01_k».proof.Proof.Gen.Qkv.Frame
public import proofs.«01_k».proof.Proof.QkvValue
public import proofs.«01_k».proof.Proof.QkvRef
public import Idealize.ShloMosaic.Adequacy

@[expose] public section

set_option maxRecDepth 16384

noncomputable section

namespace Cert.Proof.Qkv

open Idealize.ShloMosaic Idealize.SL.Sem

/-- The call as it is executed at the machine's words ends with its arguments unchanged and every counter at zero. -/
theorem frame_call : Cert.quiescent_Qkv := fun m ρ _ => Cert.Qkv.Gen.frame m ρ

theorem frame_callIdeal : Cert.quiescent_QkvIdeal := fun m ρ _ => Cert.QkvIdeal.Gen.frame m ρ

theorem frame_reference : Cert.quiescent_QkvRefIdeal := fun m ρ _ =>
  (θ_run Cert.QkvRefIdeal.defs _ _).mono
    (fun r h => ⟨fun c => (h c).2.2.2, Idealize.ShloMosaic.sem_eq_zero_of_no_sems (by decide) r.2⟩)
    (Cert.Proof.QkvRef.run_values m ρ)

/-- The call's results are the reference's. -/
theorem algebraic : Cert.algebraic_QkvIdeal_QkvRefIdeal := by
  intro m ρ m' ρ' _ hagree
  refine ⟨fun c i => qkvv m c (i 0) (i 1), fun c i => cv10 m c (i 0) (i 1), fun c i => cv11 m c (i 0) (i 1),
    (θ_run Cert.QkvIdeal.defs _ _).mono (fun r h c => ?_) (Cert.QkvIdeal.Value.run_blocks m ρ),
    (θ_run Cert.QkvRefIdeal.defs _ _).mono (fun r h c => ?_) (Cert.Proof.QkvRef.run_values m' ρ')⟩
  · obtain ⟨h0, h1, h2, h3⟩ := h c
    exact ⟨h0.trans (out_qkv m c), h1.trans (out_cast10 m c), h2.trans (out_cast11 m c), h3⟩
  · obtain ⟨h0, h1, h2, h3⟩ := h c
    obtain ⟨a0, a1, a2, a3, a4, a5, a6, a7, a8⟩ := hagree c
    have e0 : Cert.Proof.QkvRef.qkvv m' c = qkvv m c := by
      unfold Cert.Proof.QkvRef.qkvv Cert.Proof.QkvRef.pv Cert.Proof.QkvRef.urow Cert.Proof.QkvRef.wcol Cert.Proof.QkvRef.qgain Cert.Proof.QkvRef.kgain Cert.Proof.QkvRef.cosv Cert.Proof.QkvRef.sinv qkvv pv urow wcol qgain kgain cosv sinv
      rw [a0, a1, a2, a3, a4, a5]
    have e1 : Cert.Proof.QkvRef.wov m' c = cv10 m c := by
      unfold Cert.Proof.QkvRef.wov cv10 src10
      rw [a6]
    have e2 : Cert.Proof.QkvRef.upv m' c = cv11 m c := by
      unfold Cert.Proof.QkvRef.upv Cert.Proof.QkvRef.upw Cert.Proof.QkvRef.upg cv11 src11 gain11
      rw [a7, a8]
    rw [e0] at h0
    rw [e1] at h1
    rw [e2] at h2
    exact ⟨h0, h1, h2, h3⟩

end Cert.Proof.Qkv

end
-- ==== Proof.EmbedMath.lean ====
/-
  The stream the layers start from: each batch entry's rows are the meta tokens, then the input's rows, then zeros; and a row
  of it divided by its root mean square.
-/
module

public import proofs.«01_k».proof.Proof.NormMath

@[expose] public section

noncomputable section

namespace Cert.Proof.EmbedMath

open Idealize.ShloMosaic
open Cert.Proof.Norm (ms)

/-- Row `p` of batch entry `n`. -/
def place (g : Fin 16 → Fin 4096 → EReal) (x : Fin 2 → Fin 8192 → Fin 4096 → EReal) (n : Fin 2) (p : Fin 8448) (l : Fin 4096) : EReal :=
  if h : p.val < 16 then g ⟨p.val, h⟩ l else if h' : p.val < 8208 then x n ⟨p.val - 16, by omega⟩ l else 0

/-- The same by flat rows. -/
def stream (g : Fin 16 → Fin 4096 → EReal) (x : Fin 2 → Fin 8192 → Fin 4096 → EReal) (i : Fin 16896) (l : Fin 4096) : EReal :=
  place g x ⟨i.val / 8448, by have := i.isLt; omega⟩ ⟨i.val % 8448, by omega⟩ l

theorem stream_first (g : Fin 16 → Fin 4096 → EReal) (x : Fin 2 → Fin 8192 → Fin 4096 → EReal) (i : Fin 16896) (r : Fin 16) (l : Fin 4096)
    (h : i.val % 8448 = r.val) : stream g x i l = g r l := by
  have hr := r.isLt
  unfold stream place
  rw [dif_pos (show i.val % 8448 < 16 by omega)]
  exact congrArg (fun q => g q l) (Fin.ext h)

theorem stream_input (g : Fin 16 → Fin 4096 → EReal) (x : Fin 2 → Fin 8192 → Fin 4096 → EReal) (i : Fin 16896) (n : Fin 2) (p : Fin 8192)
    (l : Fin 4096) (hn : i.val / 8448 = n.val) (hp : i.val % 8448 = p.val + 16) : stream g x i l = x n p l := by
  have h := p.isLt
  unfold stream place
  rw [dif_neg (show ¬i.val % 8448 < 16 by omega), dif_pos (show i.val % 8448 < 8208 by omega)]
  exact congrArg₂ (fun n p => x n p l) (Fin.ext hn) (Fin.ext (by show i.val % 8448 - 16 = p.val; omega))

theorem stream_rest (g : Fin 16 → Fin 4096 → EReal) (x : Fin 2 → Fin 8192 → Fin 4096 → EReal) (i : Fin 16896) (l : Fin 4096)
    (h : 8208 ≤ i.val % 8448) : stream g x i l = 0 := by
  unfold stream place
  rw [dif_neg (show ¬i.val % 8448 < 16 by omega), dif_neg (show ¬i.val % 8448 < 8208 by omega)]

/-- A row over its root mean square, times the gain. -/
def unit (h g : Fin 4096 → EReal) (l : Fin 4096) : EReal := h l * Ideal.rsqrt (ms (∑ k, h k * h k)) * g l

/-- Whether a row lies before the zeros, decided on machine words. -/
theorem mask (a b : Nat) (ha : a < 33) (hb : b < 256) (x : EReal) :
    Scalar.select (IntOp.cmpi CmpIPredicate.slt (IntOp.addi (Scalar.muli (BitVec.ofNat 32 a) 256#32) (BitVec.ofNat 32 b)) 8208#32) x 0
      = if a * 256 + b < 8208 then x else 0 := by
  have e : IntOp.addi (Scalar.muli (BitVec.ofNat 32 a) 256#32) (BitVec.ofNat 32 b) = BitVec.ofNat 32 (a * 256 + b) := by
    show BitVec.ofNat 32 a * 256#32 + BitVec.ofNat 32 b = _
    apply BitVec.eq_of_toNat_eq
    simp
  rw [e]
  have f : (BitVec.ofNat 32 (a * 256 + b)).slt 8208#32 = decide (a * 256 + b < 8208) := by
    rw [BitVec.slt_eq_ult_of_msb_eq, BitVec.ult]
    · simp
      omega
    · have : (BitVec.ofNat 32 (a * 256 + b)).msb = false := by
        rw [BitVec.msb_eq_false_iff_two_mul_lt]
        simp
        omega
      rw [this]
      decide
  unfold Scalar.select IntOp.cmpi
  by_cases h : a * 256 + b < 8208
  · simp [f, h]
  · simp [f, h]

end Cert.Proof.EmbedMath

end
-- ==== Proof.EmbedValue.lean ====
/-
  The two arrays the first launch leaves, over the extended reals: the stream and its normed copy, each as one function of
  the three argument arrays.
-/
module

public import proofs.«01_k».proof.Proof.Gen.EmbedIdeal.Value
public import proofs.«01_k».proof.Proof.EmbedMath
public import Idealize.ShloMosaic.Lib.Pipeline.ValueKit
public import Idealize.ShloMosaic.Lib.Pointwise

@[expose] public section

set_option maxRecDepth 16384

noncomputable section

namespace Cert.Proof.Embed

open Cert.EmbedIdeal Cert.EmbedIdeal.Gen Idealize.ShloMosaic Idealize.ShloMosaic.TcCoe Idealize.SL.Sem
open Idealize.ShloMosaic.Pipeline (Dat)
open Cert.Proof.Norm (ms)
open Cert.Proof.EmbedMath (place stream unit mask)

/-! ## What is stored -/

theorem k0_pay1_at (x : Vec Ideal S1x240x4096 .f32) (r : Fin 240) (l : Fin 4096) : k0_pay1 x (ix2 r l) = x (ix3 0 r l) := by
  pointwise [k0_pay1]

theorem k0_pay2_at (i : grid0.Coords) (x : Vec Ideal S1x256x4096 .f32) (r : Fin 256) (l : Fin 4096) :
    k0_pay2 i x (ix2 r l) = if (i 1).val * 256 + r.val < 8208 then (x (ix3 0 r l) : EReal) else 0 := by
  rw [← mask (i 1).val r.val (i 1).isLt r.isLt]
  pointwise [k0_pay2]

theorem k0_pay3_at (x : Vec Ideal S256x4096 .f32) (g : Vec Ideal S1x4096 .f32) (r : Fin 256) (l : Fin 4096) :
    k0_pay3 x g (ix2 r l) = unit (fun k => x (ix2 r k)) (fun k => g (ix2 0 k)) l := by
  unfold unit ms
  pointwise [k0_pay3]

variable (m : (ℓ : Loc nD τ sig) → Buf (Elt Ideal) ℓ)

/-! ## Where each window's block lies at grid point `t` -/

theorem idx0 : ∀ t : Fin cfg0.N, (cfg0.win 0).index t = ![t.val / 33, t.val % 33 * 256 - 16, 0] :=
  (by decide +kernel : ∀ t : Fin grid0.N, win0_0.index t = ![t.val / 33, t.val % 33 * 256 - 16, 0])
theorem idx1 : ∀ t : Fin cfg0.N, (cfg0.win 1).index t = ![0, 0] :=
  (by decide +kernel : ∀ t : Fin grid0.N, win0_1.index t = ![0, 0])
theorem idx2 : ∀ t : Fin cfg0.N, (cfg0.win 2).index t = ![0, 0] :=
  (by decide +kernel : ∀ t : Fin grid0.N, win0_2.index t = ![0, 0])
theorem idx3 : ∀ t : Fin cfg0.N, (cfg0.win 3).index t = ![t.val, 0] :=
  (by decide +kernel : ∀ t : Fin grid0.N, win0_3.index t = ![t.val, 0])
theorem idx4 : ∀ t : Fin cfg0.N, (cfg0.win 4).index t = ![t.val, 0] :=
  (by decide +kernel : ∀ t : Fin grid0.N, win0_4.index t = ![t.val, 0])
theorem coord1 : ∀ t : Fin cfg0.N, (grid0.coords t 1).val = t.val % 33 :=
  (by decide +kernel : ∀ t : Fin grid0.N, (grid0.coords t 1).val = t.val % 33)

/-- The flat row a tile's row `r` is at point `t`. -/
abbrev row (t : Fin cfg0.N) (r : Fin 256) : Fin 16896 :=
  ⟨t.val * 256 + r.val, by have h : t.val < 66 := lt_of_lt_of_eq t.isLt N_0; have := r.isLt; omega⟩

theorem row_div (t : Fin cfg0.N) (r : Fin 256) : (row t r).val / 8448 = t.val / 33 := by
  have := r.isLt; show (t.val * 256 + r.val) / 8448 = _; omega
theorem row_mod (t : Fin cfg0.N) (r : Fin 256) : (row t r).val % 8448 = t.val % 33 * 256 + r.val := by
  have := r.isLt; show (t.val * 256 + r.val) % 8448 = _; omega

/-! ## The arguments and the results -/

abbrev metaRow (c : Dev nD) (r : Fin 16) (l : Fin 4096) : EReal := m ((c.tc : Thread nD τ).loc main_arg1) (ix2 r l)
abbrev inp (c : Dev nD) (n : Fin 2) (p : Fin 8192) (l : Fin 4096) : EReal := m ((c.tc : Thread nD τ).loc main_arg0) (ix3 n p l)
abbrev gain (c : Dev nD) (l : Fin 4096) : EReal := m ((c.tc : Thread nD τ).loc main_arg2) (ix2 0 l)

/-- The stream. -/
abbrev hv (c : Dev nD) (i : Fin 16896) (l : Fin 4096) : EReal := stream (metaRow m c) (inp m c) i l

/-- Its normed copy. -/
abbrev nv (c : Dev nD) (i : Fin 16896) (l : Fin 4096) : EReal := unit (hv m c i) (gain m c) l

/-! ## The input blocks, read off the arguments -/

/-- The window placed by elements: where an element of the block lies in the extended input. -/
theorem place0 (t : Fin cfg0.N) (r : Fin 256) (l : Fin 4096) :
    ((View.whole main_v3).slice (win0_0.rect t)).emb (ix3 0 r l)
      = ix3 (⟨t.val / 33, by have h : t.val < 66 := lt_of_lt_of_eq t.isLt N_0; omega⟩ : Fin 2)
          (⟨t.val % 33 * 256 - 16 + r.val, by have := r.isLt; omega⟩ : Fin 8432) l := by
  funext a
  apply Fin.ext
  refine (win0_0.rect_emb_val_off t (ix3 0 r l) a).trans ?_
  rw [show win0_0.index t = _ from idx0 t]
  match a with
  | ⟨0, _⟩ => rfl
  | ⟨1, _⟩ => rfl
  | ⟨2, _⟩ => exact Nat.zero_add _

theorem blk_x (c : Dev nD) (t : Fin cfg0.N) (r : Fin 256) (l : Fin 4096) :
    (iblk m c 0 t (ix3 0 r l) : EReal) = if h : t.val % 33 * 256 - 16 + r.val < 8192
      then inp m c ⟨t.val / 33, by have h : t.val < 66 := lt_of_lt_of_eq t.isLt N_0; omega⟩ ⟨t.val % 33 * 256 - 16 + r.val, h⟩ l else 0 := by
  blk_simp [iblk]
  rw [place0]
  entry_read
  pointwise

theorem blk_meta (c : Dev nD) (t : Fin cfg0.N) (r : Fin 16) (l : Fin 4096) : iblk m c 1 t (ix2 r l) = metaRow m c r l := by
  blk_simp [iblk, idx1]
  entry_read
  pointwise
  blk_ext [idx1 t]

theorem blk_gain (c : Dev nD) (t : Fin cfg0.N) (l : Fin 4096) : iblk m c 2 t (ix2 0 l) = gain m c l := by
  blk_simp [iblk, idx2]
  entry_read
  pointwise
  blk_ext [idx2 t]

/-! ## The tiles -/

/-- A tile stored in two pieces, sixteen rows and the other rows, read back at any place. -/
theorem two_pieces (a : Vec Ideal S240x4096 .f32) (b : Vec Ideal S16x4096 .f32) (f : Fin 256 → Fin 4096 → EReal)
    (ha : ∀ (r : Fin 240) (l : Fin 4096), a (ix2 r l) = f ⟨16 + r.val, by have := r.isLt; omega⟩ l)
    (hb : ∀ (r : Fin 16) (l : Fin 4096), b (ix2 r l) = f ⟨r.val, by have := r.isLt; omega⟩ l) (y : S256x4096.Idx) :
    View.canon (Val := Elt Ideal) (e := .f32)
      [⟨Rect.unit ![16, 0] ![240, 4096] inb_S256x4096_S240x4096_16_0, a⟩,
        ⟨Rect.unit ![0, 0] ![16, 4096] inb_S256x4096_S16x4096_0_0, b⟩]
      y = f (y 0) (y 1) := by
  have h1 : (y 1).val < 4096 := (y 1).isLt
  have h0 : (y 0).val < 256 := (y 0).isLt
  have cover : ∃ p ∈ ([⟨Rect.unit ![16, 0] ![240, 4096] inb_S256x4096_S240x4096_16_0, a⟩,
        ⟨Rect.unit ![0, 0] ![16, 4096] inb_S256x4096_S16x4096_0_0, b⟩] : List (View.Piece (Elt Ideal) S256x4096 .f32)), y ∈ p.1.set := by
    by_cases hy : (y 0).val < 16
    · refine ⟨_, List.mem_cons_of_mem _ (List.mem_singleton_self _),
        (Rect.mem_set_unit (inb := inb_S256x4096_S16x4096_0_0)).mpr fun k => ?_⟩
      match k with
      | ⟨0, _⟩ => exact ⟨Nat.zero_le _, by show (y 0).val < 0 + 16; omega⟩
      | ⟨1, _⟩ => exact ⟨Nat.zero_le _, by show (y 1).val < 0 + 4096; omega⟩
    · refine ⟨_, List.mem_cons_self,
        (Rect.mem_set_unit (inb := inb_S256x4096_S240x4096_16_0)).mpr fun k => ?_⟩
      match k with
      | ⟨0, _⟩ => exact ⟨by show 16 ≤ (y 0).val; omega, by show (y 0).val < 16 + 240; omega⟩
      | ⟨1, _⟩ => exact ⟨Nat.zero_le _, by show (y 1).val < 0 + 4096; omega⟩
  canon_tiles x h using cover
  · obtain ⟨r, l, rfl⟩ : ∃ (r : Fin 240) (l : Fin 4096), x = ix2 r l := ⟨x 0, x 1, eq_ix2 x⟩
    refine (ha r l).trans (congrArg₂ f (Fin.ext h0.symm) (Fin.ext h1.symm))
  · obtain ⟨r, l, rfl⟩ : ∃ (r : Fin 16) (l : Fin 4096), x = ix2 r l := ⟨x 0, x 1, eq_ix2 x⟩
    refine (hb r l).trans (congrArg₂ f (Fin.ext h0.symm) (Fin.ext h1.symm))

/-- The first tile of a batch entry: the meta tokens, and below them the input's first rows. -/
theorem first_eq (c : Dev nD) (t : Fin cfg0.N) (h : t.val % 33 = 0) (y : S256x4096.Idx) :
    View.canon (Val := Elt Ideal) (e := .f32)
      [⟨Rect.unit ![16, 0] ![240, 4096] inb_S256x4096_S240x4096_16_0,
          k0_pay1 (View.ld (iblk m c 0 t) (Rect.unit ![0, 0, 0] ![1, 240, 4096] inb_S1x256x4096_S1x240x4096_0_0_0))⟩,
        ⟨Rect.unit ![0, 0] ![16, 4096] inb_S256x4096_S16x4096_0_0, iblk m c 1 t⟩]
      y = hv m c (row t (y 0)) (y 1) := by
  refine two_pieces _ _ (fun r l => hv m c (row t r) l) (fun r l => ?_) (fun r l => ?_) y
  · have hr := r.isLt
    have e : (Rect.unit ![0, 0, 0] ![1, 240, 4096] inb_S1x256x4096_S1x240x4096_0_0_0).idx (ix3 0 r l)
        = ix3 0 (⟨r.val, by omega⟩ : Fin 256) l := by
      funext a
      apply Fin.ext
      refine (Rect.idx_unit_val _ _ _ _ a).trans ?_
      match a with
      | ⟨0, _⟩ => rfl
      | ⟨1, _⟩ => exact Nat.zero_add _
      | ⟨2, _⟩ => exact Nat.zero_add _
    refine (k0_pay1_at _ r l).trans ((congrArg (iblk m c 0 t) e).trans ((blk_x m c t ⟨r.val, by omega⟩ l).trans ?_))
    rw [dif_pos (show t.val % 33 * 256 - 16 + r.val < 8192 by omega)]
    exact (EmbedMath.stream_input _ _ _ _ _ l (row_div t _) ((row_mod t _).trans
      (by show t.val % 33 * 256 + (16 + r.val) = t.val % 33 * 256 - 16 + r.val + 16; omega))).symm
  · have hr := r.isLt
    refine (blk_meta m c t r l).trans ?_
    exact (EmbedMath.stream_first _ _ _ r l ((row_mod t _).trans (by show t.val % 33 * 256 + r.val = r.val; omega))).symm

/-- The later tiles: the input's rows, zeros after the last. -/
theorem later_eq (c : Dev nD) (t : Fin cfg0.N) (h : ¬t.val % 33 = 0) (r : Fin 256) (l : Fin 4096) :
    k0_pay2 (grid0.coords t) (iblk m c 0 t) (ix2 r l) = hv m c (row t r) l := by
  have hr := r.isLt
  rw [k0_pay2_at, coord1 t, blk_x]
  have e1 := row_div t r
  have e2 := row_mod t r
  by_cases hz : t.val % 33 * 256 + r.val < 8208
  · rw [if_pos hz, dif_pos (by omega)]
    exact (EmbedMath.stream_input _ _ _ _ _ l e1 (e2.trans (by show _ = t.val % 33 * 256 - 16 + r.val + 16; omega))).symm
  · rw [if_neg hz]
    exact (EmbedMath.stream_rest _ _ _ l (by omega)).symm

theorem h_eq (c : Dev nD) (t : Fin cfg0.N) (y : S256x4096.Idx) :
    (outsAt0 m c t.val t.isLt).1 y = hv m c (row t (y 0)) (y 1) := by
  by_cases h : t.val % 33 = 0
  · rw [outsAt0_A m c t h (by omega)]
    frame_out
    exact first_eq m c t h y
  · rw [outsAt0_B m c t h (by omega)]
    frame_out
    obtain ⟨r, l, rfl⟩ : ∃ (r : Fin 256) (l : Fin 4096), y = ix2 r l := ⟨y 0, y 1, eq_ix2 y⟩
    exact later_eq m c t h r l

/-- The normed copy is computed from the tile just stored. -/
theorem n_eq (c : Dev nD) (t : Fin cfg0.N) (y : S256x4096.Idx) :
    (outsAt0 m c t.val t.isLt).2 y = nv m c (row t (y 0)) (y 1) := by
  obtain ⟨r, l, rfl⟩ : ∃ (r : Fin 256) (l : Fin 4096), y = ix2 r l := ⟨y 0, y 1, eq_ix2 y⟩
  by_cases h : t.val % 33 = 0
  · rw [outsAt0_A m c t h (by omega)]
    frame_out
    rw [View.readCov_eq_canon']
    refine (k0_pay3_at _ _ r l).trans ?_
    refine congrArg₂ (fun a b => unit a b l) (funext fun k => ?_) (funext fun k => blk_gain m c t k)
    refine Eq.trans (congrArg _ ?_) (first_eq m c t h (ix2 r k))
    funext a
    apply Fin.ext
    refine (Rect.idx_unit_val _ _ _ _ a).trans ?_
    match a with
    | ⟨0, _⟩ => exact Nat.zero_add _
    | ⟨1, _⟩ => exact Nat.zero_add _
  · rw [outsAt0_B m c t h (by omega)]
    frame_out
    refine (k0_pay3_at _ _ r l).trans ?_
    exact congrArg₂ (fun a b => unit a b l) (funext fun k => later_eq m c t h r k) (funext fun k => blk_gain m c t k)

/-! ## The arrays after the run -/

theorem out_h (c : Dev nD) : (dats m 0 c).arrAt 3 cfg0.N = fun i : S16896x4096.Idx => hv m c (i 0) (i 1) := by
  refine (dats m 0 c).arrAt_eq_of_covers 3 _ (by decide +kernel) fun t hf y => ?_
  blk_simp
  rw [after0_3]
  refine (h_eq m c t y).trans ?_
  have e0 : (row t (y 0) : Fin 16896) = ((View.whole main_v5_0).slice (win0_3.rect t)).emb y 0 := by
    refine Fin.ext (((win0_3.rect_emb_val t y 0).trans ?_).symm)
    rw [show win0_3.index t = _ from idx3 t]
    rfl
  have e1 : (y 1 : Fin 4096) = ((View.whole main_v5_0).slice (win0_3.rect t)).emb y 1 := by
    refine Fin.ext (((win0_3.rect_emb_val t y 1).trans ?_).symm)
    rw [show win0_3.index t = _ from idx3 t]
    exact (congrArg (· + (y 1).val) (Nat.zero_mul 4096)).trans (Nat.zero_add (y 1).val)
  exact congrArg₂ (hv m c) e0 e1

theorem out_n (c : Dev nD) : (dats m 0 c).arrAt 4 cfg0.N = fun i : S16896x4096.Idx => nv m c (i 0) (i 1) := by
  refine (dats m 0 c).arrAt_eq_of_covers 4 _ (by decide +kernel) fun t hf y => ?_
  blk_simp
  rw [after0_4]
  refine (n_eq m c t y).trans ?_
  have e0 : (row t (y 0) : Fin 16896) = ((View.whole main_v5_1).slice (win0_4.rect t)).emb y 0 := by
    refine Fin.ext (((win0_4.rect_emb_val t y 0).trans ?_).symm)
    rw [show win0_4.index t = _ from idx4 t]
    rfl
  have e1 : (y 1 : Fin 4096) = ((View.whole main_v5_1).slice (win0_4.rect t)).emb y 1 := by
    refine Fin.ext (((win0_4.rect_emb_val t y 1).trans ?_).symm)
    rw [show win0_4.index t = _ from idx4 t]
    exact (congrArg (· + (y 1).val) (Nat.zero_mul 4096)).trans (Nat.zero_add (y 1).val)
  exact congrArg₂ (nv m c) e0 e1

end Cert.Proof.Embed

end
-- ==== Proof.EmbedRef.lean ====
/-
  The reference's run of the stream the layers start from, and of its normed copy.
-/
module

public import proofs.«01_k».proof.Proof.Gen.EmbedRefIdeal.Run
public import proofs.«01_k».proof.Proof.EmbedMath
public import Idealize.ShloMosaic.Lib.Pipeline.ValueKit
public import Idealize.ShloMosaic.Lib.Pointwise

@[expose] public section

set_option maxRecDepth 16384

noncomputable section

namespace Cert.Proof.EmbedRef

open Cert.EmbedRefIdeal Cert.EmbedRefIdeal.Gen Idealize.ShloMosaic Idealize.SL.Sem
open Cert.Proof.Norm (ms)
open Cert.Proof.EmbedMath (place stream unit)

section Terms

variable (x : FVec Ideal S2x8192x4096 .f32) (g : FVec Ideal S16x4096 .f32) (w : FVec Ideal S2x4096 .f32)

/-- The meta tokens, the input and the zeros one after the other. -/
abbrev catT : FVec Ideal S2x8448x4096 .f32 :=
  concatenate S2x8448x4096 1 [⟨S2x16x4096, (broadcastInDim S2x16x4096 ![0, 1, 2] bcast_S1x16x4096_S2x16x4096_0_1_2 (broadcastInDim S1x16x4096 ![1, 2] bcast_S16x4096_S1x16x4096_1_2 g) : FVec Ideal S2x16x4096 .f32)⟩, ⟨S2x8192x4096, x⟩, ⟨S2x240x4096, (broadcastInDim S2x240x4096 ![] bcast_S_S2x240x4096 (constant S_ .f32 0x00000000#32) : FVec Ideal S2x240x4096 .f32)⟩] concatenates_S2x16x4096_S2x8192x4096_S2x240x4096_S2x8448x4096_d1

theorem catT_apply (n : Fin 2) (p : Fin 8448) (l : Fin 4096) :
    catT x g (ix3 n p l) = place (fun r l => g (ix2 r l)) (fun n p l => x (ix3 n p l)) n p l := by
  unfold catT place
  pointwise
  split
  · rfl
  · by_cases h' : p.val < 8208
    · rw [dif_pos h', dif_pos (by omega)]
    · rw [dif_neg h', dif_neg (by omega)]

/-- A row over its root mean square, times the gain. -/
abbrev normT (h : FVec Ideal S2x8448x4096 .f32) : FVec Ideal S2x8448x4096 .f32 :=
  mulf (mulf h (broadcastInDim S2x8448x4096 ![0, 1, 2] bcast_S2x8448x1_S2x8448x4096_0_1_2 (Host.rsqrt (addf (Host.divf (broadcastInDim S2x8448x1 ![0, 1] bcast_S2x8448_S2x8448x1_0_1 (Host.reduceAdd (mulf h h) (constant S_ .f32 0x00000000#32) reducesTo_S2x8448x4096_S2x8448_d2 h_S_)) (broadcastInDim S2x8448x1 ![] bcast_S_S2x8448x1 (constant S_ .f32 0x45800000#32))) (broadcastInDim S2x8448x1 ![] bcast_S_S2x8448x1 (constant S_ .f32 0x358637BD#32)))))) (broadcastInDim S2x8448x4096 ![0, 1, 2] bcast_S1x1x4096_S2x8448x4096_0_1_2 (broadcastInDim S1x1x4096 ![2] bcast_S4096_S1x1x4096_2 (shapeCast _ (extractStridedSlice S1x4096 ![0, 0] w slices_S2x4096_S1x4096_0_0) shapeCasts_S1x4096_S4096)))

theorem normT_apply (h : FVec Ideal S2x8448x4096 .f32) (n : Fin 2) (p : Fin 8448) (l : Fin 4096) :
    normT w h (ix3 n p l) = unit (fun k => h (ix3 n p k)) (fun k => w (ix2 0 k)) l := by
  unfold normT unit ms
  pointwise

/-- An array by flat rows. -/
theorem flat_at (h : FVec Ideal S2x8448x4096 .f32) (r : Fin 16896) (l : Fin 4096) :
    (shapeCast S16896x4096 h shapeCasts_S2x8448x4096_S16896x4096 : FVec Ideal S16896x4096 .f32) (ix2 r l)
      = h (ix3 (⟨r.val / 8448, by have := r.isLt; omega⟩ : Fin 2) (⟨r.val % 8448, by omega⟩ : Fin 8448) l) := by
  pointwise

/-- The stream by flat rows. -/
abbrev streamT : FVec Ideal S16896x4096 .f32 := shapeCast _ (catT x g) shapeCasts_S2x8448x4096_S16896x4096

/-- The normed copy by flat rows. -/
abbrev normedT : FVec Ideal S16896x4096 .bf16 :=
  truncf .bf16 (shapeCast S16896x4096 (normT w (catT x g)) shapeCasts_S2x8448x4096_S16896x4096 : FVec Ideal S16896x4096 .f32) bitsLt_bf16_f32

theorem streamT_apply (i : S16896x4096.Idx) :
    streamT x g i = stream (fun r l => g (ix2 r l)) (fun n p l => x (ix3 n p l)) (i 0) (i 1) := by
  obtain ⟨r, l, rfl⟩ : ∃ (r : Fin 16896) (l : Fin 4096), i = ix2 r l := ⟨i 0, i 1, eq_ix2 i⟩
  exact (flat_at _ r l).trans (catT_apply x g _ _ l)

theorem normedT_apply (i : S16896x4096.Idx) :
    normedT x g w i = unit (stream (fun r l => g (ix2 r l)) (fun n p l => x (ix3 n p l)) (i 0)) (fun k => w (ix2 0 k)) (i 1) := by
  obtain ⟨r, l, rfl⟩ : ∃ (r : Fin 16896) (l : Fin 4096), i = ix2 r l := ⟨i 0, i 1, eq_ix2 i⟩
  have e : normedT x g w (ix2 r l)
      = normT w (catT x g) (ix3 (⟨r.val / 8448, by have := r.isLt; omega⟩ : Fin 2) (⟨r.val % 8448, by omega⟩ : Fin 8448) l) := by
    unfold normedT
    generalize normT w (catT x g) = q
    pointwise
  rw [e, normT_apply]
  exact congrArg (fun a => unit a (fun k => w (ix2 0 k)) l) (funext fun k => catT_apply x g _ _ k)

end Terms

variable (m : (ℓ : Loc nD τ sig) → Buf (Elt Ideal) ℓ)

abbrev metaRow (c : Dev nD) (r : Fin 16) (l : Fin 4096) : EReal := m ((c.tc : Thread nD τ).loc main_arg1) (ix2 r l)
abbrev inp (c : Dev nD) (n : Fin 2) (p : Fin 8192) (l : Fin 4096) : EReal := m ((c.tc : Thread nD τ).loc main_arg0) (ix3 n p l)
abbrev gain (c : Dev nD) (l : Fin 4096) : EReal := m ((c.tc : Thread nD τ).loc main_arg2) (ix2 0 l)

/-- The stream. -/
abbrev hv (c : Dev nD) (i : Fin 16896) (l : Fin 4096) : EReal := stream (metaRow m c) (inp m c) i l

/-- Its normed copy. -/
abbrev nv (c : Dev nD) (i : Fin 16896) (l : Fin 4096) : EReal := unit (hv m c i) (gain m c) l

theorem run_values (ρ : Dev nD → PrngReg) :
    θ_run defs (onTc (τ := τ) (main (F := Ideal))) ⟨m, fun _ => 0, ρ⟩ fun r => ∀ c : Dev nD,
      (r.2.mem ((c.tc : Thread nD τ).loc main_v4) = fun i : S16896x4096.Idx => hv m c (i 0) (i 1))
      ∧ (r.2.mem ((c.tc : Thread nD τ).loc main_v21) = fun i : S16896x4096.Idx => nv m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.EmbedRefIdeal.Value.run m ρ)
  obtain ⟨h1, h2, h3⟩ := h c
  refine ⟨h1.trans (funext fun i => ?_), h2.trans (funext fun i => ?_), h3⟩
  · exact streamT_apply _ _ i
  · exact normedT_apply _ _ _ i

end Cert.Proof.EmbedRef

end
-- ==== Proof.EmbedClaims.lean ====
/-
  The claims about the first call: the three frames, and the equality of its results with the reference's.
-/
module

public import proofs.«01_k».proof.Defs
public import proofs.«01_k».proof.Proof.Gen.Embed.Frame
public import proofs.«01_k».proof.Proof.EmbedValue
public import proofs.«01_k».proof.Proof.EmbedRef
public import Idealize.ShloMosaic.Adequacy

@[expose] public section

set_option maxRecDepth 16384

noncomputable section

namespace Cert.Proof.Embed

open Idealize.ShloMosaic Idealize.SL.Sem

/-- The call as it is executed at the machine's words ends with its arguments unchanged and every counter at zero. -/
theorem frame_call : Cert.quiescent_Embed := fun m ρ _ => Cert.Embed.Gen.frame m ρ

theorem frame_callIdeal : Cert.quiescent_EmbedIdeal := fun m ρ _ => Cert.EmbedIdeal.Gen.frame m ρ

theorem frame_reference : Cert.quiescent_EmbedRefIdeal := fun m ρ _ =>
  (θ_run Cert.EmbedRefIdeal.defs _ _).mono
    (fun r h => ⟨fun c => (h c).2.2, Idealize.ShloMosaic.sem_eq_zero_of_no_sems (by decide) r.2⟩)
    (Cert.Proof.EmbedRef.run_values m ρ)

/-- The call's results are the reference's. -/
theorem algebraic : Cert.algebraic_EmbedIdeal_EmbedRefIdeal := by
  intro m ρ m' ρ' _ hagree
  refine ⟨fun c i => hv m c (i 0) (i 1), fun c i => nv m c (i 0) (i 1),
    (θ_run Cert.EmbedIdeal.defs _ _).mono (fun r h c => ?_) (Cert.EmbedIdeal.Value.run_blocks m ρ),
    (θ_run Cert.EmbedRefIdeal.defs _ _).mono (fun r h c => ?_) (Cert.Proof.EmbedRef.run_values m' ρ')⟩
  · obtain ⟨h0, h1, h2⟩ := h c
    exact ⟨h0.trans (out_h m c), h1.trans (out_n m c), h2⟩
  · obtain ⟨h0, h1, h2⟩ := h c
    obtain ⟨a0, a1, a2⟩ := hagree c
    have e0 : Cert.Proof.EmbedRef.hv m' c = hv m c := by
      unfold Cert.Proof.EmbedRef.hv Cert.Proof.EmbedRef.metaRow Cert.Proof.EmbedRef.inp hv metaRow inp
      rw [a0, a1]
    have e1 : Cert.Proof.EmbedRef.nv m' c = nv m c := by
      unfold Cert.Proof.EmbedRef.nv Cert.Proof.EmbedRef.gain nv gain
      rw [e0, a2]
    rw [e0] at h0
    rw [e1] at h1
    exact ⟨h0, h1, h2⟩

end Cert.Proof.Embed

end
-- ==== Proof.Keep.lean ====
/- A program that only loads and stores through buffers it holds keeps holding them. No value is named here: what a
   stored buffer is left with may be anything. -/
module

public import Idealize.ShloMosaic.Lib.Memref
public import Idealize.ShloMosaic.Lib.Scf
public import Idealize.ShloMosaic.Lib.Tactic

@[expose] public section

noncomputable section

namespace Cert.Proof.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} [Preorder Lvl] {Λ : Labels}
variable {defs : Defs nD τ sig Val Λ} {𝒱 : Variants} {c : Dev nD} {E : Set Name}

/-- The assertions about a machine. -/
local notation "𝕄" => MT nD τ sig Ix Val Name U Lvl

/-- `R` lends the contents of `m` to be read, and is had again when they are given back. -/
class Reads (c : Dev nD) (R : sProp 𝕄) {cs : CoreSpace} {s : Shape} {e : EltTy} (m : Memref sig .tc cs s e) : Prop where
  lend : ∃ q : PosShare TreeShare, R ⊢ iprop(∃ f, (m.view.loc (c : Thread nD τ) ↦[m.view.set]{q} f)
    ∗ ((m.view.loc (c : Thread nD τ) ↦[m.view.set]{q} f) -∗ R))

/-- `R` lends `m` to be written, and is had again whatever `m` then holds. -/
class Writes (c : Dev nD) (R : sProp 𝕄) {cs : CoreSpace} {s : Shape} {e : EltTy} (m : Memref sig .tc cs s e) : Prop where
  lend : R ⊢ iprop((∃ f, (m.view.loc (c : Thread nD τ) ↦[m.view.set]{fullShare} f))
    ∗ (∀ f, (m.view.loc (c : Thread nD τ) ↦[m.view.set]{fullShare} f) -∗ R))

/-- What may be written may be read. -/
instance Writes.reads {R : sProp 𝕄} {cs : CoreSpace} {s : Shape} {e : EltTy} {m : Memref sig .tc cs s e}
    [h : Writes c R m] : Reads c R m := by
  refine ⟨fullShare, h.lend.trans ?_⟩
  iintro ⟨⟨%f, H⟩, Hk⟩
  iexists f
  isplitl [H]; · iexact H
  iintro H; iapply Hk; iexact H

/-- A buffer held at some contents, alone, may be written. -/
instance writes_owns {cs : CoreSpace} {s : Shape} {e : EltTy} {m : Memref sig .tc cs s e} :
    Writes c (iprop(∃ d, owns (c : Thread nD τ) m fullShare d) : sProp 𝕄) m := by
  refine ⟨?_⟩
  unfold owns
  iintro ⟨%d, %f, -, H⟩
  isplitl [H]
  · iexists f; iexact H
  iintro %g H
  iexists _, g; isplitr; swap; · iexact H
  ipureintro; rfl

/-- What a part of the assertion lends, the whole lends. -/
instance writes_left {P Q : sProp 𝕄} {cs : CoreSpace} {s : Shape} {e : EltTy} {m : Memref sig .tc cs s e}
    [h : Writes c P m] : Writes c iprop(P ∗ Q) m := by
  refine ⟨(Laws.sep_mono h.lend .rfl).trans ?_⟩
  iintro ⟨⟨H, Hk⟩, HQ⟩
  isplitl [H]; · iexact H
  iintro %g H
  isplitl [H Hk]
  · iapply Hk; iexact H
  iexact HQ

instance writes_right {P Q : sProp 𝕄} {cs : CoreSpace} {s : Shape} {e : EltTy} {m : Memref sig .tc cs s e}
    [h : Writes c Q m] : Writes c iprop(P ∗ Q) m := by
  refine ⟨(Laws.sep_mono .rfl h.lend).trans ?_⟩
  iintro ⟨HP, H, Hk⟩
  isplitl [H]; · iexact H
  iintro %g H
  isplitl [HP]; · iexact HP
  iapply Hk; iexact H

/-- Run from `R`, the program ends in `R`, whatever it returns. -/
def Keeps (defs : Defs nD τ sig Val Λ) (𝒱 : Variants) (c : Dev nD) (E : Set Name) (R : sProp 𝕄) {α : Type}
    (p : Prog (TpuEff nD τ sig Val Λ .tc) α) : Prop :=
  R ⊢ wp frame (wpE defs 𝒱 (c : Thread nD τ) none) E p (fun _ => R)

theorem Keeps.pure {R : sProp 𝕄} {α : Type} (a : α) : Keeps defs 𝒱 c E R (Pure.pure a) := by
  unfold Keeps; exact le_wp_ret _ _ _ a (fun _ => R)

theorem Keeps.bind {R : sProp 𝕄} {α β : Type} {p : Prog (TpuEff nD τ sig Val Λ .tc) α}
    {k : α → Prog (TpuEff nD τ sig Val Λ .tc) β} (hp : Keeps defs 𝒱 c E R p) (hk : ∀ a, Keeps defs 𝒱 c E R (k a)) :
    Keeps defs 𝒱 c E R (p >>= k) := by
  unfold Keeps at *
  rw [wp_bind]
  exact hp.trans (wp_mono _ _ _ hk)

theorem Keeps.dite {R : sProp 𝕄} {α : Type} {b : Prop} [Decidable b] {p : b → Prog (TpuEff nD τ sig Val Λ .tc) α}
    {p' : ¬b → Prog (TpuEff nD τ sig Val Λ .tc) α} (h : ∀ hb, Keeps defs 𝒱 c E R (p hb)) (h' : ∀ hb, Keeps defs 𝒱 c E R (p' hb)) :
    Keeps defs 𝒱 c E R (if hb : b then p hb else p' hb) := by
  by_cases hb : b
  · rw [dif_pos hb]; exact h hb
  · rw [dif_neg hb]; exact h' hb

theorem Keeps.for {R : sProp 𝕄} {w : Nat} {σ : Type} {lb ub st : BitVec w} {hok : Scf.OK lb ub st} {init : σ}
    {body : Fin (Scf.trips lb ub st) → σ → Prog (TpuEff nD τ sig Val Λ .tc) σ}
    (h : ∀ k acc, Keeps defs 𝒱 c E R (body k acc)) : Keeps defs 𝒱 c E R (Scf.for lb ub st hok init body) := by
  unfold Keeps at *
  iintro H
  iapply (Scf.wp_for frame (wpE defs 𝒱 (c : Thread nD τ) none) E lb ub st hok init body (fun _ _ => R) h)
  isplitl [H]; · iexact H
  iintro %_ H; iexact H

theorem Keeps.load {R : sProp 𝕄} {cs : CoreSpace} {s : Shape} {e : EltTy} {m : Memref sig .tc cs s e} {r : LoadRect s}
    {hl : m.view.LoadsAt r} [h : Reads c R m] : Keeps defs 𝒱 c E R (Prog.lift (.load m r hl)) := by
  obtain ⟨q, h⟩ := h.lend
  refine h.trans ?_
  iintro ⟨%f, H, Hk⟩
  iapply (wp_load 𝒱 (c : Thread nD τ) none E (hl := hl) (q := q) (f := f) (S := m.view.set) (View.setOn_subset_set ..)) $$ H
  iintro H
  iapply (le_wp_ret _ _ _ _ (fun _ => R))
  iapply Hk; iexact H

theorem Keeps.store {R : sProp 𝕄} {cs : CoreSpace} {s : Shape} {e : EltTy} {m : Memref sig .tc cs s e} {r : Rect s}
    {w : r.shape.Idx → Val e} {Mk : Finset r.shape.Idx} {hx : (m.access r).Stores Mk} {hm : Mk = Finset.univ ∨ ∀ a, r.stride a = 1}
    [h : Writes c R m] : Keeps defs 𝒱 c E R (Prog.lift (.store m r w Mk hx hm)) := by
  refine h.lend.trans ?_
  iintro ⟨⟨%f, H⟩, Hk⟩
  iapply (wp_store 𝒱 (c : Thread nD τ) none E (hx := hx) (hm := hm) (f := f) (S := m.view.set)
    ((View.setOn_subset_set ..).trans ((View.set_slice ..).trans_subset (View.setOn_subset_set ..)))) $$ H
  iintro H
  iapply (le_wp_ret _ _ _ _ (fun _ => R))
  iapply Hk; iexact H

end Cert.Proof.Keep

end
-- ==== Proof.AttnIdealKeep.lean ====
/- The attention's body in exact arithmetic, taken to pieces: every piece keeps the buffers it loads and stores through. No value is named. -/
module

public import proofs.«01_k».proof.Proof.Gen.AttnIdeal.Skeleton
public import proofs.«01_k».proof.Proof.Gen.AttnIdeal.Frame
public import proofs.«01_k».proof.Proof.Keep

@[expose] public section

noncomputable section

namespace Cert.Proof.AttnIdealKeep

open Cert.AttnIdeal Cert.AttnIdeal.Gen Cert.Proof.Keep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Run from `R`, the program ends in `R`, whatever it returns. -/
abbrev K (c : Dev nD) (R : sProp (MT nD τ sig Unit (Elt F) ℕ (UR sig nD τ) ℕ)) {α : Type}
    (p : Prog (TpuEff nD τ sig (Elt F) Λ₀ .tc) α) : Prop := Keeps defs₀ Variants.none c Set.univ R p

set_option maxHeartbeats 2000000

variable {c : Dev nD} {R : sProp (MT nD τ sig Unit (Elt F) ℕ (UR sig nD τ) ℕ)} {i : grid0.Coords} {arg2 : Memref sig .tc .vmem S8448x256 .bf16} {arg3 : Memref sig .tc .vmem S8448x256 .bf16} {arg4 : Memref sig .tc .vmem S8448x256 .bf16} {arg5 : Memref sig .tc .vmem S4x128 .f32} {arg6 : Memref sig .tc .vmem S1x256 .f32} {arg7 : Memref sig .tc .vmem S8448x256 .bf16} {arg8 : Memref sig .tc .vmem S768x1 .f32} {arg9 : Memref sig .tc .vmem S768x128 .f32} {arg10 : Memref sig .tc .vmem S768x256 .f32} {arg11 : Memref sig .tc .vmem S768x1 .f32} {arg12 : Memref sig .tc .vmem S768x128 .f32} {arg13 : Memref sig .tc .vmem S768x256 .f32} {arg14 : Memref sig .tc .vmem S2x768x896 .f32} {arg15 : Memref sig .tc .vmem S2x768x896 .f32} {arg16 : Memref sig .tc .vmem S2x768x768 .bf16} {arg17 : Memref sig .tc .vmem S2x768x1 .f32}
variable [Reads c R arg2] [Reads c R arg3] [Reads c R arg4] [Reads c R arg5] [Reads c R arg6] [Writes c R arg7] [Writes c R arg8] [Writes c R arg9] [Writes c R arg10] [Writes c R arg11] [Writes c R arg12] [Writes c R arg13] [Writes c R arg14] [Writes c R arg15] [Writes c R arg16] [Writes c R arg17]
variable (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) (h17 : arg17.IsWhole)

theorem part221 : K c R (k0_part221 (F := F) i _ h2 _ h3 _ h4 _ h5 _ h6 _ h7 _ h8 _ h9 _ h10 _ h11 _ h12 _ h13 _ h14 _ h15 _ h16 _ h17) := by
  rw [k0_part221_eq_skeleton]; unfold k0_part221_skel
  repeat' with_reducible first | exact .load | exact .store | apply Keeps.bind | intro _ | exact .pure _

theorem part222 (v33) : K c R (k0_part222 (F := F) i _ h2 _ h3 _ h4 _ h5 _ h6 _ h7 _ h8 _ h9 _ h10 _ h11 _ h12 _ h13 _ h14 _ h15 _ h16 _ h17 v33) := by
  rw [k0_part222_eq_skeleton]; unfold k0_part222_skel
  repeat' with_reducible first | exact .load | exact .store | apply Keeps.bind | intro _ | exact .pure _

theorem part1 (k0_t1 arg18 k0_t2 arg19 v189 k0_h1) : K c R (k0_part1 (F := F) i _ h2 _ h3 _ h4 _ h5 _ h6 _ h7 _ h8 _ h9 _ h10 _ h11 _ h12 _ h13 _ h14 _ h15 _ h16 _ h17 k0_t1 arg18 k0_t2 arg19 v189 k0_h1) := by
  rw [k0_part1_eq_skeleton]; unfold k0_part1_skel
  repeat' with_reducible first | exact .load | exact .store | apply Keeps.bind | intro _ | exact .pure _

theorem part2 (v248 v250 v253) : K c R (k0_part2 (F := F) i _ h2 _ h3 _ h4 _ h5 _ h6 _ h7 _ h8 _ h9 _ h10 _ h11 _ h12 _ h13 _ h14 _ h15 _ h16 _ h17 v248 v250 v253) := by
  rw [k0_part2_eq_skeleton]; unfold k0_part2_skel
  repeat' with_reducible first | exact .load | exact .store | apply Keeps.bind | intro _ | exact .pure _

theorem part3 (v287 v289 v291) : K c R (k0_part3 (F := F) i _ h2 _ h3 _ h4 _ h5 _ h6 _ h7 _ h8 _ h9 _ h10 _ h11 _ h12 _ h13 _ h14 _ h15 _ h16 _ h17 v287 v289 v291) := by
  rw [k0_part3_eq_skeleton]; unfold k0_part3_skel
  repeat' with_reducible first | exact .load | exact .store | apply Keeps.bind | intro _ | exact .pure _

theorem part4 (v322 v326 v328 v329) : K c R (k0_part4 (F := F) i _ h2 _ h3 _ h4 _ h5 _ h6 _ h7 _ h8 _ h9 _ h10 _ h11 _ h12 _ h13 _ h14 _ h15 _ h16 _ h17 v322 v326 v328 v329) := by
  rw [k0_part4_eq_skeleton]; unfold k0_part4_skel
  repeat' with_reducible first | exact .load | exact .store | apply Keeps.bind | intro _ | exact .pure _

theorem part5 (v361 v365 v367) : K c R (k0_part5 (F := F) i _ h2 _ h3 _ h4 _ h5 _ h6 _ h7 _ h8 _ h9 _ h10 _ h11 _ h12 _ h13 _ h14 _ h15 _ h16 _ h17 v361 v365 v367) := by
  rw [k0_part5_eq_skeleton]; unfold k0_part5_skel
  repeat' with_reducible first | exact .load | exact .store | apply Keeps.bind | intro _ | exact .pure _

theorem part6 (v400 v404 v405) : K c R (k0_part6 (F := F) i _ h2 _ h3 _ h4 _ h5 _ h6 _ h7 _ h8 _ h9 _ h10 _ h11 _ h12 _ h13 _ h14 _ h15 _ h16 _ h17 v400 v404 v405) := by
  rw [k0_part6_eq_skeleton]; unfold k0_part6_skel
  repeat' with_reducible first | exact .load | exact .store | apply Keeps.bind | intro _ | exact .pure _

theorem part7 (v439 v440 v443) : K c R (k0_part7 (F := F) i _ h2 _ h3 _ h4 _ h5 _ h6 _ h7 _ h8 _ h9 _ h10 _ h11 _ h12 _ h13 _ h14 _ h15 _ h16 _ h17 v439 v440 v443) := by
  rw [k0_part7_eq_skeleton]; unfold k0_part7_skel
  repeat' with_reducible first | exact .load | exact .store | apply Keeps.bind | intro _ | exact .pure _

theorem part8 (v478 v479 v481) : K c R (k0_part8 (F := F) i _ h2 _ h3 _ h4 _ h5 _ h6 _ h7 _ h8 _ h9 _ h10 _ h11 _ h12 _ h13 _ h14 _ h15 _ h16 _ h17 v478 v479 v481) := by
  rw [k0_part8_eq_skeleton]; unfold k0_part8_skel
  repeat' with_reducible first | exact .load | exact .store | apply Keeps.bind | intro _ | exact .pure _

theorem part9 (v517 v518 v519) : K c R (k0_part9 (F := F) i _ h2 _ h3 _ h4 _ h5 _ h6 _ h7 _ h8 _ h9 _ h10 _ h11 _ h12 _ h13 _ h14 _ h15 _ h16 _ h17 v517 v518 v519) := by
  rw [k0_part9_eq_skeleton]; unfold k0_part9_skel
  repeat' with_reducible first | exact .load | exact .store | apply Keeps.bind | intro _ | exact .pure _

theorem part10 (v556 v557) : K c R (k0_part10 (F := F) i _ h2 _ h3 _ h4 _ h5 _ h6 _ h7 _ h8 _ h9 _ h10 _ h11 _ h12 _ h13 _ h14 _ h15 _ h16 _ h17 v556 v557) := by
  rw [k0_part10_eq_skeleton]; unfold k0_part10_skel
  repeat' with_reducible first | exact .load | exact .store | apply Keeps.bind | intro _ | exact .pure _

theorem part11 (v595 v596) : K c R (k0_part11 (F := F) i _ h2 _ h3 _ h4 _ h5 _ h6 _ h7 _ h8 _ h9 _ h10 _ h11 _ h12 _ h13 _ h14 _ h15 _ h16 _ h17 v595 v596) := by
  rw [k0_part11_eq_skeleton]; unfold k0_part11_skel
  repeat' with_reducible first | exact .load | exact .store | apply Keeps.bind | intro _ | exact .pure _

theorem part12 (v634) : K c R (k0_part12 (F := F) i _ h2 _ h3 _ h4 _ h5 _ h6 _ h7 _ h8 _ h9 _ h10 _ h11 _ h12 _ h13 _ h14 _ h15 _ h16 _ h17 v634) := by
  rw [k0_part12_eq_skeleton]; unfold k0_part12_skel
  repeat' with_reducible first | exact .load | exact .store | apply Keeps.bind | intro _ | exact .pure _

theorem part13 (v673) : K c R (k0_part13 (F := F) i _ h2 _ h3 _ h4 _ h5 _ h6 _ h7 _ h8 _ h9 _ h10 _ h11 _ h12 _ h13 _ h14 _ h15 _ h16 _ h17 v673) := by
  rw [k0_part13_eq_skeleton]; unfold k0_part13_skel
  repeat' with_reducible first | exact .load | exact .store | apply Keeps.bind | intro _ | exact .pure _

theorem part14 (v242 v712) : K c R (k0_part14 (F := F) i _ h2 _ h3 _ h4 _ h5 _ h6 _ h7 _ h8 _ h9 _ h10 _ h11 _ h12 _ h13 _ h14 _ h15 _ h16 _ h17 v242 v712) := by
  rw [k0_part14_eq_skeleton]; unfold k0_part14_skel
  repeat' with_reducible first | exact .load | exact .store | apply Keeps.bind | intro _ | exact .pure _

theorem part15 (v728 v730 v752) : K c R (k0_part15 (F := F) i _ h2 _ h3 _ h4 _ h5 _ h6 _ h7 _ h8 _ h9 _ h10 _ h11 _ h12 _ h13 _ h14 _ h15 _ h16 _ h17 v728 v730 v752) := by
  rw [k0_part15_eq_skeleton]; unfold k0_part15_skel
  repeat' with_reducible first | exact .load | exact .store | apply Keeps.bind | intro _ | exact .pure _

theorem part16 (v767 v769 v772) : K c R (k0_part16 (F := F) i _ h2 _ h3 _ h4 _ h5 _ h6 _ h7 _ h8 _ h9 _ h10 _ h11 _ h12 _ h13 _ h14 _ h15 _ h16 _ h17 v767 v769 v772) := by
  rw [k0_part16_eq_skeleton]; unfold k0_part16_skel
  repeat' with_reducible first | exact .load | exact .store | apply Keeps.bind | intro _ | exact .pure _

theorem part17 (v806 v808 v811 v829) : K c R (k0_part17 (F := F) i _ h2 _ h3 _ h4 _ h5 _ h6 _ h7 _ h8 _ h9 _ h10 _ h11 _ h12 _ h13 _ h14 _ h15 _ h16 _ h17 v806 v808 v811 v829) := by
  rw [k0_part17_eq_skeleton]; unfold k0_part17_skel
  repeat' with_reducible first | exact .load | exact .store | apply Keeps.bind | intro _ | exact .pure _

theorem part18 (v845 v847 v850 v865) : K c R (k0_part18 (F := F) i _ h2 _ h3 _ h4 _ h5 _ h6 _ h7 _ h8 _ h9 _ h10 _ h11 _ h12 _ h13 _ h14 _ h15 _ h16 _ h17 v845 v847 v850 v865) := by
  rw [k0_part18_eq_skeleton]; unfold k0_part18_skel
  repeat' with_reducible first | exact .load | exact .store | apply Keeps.bind | intro _ | exact .pure _

theorem part19 (v884 v886 v889 v904 v905) : K c R (k0_part19 (F := F) i _ h2 _ h3 _ h4 _ h5 _ h6 _ h7 _ h8 _ h9 _ h10 _ h11 _ h12 _ h13 _ h14 _ h15 _ h16 _ h17 v884 v886 v889 v904 v905) := by
  rw [k0_part19_eq_skeleton]; unfold k0_part19_skel
  repeat' with_reducible first | exact .load | exact .store | apply Keeps.bind | intro _ | exact .pure _

theorem part20 (v923 v925 v928 v943) : K c R (k0_part20 (F := F) i _ h2 _ h3 _ h4 _ h5 _ h6 _ h7 _ h8 _ h9 _ h10 _ h11 _ h12 _ h13 _ h14 _ h15 _ h16 _ h17 v923 v925 v928 v943) := by
  rw [k0_part20_eq_skeleton]; unfold k0_part20_skel
  repeat' with_reducible first | exact .load | exact .store | apply Keeps.bind | intro _ | exact .pure _

theorem part21 (v962 v964 v967 v982) : K c R (k0_part21 (F := F) i _ h2 _ h3 _ h4 _ h5 _ h6 _ h7 _ h8 _ h9 _ h10 _ h11 _ h12 _ h13 _ h14 _ h15 _ h16 _ h17 v962 v964 v967 v982) := by
  rw [k0_part21_eq_skeleton]; unfold k0_part21_skel
  repeat' with_reducible first | exact .load | exact .store | apply Keeps.bind | intro _ | exact .pure _

theorem part22 (v1001 v1003 v1006 v1021) : K c R (k0_part22 (F := F) i _ h2 _ h3 _ h4 _ h5 _ h6 _ h7 _ h8 _ h9 _ h10 _ h11 _ h12 _ h13 _ h14 _ h15 _ h16 _ h17 v1001 v1003 v1006 v1021) := by
  rw [k0_part22_eq_skeleton]; unfold k0_part22_skel
  repeat' with_reducible first | exact .load | exact .store | apply Keeps.bind | intro _ | exact .pure _

theorem part23 (v1040 v1042 v1045 v1056 v1059) : K c R (k0_part23 (F := F) i _ h2 _ h3 _ h4 _ h5 _ h6 _ h7 _ h8 _ h9 _ h10 _ h11 _ h12 _ h13 _ h14 _ h15 _ h16 _ h17 v1040 v1042 v1045 v1056 v1059) := by
  rw [k0_part23_eq_skeleton]; unfold k0_part23_skel
  repeat' with_reducible first | exact .load | exact .store | apply Keeps.bind | intro _ | exact .pure _

theorem part24 (v1079 v1081 v1084 v1095 v1096 v1097) : K c R (k0_part24 (F := F) i _ h2 _ h3 _ h4 _ h5 _ h6 _ h7 _ h8 _ h9 _ h10 _ h11 _ h12 _ h13 _ h14 _ h15 _ h16 _ h17 v1079 v1081 v1084 v1095 v1096 v1097) := by
  rw [k0_part24_eq_skeleton]; unfold k0_part24_skel
  repeat' with_reducible first | exact .load | exact .store | apply Keeps.bind | intro _ | exact .pure _

theorem part25 (v1118 v1120 v1123 v1134 v1135) : K c R (k0_part25 (F := F) i _ h2 _ h3 _ h4 _ h5 _ h6 _ h7 _ h8 _ h9 _ h10 _ h11 _ h12 _ h13 _ h14 _ h15 _ h16 _ h17 v1118 v1120 v1123 v1134 v1135) := by
  rw [k0_part25_eq_skeleton]; unfold k0_part25_skel
  repeat' with_reducible first | exact .load | exact .store | apply Keeps.bind | intro _ | exact .pure _

theorem part26 (k0_t1 arg18 k0_t2 arg19 v189 k0_h1) : K c R (k0_part26 (F := F) i _ h2 _ h3 _ h4 _ h5 _ h6 _ h7 _ h8 _ h9 _ h10 _ h11 _ h12 _ h13 _ h14 _ h15 _ h16 _ h17 k0_t1 arg18 k0_t2 arg19 v189 k0_h1) := by
  rw [k0_part26_eq_skeleton]; unfold k0_part26_skel
  repeat' with_reducible first | exact part1 .. | exact part2 .. | exact part3 .. | exact part4 .. | exact part5 .. | exact part6 .. | exact part7 .. | exact part8 .. | exact part9 .. | exact part10 .. | exact part11 .. | exact part12 .. | exact part13 .. | exact part14 .. | exact part15 .. | exact part16 .. | exact part17 .. | exact part18 .. | exact part19 .. | exact part20 .. | exact part21 .. | exact part22 .. | exact part23 .. | exact part24 .. | exact part25 .. | exact .load | exact .store | apply Keeps.bind | intro _ | exact .pure _

theorem part27 (k0_t1 arg18 k0_t2 arg19 v189 k0_h2) : K c R (k0_part27 (F := F) i _ h2 _ h3 _ h4 _ h5 _ h6 _ h7 _ h8 _ h9 _ h10 _ h11 _ h12 _ h13 _ h14 _ h15 _ h16 _ h17 k0_t1 arg18 k0_t2 arg19 v189 k0_h2) := by
  rw [k0_part27_eq_skeleton]; unfold k0_part27_skel
  repeat' with_reducible first | exact .load | exact .store | apply Keeps.bind | intro _ | exact .pure _

theorem part28 (v248 v250 v253) : K c R (k0_part28 (F := F) i _ h2 _ h3 _ h4 _ h5 _ h6 _ h7 _ h8 _ h9 _ h10 _ h11 _ h12 _ h13 _ h14 _ h15 _ h16 _ h17 v248 v250 v253) := by
  rw [k0_part28_eq_skeleton]; unfold k0_part28_skel
  repeat' with_reducible first | exact .load | exact .store | apply Keeps.bind | intro _ | exact .pure _

theorem part29 (v287 v289 v291) : K c R (k0_part29 (F := F) i _ h2 _ h3 _ h4 _ h5 _ h6 _ h7 _ h8 _ h9 _ h10 _ h11 _ h12 _ h13 _ h14 _ h15 _ h16 _ h17 v287 v289 v291) := by
  rw [k0_part29_eq_skeleton]; unfold k0_part29_skel
  repeat' with_reducible first | exact .load | exact .store | apply Keeps.bind | intro _ | exact .pure _

theorem part30 (v322 v326 v328 v329) : K c R (k0_part30 (F := F) i _ h2 _ h3 _ h4 _ h5 _ h6 _ h7 _ h8 _ h9 _ h10 _ h11 _ h12 _ h13 _ h14 _ h15 _ h16 _ h17 v322 v326 v328 v329) := by
  rw [k0_part30_eq_skeleton]; unfold k0_part30_skel
  repeat' with_reducible first | exact .load | exact .store | apply Keeps.bind | intro _ | exact .pure _

theorem part31 (v361 v365 v367) : K c R (k0_part31 (F := F) i _ h2 _ h3 _ h4 _ h5 _ h6 _ h7 _ h8 _ h9 _ h10 _ h11 _ h12 _ h13 _ h14 _ h15 _ h16 _ h17 v361 v365 v367) := by
  rw [k0_part31_eq_skeleton]; unfold k0_part31_skel
  repeat' with_reducible first | exact .load | exact .store | apply Keeps.bind | intro _ | exact .pure _

theorem part32 (v400 v404 v405) : K c R (k0_part32 (F := F) i _ h2 _ h3 _ h4 _ h5 _ h6 _ h7 _ h8 _ h9 _ h10 _ h11 _ h12 _ h13 _ h14 _ h15 _ h16 _ h17 v400 v404 v405) := by
  rw [k0_part32_eq_skeleton]; unfold k0_part32_skel
  repeat' with_reducible first | exact .load | exact .store | apply Keeps.bind | intro _ | exact .pure _

theorem part33 (v439 v440 v443) : K c R (k0_part33 (F := F) i _ h2 _ h3 _ h4 _ h5 _ h6 _ h7 _ h8 _ h9 _ h10 _ h11 _ h12 _ h13 _ h14 _ h15 _ h16 _ h17 v439 v440 v443) := by
  rw [k0_part33_eq_skeleton]; unfold k0_part33_skel
  repeat' with_reducible first | exact .load | exact .store | apply Keeps.bind | intro _ | exact .pure _

theorem part34 (v478 v479 v481) : K c R (k0_part34 (F := F) i _ h2 _ h3 _ h4 _ h5 _ h6 _ h7 _ h8 _ h9 _ h10 _ h11 _ h12 _ h13 _ h14 _ h15 _ h16 _ h17 v478 v479 v481) := by
  rw [k0_part34_eq_skeleton]; unfold k0_part34_skel
  repeat' with_reducible first | exact .load | exact .store | apply Keeps.bind | intro _ | exact .pure _

theorem part35 (v517 v518 v519) : K c R (k0_part35 (F := F) i _ h2 _ h3 _ h4 _ h5 _ h6 _ h7 _ h8 _ h9 _ h10 _ h11 _ h12 _ h13 _ h14 _ h15 _ h16 _ h17 v517 v518 v519) := by
  rw [k0_part35_eq_skeleton]; unfold k0_part35_skel
  repeat' with_reducible first | exact .load | exact .store | apply Keeps.bind | intro _ | exact .pure _

theorem part36 (v556 v557) : K c R (k0_part36 (F := F) i _ h2 _ h3 _ h4 _ h5 _ h6 _ h7 _ h8 _ h9 _ h10 _ h11 _ h12 _ h13 _ h14 _ h15 _ h16 _ h17 v556 v557) := by
  rw [k0_part36_eq_skeleton]; unfold k0_part36_skel
  repeat' with_reducible first | exact .load | exact .store | apply Keeps.bind | intro _ | exact .pure _

theorem part37 (v595 v596) : K c R (k0_part37 (F := F) i _ h2 _ h3 _ h4 _ h5 _ h6 _ h7 _ h8 _ h9 _ h10 _ h11 _ h12 _ h13 _ h14 _ h15 _ h16 _ h17 v595 v596) := by
  rw [k0_part37_eq_skeleton]; unfold k0_part37_skel
  repeat' with_reducible first | exact .load | exact .store | apply Keeps.bind | intro _ | exact .pure _

theorem part38 (v634) : K c R (k0_part38 (F := F) i _ h2 _ h3 _ h4 _ h5 _ h6 _ h7 _ h8 _ h9 _ h10 _ h11 _ h12 _ h13 _ h14 _ h15 _ h16 _ h17 v634) := by
  rw [k0_part38_eq_skeleton]; unfold k0_part38_skel
  repeat' with_reducible first | exact .load | exact .store | apply Keeps.bind | intro _ | exact .pure _

theorem part39 (v673) : K c R (k0_part39 (F := F) i _ h2 _ h3 _ h4 _ h5 _ h6 _ h7 _ h8 _ h9 _ h10 _ h11 _ h12 _ h13 _ h14 _ h15 _ h16 _ h17 v673) := by
  rw [k0_part39_eq_skeleton]; unfold k0_part39_skel
  repeat' with_reducible first | exact .load | exact .store | apply Keeps.bind | intro _ | exact .pure _

theorem part40 (v242 v712) : K c R (k0_part40 (F := F) i _ h2 _ h3 _ h4 _ h5 _ h6 _ h7 _ h8 _ h9 _ h10 _ h11 _ h12 _ h13 _ h14 _ h15 _ h16 _ h17 v242 v712) := by
  rw [k0_part40_eq_skeleton]; unfold k0_part40_skel
  repeat' with_reducible first | exact .load | exact .store | apply Keeps.bind | intro _ | exact .pure _

theorem part41 (v728 v730 v752) : K c R (k0_part41 (F := F) i _ h2 _ h3 _ h4 _ h5 _ h6 _ h7 _ h8 _ h9 _ h10 _ h11 _ h12 _ h13 _ h14 _ h15 _ h16 _ h17 v728 v730 v752) := by
  rw [k0_part41_eq_skeleton]; unfold k0_part41_skel
  repeat' with_reducible first | exact .load | exact .store | apply Keeps.bind | intro _ | exact .pure _

theorem part42 (v767 v769 v772) : K c R (k0_part42 (F := F) i _ h2 _ h3 _ h4 _ h5 _ h6 _ h7 _ h8 _ h9 _ h10 _ h11 _ h12 _ h13 _ h14 _ h15 _ h16 _ h17 v767 v769 v772) := by
  rw [k0_part42_eq_skeleton]; unfold k0_part42_skel
  repeat' with_reducible first | exact .load | exact .store | apply Keeps.bind | intro _ | exact .pure _

theorem part43 (v806 v808 v811 v829) : K c R (k0_part43 (F := F) i _ h2 _ h3 _ h4 _ h5 _ h6 _ h7 _ h8 _ h9 _ h10 _ h11 _ h12 _ h13 _ h14 _ h15 _ h16 _ h17 v806 v808 v811 v829) := by
  rw [k0_part43_eq_skeleton]; unfold k0_part43_skel
  repeat' with_reducible first | exact .load | exact .store | apply Keeps.bind | intro _ | exact .pure _

theorem part44 (v845 v847 v850 v865) : K c R (k0_part44 (F := F) i _ h2 _ h3 _ h4 _ h5 _ h6 _ h7 _ h8 _ h9 _ h10 _ h11 _ h12 _ h13 _ h14 _ h15 _ h16 _ h17 v845 v847 v850 v865) := by
  rw [k0_part44_eq_skeleton]; unfold k0_part44_skel
  repeat' with_reducible first | exact .load | exact .store | apply Keeps.bind | intro _ | exact .pure _

theorem part45 (v884 v886 v889 v904 v905) : K c R (k0_part45 (F := F) i _ h2 _ h3 _ h4 _ h5 _ h6 _ h7 _ h8 _ h9 _ h10 _ h11 _ h12 _ h13 _ h14 _ h15 _ h16 _ h17 v884 v886 v889 v904 v905) := by
  rw [k0_part45_eq_skeleton]; unfold k0_part45_skel
  repeat' with_reducible first | exact .load | exact .store | apply Keeps.bind | intro _ | exact .pure _

theorem part46 (v923 v925 v928 v943) : K c R (k0_part46 (F := F) i _ h2 _ h3 _ h4 _ h5 _ h6 _ h7 _ h8 _ h9 _ h10 _ h11 _ h12 _ h13 _ h14 _ h15 _ h16 _ h17 v923 v925 v928 v943) := by
  rw [k0_part46_eq_skeleton]; unfold k0_part46_skel
  repeat' with_reducible first | exact .load | exact .store | apply Keeps.bind | intro _ | exact .pure _

theorem part47 (v962 v964 v967 v982) : K c R (k0_part47 (F := F) i _ h2 _ h3 _ h4 _ h5 _ h6 _ h7 _ h8 _ h9 _ h10 _ h11 _ h12 _ h13 _ h14 _ h15 _ h16 _ h17 v962 v964 v967 v982) := by
  rw [k0_part47_eq_skeleton]; unfold k0_part47_skel
  repeat' with_reducible first | exact .load | exact .store | apply Keeps.bind | intro _ | exact .pure _

theorem part48 (v1001 v1003 v1006 v1021) : K c R (k0_part48 (F := F) i _ h2 _ h3 _ h4 _ h5 _ h6 _ h7 _ h8 _ h9 _ h10 _ h11 _ h12 _ h13 _ h14 _ h15 _ h16 _ h17 v1001 v1003 v1006 v1021) := by
  rw [k0_part48_eq_skeleton]; unfold k0_part48_skel
  repeat' with_reducible first | exact .load | exact .store | apply Keeps.bind | intro _ | exact .pure _

theorem part49 (v1040 v1042 v1045 v1056 v1059) : K c R (k0_part49 (F := F) i _ h2 _ h3 _ h4 _ h5 _ h6 _ h7 _ h8 _ h9 _ h10 _ h11 _ h12 _ h13 _ h14 _ h15 _ h16 _ h17 v1040 v1042 v1045 v1056 v1059) := by
  rw [k0_part49_eq_skeleton]; unfold k0_part49_skel
  repeat' with_reducible first | exact .load | exact .store | apply Keeps.bind | intro _ | exact .pure _

theorem part50 (v1079 v1081 v1084 v1095 v1096 v1097) : K c R (k0_part50 (F := F) i _ h2 _ h3 _ h4 _ h5 _ h6 _ h7 _ h8 _ h9 _ h10 _ h11 _ h12 _ h13 _ h14 _ h15 _ h16 _ h17 v1079 v1081 v1084 v1095 v1096 v1097) := by
  rw [k0_part50_eq_skeleton]; unfold k0_part50_skel
  repeat' with_reducible first | exact .load | exact .store | apply Keeps.bind | intro _ | exact .pure _

theorem part51 (v1118 v1120 v1123 v1134 v1135) : K c R (k0_part51 (F := F) i _ h2 _ h3 _ h4 _ h5 _ h6 _ h7 _ h8 _ h9 _ h10 _ h11 _ h12 _ h13 _ h14 _ h15 _ h16 _ h17 v1118 v1120 v1123 v1134 v1135) := by
  rw [k0_part51_eq_skeleton]; unfold k0_part51_skel
  repeat' with_reducible first | exact .load | exact .store | apply Keeps.bind | intro _ | exact .pure _

theorem part52 (k0_t1 arg18 k0_t2 arg19 v189 k0_h2) : K c R (k0_part52 (F := F) i _ h2 _ h3 _ h4 _ h5 _ h6 _ h7 _ h8 _ h9 _ h10 _ h11 _ h12 _ h13 _ h14 _ h15 _ h16 _ h17 k0_t1 arg18 k0_t2 arg19 v189 k0_h2) := by
  rw [k0_part52_eq_skeleton]; unfold k0_part52_skel
  repeat' with_reducible first | exact part27 .. | exact part28 .. | exact part29 .. | exact part30 .. | exact part31 .. | exact part32 .. | exact part33 .. | exact part34 .. | exact part35 .. | exact part36 .. | exact part37 .. | exact part38 .. | exact part39 .. | exact part40 .. | exact part41 .. | exact part42 .. | exact part43 .. | exact part44 .. | exact part45 .. | exact part46 .. | exact part47 .. | exact part48 .. | exact part49 .. | exact part50 .. | exact part51 .. | exact .load | exact .store | apply Keeps.bind | intro _ | exact .pure _

theorem t2_body (c0_i32_45 c1_i32 k0_t1 arg18) (k u) : K c R (k0_t2_body (F := F) i _ h2 _ h3 _ h4 _ h5 _ h6 _ h7 _ h8 _ h9 _ h10 _ h11 _ h12 _ h13 _ h14 _ h15 _ h16 _ h17 c0_i32_45 c1_i32 k0_t1 arg18 k u) := by
  unfold k0_t2_body
  repeat' with_reducible first | exact part26 .. | exact part52 .. | exact .load | exact .store | apply Keeps.dite | apply Keeps.bind | intro _ | exact .pure _

theorem part53 (k0_t1 arg18 k0_t3 arg19 v189 k0_h3) : K c R (k0_part53 (F := F) i _ h2 _ h3 _ h4 _ h5 _ h6 _ h7 _ h8 _ h9 _ h10 _ h11 _ h12 _ h13 _ h14 _ h15 _ h16 _ h17 k0_t1 arg18 k0_t3 arg19 v189 k0_h3) := by
  rw [k0_part53_eq_skeleton]; unfold k0_part53_skel
  repeat' with_reducible first | exact .load | exact .store | apply Keeps.bind | intro _ | exact .pure _

theorem part54 (v248 v250 v253) : K c R (k0_part54 (F := F) i _ h2 _ h3 _ h4 _ h5 _ h6 _ h7 _ h8 _ h9 _ h10 _ h11 _ h12 _ h13 _ h14 _ h15 _ h16 _ h17 v248 v250 v253) := by
  rw [k0_part54_eq_skeleton]; unfold k0_part54_skel
  repeat' with_reducible first | exact .load | exact .store | apply Keeps.bind | intro _ | exact .pure _

theorem part55 (v287 v289 v291) : K c R (k0_part55 (F := F) i _ h2 _ h3 _ h4 _ h5 _ h6 _ h7 _ h8 _ h9 _ h10 _ h11 _ h12 _ h13 _ h14 _ h15 _ h16 _ h17 v287 v289 v291) := by
  rw [k0_part55_eq_skeleton]; unfold k0_part55_skel
  repeat' with_reducible first | exact .load | exact .store | apply Keeps.bind | intro _ | exact .pure _

theorem part56 (v322 v326 v328 v329) : K c R (k0_part56 (F := F) i _ h2 _ h3 _ h4 _ h5 _ h6 _ h7 _ h8 _ h9 _ h10 _ h11 _ h12 _ h13 _ h14 _ h15 _ h16 _ h17 v322 v326 v328 v329) := by
  rw [k0_part56_eq_skeleton]; unfold k0_part56_skel
  repeat' with_reducible first | exact .load | exact .store | apply Keeps.bind | intro _ | exact .pure _

theorem part57 (v361 v365 v367) : K c R (k0_part57 (F := F) i _ h2 _ h3 _ h4 _ h5 _ h6 _ h7 _ h8 _ h9 _ h10 _ h11 _ h12 _ h13 _ h14 _ h15 _ h16 _ h17 v361 v365 v367) := by
  rw [k0_part57_eq_skeleton]; unfold k0_part57_skel
  repeat' with_reducible first | exact .load | exact .store | apply Keeps.bind | intro _ | exact .pure _

theorem part58 (v400 v404 v405) : K c R (k0_part58 (F := F) i _ h2 _ h3 _ h4 _ h5 _ h6 _ h7 _ h8 _ h9 _ h10 _ h11 _ h12 _ h13 _ h14 _ h15 _ h16 _ h17 v400 v404 v405) := by
  rw [k0_part58_eq_skeleton]; unfold k0_part58_skel
  repeat' with_reducible first | exact .load | exact .store | apply Keeps.bind | intro _ | exact .pure _

theorem part59 (v439 v440 v443) : K c R (k0_part59 (F := F) i _ h2 _ h3 _ h4 _ h5 _ h6 _ h7 _ h8 _ h9 _ h10 _ h11 _ h12 _ h13 _ h14 _ h15 _ h16 _ h17 v439 v440 v443) := by
  rw [k0_part59_eq_skeleton]; unfold k0_part59_skel
  repeat' with_reducible first | exact .load | exact .store | apply Keeps.bind | intro _ | exact .pure _

theorem part60 (v478 v479 v481) : K c R (k0_part60 (F := F) i _ h2 _ h3 _ h4 _ h5 _ h6 _ h7 _ h8 _ h9 _ h10 _ h11 _ h12 _ h13 _ h14 _ h15 _ h16 _ h17 v478 v479 v481) := by
  rw [k0_part60_eq_skeleton]; unfold k0_part60_skel
  repeat' with_reducible first | exact .load | exact .store | apply Keeps.bind | intro _ | exact .pure _

theorem part61 (v517 v518 v519) : K c R (k0_part61 (F := F) i _ h2 _ h3 _ h4 _ h5 _ h6 _ h7 _ h8 _ h9 _ h10 _ h11 _ h12 _ h13 _ h14 _ h15 _ h16 _ h17 v517 v518 v519) := by
  rw [k0_part61_eq_skeleton]; unfold k0_part61_skel
  repeat' with_reducible first | exact .load | exact .store | apply Keeps.bind | intro _ | exact .pure _

theorem part62 (v556 v557) : K c R (k0_part62 (F := F) i _ h2 _ h3 _ h4 _ h5 _ h6 _ h7 _ h8 _ h9 _ h10 _ h11 _ h12 _ h13 _ h14 _ h15 _ h16 _ h17 v556 v557) := by
  rw [k0_part62_eq_skeleton]; unfold k0_part62_skel
  repeat' with_reducible first | exact .load | exact .store | apply Keeps.bind | intro _ | exact .pure _

theorem part63 (v595 v596) : K c R (k0_part63 (F := F) i _ h2 _ h3 _ h4 _ h5 _ h6 _ h7 _ h8 _ h9 _ h10 _ h11 _ h12 _ h13 _ h14 _ h15 _ h16 _ h17 v595 v596) := by
  rw [k0_part63_eq_skeleton]; unfold k0_part63_skel
  repeat' with_reducible first | exact .load | exact .store | apply Keeps.bind | intro _ | exact .pure _

theorem part64 (v634) : K c R (k0_part64 (F := F) i _ h2 _ h3 _ h4 _ h5 _ h6 _ h7 _ h8 _ h9 _ h10 _ h11 _ h12 _ h13 _ h14 _ h15 _ h16 _ h17 v634) := by
  rw [k0_part64_eq_skeleton]; unfold k0_part64_skel
  repeat' with_reducible first | exact .load | exact .store | apply Keeps.bind | intro _ | exact .pure _

theorem part65 (v673) : K c R (k0_part65 (F := F) i _ h2 _ h3 _ h4 _ h5 _ h6 _ h7 _ h8 _ h9 _ h10 _ h11 _ h12 _ h13 _ h14 _ h15 _ h16 _ h17 v673) := by
  rw [k0_part65_eq_skeleton]; unfold k0_part65_skel
  repeat' with_reducible first | exact .load | exact .store | apply Keeps.bind | intro _ | exact .pure _

theorem part66 (v242 v712) : K c R (k0_part66 (F := F) i _ h2 _ h3 _ h4 _ h5 _ h6 _ h7 _ h8 _ h9 _ h10 _ h11 _ h12 _ h13 _ h14 _ h15 _ h16 _ h17 v242 v712) := by
  rw [k0_part66_eq_skeleton]; unfold k0_part66_skel
  repeat' with_reducible first | exact .load | exact .store | apply Keeps.bind | intro _ | exact .pure _

theorem part67 (v728 v730 v752) : K c R (k0_part67 (F := F) i _ h2 _ h3 _ h4 _ h5 _ h6 _ h7 _ h8 _ h9 _ h10 _ h11 _ h12 _ h13 _ h14 _ h15 _ h16 _ h17 v728 v730 v752) := by
  rw [k0_part67_eq_skeleton]; unfold k0_part67_skel
  repeat' with_reducible first | exact .load | exact .store | apply Keeps.bind | intro _ | exact .pure _

theorem part68 (v767 v769 v772) : K c R (k0_part68 (F := F) i _ h2 _ h3 _ h4 _ h5 _ h6 _ h7 _ h8 _ h9 _ h10 _ h11 _ h12 _ h13 _ h14 _ h15 _ h16 _ h17 v767 v769 v772) := by
  rw [k0_part68_eq_skeleton]; unfold k0_part68_skel
  repeat' with_reducible first | exact .load | exact .store | apply Keeps.bind | intro _ | exact .pure _

theorem part69 (v806 v808 v811 v829) : K c R (k0_part69 (F := F) i _ h2 _ h3 _ h4 _ h5 _ h6 _ h7 _ h8 _ h9 _ h10 _ h11 _ h12 _ h13 _ h14 _ h15 _ h16 _ h17 v806 v808 v811 v829) := by
  rw [k0_part69_eq_skeleton]; unfold k0_part69_skel
  repeat' with_reducible first | exact .load | exact .store | apply Keeps.bind | intro _ | exact .pure _

theorem part70 (v845 v847 v850 v865) : K c R (k0_part70 (F := F) i _ h2 _ h3 _ h4 _ h5 _ h6 _ h7 _ h8 _ h9 _ h10 _ h11 _ h12 _ h13 _ h14 _ h15 _ h16 _ h17 v845 v847 v850 v865) := by
  rw [k0_part70_eq_skeleton]; unfold k0_part70_skel
  repeat' with_reducible first | exact .load | exact .store | apply Keeps.bind | intro _ | exact .pure _

theorem part71 (v884 v886 v889 v904 v905) : K c R (k0_part71 (F := F) i _ h2 _ h3 _ h4 _ h5 _ h6 _ h7 _ h8 _ h9 _ h10 _ h11 _ h12 _ h13 _ h14 _ h15 _ h16 _ h17 v884 v886 v889 v904 v905) := by
  rw [k0_part71_eq_skeleton]; unfold k0_part71_skel
  repeat' with_reducible first | exact .load | exact .store | apply Keeps.bind | intro _ | exact .pure _

theorem part72 (v923 v925 v928 v943) : K c R (k0_part72 (F := F) i _ h2 _ h3 _ h4 _ h5 _ h6 _ h7 _ h8 _ h9 _ h10 _ h11 _ h12 _ h13 _ h14 _ h15 _ h16 _ h17 v923 v925 v928 v943) := by
  rw [k0_part72_eq_skeleton]; unfold k0_part72_skel
  repeat' with_reducible first | exact .load | exact .store | apply Keeps.bind | intro _ | exact .pure _

theorem part73 (v962 v964 v967 v982) : K c R (k0_part73 (F := F) i _ h2 _ h3 _ h4 _ h5 _ h6 _ h7 _ h8 _ h9 _ h10 _ h11 _ h12 _ h13 _ h14 _ h15 _ h16 _ h17 v962 v964 v967 v982) := by
  rw [k0_part73_eq_skeleton]; unfold k0_part73_skel
  repeat' with_reducible first | exact .load | exact .store | apply Keeps.bind | intro _ | exact .pure _

theorem part74 (v1001 v1003 v1006 v1021) : K c R (k0_part74 (F := F) i _ h2 _ h3 _ h4 _ h5 _ h6 _ h7 _ h8 _ h9 _ h10 _ h11 _ h12 _ h13 _ h14 _ h15 _ h16 _ h17 v1001 v1003 v1006 v1021) := by
  rw [k0_part74_eq_skeleton]; unfold k0_part74_skel
  repeat' with_reducible first | exact .load | exact .store | apply Keeps.bind | intro _ | exact .pure _

theorem part75 (v1040 v1042 v1045 v1056 v1059) : K c R (k0_part75 (F := F) i _ h2 _ h3 _ h4 _ h5 _ h6 _ h7 _ h8 _ h9 _ h10 _ h11 _ h12 _ h13 _ h14 _ h15 _ h16 _ h17 v1040 v1042 v1045 v1056 v1059) := by
  rw [k0_part75_eq_skeleton]; unfold k0_part75_skel
  repeat' with_reducible first | exact .load | exact .store | apply Keeps.bind | intro _ | exact .pure _

theorem part76 (v1079 v1081 v1084 v1095 v1096 v1097) : K c R (k0_part76 (F := F) i _ h2 _ h3 _ h4 _ h5 _ h6 _ h7 _ h8 _ h9 _ h10 _ h11 _ h12 _ h13 _ h14 _ h15 _ h16 _ h17 v1079 v1081 v1084 v1095 v1096 v1097) := by
  rw [k0_part76_eq_skeleton]; unfold k0_part76_skel
  repeat' with_reducible first | exact .load | exact .store | apply Keeps.bind | intro _ | exact .pure _

theorem part77 (v1118 v1120 v1123 v1134 v1135) : K c R (k0_part77 (F := F) i _ h2 _ h3 _ h4 _ h5 _ h6 _ h7 _ h8 _ h9 _ h10 _ h11 _ h12 _ h13 _ h14 _ h15 _ h16 _ h17 v1118 v1120 v1123 v1134 v1135) := by
  rw [k0_part77_eq_skeleton]; unfold k0_part77_skel
  repeat' with_reducible first | exact .load | exact .store | apply Keeps.bind | intro _ | exact .pure _

theorem part78 (k0_t1 arg18 k0_t3 arg19 v189 k0_h3) : K c R (k0_part78 (F := F) i _ h2 _ h3 _ h4 _ h5 _ h6 _ h7 _ h8 _ h9 _ h10 _ h11 _ h12 _ h13 _ h14 _ h15 _ h16 _ h17 k0_t1 arg18 k0_t3 arg19 v189 k0_h3) := by
  rw [k0_part78_eq_skeleton]; unfold k0_part78_skel
  repeat' with_reducible first | exact part53 .. | exact part54 .. | exact part55 .. | exact part56 .. | exact part57 .. | exact part58 .. | exact part59 .. | exact part60 .. | exact part61 .. | exact part62 .. | exact part63 .. | exact part64 .. | exact part65 .. | exact part66 .. | exact part67 .. | exact part68 .. | exact part69 .. | exact part70 .. | exact part71 .. | exact part72 .. | exact part73 .. | exact part74 .. | exact part75 .. | exact part76 .. | exact part77 .. | exact .load | exact .store | apply Keeps.bind | intro _ | exact .pure _

theorem part79 (k0_t1 arg18 k0_t3 arg19 v189 k0_h4) : K c R (k0_part79 (F := F) i _ h2 _ h3 _ h4 _ h5 _ h6 _ h7 _ h8 _ h9 _ h10 _ h11 _ h12 _ h13 _ h14 _ h15 _ h16 _ h17 k0_t1 arg18 k0_t3 arg19 v189 k0_h4) := by
  rw [k0_part79_eq_skeleton]; unfold k0_part79_skel
  repeat' with_reducible first | exact .load | exact .store | apply Keeps.bind | intro _ | exact .pure _

theorem part80 (v248 v250 v253) : K c R (k0_part80 (F := F) i _ h2 _ h3 _ h4 _ h5 _ h6 _ h7 _ h8 _ h9 _ h10 _ h11 _ h12 _ h13 _ h14 _ h15 _ h16 _ h17 v248 v250 v253) := by
  rw [k0_part80_eq_skeleton]; unfold k0_part80_skel
  repeat' with_reducible first | exact .load | exact .store | apply Keeps.bind | intro _ | exact .pure _

theorem part81 (v287 v289 v291) : K c R (k0_part81 (F := F) i _ h2 _ h3 _ h4 _ h5 _ h6 _ h7 _ h8 _ h9 _ h10 _ h11 _ h12 _ h13 _ h14 _ h15 _ h16 _ h17 v287 v289 v291) := by
  rw [k0_part81_eq_skeleton]; unfold k0_part81_skel
  repeat' with_reducible first | exact .load | exact .store | apply Keeps.bind | intro _ | exact .pure _

theorem part82 (v322 v326 v328 v329) : K c R (k0_part82 (F := F) i _ h2 _ h3 _ h4 _ h5 _ h6 _ h7 _ h8 _ h9 _ h10 _ h11 _ h12 _ h13 _ h14 _ h15 _ h16 _ h17 v322 v326 v328 v329) := by
  rw [k0_part82_eq_skeleton]; unfold k0_part82_skel
  repeat' with_reducible first | exact .load | exact .store | apply Keeps.bind | intro _ | exact .pure _

theorem part83 (v361 v365 v367) : K c R (k0_part83 (F := F) i _ h2 _ h3 _ h4 _ h5 _ h6 _ h7 _ h8 _ h9 _ h10 _ h11 _ h12 _ h13 _ h14 _ h15 _ h16 _ h17 v361 v365 v367) := by
  rw [k0_part83_eq_skeleton]; unfold k0_part83_skel
  repeat' with_reducible first | exact .load | exact .store | apply Keeps.bind | intro _ | exact .pure _

theorem part84 (v400 v404 v405) : K c R (k0_part84 (F := F) i _ h2 _ h3 _ h4 _ h5 _ h6 _ h7 _ h8 _ h9 _ h10 _ h11 _ h12 _ h13 _ h14 _ h15 _ h16 _ h17 v400 v404 v405) := by
  rw [k0_part84_eq_skeleton]; unfold k0_part84_skel
  repeat' with_reducible first | exact .load | exact .store | apply Keeps.bind | intro _ | exact .pure _

theorem part85 (v439 v440 v443) : K c R (k0_part85 (F := F) i _ h2 _ h3 _ h4 _ h5 _ h6 _ h7 _ h8 _ h9 _ h10 _ h11 _ h12 _ h13 _ h14 _ h15 _ h16 _ h17 v439 v440 v443) := by
  rw [k0_part85_eq_skeleton]; unfold k0_part85_skel
  repeat' with_reducible first | exact .load | exact .store | apply Keeps.bind | intro _ | exact .pure _

theorem part86 (v478 v479 v481) : K c R (k0_part86 (F := F) i _ h2 _ h3 _ h4 _ h5 _ h6 _ h7 _ h8 _ h9 _ h10 _ h11 _ h12 _ h13 _ h14 _ h15 _ h16 _ h17 v478 v479 v481) := by
  rw [k0_part86_eq_skeleton]; unfold k0_part86_skel
  repeat' with_reducible first | exact .load | exact .store | apply Keeps.bind | intro _ | exact .pure _

theorem part87 (v517 v518 v519) : K c R (k0_part87 (F := F) i _ h2 _ h3 _ h4 _ h5 _ h6 _ h7 _ h8 _ h9 _ h10 _ h11 _ h12 _ h13 _ h14 _ h15 _ h16 _ h17 v517 v518 v519) := by
  rw [k0_part87_eq_skeleton]; unfold k0_part87_skel
  repeat' with_reducible first | exact .load | exact .store | apply Keeps.bind | intro _ | exact .pure _

theorem part88 (v556 v557) : K c R (k0_part88 (F := F) i _ h2 _ h3 _ h4 _ h5 _ h6 _ h7 _ h8 _ h9 _ h10 _ h11 _ h12 _ h13 _ h14 _ h15 _ h16 _ h17 v556 v557) := by
  rw [k0_part88_eq_skeleton]; unfold k0_part88_skel
  repeat' with_reducible first | exact .load | exact .store | apply Keeps.bind | intro _ | exact .pure _

theorem part89 (v595 v596) : K c R (k0_part89 (F := F) i _ h2 _ h3 _ h4 _ h5 _ h6 _ h7 _ h8 _ h9 _ h10 _ h11 _ h12 _ h13 _ h14 _ h15 _ h16 _ h17 v595 v596) := by
  rw [k0_part89_eq_skeleton]; unfold k0_part89_skel
  repeat' with_reducible first | exact .load | exact .store | apply Keeps.bind | intro _ | exact .pure _

theorem part90 (v634) : K c R (k0_part90 (F := F) i _ h2 _ h3 _ h4 _ h5 _ h6 _ h7 _ h8 _ h9 _ h10 _ h11 _ h12 _ h13 _ h14 _ h15 _ h16 _ h17 v634) := by
  rw [k0_part90_eq_skeleton]; unfold k0_part90_skel
  repeat' with_reducible first | exact .load | exact .store | apply Keeps.bind | intro _ | exact .pure _

theorem part91 (v673) : K c R (k0_part91 (F := F) i _ h2 _ h3 _ h4 _ h5 _ h6 _ h7 _ h8 _ h9 _ h10 _ h11 _ h12 _ h13 _ h14 _ h15 _ h16 _ h17 v673) := by
  rw [k0_part91_eq_skeleton]; unfold k0_part91_skel
  repeat' with_reducible first | exact .load | exact .store | apply Keeps.bind | intro _ | exact .pure _

theorem part92 (v242 v712) : K c R (k0_part92 (F := F) i _ h2 _ h3 _ h4 _ h5 _ h6 _ h7 _ h8 _ h9 _ h10 _ h11 _ h12 _ h13 _ h14 _ h15 _ h16 _ h17 v242 v712) := by
  rw [k0_part92_eq_skeleton]; unfold k0_part92_skel
  repeat' with_reducible first | exact .load | exact .store | apply Keeps.bind | intro _ | exact .pure _

theorem part93 (v728 v730 v752) : K c R (k0_part93 (F := F) i _ h2 _ h3 _ h4 _ h5 _ h6 _ h7 _ h8 _ h9 _ h10 _ h11 _ h12 _ h13 _ h14 _ h15 _ h16 _ h17 v728 v730 v752) := by
  rw [k0_part93_eq_skeleton]; unfold k0_part93_skel
  repeat' with_reducible first | exact .load | exact .store | apply Keeps.bind | intro _ | exact .pure _

theorem part94 (v767 v769 v772) : K c R (k0_part94 (F := F) i _ h2 _ h3 _ h4 _ h5 _ h6 _ h7 _ h8 _ h9 _ h10 _ h11 _ h12 _ h13 _ h14 _ h15 _ h16 _ h17 v767 v769 v772) := by
  rw [k0_part94_eq_skeleton]; unfold k0_part94_skel
  repeat' with_reducible first | exact .load | exact .store | apply Keeps.bind | intro _ | exact .pure _

theorem part95 (v806 v808 v811 v829) : K c R (k0_part95 (F := F) i _ h2 _ h3 _ h4 _ h5 _ h6 _ h7 _ h8 _ h9 _ h10 _ h11 _ h12 _ h13 _ h14 _ h15 _ h16 _ h17 v806 v808 v811 v829) := by
  rw [k0_part95_eq_skeleton]; unfold k0_part95_skel
  repeat' with_reducible first | exact .load | exact .store | apply Keeps.bind | intro _ | exact .pure _

theorem part96 (v845 v847 v850 v865) : K c R (k0_part96 (F := F) i _ h2 _ h3 _ h4 _ h5 _ h6 _ h7 _ h8 _ h9 _ h10 _ h11 _ h12 _ h13 _ h14 _ h15 _ h16 _ h17 v845 v847 v850 v865) := by
  rw [k0_part96_eq_skeleton]; unfold k0_part96_skel
  repeat' with_reducible first | exact .load | exact .store | apply Keeps.bind | intro _ | exact .pure _

theorem part97 (v884 v886 v889 v904 v905) : K c R (k0_part97 (F := F) i _ h2 _ h3 _ h4 _ h5 _ h6 _ h7 _ h8 _ h9 _ h10 _ h11 _ h12 _ h13 _ h14 _ h15 _ h16 _ h17 v884 v886 v889 v904 v905) := by
  rw [k0_part97_eq_skeleton]; unfold k0_part97_skel
  repeat' with_reducible first | exact .load | exact .store | apply Keeps.bind | intro _ | exact .pure _

theorem part98 (v923 v925 v928 v943) : K c R (k0_part98 (F := F) i _ h2 _ h3 _ h4 _ h5 _ h6 _ h7 _ h8 _ h9 _ h10 _ h11 _ h12 _ h13 _ h14 _ h15 _ h16 _ h17 v923 v925 v928 v943) := by
  rw [k0_part98_eq_skeleton]; unfold k0_part98_skel
  repeat' with_reducible first | exact .load | exact .store | apply Keeps.bind | intro _ | exact .pure _

theorem part99 (v962 v964 v967 v982) : K c R (k0_part99 (F := F) i _ h2 _ h3 _ h4 _ h5 _ h6 _ h7 _ h8 _ h9 _ h10 _ h11 _ h12 _ h13 _ h14 _ h15 _ h16 _ h17 v962 v964 v967 v982) := by
  rw [k0_part99_eq_skeleton]; unfold k0_part99_skel
  repeat' with_reducible first | exact .load | exact .store | apply Keeps.bind | intro _ | exact .pure _

theorem part100 (v1001 v1003 v1006 v1021) : K c R (k0_part100 (F := F) i _ h2 _ h3 _ h4 _ h5 _ h6 _ h7 _ h8 _ h9 _ h10 _ h11 _ h12 _ h13 _ h14 _ h15 _ h16 _ h17 v1001 v1003 v1006 v1021) := by
  rw [k0_part100_eq_skeleton]; unfold k0_part100_skel
  repeat' with_reducible first | exact .load | exact .store | apply Keeps.bind | intro _ | exact .pure _

theorem part101 (v1040 v1042 v1045 v1056 v1059) : K c R (k0_part101 (F := F) i _ h2 _ h3 _ h4 _ h5 _ h6 _ h7 _ h8 _ h9 _ h10 _ h11 _ h12 _ h13 _ h14 _ h15 _ h16 _ h17 v1040 v1042 v1045 v1056 v1059) := by
  rw [k0_part101_eq_skeleton]; unfold k0_part101_skel
  repeat' with_reducible first | exact .load | exact .store | apply Keeps.bind | intro _ | exact .pure _

theorem part102 (v1079 v1081 v1084 v1095 v1096 v1097) : K c R (k0_part102 (F := F) i _ h2 _ h3 _ h4 _ h5 _ h6 _ h7 _ h8 _ h9 _ h10 _ h11 _ h12 _ h13 _ h14 _ h15 _ h16 _ h17 v1079 v1081 v1084 v1095 v1096 v1097) := by
  rw [k0_part102_eq_skeleton]; unfold k0_part102_skel
  repeat' with_reducible first | exact .load | exact .store | apply Keeps.bind | intro _ | exact .pure _

theorem part103 (v1118 v1120 v1123 v1134 v1135) : K c R (k0_part103 (F := F) i _ h2 _ h3 _ h4 _ h5 _ h6 _ h7 _ h8 _ h9 _ h10 _ h11 _ h12 _ h13 _ h14 _ h15 _ h16 _ h17 v1118 v1120 v1123 v1134 v1135) := by
  rw [k0_part103_eq_skeleton]; unfold k0_part103_skel
  repeat' with_reducible first | exact .load | exact .store | apply Keeps.bind | intro _ | exact .pure _

theorem part104 (k0_t1 arg18 k0_t3 arg19 v189 k0_h4) : K c R (k0_part104 (F := F) i _ h2 _ h3 _ h4 _ h5 _ h6 _ h7 _ h8 _ h9 _ h10 _ h11 _ h12 _ h13 _ h14 _ h15 _ h16 _ h17 k0_t1 arg18 k0_t3 arg19 v189 k0_h4) := by
  rw [k0_part104_eq_skeleton]; unfold k0_part104_skel
  repeat' with_reducible first | exact part79 .. | exact part80 .. | exact part81 .. | exact part82 .. | exact part83 .. | exact part84 .. | exact part85 .. | exact part86 .. | exact part87 .. | exact part88 .. | exact part89 .. | exact part90 .. | exact part91 .. | exact part92 .. | exact part93 .. | exact part94 .. | exact part95 .. | exact part96 .. | exact part97 .. | exact part98 .. | exact part99 .. | exact part100 .. | exact part101 .. | exact part102 .. | exact part103 .. | exact .load | exact .store | apply Keeps.bind | intro _ | exact .pure _

theorem t3_body (c0_i32_45 c1_i32 k0_t1 arg18 v111) (k u) : K c R (k0_t3_body (F := F) i _ h2 _ h3 _ h4 _ h5 _ h6 _ h7 _ h8 _ h9 _ h10 _ h11 _ h12 _ h13 _ h14 _ h15 _ h16 _ h17 c0_i32_45 c1_i32 k0_t1 arg18 v111 k u) := by
  unfold k0_t3_body
  repeat' with_reducible first | exact part78 .. | exact part104 .. | exact .load | exact .store | apply Keeps.dite | apply Keeps.bind | intro _ | exact .pure _

theorem part105 (k0_t1 arg18 k0_h5 k0_h6) : K c R (k0_part105 (F := F) i _ h2 _ h3 _ h4 _ h5 _ h6 _ h7 _ h8 _ h9 _ h10 _ h11 _ h12 _ h13 _ h14 _ h15 _ h16 _ h17 k0_t1 arg18 k0_h5 k0_h6) := by
  rw [k0_part105_eq_skeleton]; unfold k0_part105_skel
  repeat' with_reducible first | exact .load | exact .store | apply Keeps.bind | intro _ | exact .pure _

theorem part106 (k0_t1 k0_h5 v190 k0_h6 v221 v226 v251 v252) : K c R (k0_part106 (F := F) i _ h2 _ h3 _ h4 _ h5 _ h6 _ h7 _ h8 _ h9 _ h10 _ h11 _ h12 _ h13 _ h14 _ h15 _ h16 _ h17 k0_t1 k0_h5 v190 k0_h6 v221 v226 v251 v252) := by
  rw [k0_part106_eq_skeleton]; unfold k0_part106_skel
  repeat' with_reducible first | exact .load | exact .store | apply Keeps.bind | intro _ | exact .pure _

theorem part107 (v273 v275 v278 v289 v292) : K c R (k0_part107 (F := F) i _ h2 _ h3 _ h4 _ h5 _ h6 _ h7 _ h8 _ h9 _ h10 _ h11 _ h12 _ h13 _ h14 _ h15 _ h16 _ h17 v273 v275 v278 v289 v292) := by
  rw [k0_part107_eq_skeleton]; unfold k0_part107_skel
  repeat' with_reducible first | exact .load | exact .store | apply Keeps.bind | intro _ | exact .pure _

theorem part108 (v312 v314 v317 v328 v329 v330) : K c R (k0_part108 (F := F) i _ h2 _ h3 _ h4 _ h5 _ h6 _ h7 _ h8 _ h9 _ h10 _ h11 _ h12 _ h13 _ h14 _ h15 _ h16 _ h17 v312 v314 v317 v328 v329 v330) := by
  rw [k0_part108_eq_skeleton]; unfold k0_part108_skel
  repeat' with_reducible first | exact .load | exact .store | apply Keeps.bind | intro _ | exact .pure _

theorem part109 (v351 v353 v356 v367 v368) : K c R (k0_part109 (F := F) i _ h2 _ h3 _ h4 _ h5 _ h6 _ h7 _ h8 _ h9 _ h10 _ h11 _ h12 _ h13 _ h14 _ h15 _ h16 _ h17 v351 v353 v356 v367 v368) := by
  rw [k0_part109_eq_skeleton]; unfold k0_part109_skel
  repeat' with_reducible first | exact .load | exact .store | apply Keeps.bind | intro _ | exact .pure _

theorem part110 (v390 v392 v395 v406) : K c R (k0_part110 (F := F) i _ h2 _ h3 _ h4 _ h5 _ h6 _ h7 _ h8 _ h9 _ h10 _ h11 _ h12 _ h13 _ h14 _ h15 _ h16 _ h17 v390 v392 v395 v406) := by
  rw [k0_part110_eq_skeleton]; unfold k0_part110_skel
  repeat' with_reducible first | exact .load | exact .store | apply Keeps.bind | intro _ | exact .pure _

theorem part111 (v429 v431 v434 v445) : K c R (k0_part111 (F := F) i _ h2 _ h3 _ h4 _ h5 _ h6 _ h7 _ h8 _ h9 _ h10 _ h11 _ h12 _ h13 _ h14 _ h15 _ h16 _ h17 v429 v431 v434 v445) := by
  rw [k0_part111_eq_skeleton]; unfold k0_part111_skel
  repeat' with_reducible first | exact .load | exact .store | apply Keeps.bind | intro _ | exact .pure _

theorem part112 (v468 v470 v473 v484) : K c R (k0_part112 (F := F) i _ h2 _ h3 _ h4 _ h5 _ h6 _ h7 _ h8 _ h9 _ h10 _ h11 _ h12 _ h13 _ h14 _ h15 _ h16 _ h17 v468 v470 v473 v484) := by
  rw [k0_part112_eq_skeleton]; unfold k0_part112_skel
  repeat' with_reducible first | exact .load | exact .store | apply Keeps.bind | intro _ | exact .pure _

theorem part113 (v507 v509 v512 v521 v522) : K c R (k0_part113 (F := F) i _ h2 _ h3 _ h4 _ h5 _ h6 _ h7 _ h8 _ h9 _ h10 _ h11 _ h12 _ h13 _ h14 _ h15 _ h16 _ h17 v507 v509 v512 v521 v522) := by
  rw [k0_part113_eq_skeleton]; unfold k0_part113_skel
  repeat' with_reducible first | exact .load | exact .store | apply Keeps.bind | intro _ | exact .pure _

theorem part114 (v546 v548 v551 v560) : K c R (k0_part114 (F := F) i _ h2 _ h3 _ h4 _ h5 _ h6 _ h7 _ h8 _ h9 _ h10 _ h11 _ h12 _ h13 _ h14 _ h15 _ h16 _ h17 v546 v548 v551 v560) := by
  rw [k0_part114_eq_skeleton]; unfold k0_part114_skel
  repeat' with_reducible first | exact .load | exact .store | apply Keeps.bind | intro _ | exact .pure _

theorem part115 (v585 v587 v590 v597 v598) : K c R (k0_part115 (F := F) i _ h2 _ h3 _ h4 _ h5 _ h6 _ h7 _ h8 _ h9 _ h10 _ h11 _ h12 _ h13 _ h14 _ h15 _ h16 _ h17 v585 v587 v590 v597 v598) := by
  rw [k0_part115_eq_skeleton]; unfold k0_part115_skel
  repeat' with_reducible first | exact .load | exact .store | apply Keeps.bind | intro _ | exact .pure _

theorem part116 (v624 v626 v629 v636) : K c R (k0_part116 (F := F) i _ h2 _ h3 _ h4 _ h5 _ h6 _ h7 _ h8 _ h9 _ h10 _ h11 _ h12 _ h13 _ h14 _ h15 _ h16 _ h17 v624 v626 v629 v636) := by
  rw [k0_part116_eq_skeleton]; unfold k0_part116_skel
  repeat' with_reducible first | exact .load | exact .store | apply Keeps.bind | intro _ | exact .pure _

theorem part117 (v663 v665 v668 v673 v674) : K c R (k0_part117 (F := F) i _ h2 _ h3 _ h4 _ h5 _ h6 _ h7 _ h8 _ h9 _ h10 _ h11 _ h12 _ h13 _ h14 _ h15 _ h16 _ h17 v663 v665 v668 v673 v674) := by
  rw [k0_part117_eq_skeleton]; unfold k0_part117_skel
  repeat' with_reducible first | exact .load | exact .store | apply Keeps.bind | intro _ | exact .pure _

theorem part118 (v267 v702 v704 v707 v712) : K c R (k0_part118 (F := F) i _ h2 _ h3 _ h4 _ h5 _ h6 _ h7 _ h8 _ h9 _ h10 _ h11 _ h12 _ h13 _ h14 _ h15 _ h16 _ h17 v267 v702 v704 v707 v712) := by
  rw [k0_part118_eq_skeleton]; unfold k0_part118_skel
  repeat' with_reducible first | exact .load | exact .store | apply Keeps.bind | intro _ | exact .pure _

theorem part119 (v744 v745) : K c R (k0_part119 (F := F) i _ h2 _ h3 _ h4 _ h5 _ h6 _ h7 _ h8 _ h9 _ h10 _ h11 _ h12 _ h13 _ h14 _ h15 _ h16 _ h17 v744 v745) := by
  rw [k0_part119_eq_skeleton]; unfold k0_part119_skel
  repeat' with_reducible first | exact .load | exact .store | apply Keeps.bind | intro _ | exact .pure _

theorem part120 (v753) : K c R (k0_part120 (F := F) i _ h2 _ h3 _ h4 _ h5 _ h6 _ h7 _ h8 _ h9 _ h10 _ h11 _ h12 _ h13 _ h14 _ h15 _ h16 _ h17 v753) := by
  rw [k0_part120_eq_skeleton]; unfold k0_part120_skel
  repeat' with_reducible first | exact .load | exact .store | apply Keeps.bind | intro _ | exact .pure _

theorem part121 (v792) : K c R (k0_part121 (F := F) i _ h2 _ h3 _ h4 _ h5 _ h6 _ h7 _ h8 _ h9 _ h10 _ h11 _ h12 _ h13 _ h14 _ h15 _ h16 _ h17 v792) := by
  rw [k0_part121_eq_skeleton]; unfold k0_part121_skel
  repeat' with_reducible first | exact .load | exact .store | apply Keeps.bind | intro _ | exact .pure _

theorem part122 (v831) : K c R (k0_part122 (F := F) i _ h2 _ h3 _ h4 _ h5 _ h6 _ h7 _ h8 _ h9 _ h10 _ h11 _ h12 _ h13 _ h14 _ h15 _ h16 _ h17 v831) := by
  rw [k0_part122_eq_skeleton]; unfold k0_part122_skel
  repeat' with_reducible first | exact .load | exact .store | apply Keeps.bind | intro _ | exact .pure _

theorem part123 (v870 v900) : K c R (k0_part123 (F := F) i _ h2 _ h3 _ h4 _ h5 _ h6 _ h7 _ h8 _ h9 _ h10 _ h11 _ h12 _ h13 _ h14 _ h15 _ h16 _ h17 v870 v900) := by
  rw [k0_part123_eq_skeleton]; unfold k0_part123_skel
  repeat' with_reducible first | exact .load | exact .store | apply Keeps.bind | intro _ | exact .pure _

theorem part124 (v909 v911) : K c R (k0_part124 (F := F) i _ h2 _ h3 _ h4 _ h5 _ h6 _ h7 _ h8 _ h9 _ h10 _ h11 _ h12 _ h13 _ h14 _ h15 _ h16 _ h17 v909 v911) := by
  rw [k0_part124_eq_skeleton]; unfold k0_part124_skel
  repeat' with_reducible first | exact .load | exact .store | apply Keeps.bind | intro _ | exact .pure _

theorem part125 (v948 v950 v976) : K c R (k0_part125 (F := F) i _ h2 _ h3 _ h4 _ h5 _ h6 _ h7 _ h8 _ h9 _ h10 _ h11 _ h12 _ h13 _ h14 _ h15 _ h16 _ h17 v948 v950 v976) := by
  rw [k0_part125_eq_skeleton]; unfold k0_part125_skel
  repeat' with_reducible first | exact .load | exact .store | apply Keeps.bind | intro _ | exact .pure _

theorem part126 (v987 v989) : K c R (k0_part126 (F := F) i _ h2 _ h3 _ h4 _ h5 _ h6 _ h7 _ h8 _ h9 _ h10 _ h11 _ h12 _ h13 _ h14 _ h15 _ h16 _ h17 v987 v989) := by
  rw [k0_part126_eq_skeleton]; unfold k0_part126_skel
  repeat' with_reducible first | exact .load | exact .store | apply Keeps.bind | intro _ | exact .pure _

theorem part127 (v1026 v1028) : K c R (k0_part127 (F := F) i _ h2 _ h3 _ h4 _ h5 _ h6 _ h7 _ h8 _ h9 _ h10 _ h11 _ h12 _ h13 _ h14 _ h15 _ h16 _ h17 v1026 v1028) := by
  rw [k0_part127_eq_skeleton]; unfold k0_part127_skel
  repeat' with_reducible first | exact .load | exact .store | apply Keeps.bind | intro _ | exact .pure _

theorem part128 (v1065 v1067) : K c R (k0_part128 (F := F) i _ h2 _ h3 _ h4 _ h5 _ h6 _ h7 _ h8 _ h9 _ h10 _ h11 _ h12 _ h13 _ h14 _ h15 _ h16 _ h17 v1065 v1067) := by
  rw [k0_part128_eq_skeleton]; unfold k0_part128_skel
  repeat' with_reducible first | exact .load | exact .store | apply Keeps.bind | intro _ | exact .pure _

theorem part129 (v1104 v1106) : K c R (k0_part129 (F := F) i _ h2 _ h3 _ h4 _ h5 _ h6 _ h7 _ h8 _ h9 _ h10 _ h11 _ h12 _ h13 _ h14 _ h15 _ h16 _ h17 v1104 v1106) := by
  rw [k0_part129_eq_skeleton]; unfold k0_part129_skel
  repeat' with_reducible first | exact .load | exact .store | apply Keeps.bind | intro _ | exact .pure _

theorem part130 (v1143 v1145 v1170) : K c R (k0_part130 (F := F) i _ h2 _ h3 _ h4 _ h5 _ h6 _ h7 _ h8 _ h9 _ h10 _ h11 _ h12 _ h13 _ h14 _ h15 _ h16 _ h17 v1143 v1145 v1170) := by
  rw [k0_part130_eq_skeleton]; unfold k0_part130_skel
  repeat' with_reducible first | exact .load | exact .store | apply Keeps.bind | intro _ | exact .pure _

theorem part131 (k0_t1 arg18 k0_h5 v190 k0_h6) : K c R (k0_part131 (F := F) i _ h2 _ h3 _ h4 _ h5 _ h6 _ h7 _ h8 _ h9 _ h10 _ h11 _ h12 _ h13 _ h14 _ h15 _ h16 _ h17 k0_t1 arg18 k0_h5 v190 k0_h6) := by
  rw [k0_part131_eq_skeleton]; unfold k0_part131_skel
  repeat' with_reducible first | exact part105 .. | exact part106 .. | exact part107 .. | exact part108 .. | exact part109 .. | exact part110 .. | exact part111 .. | exact part112 .. | exact part113 .. | exact part114 .. | exact part115 .. | exact part116 .. | exact part117 .. | exact part118 .. | exact part119 .. | exact part120 .. | exact part121 .. | exact part122 .. | exact part123 .. | exact part124 .. | exact part125 .. | exact part126 .. | exact part127 .. | exact part128 .. | exact part129 .. | exact part130 .. | exact .load | exact .store | apply Keeps.bind | intro _ | exact .pure _

theorem part132 (k0_t1 arg18 k0_h5 k0_h7) : K c R (k0_part132 (F := F) i _ h2 _ h3 _ h4 _ h5 _ h6 _ h7 _ h8 _ h9 _ h10 _ h11 _ h12 _ h13 _ h14 _ h15 _ h16 _ h17 k0_t1 arg18 k0_h5 k0_h7) := by
  rw [k0_part132_eq_skeleton]; unfold k0_part132_skel
  repeat' with_reducible first | exact .load | exact .store | apply Keeps.bind | intro _ | exact .pure _

theorem part133 (k0_t1 k0_h5 v190 k0_h7 v221 v226 v251 v252) : K c R (k0_part133 (F := F) i _ h2 _ h3 _ h4 _ h5 _ h6 _ h7 _ h8 _ h9 _ h10 _ h11 _ h12 _ h13 _ h14 _ h15 _ h16 _ h17 k0_t1 k0_h5 v190 k0_h7 v221 v226 v251 v252) := by
  rw [k0_part133_eq_skeleton]; unfold k0_part133_skel
  repeat' with_reducible first | exact .load | exact .store | apply Keeps.bind | intro _ | exact .pure _

theorem part134 (v273 v275 v278 v289 v292) : K c R (k0_part134 (F := F) i _ h2 _ h3 _ h4 _ h5 _ h6 _ h7 _ h8 _ h9 _ h10 _ h11 _ h12 _ h13 _ h14 _ h15 _ h16 _ h17 v273 v275 v278 v289 v292) := by
  rw [k0_part134_eq_skeleton]; unfold k0_part134_skel
  repeat' with_reducible first | exact .load | exact .store | apply Keeps.bind | intro _ | exact .pure _

theorem part135 (v312 v314 v317 v328 v329 v330) : K c R (k0_part135 (F := F) i _ h2 _ h3 _ h4 _ h5 _ h6 _ h7 _ h8 _ h9 _ h10 _ h11 _ h12 _ h13 _ h14 _ h15 _ h16 _ h17 v312 v314 v317 v328 v329 v330) := by
  rw [k0_part135_eq_skeleton]; unfold k0_part135_skel
  repeat' with_reducible first | exact .load | exact .store | apply Keeps.bind | intro _ | exact .pure _

theorem part136 (v351 v353 v356 v367 v368) : K c R (k0_part136 (F := F) i _ h2 _ h3 _ h4 _ h5 _ h6 _ h7 _ h8 _ h9 _ h10 _ h11 _ h12 _ h13 _ h14 _ h15 _ h16 _ h17 v351 v353 v356 v367 v368) := by
  rw [k0_part136_eq_skeleton]; unfold k0_part136_skel
  repeat' with_reducible first | exact .load | exact .store | apply Keeps.bind | intro _ | exact .pure _

theorem part137 (v390 v392 v395 v406) : K c R (k0_part137 (F := F) i _ h2 _ h3 _ h4 _ h5 _ h6 _ h7 _ h8 _ h9 _ h10 _ h11 _ h12 _ h13 _ h14 _ h15 _ h16 _ h17 v390 v392 v395 v406) := by
  rw [k0_part137_eq_skeleton]; unfold k0_part137_skel
  repeat' with_reducible first | exact .load | exact .store | apply Keeps.bind | intro _ | exact .pure _

theorem part138 (v429 v431 v434 v445) : K c R (k0_part138 (F := F) i _ h2 _ h3 _ h4 _ h5 _ h6 _ h7 _ h8 _ h9 _ h10 _ h11 _ h12 _ h13 _ h14 _ h15 _ h16 _ h17 v429 v431 v434 v445) := by
  rw [k0_part138_eq_skeleton]; unfold k0_part138_skel
  repeat' with_reducible first | exact .load | exact .store | apply Keeps.bind | intro _ | exact .pure _

theorem part139 (v468 v470 v473 v484) : K c R (k0_part139 (F := F) i _ h2 _ h3 _ h4 _ h5 _ h6 _ h7 _ h8 _ h9 _ h10 _ h11 _ h12 _ h13 _ h14 _ h15 _ h16 _ h17 v468 v470 v473 v484) := by
  rw [k0_part139_eq_skeleton]; unfold k0_part139_skel
  repeat' with_reducible first | exact .load | exact .store | apply Keeps.bind | intro _ | exact .pure _

theorem part140 (v507 v509 v512 v521 v522) : K c R (k0_part140 (F := F) i _ h2 _ h3 _ h4 _ h5 _ h6 _ h7 _ h8 _ h9 _ h10 _ h11 _ h12 _ h13 _ h14 _ h15 _ h16 _ h17 v507 v509 v512 v521 v522) := by
  rw [k0_part140_eq_skeleton]; unfold k0_part140_skel
  repeat' with_reducible first | exact .load | exact .store | apply Keeps.bind | intro _ | exact .pure _

theorem part141 (v546 v548 v551 v560) : K c R (k0_part141 (F := F) i _ h2 _ h3 _ h4 _ h5 _ h6 _ h7 _ h8 _ h9 _ h10 _ h11 _ h12 _ h13 _ h14 _ h15 _ h16 _ h17 v546 v548 v551 v560) := by
  rw [k0_part141_eq_skeleton]; unfold k0_part141_skel
  repeat' with_reducible first | exact .load | exact .store | apply Keeps.bind | intro _ | exact .pure _

theorem part142 (v585 v587 v590 v597 v598) : K c R (k0_part142 (F := F) i _ h2 _ h3 _ h4 _ h5 _ h6 _ h7 _ h8 _ h9 _ h10 _ h11 _ h12 _ h13 _ h14 _ h15 _ h16 _ h17 v585 v587 v590 v597 v598) := by
  rw [k0_part142_eq_skeleton]; unfold k0_part142_skel
  repeat' with_reducible first | exact .load | exact .store | apply Keeps.bind | intro _ | exact .pure _

theorem part143 (v624 v626 v629 v636) : K c R (k0_part143 (F := F) i _ h2 _ h3 _ h4 _ h5 _ h6 _ h7 _ h8 _ h9 _ h10 _ h11 _ h12 _ h13 _ h14 _ h15 _ h16 _ h17 v624 v626 v629 v636) := by
  rw [k0_part143_eq_skeleton]; unfold k0_part143_skel
  repeat' with_reducible first | exact .load | exact .store | apply Keeps.bind | intro _ | exact .pure _

theorem part144 (v663 v665 v668 v673 v674) : K c R (k0_part144 (F := F) i _ h2 _ h3 _ h4 _ h5 _ h6 _ h7 _ h8 _ h9 _ h10 _ h11 _ h12 _ h13 _ h14 _ h15 _ h16 _ h17 v663 v665 v668 v673 v674) := by
  rw [k0_part144_eq_skeleton]; unfold k0_part144_skel
  repeat' with_reducible first | exact .load | exact .store | apply Keeps.bind | intro _ | exact .pure _

theorem part145 (v267 v702 v704 v707 v712) : K c R (k0_part145 (F := F) i _ h2 _ h3 _ h4 _ h5 _ h6 _ h7 _ h8 _ h9 _ h10 _ h11 _ h12 _ h13 _ h14 _ h15 _ h16 _ h17 v267 v702 v704 v707 v712) := by
  rw [k0_part145_eq_skeleton]; unfold k0_part145_skel
  repeat' with_reducible first | exact .load | exact .store | apply Keeps.bind | intro _ | exact .pure _

theorem part146 (v744 v745) : K c R (k0_part146 (F := F) i _ h2 _ h3 _ h4 _ h5 _ h6 _ h7 _ h8 _ h9 _ h10 _ h11 _ h12 _ h13 _ h14 _ h15 _ h16 _ h17 v744 v745) := by
  rw [k0_part146_eq_skeleton]; unfold k0_part146_skel
  repeat' with_reducible first | exact .load | exact .store | apply Keeps.bind | intro _ | exact .pure _

theorem part147 (v753) : K c R (k0_part147 (F := F) i _ h2 _ h3 _ h4 _ h5 _ h6 _ h7 _ h8 _ h9 _ h10 _ h11 _ h12 _ h13 _ h14 _ h15 _ h16 _ h17 v753) := by
  rw [k0_part147_eq_skeleton]; unfold k0_part147_skel
  repeat' with_reducible first | exact .load | exact .store | apply Keeps.bind | intro _ | exact .pure _

theorem part148 (v792) : K c R (k0_part148 (F := F) i _ h2 _ h3 _ h4 _ h5 _ h6 _ h7 _ h8 _ h9 _ h10 _ h11 _ h12 _ h13 _ h14 _ h15 _ h16 _ h17 v792) := by
  rw [k0_part148_eq_skeleton]; unfold k0_part148_skel
  repeat' with_reducible first | exact .load | exact .store | apply Keeps.bind | intro _ | exact .pure _

theorem part149 (v831) : K c R (k0_part149 (F := F) i _ h2 _ h3 _ h4 _ h5 _ h6 _ h7 _ h8 _ h9 _ h10 _ h11 _ h12 _ h13 _ h14 _ h15 _ h16 _ h17 v831) := by
  rw [k0_part149_eq_skeleton]; unfold k0_part149_skel
  repeat' with_reducible first | exact .load | exact .store | apply Keeps.bind | intro _ | exact .pure _

theorem part150 (v870 v900) : K c R (k0_part150 (F := F) i _ h2 _ h3 _ h4 _ h5 _ h6 _ h7 _ h8 _ h9 _ h10 _ h11 _ h12 _ h13 _ h14 _ h15 _ h16 _ h17 v870 v900) := by
  rw [k0_part150_eq_skeleton]; unfold k0_part150_skel
  repeat' with_reducible first | exact .load | exact .store | apply Keeps.bind | intro _ | exact .pure _

theorem part151 (v909 v911) : K c R (k0_part151 (F := F) i _ h2 _ h3 _ h4 _ h5 _ h6 _ h7 _ h8 _ h9 _ h10 _ h11 _ h12 _ h13 _ h14 _ h15 _ h16 _ h17 v909 v911) := by
  rw [k0_part151_eq_skeleton]; unfold k0_part151_skel
  repeat' with_reducible first | exact .load | exact .store | apply Keeps.bind | intro _ | exact .pure _

theorem part152 (v948 v950 v976) : K c R (k0_part152 (F := F) i _ h2 _ h3 _ h4 _ h5 _ h6 _ h7 _ h8 _ h9 _ h10 _ h11 _ h12 _ h13 _ h14 _ h15 _ h16 _ h17 v948 v950 v976) := by
  rw [k0_part152_eq_skeleton]; unfold k0_part152_skel
  repeat' with_reducible first | exact .load | exact .store | apply Keeps.bind | intro _ | exact .pure _

theorem part153 (v987 v989) : K c R (k0_part153 (F := F) i _ h2 _ h3 _ h4 _ h5 _ h6 _ h7 _ h8 _ h9 _ h10 _ h11 _ h12 _ h13 _ h14 _ h15 _ h16 _ h17 v987 v989) := by
  rw [k0_part153_eq_skeleton]; unfold k0_part153_skel
  repeat' with_reducible first | exact .load | exact .store | apply Keeps.bind | intro _ | exact .pure _

theorem part154 (v1026 v1028) : K c R (k0_part154 (F := F) i _ h2 _ h3 _ h4 _ h5 _ h6 _ h7 _ h8 _ h9 _ h10 _ h11 _ h12 _ h13 _ h14 _ h15 _ h16 _ h17 v1026 v1028) := by
  rw [k0_part154_eq_skeleton]; unfold k0_part154_skel
  repeat' with_reducible first | exact .load | exact .store | apply Keeps.bind | intro _ | exact .pure _

theorem part155 (v1065 v1067) : K c R (k0_part155 (F := F) i _ h2 _ h3 _ h4 _ h5 _ h6 _ h7 _ h8 _ h9 _ h10 _ h11 _ h12 _ h13 _ h14 _ h15 _ h16 _ h17 v1065 v1067) := by
  rw [k0_part155_eq_skeleton]; unfold k0_part155_skel
  repeat' with_reducible first | exact .load | exact .store | apply Keeps.bind | intro _ | exact .pure _

theorem part156 (v1104 v1106) : K c R (k0_part156 (F := F) i _ h2 _ h3 _ h4 _ h5 _ h6 _ h7 _ h8 _ h9 _ h10 _ h11 _ h12 _ h13 _ h14 _ h15 _ h16 _ h17 v1104 v1106) := by
  rw [k0_part156_eq_skeleton]; unfold k0_part156_skel
  repeat' with_reducible first | exact .load | exact .store | apply Keeps.bind | intro _ | exact .pure _

theorem part157 (v1143 v1145 v1170) : K c R (k0_part157 (F := F) i _ h2 _ h3 _ h4 _ h5 _ h6 _ h7 _ h8 _ h9 _ h10 _ h11 _ h12 _ h13 _ h14 _ h15 _ h16 _ h17 v1143 v1145 v1170) := by
  rw [k0_part157_eq_skeleton]; unfold k0_part157_skel
  repeat' with_reducible first | exact .load | exact .store | apply Keeps.bind | intro _ | exact .pure _

theorem part158 (k0_t1 arg18 k0_h5 v190 k0_h7) : K c R (k0_part158 (F := F) i _ h2 _ h3 _ h4 _ h5 _ h6 _ h7 _ h8 _ h9 _ h10 _ h11 _ h12 _ h13 _ h14 _ h15 _ h16 _ h17 k0_t1 arg18 k0_h5 v190 k0_h7) := by
  rw [k0_part158_eq_skeleton]; unfold k0_part158_skel
  repeat' with_reducible first | exact part132 .. | exact part133 .. | exact part134 .. | exact part135 .. | exact part136 .. | exact part137 .. | exact part138 .. | exact part139 .. | exact part140 .. | exact part141 .. | exact part142 .. | exact part143 .. | exact part144 .. | exact part145 .. | exact part146 .. | exact part147 .. | exact part148 .. | exact part149 .. | exact part150 .. | exact part151 .. | exact part152 .. | exact part153 .. | exact part154 .. | exact part155 .. | exact part156 .. | exact part157 .. | exact .load | exact .store | apply Keeps.bind | intro _ | exact .pure _

theorem part219 (c0_i32_45 c1_i32 k0_t1) : K c R (k0_part219 (F := F) i _ h2 _ h3 _ h4 _ h5 _ h6 _ h7 _ h8 _ h9 _ h10 _ h11 _ h12 _ h13 _ h14 _ h15 _ h16 _ h17 c0_i32_45 c1_i32 k0_t1) := by
  rw [k0_part219_eq_skeleton]; unfold k0_part219_skel
  repeat' with_reducible first | exact t2_body .. | exact t3_body .. | exact part131 .. | exact part158 .. | exact .load | exact .store | apply Keeps.dite | apply Keeps.for | apply Keeps.bind | intro _ | exact .pure _

theorem part159 (k0_t1 arg18 v117 k0_h8) : K c R (k0_part159 (F := F) i _ h2 _ h3 _ h4 _ h5 _ h6 _ h7 _ h8 _ h9 _ h10 _ h11 _ h12 _ h13 _ h14 _ h15 _ h16 _ h17 k0_t1 arg18 v117 k0_h8) := by
  rw [k0_part159_eq_skeleton]; unfold k0_part159_skel
  repeat' with_reducible first | exact .load | exact .store | apply Keeps.bind | intro _ | exact .pure _

theorem part160 (v222 v223) : K c R (k0_part160 (F := F) i _ h2 _ h3 _ h4 _ h5 _ h6 _ h7 _ h8 _ h9 _ h10 _ h11 _ h12 _ h13 _ h14 _ h15 _ h16 _ h17 v222 v223) := by
  rw [k0_part160_eq_skeleton]; unfold k0_part160_skel
  repeat' with_reducible first | exact .load | exact .store | apply Keeps.bind | intro _ | exact .pure _

theorem part161 (v260) : K c R (k0_part161 (F := F) i _ h2 _ h3 _ h4 _ h5 _ h6 _ h7 _ h8 _ h9 _ h10 _ h11 _ h12 _ h13 _ h14 _ h15 _ h16 _ h17 v260) := by
  rw [k0_part161_eq_skeleton]; unfold k0_part161_skel
  repeat' with_reducible first | exact .load | exact .store | apply Keeps.bind | intro _ | exact .pure _

theorem part162 (v298) : K c R (k0_part162 (F := F) i _ h2 _ h3 _ h4 _ h5 _ h6 _ h7 _ h8 _ h9 _ h10 _ h11 _ h12 _ h13 _ h14 _ h15 _ h16 _ h17 v298) := by
  rw [k0_part162_eq_skeleton]; unfold k0_part162_skel
  repeat' with_reducible first | exact .load | exact .store | apply Keeps.bind | intro _ | exact .pure _

theorem part163 (v329 v334 cst_175) : K c R (k0_part163 (F := F) i _ h2 _ h3 _ h4 _ h5 _ h6 _ h7 _ h8 _ h9 _ h10 _ h11 _ h12 _ h13 _ h14 _ h15 _ h16 _ h17 v329 v334 cst_175) := by
  rw [k0_part163_eq_skeleton]; unfold k0_part163_skel
  repeat' with_reducible first | exact .load | exact .store | apply Keeps.bind | intro _ | exact .pure _

theorem part164 (v367 v370 v371) : K c R (k0_part164 (F := F) i _ h2 _ h3 _ h4 _ h5 _ h6 _ h7 _ h8 _ h9 _ h10 _ h11 _ h12 _ h13 _ h14 _ h15 _ h16 _ h17 v367 v370 v371) := by
  rw [k0_part164_eq_skeleton]; unfold k0_part164_skel
  repeat' with_reducible first | exact .load | exact .store | apply Keeps.bind | intro _ | exact .pure _

theorem part165 (v408) : K c R (k0_part165 (F := F) i _ h2 _ h3 _ h4 _ h5 _ h6 _ h7 _ h8 _ h9 _ h10 _ h11 _ h12 _ h13 _ h14 _ h15 _ h16 _ h17 v408) := by
  rw [k0_part165_eq_skeleton]; unfold k0_part165_skel
  repeat' with_reducible first | exact .load | exact .store | apply Keeps.bind | intro _ | exact .pure _

theorem part166 (v420) : K c R (k0_part166 (F := F) i _ h2 _ h3 _ h4 _ h5 _ h6 _ h7 _ h8 _ h9 _ h10 _ h11 _ h12 _ h13 _ h14 _ h15 _ h16 _ h17 v420) := by
  rw [k0_part166_eq_skeleton]; unfold k0_part166_skel
  repeat' with_reducible first | exact .load | exact .store | apply Keeps.bind | intro _ | exact .pure _

theorem part167 (v462 v464) : K c R (k0_part167 (F := F) i _ h2 _ h3 _ h4 _ h5 _ h6 _ h7 _ h8 _ h9 _ h10 _ h11 _ h12 _ h13 _ h14 _ h15 _ h16 _ h17 v462 v464) := by
  rw [k0_part167_eq_skeleton]; unfold k0_part167_skel
  repeat' with_reducible first | exact .load | exact .store | apply Keeps.bind | intro _ | exact .pure _

theorem part168 (v504 v506 v527) : K c R (k0_part168 (F := F) i _ h2 _ h3 _ h4 _ h5 _ h6 _ h7 _ h8 _ h9 _ h10 _ h11 _ h12 _ h13 _ h14 _ h15 _ h16 _ h17 v504 v506 v527) := by
  rw [k0_part168_eq_skeleton]; unfold k0_part168_skel
  repeat' with_reducible first | exact .load | exact .store | apply Keeps.bind | intro _ | exact .pure _

theorem part169 (v546 v548 v551 v566 v567) : K c R (k0_part169 (F := F) i _ h2 _ h3 _ h4 _ h5 _ h6 _ h7 _ h8 _ h9 _ h10 _ h11 _ h12 _ h13 _ h14 _ h15 _ h16 _ h17 v546 v548 v551 v566 v567) := by
  rw [k0_part169_eq_skeleton]; unfold k0_part169_skel
  repeat' with_reducible first | exact .load | exact .store | apply Keeps.bind | intro _ | exact .pure _

theorem part170 (v592 v594 v597 v606 v607) : K c R (k0_part170 (F := F) i _ h2 _ h3 _ h4 _ h5 _ h6 _ h7 _ h8 _ h9 _ h10 _ h11 _ h12 _ h13 _ h14 _ h15 _ h16 _ h17 v592 v594 v597 v606 v607) := by
  rw [k0_part170_eq_skeleton]; unfold k0_part170_skel
  repeat' with_reducible first | exact .load | exact .store | apply Keeps.bind | intro _ | exact .pure _

theorem part171 (v638 v640 v643) : K c R (k0_part171 (F := F) i _ h2 _ h3 _ h4 _ h5 _ h6 _ h7 _ h8 _ h9 _ h10 _ h11 _ h12 _ h13 _ h14 _ h15 _ h16 _ h17 v638 v640 v643) := by
  rw [k0_part171_eq_skeleton]; unfold k0_part171_skel
  repeat' with_reducible first | exact .load | exact .store | apply Keeps.bind | intro _ | exact .pure _

theorem part172 (v213 v680) : K c R (k0_part172 (F := F) i _ h2 _ h3 _ h4 _ h5 _ h6 _ h7 _ h8 _ h9 _ h10 _ h11 _ h12 _ h13 _ h14 _ h15 _ h16 _ h17 v213 v680) := by
  rw [k0_part172_eq_skeleton]; unfold k0_part172_skel
  repeat' with_reducible first | exact .load | exact .store | apply Keeps.bind | intro _ | exact .pure _

theorem part173 (v213 v719 v720) : K c R (k0_part173 (F := F) i _ h2 _ h3 _ h4 _ h5 _ h6 _ h7 _ h8 _ h9 _ h10 _ h11 _ h12 _ h13 _ h14 _ h15 _ h16 _ h17 v213 v719 v720) := by
  rw [k0_part173_eq_skeleton]; unfold k0_part173_skel
  repeat' with_reducible first | exact .load | exact .store | apply Keeps.bind | intro _ | exact .pure _

theorem part174 (v755) : K c R (k0_part174 (F := F) i _ h2 _ h3 _ h4 _ h5 _ h6 _ h7 _ h8 _ h9 _ h10 _ h11 _ h12 _ h13 _ h14 _ h15 _ h16 _ h17 v755) := by
  rw [k0_part174_eq_skeleton]; unfold k0_part174_skel
  repeat' with_reducible first | exact .load | exact .store | apply Keeps.bind | intro _ | exact .pure _

theorem part175 (v777 v779 v793) : K c R (k0_part175 (F := F) i _ h2 _ h3 _ h4 _ h5 _ h6 _ h7 _ h8 _ h9 _ h10 _ h11 _ h12 _ h13 _ h14 _ h15 _ h16 _ h17 v777 v779 v793) := by
  rw [k0_part175_eq_skeleton]; unfold k0_part175_skel
  repeat' with_reducible first | exact .load | exact .store | apply Keeps.bind | intro _ | exact .pure _

theorem part176 (v815 v817 v820) : K c R (k0_part176 (F := F) i _ h2 _ h3 _ h4 _ h5 _ h6 _ h7 _ h8 _ h9 _ h10 _ h11 _ h12 _ h13 _ h14 _ h15 _ h16 _ h17 v815 v817 v820) := by
  rw [k0_part176_eq_skeleton]; unfold k0_part176_skel
  repeat' with_reducible first | exact .load | exact .store | apply Keeps.bind | intro _ | exact .pure _

theorem part177 (v853 v855 v858 v865) : K c R (k0_part177 (F := F) i _ h2 _ h3 _ h4 _ h5 _ h6 _ h7 _ h8 _ h9 _ h10 _ h11 _ h12 _ h13 _ h14 _ h15 _ h16 _ h17 v853 v855 v858 v865) := by
  rw [k0_part177_eq_skeleton]; unfold k0_part177_skel
  repeat' with_reducible first | exact .load | exact .store | apply Keeps.bind | intro _ | exact .pure _

theorem part178 (v891 v893 v896 v903) : K c R (k0_part178 (F := F) i _ h2 _ h3 _ h4 _ h5 _ h6 _ h7 _ h8 _ h9 _ h10 _ h11 _ h12 _ h13 _ h14 _ h15 _ h16 _ h17 v891 v893 v896 v903) := by
  rw [k0_part178_eq_skeleton]; unfold k0_part178_skel
  repeat' with_reducible first | exact .load | exact .store | apply Keeps.bind | intro _ | exact .pure _

theorem part179 (v929 v931 v934 v941) : K c R (k0_part179 (F := F) i _ h2 _ h3 _ h4 _ h5 _ h6 _ h7 _ h8 _ h9 _ h10 _ h11 _ h12 _ h13 _ h14 _ h15 _ h16 _ h17 v929 v931 v934 v941) := by
  rw [k0_part179_eq_skeleton]; unfold k0_part179_skel
  repeat' with_reducible first | exact .load | exact .store | apply Keeps.bind | intro _ | exact .pure _

theorem part180 (v971 v973 v976 v979) : K c R (k0_part180 (F := F) i _ h2 _ h3 _ h4 _ h5 _ h6 _ h7 _ h8 _ h9 _ h10 _ h11 _ h12 _ h13 _ h14 _ h15 _ h16 _ h17 v971 v973 v976 v979) := by
  rw [k0_part180_eq_skeleton]; unfold k0_part180_skel
  repeat' with_reducible first | exact .load | exact .store | apply Keeps.bind | intro _ | exact .pure _

theorem part181 (v1009 v1013 v1015) : K c R (k0_part181 (F := F) i _ h2 _ h3 _ h4 _ h5 _ h6 _ h7 _ h8 _ h9 _ h10 _ h11 _ h12 _ h13 _ h14 _ h15 _ h16 _ h17 v1009 v1013 v1015) := by
  rw [k0_part181_eq_skeleton]; unfold k0_part181_skel
  repeat' with_reducible first | exact .load | exact .store | apply Keeps.bind | intro _ | exact .pure _

theorem part182 (v1051 v1052) : K c R (k0_part182 (F := F) i _ h2 _ h3 _ h4 _ h5 _ h6 _ h7 _ h8 _ h9 _ h10 _ h11 _ h12 _ h13 _ h14 _ h15 _ h16 _ h17 v1051 v1052) := by
  rw [k0_part182_eq_skeleton]; unfold k0_part182_skel
  repeat' with_reducible first | exact .load | exact .store | apply Keeps.bind | intro _ | exact .pure _

theorem part183 (v1086 v1091) : K c R (k0_part183 (F := F) i _ h2 _ h3 _ h4 _ h5 _ h6 _ h7 _ h8 _ h9 _ h10 _ h11 _ h12 _ h13 _ h14 _ h15 _ h16 _ h17 v1086 v1091) := by
  rw [k0_part183_eq_skeleton]; unfold k0_part183_skel
  repeat' with_reducible first | exact .load | exact .store | apply Keeps.bind | intro _ | exact .pure _

theorem part184 : K c R (k0_part184 (F := F) i _ h2 _ h3 _ h4 _ h5 _ h6 _ h7 _ h8 _ h9 _ h10 _ h11 _ h12 _ h13 _ h14 _ h15 _ h16 _ h17) := by
  rw [k0_part184_eq_skeleton]; unfold k0_part184_skel
  repeat' with_reducible first | exact .load | exact .store | apply Keeps.bind | intro _ | exact .pure _

theorem part185 (v1143 v1145 v1171) : K c R (k0_part185 (F := F) i _ h2 _ h3 _ h4 _ h5 _ h6 _ h7 _ h8 _ h9 _ h10 _ h11 _ h12 _ h13 _ h14 _ h15 _ h16 _ h17 v1143 v1145 v1171) := by
  rw [k0_part185_eq_skeleton]; unfold k0_part185_skel
  repeat' with_reducible first | exact .load | exact .store | apply Keeps.bind | intro _ | exact .pure _

theorem part186 (v1189 v1191 v1213) : K c R (k0_part186 (F := F) i _ h2 _ h3 _ h4 _ h5 _ h6 _ h7 _ h8 _ h9 _ h10 _ h11 _ h12 _ h13 _ h14 _ h15 _ h16 _ h17 v1189 v1191 v1213) := by
  rw [k0_part186_eq_skeleton]; unfold k0_part186_skel
  repeat' with_reducible first | exact .load | exact .store | apply Keeps.bind | intro _ | exact .pure _

theorem part187 (v213 v1235 v1237 v1240 v1251 v1252 v1253) : K c R (k0_part187 (F := F) i _ h2 _ h3 _ h4 _ h5 _ h6 _ h7 _ h8 _ h9 _ h10 _ h11 _ h12 _ h13 _ h14 _ h15 _ h16 _ h17 v213 v1235 v1237 v1240 v1251 v1252 v1253) := by
  rw [k0_part187_eq_skeleton]; unfold k0_part187_skel
  repeat' with_reducible first | exact .load | exact .store | apply Keeps.bind | intro _ | exact .pure _

theorem part188 (k0_t1 arg18 v117 k0_h8) : K c R (k0_part188 (F := F) i _ h2 _ h3 _ h4 _ h5 _ h6 _ h7 _ h8 _ h9 _ h10 _ h11 _ h12 _ h13 _ h14 _ h15 _ h16 _ h17 k0_t1 arg18 v117 k0_h8) := by
  rw [k0_part188_eq_skeleton]; unfold k0_part188_skel
  repeat' with_reducible first | exact part159 .. | exact part160 .. | exact part161 .. | exact part162 .. | exact part163 .. | exact part164 .. | exact part165 .. | exact part166 .. | exact part167 .. | exact part168 .. | exact part169 .. | exact part170 .. | exact part171 .. | exact part172 .. | exact part173 .. | exact part174 .. | exact part175 .. | exact part176 .. | exact part177 .. | exact part178 .. | exact part179 .. | exact part180 .. | exact part181 .. | exact part182 .. | exact part183 .. | exact part184 .. | exact part185 .. | exact part186 .. | exact part187 .. | exact .load | exact .store | apply Keeps.bind | intro _ | exact .pure _

theorem part189 (k0_t1 arg18 v117 k0_h9) : K c R (k0_part189 (F := F) i _ h2 _ h3 _ h4 _ h5 _ h6 _ h7 _ h8 _ h9 _ h10 _ h11 _ h12 _ h13 _ h14 _ h15 _ h16 _ h17 k0_t1 arg18 v117 k0_h9) := by
  rw [k0_part189_eq_skeleton]; unfold k0_part189_skel
  repeat' with_reducible first | exact .load | exact .store | apply Keeps.bind | intro _ | exact .pure _

theorem part190 (v222 v223) : K c R (k0_part190 (F := F) i _ h2 _ h3 _ h4 _ h5 _ h6 _ h7 _ h8 _ h9 _ h10 _ h11 _ h12 _ h13 _ h14 _ h15 _ h16 _ h17 v222 v223) := by
  rw [k0_part190_eq_skeleton]; unfold k0_part190_skel
  repeat' with_reducible first | exact .load | exact .store | apply Keeps.bind | intro _ | exact .pure _

theorem part191 (v260) : K c R (k0_part191 (F := F) i _ h2 _ h3 _ h4 _ h5 _ h6 _ h7 _ h8 _ h9 _ h10 _ h11 _ h12 _ h13 _ h14 _ h15 _ h16 _ h17 v260) := by
  rw [k0_part191_eq_skeleton]; unfold k0_part191_skel
  repeat' with_reducible first | exact .load | exact .store | apply Keeps.bind | intro _ | exact .pure _

theorem part192 (v298) : K c R (k0_part192 (F := F) i _ h2 _ h3 _ h4 _ h5 _ h6 _ h7 _ h8 _ h9 _ h10 _ h11 _ h12 _ h13 _ h14 _ h15 _ h16 _ h17 v298) := by
  rw [k0_part192_eq_skeleton]; unfold k0_part192_skel
  repeat' with_reducible first | exact .load | exact .store | apply Keeps.bind | intro _ | exact .pure _

theorem part193 (v329 v334 cst_175) : K c R (k0_part193 (F := F) i _ h2 _ h3 _ h4 _ h5 _ h6 _ h7 _ h8 _ h9 _ h10 _ h11 _ h12 _ h13 _ h14 _ h15 _ h16 _ h17 v329 v334 cst_175) := by
  rw [k0_part193_eq_skeleton]; unfold k0_part193_skel
  repeat' with_reducible first | exact .load | exact .store | apply Keeps.bind | intro _ | exact .pure _

theorem part194 (v367 v370 v371) : K c R (k0_part194 (F := F) i _ h2 _ h3 _ h4 _ h5 _ h6 _ h7 _ h8 _ h9 _ h10 _ h11 _ h12 _ h13 _ h14 _ h15 _ h16 _ h17 v367 v370 v371) := by
  rw [k0_part194_eq_skeleton]; unfold k0_part194_skel
  repeat' with_reducible first | exact .load | exact .store | apply Keeps.bind | intro _ | exact .pure _

theorem part195 (v408) : K c R (k0_part195 (F := F) i _ h2 _ h3 _ h4 _ h5 _ h6 _ h7 _ h8 _ h9 _ h10 _ h11 _ h12 _ h13 _ h14 _ h15 _ h16 _ h17 v408) := by
  rw [k0_part195_eq_skeleton]; unfold k0_part195_skel
  repeat' with_reducible first | exact .load | exact .store | apply Keeps.bind | intro _ | exact .pure _

theorem part196 (v420) : K c R (k0_part196 (F := F) i _ h2 _ h3 _ h4 _ h5 _ h6 _ h7 _ h8 _ h9 _ h10 _ h11 _ h12 _ h13 _ h14 _ h15 _ h16 _ h17 v420) := by
  rw [k0_part196_eq_skeleton]; unfold k0_part196_skel
  repeat' with_reducible first | exact .load | exact .store | apply Keeps.bind | intro _ | exact .pure _

theorem part197 (v462 v464) : K c R (k0_part197 (F := F) i _ h2 _ h3 _ h4 _ h5 _ h6 _ h7 _ h8 _ h9 _ h10 _ h11 _ h12 _ h13 _ h14 _ h15 _ h16 _ h17 v462 v464) := by
  rw [k0_part197_eq_skeleton]; unfold k0_part197_skel
  repeat' with_reducible first | exact .load | exact .store | apply Keeps.bind | intro _ | exact .pure _

theorem part198 (v504 v506 v527) : K c R (k0_part198 (F := F) i _ h2 _ h3 _ h4 _ h5 _ h6 _ h7 _ h8 _ h9 _ h10 _ h11 _ h12 _ h13 _ h14 _ h15 _ h16 _ h17 v504 v506 v527) := by
  rw [k0_part198_eq_skeleton]; unfold k0_part198_skel
  repeat' with_reducible first | exact .load | exact .store | apply Keeps.bind | intro _ | exact .pure _

theorem part199 (v546 v548 v551 v566 v567) : K c R (k0_part199 (F := F) i _ h2 _ h3 _ h4 _ h5 _ h6 _ h7 _ h8 _ h9 _ h10 _ h11 _ h12 _ h13 _ h14 _ h15 _ h16 _ h17 v546 v548 v551 v566 v567) := by
  rw [k0_part199_eq_skeleton]; unfold k0_part199_skel
  repeat' with_reducible first | exact .load | exact .store | apply Keeps.bind | intro _ | exact .pure _

theorem part200 (v592 v594 v597 v606 v607) : K c R (k0_part200 (F := F) i _ h2 _ h3 _ h4 _ h5 _ h6 _ h7 _ h8 _ h9 _ h10 _ h11 _ h12 _ h13 _ h14 _ h15 _ h16 _ h17 v592 v594 v597 v606 v607) := by
  rw [k0_part200_eq_skeleton]; unfold k0_part200_skel
  repeat' with_reducible first | exact .load | exact .store | apply Keeps.bind | intro _ | exact .pure _

theorem part201 (v638 v640 v643) : K c R (k0_part201 (F := F) i _ h2 _ h3 _ h4 _ h5 _ h6 _ h7 _ h8 _ h9 _ h10 _ h11 _ h12 _ h13 _ h14 _ h15 _ h16 _ h17 v638 v640 v643) := by
  rw [k0_part201_eq_skeleton]; unfold k0_part201_skel
  repeat' with_reducible first | exact .load | exact .store | apply Keeps.bind | intro _ | exact .pure _

theorem part202 (v213 v680) : K c R (k0_part202 (F := F) i _ h2 _ h3 _ h4 _ h5 _ h6 _ h7 _ h8 _ h9 _ h10 _ h11 _ h12 _ h13 _ h14 _ h15 _ h16 _ h17 v213 v680) := by
  rw [k0_part202_eq_skeleton]; unfold k0_part202_skel
  repeat' with_reducible first | exact .load | exact .store | apply Keeps.bind | intro _ | exact .pure _

theorem part203 (v213 v719 v720) : K c R (k0_part203 (F := F) i _ h2 _ h3 _ h4 _ h5 _ h6 _ h7 _ h8 _ h9 _ h10 _ h11 _ h12 _ h13 _ h14 _ h15 _ h16 _ h17 v213 v719 v720) := by
  rw [k0_part203_eq_skeleton]; unfold k0_part203_skel
  repeat' with_reducible first | exact .load | exact .store | apply Keeps.bind | intro _ | exact .pure _

theorem part204 (v755) : K c R (k0_part204 (F := F) i _ h2 _ h3 _ h4 _ h5 _ h6 _ h7 _ h8 _ h9 _ h10 _ h11 _ h12 _ h13 _ h14 _ h15 _ h16 _ h17 v755) := by
  rw [k0_part204_eq_skeleton]; unfold k0_part204_skel
  repeat' with_reducible first | exact .load | exact .store | apply Keeps.bind | intro _ | exact .pure _

theorem part205 (v777 v779 v793) : K c R (k0_part205 (F := F) i _ h2 _ h3 _ h4 _ h5 _ h6 _ h7 _ h8 _ h9 _ h10 _ h11 _ h12 _ h13 _ h14 _ h15 _ h16 _ h17 v777 v779 v793) := by
  rw [k0_part205_eq_skeleton]; unfold k0_part205_skel
  repeat' with_reducible first | exact .load | exact .store | apply Keeps.bind | intro _ | exact .pure _

theorem part206 (v815 v817 v820) : K c R (k0_part206 (F := F) i _ h2 _ h3 _ h4 _ h5 _ h6 _ h7 _ h8 _ h9 _ h10 _ h11 _ h12 _ h13 _ h14 _ h15 _ h16 _ h17 v815 v817 v820) := by
  rw [k0_part206_eq_skeleton]; unfold k0_part206_skel
  repeat' with_reducible first | exact .load | exact .store | apply Keeps.bind | intro _ | exact .pure _

theorem part207 (v853 v855 v858 v865) : K c R (k0_part207 (F := F) i _ h2 _ h3 _ h4 _ h5 _ h6 _ h7 _ h8 _ h9 _ h10 _ h11 _ h12 _ h13 _ h14 _ h15 _ h16 _ h17 v853 v855 v858 v865) := by
  rw [k0_part207_eq_skeleton]; unfold k0_part207_skel
  repeat' with_reducible first | exact .load | exact .store | apply Keeps.bind | intro _ | exact .pure _

theorem part208 (v891 v893 v896 v903) : K c R (k0_part208 (F := F) i _ h2 _ h3 _ h4 _ h5 _ h6 _ h7 _ h8 _ h9 _ h10 _ h11 _ h12 _ h13 _ h14 _ h15 _ h16 _ h17 v891 v893 v896 v903) := by
  rw [k0_part208_eq_skeleton]; unfold k0_part208_skel
  repeat' with_reducible first | exact .load | exact .store | apply Keeps.bind | intro _ | exact .pure _

theorem part209 (v929 v931 v934 v941) : K c R (k0_part209 (F := F) i _ h2 _ h3 _ h4 _ h5 _ h6 _ h7 _ h8 _ h9 _ h10 _ h11 _ h12 _ h13 _ h14 _ h15 _ h16 _ h17 v929 v931 v934 v941) := by
  rw [k0_part209_eq_skeleton]; unfold k0_part209_skel
  repeat' with_reducible first | exact .load | exact .store | apply Keeps.bind | intro _ | exact .pure _

theorem part210 (v971 v973 v976 v979) : K c R (k0_part210 (F := F) i _ h2 _ h3 _ h4 _ h5 _ h6 _ h7 _ h8 _ h9 _ h10 _ h11 _ h12 _ h13 _ h14 _ h15 _ h16 _ h17 v971 v973 v976 v979) := by
  rw [k0_part210_eq_skeleton]; unfold k0_part210_skel
  repeat' with_reducible first | exact .load | exact .store | apply Keeps.bind | intro _ | exact .pure _

theorem part211 (v1009 v1013 v1015) : K c R (k0_part211 (F := F) i _ h2 _ h3 _ h4 _ h5 _ h6 _ h7 _ h8 _ h9 _ h10 _ h11 _ h12 _ h13 _ h14 _ h15 _ h16 _ h17 v1009 v1013 v1015) := by
  rw [k0_part211_eq_skeleton]; unfold k0_part211_skel
  repeat' with_reducible first | exact .load | exact .store | apply Keeps.bind | intro _ | exact .pure _

theorem part212 (v1051 v1052) : K c R (k0_part212 (F := F) i _ h2 _ h3 _ h4 _ h5 _ h6 _ h7 _ h8 _ h9 _ h10 _ h11 _ h12 _ h13 _ h14 _ h15 _ h16 _ h17 v1051 v1052) := by
  rw [k0_part212_eq_skeleton]; unfold k0_part212_skel
  repeat' with_reducible first | exact .load | exact .store | apply Keeps.bind | intro _ | exact .pure _

theorem part213 (v1086 v1091) : K c R (k0_part213 (F := F) i _ h2 _ h3 _ h4 _ h5 _ h6 _ h7 _ h8 _ h9 _ h10 _ h11 _ h12 _ h13 _ h14 _ h15 _ h16 _ h17 v1086 v1091) := by
  rw [k0_part213_eq_skeleton]; unfold k0_part213_skel
  repeat' with_reducible first | exact .load | exact .store | apply Keeps.bind | intro _ | exact .pure _

theorem part214 : K c R (k0_part214 (F := F) i _ h2 _ h3 _ h4 _ h5 _ h6 _ h7 _ h8 _ h9 _ h10 _ h11 _ h12 _ h13 _ h14 _ h15 _ h16 _ h17) := by
  rw [k0_part214_eq_skeleton]; unfold k0_part214_skel
  repeat' with_reducible first | exact .load | exact .store | apply Keeps.bind | intro _ | exact .pure _

theorem part215 (v1143 v1145 v1171) : K c R (k0_part215 (F := F) i _ h2 _ h3 _ h4 _ h5 _ h6 _ h7 _ h8 _ h9 _ h10 _ h11 _ h12 _ h13 _ h14 _ h15 _ h16 _ h17 v1143 v1145 v1171) := by
  rw [k0_part215_eq_skeleton]; unfold k0_part215_skel
  repeat' with_reducible first | exact .load | exact .store | apply Keeps.bind | intro _ | exact .pure _

theorem part216 (v1189 v1191 v1213) : K c R (k0_part216 (F := F) i _ h2 _ h3 _ h4 _ h5 _ h6 _ h7 _ h8 _ h9 _ h10 _ h11 _ h12 _ h13 _ h14 _ h15 _ h16 _ h17 v1189 v1191 v1213) := by
  rw [k0_part216_eq_skeleton]; unfold k0_part216_skel
  repeat' with_reducible first | exact .load | exact .store | apply Keeps.bind | intro _ | exact .pure _

theorem part217 (v213 v1235 v1237 v1240 v1251 v1252 v1253) : K c R (k0_part217 (F := F) i _ h2 _ h3 _ h4 _ h5 _ h6 _ h7 _ h8 _ h9 _ h10 _ h11 _ h12 _ h13 _ h14 _ h15 _ h16 _ h17 v213 v1235 v1237 v1240 v1251 v1252 v1253) := by
  rw [k0_part217_eq_skeleton]; unfold k0_part217_skel
  repeat' with_reducible first | exact .load | exact .store | apply Keeps.bind | intro _ | exact .pure _

theorem part218 (k0_t1 arg18 v117 k0_h9) : K c R (k0_part218 (F := F) i _ h2 _ h3 _ h4 _ h5 _ h6 _ h7 _ h8 _ h9 _ h10 _ h11 _ h12 _ h13 _ h14 _ h15 _ h16 _ h17 k0_t1 arg18 v117 k0_h9) := by
  rw [k0_part218_eq_skeleton]; unfold k0_part218_skel
  repeat' with_reducible first | exact part189 .. | exact part190 .. | exact part191 .. | exact part192 .. | exact part193 .. | exact part194 .. | exact part195 .. | exact part196 .. | exact part197 .. | exact part198 .. | exact part199 .. | exact part200 .. | exact part201 .. | exact part202 .. | exact part203 .. | exact part204 .. | exact part205 .. | exact part206 .. | exact part207 .. | exact part208 .. | exact part209 .. | exact part210 .. | exact part211 .. | exact part212 .. | exact part213 .. | exact part214 .. | exact part215 .. | exact part216 .. | exact part217 .. | exact .load | exact .store | apply Keeps.bind | intro _ | exact .pure _

theorem part220 (k0_t1 arg18 v115 v117 v119) : K c R (k0_part220 (F := F) i _ h2 _ h3 _ h4 _ h5 _ h6 _ h7 _ h8 _ h9 _ h10 _ h11 _ h12 _ h13 _ h14 _ h15 _ h16 _ h17 k0_t1 arg18 v115 v117 v119) := by
  rw [k0_part220_eq_skeleton]; unfold k0_part220_skel
  repeat' with_reducible first | exact part188 .. | exact part218 .. | exact .load | exact .store | apply Keeps.dite | apply Keeps.bind | intro _ | exact .pure _

theorem t1_body (v16) (k u) : K c R (k0_t1_body (F := F) i _ h2 _ h3 _ h4 _ h5 _ h6 _ h7 _ h8 _ h9 _ h10 _ h11 _ h12 _ h13 _ h14 _ h15 _ h16 _ h17 v16 k u) := by
  unfold k0_t1_body
  repeat' with_reducible first | exact part219 .. | exact part220 .. | exact .load | exact .store | apply Keeps.bind | intro _ | exact .pure _

theorem body : K c R (cc0_diff_attention (F := F) i _ h2 _ h3 _ h4 _ h5 _ h6 _ h7 _ h8 _ h9 _ h10 _ h11 _ h12 _ h13 _ h14 _ h15 _ h16 _ h17) := by
  rw [cc0_diff_attention_eq_skeleton]; unfold cc0_diff_attention_skel
  repeat' with_reducible first | exact part221 .. | exact part222 .. | exact t1_body .. | exact .load | exact .store | apply Keeps.for | apply Keeps.bind | intro _ | exact .pure _

end Cert.Proof.AttnIdealKeep

end
-- ==== Proof.AttnIdealFrame.lean ====
/- The attention of the taken version in exact arithmetic: its run ends, whatever it computes, with the arguments unchanged
   and every counter at zero. -/
module

public import proofs.«01_k».proof.Defs
public import proofs.«01_k».proof.Proof.Gen.AttnIdeal.Points
public import proofs.«01_k».proof.Proof.AttnIdealKeep
public import Idealize.ShloMosaic.Lib.Pipeline.Frame
public import Idealize.ShloMosaic.Adequacy

@[expose] public section

noncomputable section

namespace Cert.Proof.AttnIdealFrame

open Cert.AttnIdeal Cert.AttnIdeal.Gen Cert.Proof.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The assertions about the machine. -/
local notation "𝕄" => MT nD τ sig Unit (Elt F) ℕ (UR sig nD τ) ℕ

variable (m : (ℓ : Loc nD τ sig) → Buf (Elt F) ℓ) (ρ : Dev nD → PrngReg)

/-- The scratch buffers of core `c`, each at some contents. -/
abbrev scratch (c : Dev nD) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d))

/-- The windows' staging buffers at point `t`, each at some contents. -/
abbrev staged (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d))

/-- The body at a point leaves what it held: the scratch, whatever else comes with it, and the staging buffers. -/
theorem body_keeps (c : Dev nD) (t : Fin cfg0.N) (P : sProp 𝕄) :
    Keeps (defs₀ (F := F)) Variants.none c Set.univ (iprop((scratch c ∗ P) ∗ staged c t) : sProp 𝕄) (bodyAt0 t) := by
  unfold bodyAt0
  exact AttnIdealKeep.body (R := iprop((scratch c ∗ P) ∗ staged c t)) _ _ _ _ _ _ _ _ _ _ _ _ _ _ _ _

/-- No window's contents are named: a frame reads none. -/
def forgets : Fin 6 → Bool := fun _ => true

/-- The launch's data on core `c`: the arrays as the region finds them, the invariant that the scratch is held. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := Pipeline.shareOf spec0 w
  owed _ := 0

theorem phi_eq (c : Dev nD) : (Pipeline.ΦA spec0 c : sProp 𝕄) = iprop(scratch c ∗ ∃ r, prngReg c r) := by
  unfold Pipeline.ΦA scratch
  rw [scopedRest0_eq]; simp only [owns_whole]; try rfl

/-- What the body is called with at point `t`, and what it returns. -/
def at_point (c : Dev nD) (t : Fin cfg0.N) : sProp 𝕄 :=
  iprop((dats m 0 c).Φ t.castSucc ∗ (dats m 0 c).owesAt () t.castSucc ∗ staged c t)

theorem sound_body (c : Dev nD) (t : Fin cfg0.N) :
    at_point m c t ⊢ wp frame (wpE (defs₀ (F := F)) Variants.none c none) Set.univ (bodyAt0 t) (fun _ => at_point m c t) := by
  have e : at_point m c t = iprop((scratch c ∗ ∃ r, prngReg c r) ∗ (dats m 0 c).owesAt () t.castSucc ∗ staged c t) := by
    unfold at_point
    rw [show (dats m 0 c).Φ t.castSucc = Pipeline.ΦA spec0 c from rfl, phi_eq]
  have h := body_keeps c t (iprop((∃ r, prngReg c r) ∗ (dats m 0 c).owesAt () t.castSucc) : sProp 𝕄)
  have e' : at_point m c t ⊣⊢ (iprop((scratch c ∗ ((∃ r, prngReg c r) ∗ (dats m 0 c).owesAt () t.castSucc)) ∗ staged c t) : sProp 𝕄) := by
    rw [e]
    constructor
    · iintro ⟨⟨HS, Hg⟩, HO, HW⟩
      isplitl [HS Hg HO]
      · isplitl [HS]; · iexact HS
        isplitl [Hg]; · iexact Hg
        iexact HO
      iexact HW
    · iintro ⟨⟨HS, Hg, HO⟩, HW⟩
      isplitl [HS Hg]
      · isplitl [HS]; · iexact HS
        iexact Hg
      isplitl [HO]; · iexact HO
      iexact HW
  exact e'.1.trans (h.trans (Idealize.SL.Sem.wp_mono _ _ _ fun _ => e'.2))

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- The launch rule's implicit arguments are found only when unification may unfold definitions in types.
set_option backward.isDefEq.respectTransparency.types false in
/-- Every execution ends, with the arguments as they were and every counter at zero. -/
theorem run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl) (howed := fun _ _ => rfl)
    (V := V m) (hmain := hmain m Variants.none) (hA := fun _ _ => rfl) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

theorem frame_call : Cert.quiescent_AttnIdeal := fun m ρ _ => run m ρ

end Cert.Proof.AttnIdealFrame

end
-- ==== Proof.S5IdealKeep.lean ====
/- The body of the S5 mixer in exact arithmetic, taken to pieces: every piece keeps the buffers it loads and stores through. No value is named. -/
module

public import proofs.«01_k».proof.Proof.Gen.S5Ideal.Skeleton
public import proofs.«01_k».proof.Proof.Gen.S5Ideal.Frame
public import proofs.«01_k».proof.Proof.Keep

@[expose] public section

noncomputable section

namespace Cert.Proof.S5IdealKeep

open Cert.S5Ideal Cert.S5Ideal.Gen Cert.Proof.Keep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Run from `R`, the program ends in `R`, whatever it returns. -/
abbrev K (c : Dev nD) (R : sProp (MT nD τ sig Unit (Elt F) ℕ (UR sig nD τ) ℕ)) {α : Type}
    (p : Prog (TpuEff nD τ sig (Elt F) Λ₀ .tc) α) : Prop := Keeps defs₀ Variants.none c Set.univ R p

set_option maxHeartbeats 2000000

variable {c : Dev nD} {R : sProp (MT nD τ sig Unit (Elt F) ℕ (UR sig nD τ) ℕ)} {i : grid0.Coords} {arg2 : Memref sig .tc .vmem S16x528x128 .bf16} {arg3 : Memref sig .tc .vmem S16x528x1 .f32} {arg4 : Memref sig .tc .vmem S1x128 .f32} {arg5 : Memref sig .tc .vmem S1x128x1024 .f32} {arg6 : Memref sig .tc .vmem S1x1024x128 .f32} {arg7 : Memref sig .tc .vmem S1x24x512 .f32} {arg8 : Memref sig .tc .vmem S1x24x512 .f32} {arg9 : Memref sig .tc .vmem S1x512x24 .f32} {arg10 : Memref sig .tc .vmem S1x512x24 .f32} {arg11 : Memref sig .tc .vmem S1x128 .f32} {arg12 : Memref sig .tc .vmem S16x528x128 .bf16} {arg13 : Memref sig .tc .vmem S2048x2048 .bf16} {arg14 : Memref sig .tc .vmem S2048x1024 .bf16} {arg15 : Memref sig .tc .vmem S1024x2048 .bf16} {arg16 : Memref sig .tc .vmem S528x1024 .f32} {arg17 : Memref sig .tc .vmem S528x1024 .f32}
variable [Reads c R arg2] [Reads c R arg3] [Reads c R arg4] [Reads c R arg5] [Reads c R arg6] [Reads c R arg7] [Reads c R arg8] [Reads c R arg9] [Reads c R arg10] [Reads c R arg11] [Writes c R arg12] [Writes c R arg13] [Writes c R arg14] [Writes c R arg15] [Writes c R arg16] [Writes c R arg17]
variable (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) (h17 : arg17.IsWhole)

theorem part1 : K c R (k0_part1 (F := F) i _ h2 _ h3 _ h4 _ h5 _ h6 _ h7 _ h8 _ h9 _ h10 _ h11 _ h12 _ h13 _ h14 _ h15 _ h16 _ h17) := by
  rw [k0_part1_eq_skeleton]; unfold k0_part1_skel
  repeat' with_reducible first | exact .load | exact .store | apply Keeps.bind | intro _ | exact .pure _

theorem part2 (v604) : K c R (k0_part2 (F := F) i _ h2 _ h3 _ h4 _ h5 _ h6 _ h7 _ h8 _ h9 _ h10 _ h11 _ h12 _ h13 _ h14 _ h15 _ h16 _ h17 v604) := by
  rw [k0_part2_eq_skeleton]; unfold k0_part2_skel
  repeat' with_reducible first | exact .load | exact .store | apply Keeps.bind | intro _ | exact .pure _

theorem part3 (v568 v569 v604) : K c R (k0_part3 (F := F) i _ h2 _ h3 _ h4 _ h5 _ h6 _ h7 _ h8 _ h9 _ h10 _ h11 _ h12 _ h13 _ h14 _ h15 _ h16 _ h17 v568 v569 v604) := by
  rw [k0_part3_eq_skeleton]; unfold k0_part3_skel
  repeat' with_reducible first | exact .load | exact .store | apply Keeps.bind | intro _ | exact .pure _

theorem part4 (v572 v668 v669) : K c R (k0_part4 (F := F) i _ h2 _ h3 _ h4 _ h5 _ h6 _ h7 _ h8 _ h9 _ h10 _ h11 _ h12 _ h13 _ h14 _ h15 _ h16 _ h17 v572 v668 v669) := by
  rw [k0_part4_eq_skeleton]; unfold k0_part4_skel
  repeat' with_reducible first | exact .load | exact .store | apply Keeps.bind | intro _ | exact .pure _

theorem part5 (v568 v569 v673) : K c R (k0_part5 (F := F) i _ h2 _ h3 _ h4 _ h5 _ h6 _ h7 _ h8 _ h9 _ h10 _ h11 _ h12 _ h13 _ h14 _ h15 _ h16 _ h17 v568 v569 v673) := by
  rw [k0_part5_eq_skeleton]; unfold k0_part5_skel
  repeat' with_reducible first | exact .load | exact .store | apply Keeps.bind | intro _ | exact .pure _

theorem part6 (v572 v734) : K c R (k0_part6 (F := F) i _ h2 _ h3 _ h4 _ h5 _ h6 _ h7 _ h8 _ h9 _ h10 _ h11 _ h12 _ h13 _ h14 _ h15 _ h16 _ h17 v572 v734) := by
  rw [k0_part6_eq_skeleton]; unfold k0_part6_skel
  repeat' with_reducible first | exact .load | exact .store | apply Keeps.bind | intro _ | exact .pure _

theorem part7 (v568 v569 v739 v766) : K c R (k0_part7 (F := F) i _ h2 _ h3 _ h4 _ h5 _ h6 _ h7 _ h8 _ h9 _ h10 _ h11 _ h12 _ h13 _ h14 _ h15 _ h16 _ h17 v568 v569 v739 v766) := by
  rw [k0_part7_eq_skeleton]; unfold k0_part7_skel
  repeat' with_reducible first | exact .load | exact .store | apply Keeps.bind | intro _ | exact .pure _

theorem part8 (v572 v797 cst_394) : K c R (k0_part8 (F := F) i _ h2 _ h3 _ h4 _ h5 _ h6 _ h7 _ h8 _ h9 _ h10 _ h11 _ h12 _ h13 _ h14 _ h15 _ h16 _ h17 v572 v797 cst_394) := by
  rw [k0_part8_eq_skeleton]; unfold k0_part8_skel
  repeat' with_reducible first | exact .load | exact .store | apply Keeps.bind | intro _ | exact .pure _

theorem part9 (v568 v569 v572 v802) : K c R (k0_part9 (F := F) i _ h2 _ h3 _ h4 _ h5 _ h6 _ h7 _ h8 _ h9 _ h10 _ h11 _ h12 _ h13 _ h14 _ h15 _ h16 _ h17 v568 v569 v572 v802) := by
  rw [k0_part9_eq_skeleton]; unfold k0_part9_skel
  repeat' with_reducible first | exact .load | exact .store | apply Keeps.bind | intro _ | exact .pure _

theorem part10 (v862 v866) : K c R (k0_part10 (F := F) i _ h2 _ h3 _ h4 _ h5 _ h6 _ h7 _ h8 _ h9 _ h10 _ h11 _ h12 _ h13 _ h14 _ h15 _ h16 _ h17 v862 v866) := by
  rw [k0_part10_eq_skeleton]; unfold k0_part10_skel
  repeat' with_reducible first | exact .load | exact .store | apply Keeps.bind | intro _ | exact .pure _

theorem part11 (v568 v569 v572 v862 v896) : K c R (k0_part11 (F := F) i _ h2 _ h3 _ h4 _ h5 _ h6 _ h7 _ h8 _ h9 _ h10 _ h11 _ h12 _ h13 _ h14 _ h15 _ h16 _ h17 v568 v569 v572 v862 v896) := by
  rw [k0_part11_eq_skeleton]; unfold k0_part11_skel
  repeat' with_reducible first | exact .load | exact .store | apply Keeps.bind | intro _ | exact .pure _

theorem part12 (v568 v569 v919) : K c R (k0_part12 (F := F) i _ h2 _ h3 _ h4 _ h5 _ h6 _ h7 _ h8 _ h9 _ h10 _ h11 _ h12 _ h13 _ h14 _ h15 _ h16 _ h17 v568 v569 v919) := by
  rw [k0_part12_eq_skeleton]; unfold k0_part12_skel
  repeat' with_reducible first | exact .load | exact .store | apply Keeps.bind | intro _ | exact .pure _

theorem part13 (v572 v961 v966) : K c R (k0_part13 (F := F) i _ h2 _ h3 _ h4 _ h5 _ h6 _ h7 _ h8 _ h9 _ h10 _ h11 _ h12 _ h13 _ h14 _ h15 _ h16 _ h17 v572 v961 v966) := by
  rw [k0_part13_eq_skeleton]; unfold k0_part13_skel
  repeat' with_reducible first | exact .load | exact .store | apply Keeps.bind | intro _ | exact .pure _

theorem part14 (v568 v569 v572 v973) : K c R (k0_part14 (F := F) i _ h2 _ h3 _ h4 _ h5 _ h6 _ h7 _ h8 _ h9 _ h10 _ h11 _ h12 _ h13 _ h14 _ h15 _ h16 _ h17 v568 v569 v572 v973) := by
  rw [k0_part14_eq_skeleton]; unfold k0_part14_skel
  repeat' with_reducible first | exact .load | exact .store | apply Keeps.bind | intro _ | exact .pure _

theorem part15 (v568 v569 v1024) : K c R (k0_part15 (F := F) i _ h2 _ h3 _ h4 _ h5 _ h6 _ h7 _ h8 _ h9 _ h10 _ h11 _ h12 _ h13 _ h14 _ h15 _ h16 _ h17 v568 v569 v1024) := by
  rw [k0_part15_eq_skeleton]; unfold k0_part15_skel
  repeat' with_reducible first | exact .load | exact .store | apply Keeps.bind | intro _ | exact .pure _

theorem part16 (v572 v1067) : K c R (k0_part16 (F := F) i _ h2 _ h3 _ h4 _ h5 _ h6 _ h7 _ h8 _ h9 _ h10 _ h11 _ h12 _ h13 _ h14 _ h15 _ h16 _ h17 v572 v1067) := by
  rw [k0_part16_eq_skeleton]; unfold k0_part16_skel
  repeat' with_reducible first | exact .load | exact .store | apply Keeps.bind | intro _ | exact .pure _

theorem part17 (v568 v569 v572 v1098) : K c R (k0_part17 (F := F) i _ h2 _ h3 _ h4 _ h5 _ h6 _ h7 _ h8 _ h9 _ h10 _ h11 _ h12 _ h13 _ h14 _ h15 _ h16 _ h17 v568 v569 v572 v1098) := by
  rw [k0_part17_eq_skeleton]; unfold k0_part17_skel
  repeat' with_reducible first | exact .load | exact .store | apply Keeps.bind | intro _ | exact .pure _

theorem part18 (v568 v569 v572 v1117) : K c R (k0_part18 (F := F) i _ h2 _ h3 _ h4 _ h5 _ h6 _ h7 _ h8 _ h9 _ h10 _ h11 _ h12 _ h13 _ h14 _ h15 _ h16 _ h17 v568 v569 v572 v1117) := by
  rw [k0_part18_eq_skeleton]; unfold k0_part18_skel
  repeat' with_reducible first | exact .load | exact .store | apply Keeps.bind | intro _ | exact .pure _

theorem part19 (v568 v569 v572 v1159 v1169) : K c R (k0_part19 (F := F) i _ h2 _ h3 _ h4 _ h5 _ h6 _ h7 _ h8 _ h9 _ h10 _ h11 _ h12 _ h13 _ h14 _ h15 _ h16 _ h17 v568 v569 v572 v1159 v1169) := by
  rw [k0_part19_eq_skeleton]; unfold k0_part19_skel
  repeat' with_reducible first | exact .load | exact .store | apply Keeps.bind | intro _ | exact .pure _

theorem part20 (v568 v569 v572 v1198) : K c R (k0_part20 (F := F) i _ h2 _ h3 _ h4 _ h5 _ h6 _ h7 _ h8 _ h9 _ h10 _ h11 _ h12 _ h13 _ h14 _ h15 _ h16 _ h17 v568 v569 v572 v1198) := by
  rw [k0_part20_eq_skeleton]; unfold k0_part20_skel
  repeat' with_reducible first | exact .load | exact .store | apply Keeps.bind | intro _ | exact .pure _

theorem part21 (v568 v569 v572 v1234) : K c R (k0_part21 (F := F) i _ h2 _ h3 _ h4 _ h5 _ h6 _ h7 _ h8 _ h9 _ h10 _ h11 _ h12 _ h13 _ h14 _ h15 _ h16 _ h17 v568 v569 v572 v1234) := by
  rw [k0_part21_eq_skeleton]; unfold k0_part21_skel
  repeat' with_reducible first | exact .load | exact .store | apply Keeps.bind | intro _ | exact .pure _

theorem part22 (v568 v569 v572) : K c R (k0_part22 (F := F) i _ h2 _ h3 _ h4 _ h5 _ h6 _ h7 _ h8 _ h9 _ h10 _ h11 _ h12 _ h13 _ h14 _ h15 _ h16 _ h17 v568 v569 v572) := by
  rw [k0_part22_eq_skeleton]; unfold k0_part22_skel
  repeat' with_reducible first | exact .load | exact .store | apply Keeps.bind | intro _ | exact .pure _

theorem part23 (v568 v572 v582 v1307 v1312 v1314) : K c R (k0_part23 (F := F) i _ h2 _ h3 _ h4 _ h5 _ h6 _ h7 _ h8 _ h9 _ h10 _ h11 _ h12 _ h13 _ h14 _ h15 _ h16 _ h17 v568 v572 v582 v1307 v1312 v1314) := by
  rw [k0_part23_eq_skeleton]; unfold k0_part23_skel
  repeat' with_reducible first | exact .load | exact .store | apply Keeps.bind | intro _ | exact .pure _

theorem part24 (v582) : K c R (k0_part24 (F := F) i _ h2 _ h3 _ h4 _ h5 _ h6 _ h7 _ h8 _ h9 _ h10 _ h11 _ h12 _ h13 _ h14 _ h15 _ h16 _ h17 v582) := by
  rw [k0_part24_eq_skeleton]; unfold k0_part24_skel
  repeat' with_reducible first | exact .load | exact .store | apply Keeps.bind | intro _ | exact .pure _

theorem part25 (v582) : K c R (k0_part25 (F := F) i _ h2 _ h3 _ h4 _ h5 _ h6 _ h7 _ h8 _ h9 _ h10 _ h11 _ h12 _ h13 _ h14 _ h15 _ h16 _ h17 v582) := by
  rw [k0_part25_eq_skeleton]; unfold k0_part25_skel
  repeat' with_reducible first | exact .load | exact .store | apply Keeps.bind | intro _ | exact .pure _

theorem part26 (v582) : K c R (k0_part26 (F := F) i _ h2 _ h3 _ h4 _ h5 _ h6 _ h7 _ h8 _ h9 _ h10 _ h11 _ h12 _ h13 _ h14 _ h15 _ h16 _ h17 v582) := by
  rw [k0_part26_eq_skeleton]; unfold k0_part26_skel
  repeat' with_reducible first | exact .load | exact .store | apply Keeps.bind | intro _ | exact .pure _

theorem part27 (v582) : K c R (k0_part27 (F := F) i _ h2 _ h3 _ h4 _ h5 _ h6 _ h7 _ h8 _ h9 _ h10 _ h11 _ h12 _ h13 _ h14 _ h15 _ h16 _ h17 v582) := by
  rw [k0_part27_eq_skeleton]; unfold k0_part27_skel
  repeat' with_reducible first | exact .load | exact .store | apply Keeps.bind | intro _ | exact .pure _

theorem part28 (v582) : K c R (k0_part28 (F := F) i _ h2 _ h3 _ h4 _ h5 _ h6 _ h7 _ h8 _ h9 _ h10 _ h11 _ h12 _ h13 _ h14 _ h15 _ h16 _ h17 v582) := by
  rw [k0_part28_eq_skeleton]; unfold k0_part28_skel
  repeat' with_reducible first | exact .load | exact .store | apply Keeps.bind | intro _ | exact .pure _

theorem part29 (v582) : K c R (k0_part29 (F := F) i _ h2 _ h3 _ h4 _ h5 _ h6 _ h7 _ h8 _ h9 _ h10 _ h11 _ h12 _ h13 _ h14 _ h15 _ h16 _ h17 v582) := by
  rw [k0_part29_eq_skeleton]; unfold k0_part29_skel
  repeat' with_reducible first | exact .load | exact .store | apply Keeps.bind | intro _ | exact .pure _

theorem part30 (v582) : K c R (k0_part30 (F := F) i _ h2 _ h3 _ h4 _ h5 _ h6 _ h7 _ h8 _ h9 _ h10 _ h11 _ h12 _ h13 _ h14 _ h15 _ h16 _ h17 v582) := by
  rw [k0_part30_eq_skeleton]; unfold k0_part30_skel
  repeat' with_reducible first | exact .load | exact .store | apply Keeps.bind | intro _ | exact .pure _

theorem part31 (v582) : K c R (k0_part31 (F := F) i _ h2 _ h3 _ h4 _ h5 _ h6 _ h7 _ h8 _ h9 _ h10 _ h11 _ h12 _ h13 _ h14 _ h15 _ h16 _ h17 v582) := by
  rw [k0_part31_eq_skeleton]; unfold k0_part31_skel
  repeat' with_reducible first | exact .load | exact .store | apply Keeps.bind | intro _ | exact .pure _

theorem part32 (v582) : K c R (k0_part32 (F := F) i _ h2 _ h3 _ h4 _ h5 _ h6 _ h7 _ h8 _ h9 _ h10 _ h11 _ h12 _ h13 _ h14 _ h15 _ h16 _ h17 v582) := by
  rw [k0_part32_eq_skeleton]; unfold k0_part32_skel
  repeat' with_reducible first | exact .load | exact .store | apply Keeps.bind | intro _ | exact .pure _

theorem part33 (v582) : K c R (k0_part33 (F := F) i _ h2 _ h3 _ h4 _ h5 _ h6 _ h7 _ h8 _ h9 _ h10 _ h11 _ h12 _ h13 _ h14 _ h15 _ h16 _ h17 v582) := by
  rw [k0_part33_eq_skeleton]; unfold k0_part33_skel
  repeat' with_reducible first | exact .load | exact .store | apply Keeps.bind | intro _ | exact .pure _

theorem part34 (v582) : K c R (k0_part34 (F := F) i _ h2 _ h3 _ h4 _ h5 _ h6 _ h7 _ h8 _ h9 _ h10 _ h11 _ h12 _ h13 _ h14 _ h15 _ h16 _ h17 v582) := by
  rw [k0_part34_eq_skeleton]; unfold k0_part34_skel
  repeat' with_reducible first | exact .load | exact .store | apply Keeps.bind | intro _ | exact .pure _

theorem part35 (v571 v582) : K c R (k0_part35 (F := F) i _ h2 _ h3 _ h4 _ h5 _ h6 _ h7 _ h8 _ h9 _ h10 _ h11 _ h12 _ h13 _ h14 _ h15 _ h16 _ h17 v571 v582) := by
  rw [k0_part35_eq_skeleton]; unfold k0_part35_skel
  repeat' with_reducible first | exact .load | exact .store | apply Keeps.bind | intro _ | exact .pure _

theorem part36 (v1688 v1689 v1712) : K c R (k0_part36 (F := F) i _ h2 _ h3 _ h4 _ h5 _ h6 _ h7 _ h8 _ h9 _ h10 _ h11 _ h12 _ h13 _ h14 _ h15 _ h16 _ h17 v1688 v1689 v1712) := by
  rw [k0_part36_eq_skeleton]; unfold k0_part36_skel
  repeat' with_reducible first | exact .load | exact .store | apply Keeps.bind | intro _ | exact .pure _

theorem part37 (v1688 v1689 v1752) : K c R (k0_part37 (F := F) i _ h2 _ h3 _ h4 _ h5 _ h6 _ h7 _ h8 _ h9 _ h10 _ h11 _ h12 _ h13 _ h14 _ h15 _ h16 _ h17 v1688 v1689 v1752) := by
  rw [k0_part37_eq_skeleton]; unfold k0_part37_skel
  repeat' with_reducible first | exact .load | exact .store | apply Keeps.bind | intro _ | exact .pure _

theorem part38 (v1688 v1689 v1779 v1781) : K c R (k0_part38 (F := F) i _ h2 _ h3 _ h4 _ h5 _ h6 _ h7 _ h8 _ h9 _ h10 _ h11 _ h12 _ h13 _ h14 _ h15 _ h16 _ h17 v1688 v1689 v1779 v1781) := by
  rw [k0_part38_eq_skeleton]; unfold k0_part38_skel
  repeat' with_reducible first | exact .load | exact .store | apply Keeps.bind | intro _ | exact .pure _

theorem part39 (v1688 v1689 v1823 v1825 v1827 v1829) : K c R (k0_part39 (F := F) i _ h2 _ h3 _ h4 _ h5 _ h6 _ h7 _ h8 _ h9 _ h10 _ h11 _ h12 _ h13 _ h14 _ h15 _ h16 _ h17 v1688 v1689 v1823 v1825 v1827 v1829) := by
  rw [k0_part39_eq_skeleton]; unfold k0_part39_skel
  repeat' with_reducible first | exact .load | exact .store | apply Keeps.bind | intro _ | exact .pure _

theorem part40 (v1688 v1689 v1867) : K c R (k0_part40 (F := F) i _ h2 _ h3 _ h4 _ h5 _ h6 _ h7 _ h8 _ h9 _ h10 _ h11 _ h12 _ h13 _ h14 _ h15 _ h16 _ h17 v1688 v1689 v1867) := by
  rw [k0_part40_eq_skeleton]; unfold k0_part40_skel
  repeat' with_reducible first | exact .load | exact .store | apply Keeps.bind | intro _ | exact .pure _

theorem part41 (v1688 v1689 v1906) : K c R (k0_part41 (F := F) i _ h2 _ h3 _ h4 _ h5 _ h6 _ h7 _ h8 _ h9 _ h10 _ h11 _ h12 _ h13 _ h14 _ h15 _ h16 _ h17 v1688 v1689 v1906) := by
  rw [k0_part41_eq_skeleton]; unfold k0_part41_skel
  repeat' with_reducible first | exact .load | exact .store | apply Keeps.bind | intro _ | exact .pure _

theorem part42 (v1688 v1689 v1935 v1946) : K c R (k0_part42 (F := F) i _ h2 _ h3 _ h4 _ h5 _ h6 _ h7 _ h8 _ h9 _ h10 _ h11 _ h12 _ h13 _ h14 _ h15 _ h16 _ h17 v1688 v1689 v1935 v1946) := by
  rw [k0_part42_eq_skeleton]; unfold k0_part42_skel
  repeat' with_reducible first | exact .load | exact .store | apply Keeps.bind | intro _ | exact .pure _

theorem part43 (v1688 v1689 v1977 v1979 v1985) : K c R (k0_part43 (F := F) i _ h2 _ h3 _ h4 _ h5 _ h6 _ h7 _ h8 _ h9 _ h10 _ h11 _ h12 _ h13 _ h14 _ h15 _ h16 _ h17 v1688 v1689 v1977 v1979 v1985) := by
  rw [k0_part43_eq_skeleton]; unfold k0_part43_skel
  repeat' with_reducible first | exact .load | exact .store | apply Keeps.bind | intro _ | exact .pure _

theorem part44 : K c R (k0_part44 (F := F) i _ h2 _ h3 _ h4 _ h5 _ h6 _ h7 _ h8 _ h9 _ h10 _ h11 _ h12 _ h13 _ h14 _ h15 _ h16 _ h17) := by
  rw [k0_part44_eq_skeleton]; unfold k0_part44_skel
  repeat' with_reducible first | exact part1 .. | exact part2 .. | exact part3 .. | exact part4 .. | exact part5 .. | exact part6 .. | exact part7 .. | exact part8 .. | exact part9 .. | exact part10 .. | exact part11 .. | exact part12 .. | exact part13 .. | exact part14 .. | exact part15 .. | exact part16 .. | exact part17 .. | exact part18 .. | exact part19 .. | exact part20 .. | exact part21 .. | exact part22 .. | exact part23 .. | exact part24 .. | exact part25 .. | exact part26 .. | exact part27 .. | exact part28 .. | exact part29 .. | exact part30 .. | exact part31 .. | exact part32 .. | exact part33 .. | exact part34 .. | exact part35 .. | exact part36 .. | exact part37 .. | exact part38 .. | exact part39 .. | exact part40 .. | exact part41 .. | exact part42 .. | exact part43 .. | exact .load | exact .store | apply Keeps.bind | intro _ | exact .pure _

theorem part45 : K c R (k0_part45 (F := F) i _ h2 _ h3 _ h4 _ h5 _ h6 _ h7 _ h8 _ h9 _ h10 _ h11 _ h12 _ h13 _ h14 _ h15 _ h16 _ h17) := by
  rw [k0_part45_eq_skeleton]; unfold k0_part45_skel
  repeat' with_reducible first | exact part44 .. | exact .load | exact .store | apply Keeps.dite | apply Keeps.bind | intro _ | exact .pure _

theorem part46 (v4) : K c R (k0_part46 (F := F) i _ h2 _ h3 _ h4 _ h5 _ h6 _ h7 _ h8 _ h9 _ h10 _ h11 _ h12 _ h13 _ h14 _ h15 _ h16 _ h17 v4) := by
  rw [k0_part46_eq_skeleton]; unfold k0_part46_skel
  repeat' with_reducible first | exact .load | apply Keeps.bind | intro _ | exact .pure _

theorem part47 (v4 v67 v71 v72) : K c R (k0_part47 (F := F) i _ h2 _ h3 _ h4 _ h5 _ h6 _ h7 _ h8 _ h9 _ h10 _ h11 _ h12 _ h13 _ h14 _ h15 _ h16 _ h17 v4 v67 v71 v72) := by
  rw [k0_part47_eq_skeleton]; unfold k0_part47_skel
  repeat' with_reducible first | exact .load | apply Keeps.bind | intro _ | exact .pure _

theorem part48 (v4 v112) : K c R (k0_part48 (F := F) i _ h2 _ h3 _ h4 _ h5 _ h6 _ h7 _ h8 _ h9 _ h10 _ h11 _ h12 _ h13 _ h14 _ h15 _ h16 _ h17 v4 v112) := by
  rw [k0_part48_eq_skeleton]; unfold k0_part48_skel
  repeat' with_reducible first | exact .load | apply Keeps.bind | intro _ | exact .pure _

theorem part49 (v4 v151 v152) : K c R (k0_part49 (F := F) i _ h2 _ h3 _ h4 _ h5 _ h6 _ h7 _ h8 _ h9 _ h10 _ h11 _ h12 _ h13 _ h14 _ h15 _ h16 _ h17 v4 v151 v152) := by
  rw [k0_part49_eq_skeleton]; unfold k0_part49_skel
  repeat' with_reducible first | exact .load | apply Keeps.bind | intro _ | exact .pure _

theorem part50 (v4 v187 v189 cst_91) : K c R (k0_part50 (F := F) i _ h2 _ h3 _ h4 _ h5 _ h6 _ h7 _ h8 _ h9 _ h10 _ h11 _ h12 _ h13 _ h14 _ h15 _ h16 _ h17 v4 v187 v189 cst_91) := by
  rw [k0_part50_eq_skeleton]; unfold k0_part50_skel
  repeat' with_reducible first | exact .load | apply Keeps.bind | intro _ | exact .pure _

theorem part51 (v4 v19 v34 v49 v64 v79 v94 v109 v124 v139 v154 v169 v184 v199 v214 v229) : K c R (k0_part51 (F := F) i _ h2 _ h3 _ h4 _ h5 _ h6 _ h7 _ h8 _ h9 _ h10 _ h11 _ h12 _ h13 _ h14 _ h15 _ h16 _ h17 v4 v19 v34 v49 v64 v79 v94 v109 v124 v139 v154 v169 v184 v199 v214 v229) := by
  rw [k0_part51_eq_skeleton]; unfold k0_part51_skel
  repeat' with_reducible first | exact .load | exact .store | apply Keeps.bind | intro _ | exact .pure _

theorem t1_body (v254 v258 v262 v266) (k u) : K c R (k0_t1_body (F := F) i _ h2 _ h3 _ h4 _ h5 _ h6 _ h7 _ h8 _ h9 _ h10 _ h11 _ h12 _ h13 _ h14 _ h15 _ h16 _ h17 v254 v258 v262 v266 k u) := by
  unfold k0_t1_body
  repeat' with_reducible first | exact .load | apply Keeps.bind | intro _ | exact .pure _

theorem part52 (v254 v258 v262 v266) : K c R (k0_part52 (F := F) i _ h2 _ h3 _ h4 _ h5 _ h6 _ h7 _ h8 _ h9 _ h10 _ h11 _ h12 _ h13 _ h14 _ h15 _ h16 _ h17 v254 v258 v262 v266) := by
  rw [k0_part52_eq_skeleton]; unfold k0_part52_skel
  repeat' with_reducible first | exact t1_body .. | apply Keeps.for | apply Keeps.bind | intro _ | exact .pure _

theorem part53 (v262 v266 v267 v270_0 v270_1 v302 v306 v308) : K c R (k0_part53 (F := F) i _ h2 _ h3 _ h4 _ h5 _ h6 _ h7 _ h8 _ h9 _ h10 _ h11 _ h12 _ h13 _ h14 _ h15 _ h16 _ h17 v262 v266 v267 v270_0 v270_1 v302 v306 v308) := by
  rw [k0_part53_eq_skeleton]; unfold k0_part53_skel
  repeat' with_reducible first | apply Keeps.bind | intro _ | exact .pure _

theorem part54 (v262 v266 v267 v270_0 v270_1 v347 v349 v350 v351) : K c R (k0_part54 (F := F) i _ h2 _ h3 _ h4 _ h5 _ h6 _ h7 _ h8 _ h9 _ h10 _ h11 _ h12 _ h13 _ h14 _ h15 _ h16 _ h17 v262 v266 v267 v270_0 v270_1 v347 v349 v350 v351) := by
  rw [k0_part54_eq_skeleton]; unfold k0_part54_skel
  repeat' with_reducible first | apply Keeps.bind | intro _ | exact .pure _

theorem t2_body (v245 v254 v258 v267 v392 v396 v398) (k u) : K c R (k0_t2_body (F := F) i _ h2 _ h3 _ h4 _ h5 _ h6 _ h7 _ h8 _ h9 _ h10 _ h11 _ h12 _ h13 _ h14 _ h15 _ h16 _ h17 v245 v254 v258 v267 v392 v396 v398 k u) := by
  unfold k0_t2_body
  repeat' with_reducible first | exact .load | exact .store | apply Keeps.bind | intro _ | exact .pure _

theorem part55 (v245 v254 v258 v267 v392 v396 v398) : K c R (k0_part55 (F := F) i _ h2 _ h3 _ h4 _ h5 _ h6 _ h7 _ h8 _ h9 _ h10 _ h11 _ h12 _ h13 _ h14 _ h15 _ h16 _ h17 v245 v254 v258 v267 v392 v396 v398) := by
  rw [k0_part55_eq_skeleton]; unfold k0_part55_skel
  repeat' with_reducible first | exact t2_body .. | exact .load | apply Keeps.for | apply Keeps.bind | intro _ | exact .pure _

theorem part56 (v245 v410 v429 v434) : K c R (k0_part56 (F := F) i _ h2 _ h3 _ h4 _ h5 _ h6 _ h7 _ h8 _ h9 _ h10 _ h11 _ h12 _ h13 _ h14 _ h15 _ h16 _ h17 v245 v410 v429 v434) := by
  rw [k0_part56_eq_skeleton]; unfold k0_part56_skel
  repeat' with_reducible first | exact .load | exact .store | apply Keeps.bind | intro _ | exact .pure _

theorem part57 (v245 v410 v468 v470) : K c R (k0_part57 (F := F) i _ h2 _ h3 _ h4 _ h5 _ h6 _ h7 _ h8 _ h9 _ h10 _ h11 _ h12 _ h13 _ h14 _ h15 _ h16 _ h17 v245 v410 v468 v470) := by
  rw [k0_part57_eq_skeleton]; unfold k0_part57_skel
  repeat' with_reducible first | exact .load | exact .store | apply Keeps.bind | intro _ | exact .pure _

theorem part58 (v245 v410 v494 v504 v505) : K c R (k0_part58 (F := F) i _ h2 _ h3 _ h4 _ h5 _ h6 _ h7 _ h8 _ h9 _ h10 _ h11 _ h12 _ h13 _ h14 _ h15 _ h16 _ h17 v245 v410 v494 v504 v505) := by
  rw [k0_part58_eq_skeleton]; unfold k0_part58_skel
  repeat' with_reducible first | exact .load | exact .store | apply Keeps.bind | intro _ | exact .pure _

theorem body : K c R (cc0_s5_mixer (F := F) i _ h2 _ h3 _ h4 _ h5 _ h6 _ h7 _ h8 _ h9 _ h10 _ h11 _ h12 _ h13 _ h14 _ h15 _ h16 _ h17) := by
  rw [cc0_s5_mixer_eq_skeleton]; unfold cc0_s5_mixer_skel
  repeat' with_reducible first | exact part45 .. | exact part46 .. | exact part47 .. | exact part48 .. | exact part49 .. | exact part50 .. | exact part51 .. | exact part52 .. | exact part53 .. | exact part54 .. | exact part55 .. | exact part56 .. | exact part57 .. | exact part58 .. | exact .load | exact .store | apply Keeps.bind | intro _ | exact .pure _

end Cert.Proof.S5IdealKeep

end
-- ==== Proof.S5IdealFrame.lean ====
/- The S5 mixer of the taken version in exact arithmetic: its run ends, whatever it computes, with the arguments unchanged
   and every counter at zero. -/
module

public import proofs.«01_k».proof.Defs
public import proofs.«01_k».proof.Proof.Gen.S5Ideal.Points
public import proofs.«01_k».proof.Proof.S5IdealKeep
public import Idealize.ShloMosaic.Lib.Pipeline.FrameSuffix
public import Idealize.ShloMosaic.Adequacy

@[expose] public section

noncomputable section

namespace Cert.Proof.S5IdealFrame

open Cert.S5Ideal Cert.S5Ideal.Gen Cert.Proof.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The assertions about the machine. -/
local notation "𝕄" => MT nD τ sig Unit (Elt F) ℕ (UR sig nD τ) ℕ

variable (m : (ℓ : Loc nD τ sig) → Buf (Elt F) ℓ) (ρ : Dev nD → PrngReg)

/-- The scratch buffers of core `c`, each at some contents. -/
abbrev scratch (c : Dev nD) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))

/-- The windows' staging buffers at point `t`, each at some contents. -/
abbrev staged (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d))

/-- The body at a point leaves what it held: the scratch, whatever else comes with it, and the staging buffers. -/
theorem body_keeps (c : Dev nD) (t : Fin cfg0.N) (P : sProp 𝕄) :
    Keeps (defs₀ (F := F)) Variants.none c Set.univ (iprop((scratch c ∗ P) ∗ staged c t) : sProp 𝕄) (bodyAt0 t) := by
  unfold bodyAt0
  exact S5IdealKeep.body (R := iprop((scratch c ∗ P) ∗ staged c t)) _ _ _ _ _ _ _ _ _ _ _ _ _ _ _ _

/-- No window's contents are named: a frame reads none. -/
def forgets : Fin 11 → Bool := fun _ => true

/-- The launch's data on core `c`: the arrays as the region finds them, the invariant that the scratch is held. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

theorem phi_eq (c : Dev nD) : (Pipeline.ΦA spec0 c : sProp 𝕄) = iprop(scratch c ∗ ∃ r, prngReg c r) := by
  unfold Pipeline.ΦA scratch
  rw [scopedRest0_eq]; simp only [owns_whole]; try rfl

/-- What the body is called with at point `t`, and what it returns. -/
def at_point (c : Dev nD) (t : Fin cfg0.N) : sProp 𝕄 :=
  iprop((dats m 0 c).Φ t.castSucc ∗ (dats m 0 c).owesAt () t.castSucc ∗ staged c t)

theorem sound_body (c : Dev nD) (t : Fin cfg0.N) :
    at_point m c t ⊢ wp frame (wpE (defs₀ (F := F)) Variants.none c none) Set.univ (bodyAt0 t) (fun _ => at_point m c t) := by
  have e : at_point m c t = iprop((scratch c ∗ ∃ r, prngReg c r) ∗ (dats m 0 c).owesAt () t.castSucc ∗ staged c t) := by
    unfold at_point
    rw [show (dats m 0 c).Φ t.castSucc = Pipeline.ΦA spec0 c from rfl, phi_eq]
  have h := body_keeps c t (iprop((∃ r, prngReg c r) ∗ (dats m 0 c).owesAt () t.castSucc) : sProp 𝕄)
  have e' : at_point m c t ⊣⊢ (iprop((scratch c ∗ ((∃ r, prngReg c r) ∗ (dats m 0 c).owesAt () t.castSucc)) ∗ staged c t) : sProp 𝕄) := by
    rw [e]
    constructor
    · iintro ⟨⟨HS, Hg⟩, HO, HW⟩
      isplitl [HS Hg HO]
      · isplitl [HS]; · iexact HS
        isplitl [Hg]; · iexact Hg
        iexact HO
      iexact HW
    · iintro ⟨⟨HS, Hg, HO⟩, HW⟩
      isplitl [HS Hg]
      · isplitl [HS]; · iexact HS
        iexact Hg
      isplitl [HO]; · iexact HO
      iexact HW
  exact e'.1.trans (h.trans (Idealize.SL.Sem.wp_mono _ _ _ fun _ => e'.2))

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- What the host's lines after the call write: the mixer's output laid out again. -/
def written : Finset (Ref sig .tc) := {main_v288, main_v289, main_v290}

theorem writes_written : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl
  all_goals
    simp only [StableHlo.unary_writes, StableHlo.reshape_writes, Finset.mem_singleton] at hb
    by_contra hn
    refine StableHlo.devRef_ne_of_ne (fun e => hn ?_) hb
    subst e; decide

-- The launch rule's implicit arguments are found only when unification may unfold definitions in types.
set_option backward.isDefEq.respectTransparency.types false in
/-- Every execution ends, with the arguments as they were and every counter at zero. -/
theorem run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_frame_around_T_forget (Q' := _) cfgs (dats m) (0 : Fin 1) launch0 defs₀ Variants.none forgets written m ρ main
    (hbody := fun c => (body_obligation m c).loose) (hshare := fun c => (dats m 0 c).share_full fun _ => rfl) (howed := fun _ _ => rfl)
    (V₀ := V0 m) (opss := [hostOps1])
    (hsub := sfx_sub) (hfresh := sfx_fresh) (hkeep := sfx_keeps) (hT := writes_written) (hmain := hmain m Variants.none) (hA := fun _ _ => rfl) (hΦ := fun _ _ => rfl)
    (hQ' := fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c)⟩, h.2⟩)

theorem frame_call : Cert.quiescent_S5Ideal := fun m ρ _ => run m ρ

end Cert.Proof.S5IdealFrame

end
-- ==== Proof.lean ====
/-
  The claims, put together: the stated facts of every program, then each call's frames, then what its ideal
  reading computes against its reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.GluClaims
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.UpClaims
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.DownClaims
public import proofs.«01_k».proof.Proof.Gen.UpLast
public import proofs.«01_k».proof.Proof.Gen.UpLast.Skeleton
public import proofs.«01_k».proof.Proof.Gen.UpLast.Launch
public import proofs.«01_k».proof.Proof.Gen.UpLast.Points
public import proofs.«01_k».proof.Proof.Gen.UpLast.Frame
public import proofs.«01_k».proof.Proof.Gen.UpLastIdeal
public import proofs.«01_k».proof.Proof.Gen.UpLastIdeal.Skeleton
public import proofs.«01_k».proof.Proof.Gen.UpLastIdeal.Launch
public import proofs.«01_k».proof.Proof.Gen.UpLastIdeal.Points
public import proofs.«01_k».proof.Proof.Gen.UpLastIdeal.Frame
public import proofs.«01_k».proof.Proof.Gen.UpLastIdeal.Value
public import proofs.«01_k».proof.Proof.Gen.UpLastRefIdeal
public import proofs.«01_k».proof.Proof.Gen.UpLastRefIdeal.Run
public import proofs.«01_k».proof.Proof.UpLastClaims
public import proofs.«01_k».proof.Proof.Gen.DownLast
public import proofs.«01_k».proof.Proof.Gen.DownLast.Skeleton
public import proofs.«01_k».proof.Proof.Gen.DownLast.Launch
public import proofs.«01_k».proof.Proof.Gen.DownLast.Points
public import proofs.«01_k».proof.Proof.Gen.DownLast.Frame
public import proofs.«01_k».proof.Proof.Gen.DownLastIdeal
public import proofs.«01_k».proof.Proof.Gen.DownLastIdeal.Skeleton
public import proofs.«01_k».proof.Proof.Gen.DownLastIdeal.Launch
public import proofs.«01_k».proof.Proof.Gen.DownLastIdeal.Points
public import proofs.«01_k».proof.Proof.Gen.DownLastIdeal.Frame
public import proofs.«01_k».proof.Proof.Gen.DownLastIdeal.Value
public import proofs.«01_k».proof.Proof.Gen.DownLastRefIdeal
public import proofs.«01_k».proof.Proof.Gen.DownLastRefIdeal.Run
public import proofs.«01_k».proof.Proof.DownLastClaims
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.OutClaims
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.QkvClaims
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedIdeal.Value
public import proofs.«01_k».proof.Proof.Gen.EmbedRefIdeal
public import proofs.«01_k».proof.Proof.Gen.EmbedRefIdeal.Run
public import proofs.«01_k».proof.Proof.EmbedClaims
public import proofs.«01_k».proof.Proof.Gen.Attn
public import proofs.«01_k».proof.Proof.AttnFrame
public import proofs.«01_k».proof.Proof.Gen.AttnIdeal
public import proofs.«01_k».proof.Proof.AttnIdealFrame
public import proofs.«01_k».proof.Proof.Gen.S5
public import proofs.«01_k».proof.Proof.S5Frame
public import proofs.«01_k».proof.Proof.Gen.S5Ideal
public import proofs.«01_k».proof.Proof.S5IdealFrame
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.UpLast.Gen.facts, Cert.UpLastIdeal.Gen.facts, Cert.UpLastRefIdeal.Gen.facts,
  Cert.DownLast.Gen.facts, Cert.DownLastIdeal.Gen.facts, Cert.DownLastRefIdeal.Gen.facts,
  Cert.Out.Gen.facts, Cert.OutIdeal.Gen.facts, Cert.OutRefIdeal.Gen.facts,
  Cert.Qkv.Gen.facts, Cert.QkvIdeal.Gen.facts, Cert.QkvRefIdeal.Gen.facts,
  Cert.Embed.Gen.facts, Cert.EmbedIdeal.Gen.facts, Cert.EmbedRefIdeal.Gen.facts,
  Cert.Attn.Gen.facts, Cert.AttnIdeal.Gen.facts,
  Cert.S5.Gen.facts, Cert.S5Ideal.Gen.facts,
  Glu.frame_kernel, Glu.frame_kernelIdeal, Glu.frame_reference,
  Up.frame_call, Up.frame_callIdeal, Up.frame_reference,
  Down.frame_call, Down.frame_callIdeal, Down.frame_reference,
  UpLast.frame_call, UpLast.frame_callIdeal, UpLast.frame_reference,
  DownLast.frame_call, DownLast.frame_callIdeal, DownLast.frame_reference,
  Out.frame_call, Out.frame_callIdeal, Out.frame_reference,
  Qkv.frame_call, Qkv.frame_callIdeal, Qkv.frame_reference,
  Embed.frame_call, Embed.frame_callIdeal, Embed.frame_reference,
  AttnFrame.frame_call, AttnIdealFrame.frame_call,
  S5Frame.frame_call, S5IdealFrame.frame_call,
  trivial, Glu.algebraic_glu,
  trivial, Up.algebraic,
  trivial, Down.algebraic,
  trivial, UpLast.algebraic,
  trivial, DownLast.algebraic,
  trivial, Out.algebraic,
  trivial, Qkv.algebraic,
  trivial, Embed.algebraic,
  trivial,
  trivial⟩

end Cert.Proof

end
